-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v70) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_v25) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel10 : Cert.Kernel10.Facts) (hKernel10Ideal : Cert.Kernel10Ideal.Facts) (hReference10Ideal : Cert.Reference10Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel10_Kernel10Ideal
    ∧ algebraic_Kernel10Ideal_Reference10Ideal (hKernel10Ideal := hKernel10Ideal) (hReference10Ideal := hReference10Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S8192x1024 .f32) (main_arg1 : FVec F S8192x2816 .bf16) (main_arg2 : FVec F S8192x2816 .bf16) (main_arg3 : FVec F S2816x1024 .bf16) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .bf16 := Host.absf main_arg2
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S8192x512 : Shape := ⟨2, ![8192, 512]⟩
abbrev S8192x8 : Shape := ⟨2, ![8192, 8]⟩
abbrev S8x8192x64 : Shape := ⟨3, ![8, 8192, 64]⟩
abbrev S8192x8x64 : Shape := ⟨3, ![8192, 8, 64]⟩
abbrev S_ : Shape := ⟨0, ![]⟩
abbrev S1x8192x512 : Shape := ⟨3, ![1, 8192, 512]⟩
abbrev S5x8192x512 : Shape := ⟨3, ![5, 8192, 512]⟩
abbrev S1x512x512 : Shape := ⟨3, ![1, 512, 512]⟩
abbrev S8x512x64 : Shape := ⟨3, ![8, 512, 64]⟩
abbrev S512x512 : Shape := ⟨2, ![512, 512]⟩
abbrev S8x64x64 : Shape := ⟨3, ![8, 64, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 20
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8192x512, .f32⟩
  | .hbm, ⟨6, _⟩ => ⟨S8192x8x64, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S1x8192x512, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S5x8192x512, .f32⟩
  | .hbm, ⟨18, _⟩ => ⟨S8x8192x64, .f32⟩
  | .hbm, ⟨19, _⟩ => ⟨S8x8192x64, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S8x512x64, .f32⟩
  | .local _ .vmem, ⟨7, _⟩ => ⟨S8x512x64, .f32⟩
  | .local _ .vmem, ⟨8, _⟩ => ⟨S8x512x64, .f32⟩
  | .local _ .vmem, ⟨9, _⟩ => ⟨S8x512x64, .f32⟩
  | .local _ .vmem, ⟨10, _⟩ => ⟨S512x512, .f32⟩
  | .local _ .vmem, ⟨11, _⟩ => ⟨S512x512, .f32⟩
  | .local _ .vmem, ⟨12, _⟩ => ⟨S8x512x64, .f32⟩
  | .local _ .vmem, ⟨13, _⟩ => ⟨S8x512x64, .f32⟩
  | .local _ .vmem, ⟨14, _⟩ => ⟨S8x512x64, .f32⟩
  | .local _ .vmem, ⟨15, _⟩ => ⟨S8x512x64, .f32⟩
  | .local _ .vmem, ⟨16, _⟩ => ⟨S8x64x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  v5
def k0_off1 (k0_t1 : Fin k0_t1_loop.trips) : Fin 3 → Nat :=
  let c0 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v7 : Index := Scalar.indexCast v6
  let c0_3 : Index := 0#32
  ![0, v7.toNat, 0]
def k0_off2 (k0_t1 : Fin k0_t1_loop.trips) : Fin 3 → Nat :=
  let c0_4 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v17 : Index := Scalar.indexCast v6
  let c64 : Index := 64#32
  ![0, v17.toNat, 64]
def k0_off3 (k0_t1 : Fin k0_t1_loop.trips) : Fin 3 → Nat :=
  let c0_5 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v27 : Index := Scalar.indexCast v6
  let c128 : Index := 128#32
  ![0, v27.toNat, 128]
def k0_off4 (k0_t1 : Fin k0_t1_loop.trips) : Fin 3 → Nat :=
  let c0_6 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v37 : Index := Scalar.indexCast v6
  let c192 : Index := 192#32
  ![0, v37.toNat, 192]
def k0_off5 (k0_t1 : Fin k0_t1_loop.trips) : Fin 3 → Nat :=
  let c0_7 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v47 : Index := Scalar.indexCast v6
  let c256 : Index := 256#32
  ![0, v47.toNat, 256]
def k0_off6 (k0_t1 : Fin k0_t1_loop.trips) : Fin 3 → Nat :=
  let c0_8 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v57 : Index := Scalar.indexCast v6
  let c320 : Index := 320#32
  ![0, v57.toNat, 320]
def k0_off7 (k0_t1 : Fin k0_t1_loop.trips) : Fin 3 → Nat :=
  let c0_9 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v67 : Index := Scalar.indexCast v6
  let c384 : Index := 384#32
  ![0, v67.toNat, 384]
def k0_off8 (k0_t1 : Fin k0_t1_loop.trips) : Fin 3 → Nat :=
  let c0_10 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v77 : Index := Scalar.indexCast v6
  let c448 : Index := 448#32
  ![0, v77.toNat, 448]
def k0_off9 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v103 : Index := Scalar.indexCast v6
  let c0_28 : Index := 0#32
  ![v103.toNat, 0]
def k0_off10 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v106 : Index := Scalar.indexCast v6
  let c64_29 : Index := 64#32
  ![v106.toNat, 64]
def k0_off11 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v109 : Index := Scalar.indexCast v6
  let c128_30 : Index := 128#32
  ![v109.toNat, 128]
def k0_off12 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v112 : Index := Scalar.indexCast v6
  let c192_31 : Index := 192#32
  ![v112.toNat, 192]
def k0_off13 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v115 : Index := Scalar.indexCast v6
  let c256_32 : Index := 256#32
  ![v115.toNat, 256]
def k0_off14 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v118 : Index := Scalar.indexCast v6
  let c320_33 : Index := 320#32
  ![v118.toNat, 320]
def k0_off15 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v121 : Index := Scalar.indexCast v6
  let c384_34 : Index := 384#32
  ![v121.toNat, 384]
def k0_off16 (k0_t1 : Fin k0_t1_loop.trips) : Fin 2 → Nat :=
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v124 : Index := Scalar.indexCast v6
  let c448_35 : Index := 448#32
  ![v124.toNat, 448]
def k0_off17 (k0_t1 : Fin k0_t1_loop.trips) : Fin 3 → Nat :=
  let c0_36 : Index := 0#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v127 : Index := Scalar.indexCast v6
  let c0_37 : Index := 0#32
  ![0, v127.toNat, 0]
def k0_off18 (k0_t1 : Fin k0_t1_loop.trips) : Fin 3 → Nat :=
  let c1_41 : Index := 1#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v140 : Index := Scalar.indexCast v6
  let c0_42 : Index := 0#32
  ![1, v140.toNat, 0]
def k0_off19 (k0_t1 : Fin k0_t1_loop.trips) : Fin 3 → Nat :=
  let c2_47 : Index := 2#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v153 : Index := Scalar.indexCast v6
  let c0_48 : Index := 0#32
  ![2, v153.toNat, 0]
def k0_off20 (k0_t1 : Fin k0_t1_loop.trips) : Fin 3 → Nat :=
  let c3_53 : Index := 3#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v166 : Index := Scalar.indexCast v6
  let c0_54 : Index := 0#32
  ![3, v166.toNat, 0]
def k0_off21 (k0_t1 : Fin k0_t1_loop.trips) : Fin 3 → Nat :=
  let c4_59 : Index := 4#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v179 : Index := Scalar.indexCast v6
  let c0_60 : Index := 0#32
  ![4, v179.toNat, 0]
def k0_off22 (k0_t1 : Fin k0_t1_loop.trips) : Fin 3 → Nat :=
  let c5_65 : Index := 5#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v192 : Index := Scalar.indexCast v6
  let c0_66 : Index := 0#32
  ![5, v192.toNat, 0]
def k0_off23 (k0_t1 : Fin k0_t1_loop.trips) : Fin 3 → Nat :=
  let c6_71 : Index := 6#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v205 : Index := Scalar.indexCast v6
  let c0_72 : Index := 0#32
  ![6, v205.toNat, 0]
def k0_off24 (k0_t1 : Fin k0_t1_loop.trips) : Fin 3 → Nat :=
  let c7_77 : Index := 7#32
  let c7_i32 : BitVec 32 := 7#32
  let c0_i32_1 : BitVec 32 := 0#32
  let c1_i32 : BitVec 32 := 1#32
  let arg10 : BitVec 32 := Scf.iv c0_i32_1 c1_i32 k0_t1
  let v4 : BitVec 32 := Scalar.subi c7_i32 arg10
  let c64_i32 : BitVec 32 := 64#32
  let v5 : BitVec 32 := Scalar.muli v4 c64_i32
  let v6 : BitVec 32 := v5
  let v218 : Index := Scalar.indexCast v6
  let c0_78 : Index := 0#32
  ![7, v218.toNat, 0]
def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  let c0_i32_0 : BitVec 32 := 0#32
  ![c4_i32.toNat, v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x512 : Shape := ⟨2, ![8192, 512]⟩
abbrev S8192x8 : Shape := ⟨2, ![8192, 8]⟩
abbrev S8x8192x64 : Shape := ⟨3, ![8, 8192, 64]⟩
abbrev S128x64x8x64 : Shape := ⟨4, ![128, 64, 8, 64]⟩
abbrev S128x8x64x64 : Shape := ⟨4, ![128, 8, 64, 64]⟩
abbrev S8x128x64x64 : Shape := ⟨4, ![8, 128, 64, 64]⟩
abbrev S128x64x8 : Shape := ⟨3, ![128, 64, 8]⟩
abbrev S128x8x64 : Shape := ⟨3, ![128, 8, 64]⟩
abbrev S128x8x64x1 : Shape := ⟨4, ![128, 8, 64, 1]⟩
abbrev S128x8x1 : Shape := ⟨3, ![128, 8, 1]⟩
abbrev S128x8 : Shape := ⟨2, ![128, 8]⟩
abbrev S128x8x1x1 : Shape := ⟨4, ![128, 8, 1, 1]⟩
abbrev S_ : Shape := ⟨0, ![]⟩
abbrev S8x64x64 : Shape := ⟨3, ![8, 64, 64]⟩
abbrev S1x8x64x64 : Shape := ⟨4, ![1, 8, 64, 64]⟩
abbrev S1x8x1x1 : Shape := ⟨4, ![1, 8, 1, 1]⟩
abbrev S8x1x1 : Shape := ⟨3, ![8, 1, 1]⟩

abbrev nBuf : Space → Nat
  | .hbm => 116
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8, .f32⟩
  | .hbm, ⟨3, _⟩ => ⟨S8x8192x64, .f32⟩
  | .hbm, ⟨4, _⟩ => ⟨S8x8192x64, .f32⟩
  | .hbm, ⟨5, _⟩ => ⟨S8192x512, .f32⟩
  | .hbm, ⟨6, _⟩ => ⟨S128x64x8x64, .f32⟩
  | .hbm, ⟨7, _⟩ => ⟨S128x8x64x64, .f32⟩
  | .hbm, ⟨8, _⟩ => ⟨S128x64x8x64, .f32⟩
  | .hbm, ⟨9, _⟩ => ⟨S128x8x64x64, .f32⟩
  | .hbm, ⟨10, _⟩ => ⟨S8x128x64x64, .f32⟩
  | .hbm, ⟨11, _⟩ => ⟨S128x8x64x64, .f32⟩
  | .hbm, ⟨12, _⟩ => ⟨S8x128x64x64, .f32⟩
  | .hbm, ⟨13, _⟩ => ⟨S128x8x64x64, .f32⟩
  | .hbm, ⟨14, _⟩ => ⟨S128x64x8x64, .f32⟩
  | .hbm, ⟨15, _⟩ => ⟨S128x8x64x64, .f32⟩
  | .hbm, ⟨16, _⟩ => ⟨S128x64x8, .f32⟩
  | .hbm, ⟨17, _⟩ => ⟨S128x8x64, .f32⟩
  | .hbm, ⟨18, _⟩ => ⟨S128x8x64, .f32⟩
  | .hbm, ⟨19, _⟩ => ⟨S128x8x64x1, .f32⟩
  | .hbm, ⟨20, _⟩ => ⟨S128x8x64x64, .f32⟩
  | .hbm, ⟨21, _⟩ => ⟨S128x8x64x64, .f32⟩
  | .hbm, ⟨22, _⟩ => ⟨S128x8x1, .f32⟩
  | .hbm, ⟨23, _⟩ => ⟨S128x8, .f32⟩
  | .hbm, ⟨24, _⟩ => ⟨S128x8x1, .f32⟩
  | .hbm, ⟨25, _⟩ => ⟨S128x8x64, .f32⟩
  | .hbm, ⟨26, _⟩ => ⟨S128x8x64, .f32⟩
  | .hbm, ⟨27, _⟩ => ⟨S128x8x64, .f32⟩
  | .hbm, ⟨28, _⟩ => ⟨S128x8x64x1, .f32⟩
  | .hbm, ⟨29, _⟩ => ⟨S128x8x64x64, .f32⟩
  | .hbm, ⟨30, _⟩ => ⟨S128x8x64x64, .f32⟩
  | .hbm, ⟨31, _⟩ => ⟨S128x8, .f32⟩
  | .hbm, ⟨32, _⟩ => ⟨S128x8x1x1, .f32⟩
  | .hbm, ⟨33, _⟩ => ⟨S_, .f32⟩
  | .hbm, ⟨34, _⟩ => ⟨S8x64x64, .f32⟩
  | .hbm, ⟨35, _⟩ => ⟨S_, .f32⟩
  | .hbm, ⟨36, _⟩ => ⟨S128x8x64x64, .f32⟩
  | .hbm, ⟨37, _⟩ => ⟨S_, .f32⟩
  | .hbm, ⟨38, _⟩ => ⟨S128x8x64x64, .f32⟩
  | .hbm, ⟨39, _⟩ => ⟨S_, .i32⟩
  | .hbm, ⟨40, _⟩ => ⟨S128x8x64x64, .f32⟩
  | .hbm, ⟨41, _⟩ => ⟨S128x8x1x1, .f32⟩
  | .hbm, ⟨42, _⟩ => ⟨S128x8x64x64, .f32⟩
  | .hbm, ⟨43, _⟩ => ⟨S128x8x64x64, .f32⟩
  | .hbm, ⟨44, _⟩ => ⟨S128x8x64x64, .f32⟩
  | .hbm, ⟨45, _⟩ => ⟨S128x8x64x64, .f32⟩
  | .hbm, ⟨46, _⟩ => ⟨S_, .i32⟩
  | .hbm, ⟨47, _⟩ => ⟨S8x64x64, .f32⟩
  | .hbm, ⟨48, _⟩ => ⟨S128x8x64x64, .f32⟩
  | .hbm, ⟨49, _⟩ => ⟨S128x8x64x64, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x8x64x64, .f32⟩
  | .hbm, ⟨60, _⟩ => ⟨S8x64x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x8x1x1, .f32⟩
  | .hbm, ⟨65, _⟩ => ⟨S8x1x1, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x8x64x64, .f32⟩
  | .hbm, ⟨70, _⟩ => ⟨S8x64x64, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x8x64x64, .f32⟩
  | .hbm, ⟨75, _⟩ => ⟨S8x64x64, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x8x64x64, .f32⟩
  | .hbm, ⟨80, _⟩ => ⟨S8x64x64, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x8x64x64, .f32⟩
  | .hbm, ⟨85, _⟩ => ⟨S8x64x64, .f32⟩
  | .hbm, ⟨86, _⟩ => ⟨S8x64x64, .f32⟩
  | .hbm, ⟨87, _⟩ => ⟨S8x64x64, .f32⟩
  | .hbm, ⟨88, _⟩ => ⟨S8x64x64, .f32⟩
  | .hbm, ⟨89, _⟩ => ⟨S8x64x64, .f32⟩
  | .hbm, ⟨90, _⟩ => ⟨S8x64x64, .f32⟩
  | .hbm, ⟨91, _⟩ => ⟨S8x64x64, .f32⟩
  | .hbm, ⟨92, _⟩ => ⟨S8x64x64, .f32⟩
  | .hbm, ⟨93, _⟩ => ⟨S8x64x64, .f32⟩
  | .hbm, ⟨94, _⟩ => ⟨S8x64x64, .f32⟩
  | .hbm, ⟨95, _⟩ => ⟨S8x64x64, .f32⟩
  | .hbm, ⟨96, _⟩ => ⟨S8x64x64, .f32⟩
  | .hbm, ⟨97, _⟩ => ⟨S8x64x64, .f32⟩
  | .hbm, ⟨98, _⟩ => ⟨S8x64x64, .f32⟩
  | .hbm, ⟨99, _⟩ => ⟨S8x64x64, .f32⟩
  | .hbm, ⟨100, _⟩ => ⟨S1x8x64x64, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S128x8x64x64, .f32⟩
  | .hbm, ⟨105, _⟩ => ⟨S1x8x64x64, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S128x8x64x64, .f32⟩
  | .hbm, ⟨110, _⟩ => ⟨S_, .i32⟩
  | .hbm, ⟨111, _⟩ => ⟨S_, .i32⟩
  | .hbm, ⟨112, _⟩ => ⟨S8x128x64x64, .f32⟩
  | .hbm, ⟨113, _⟩ => ⟨S8x8192x64, .f32⟩
  | .hbm, ⟨114, _⟩ => ⟨S8x128x64x64, .f32⟩
  | .hbm, ⟨115, _⟩ => ⟨S8x8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_c : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev main_v30_6 : Ref sig .tc := ⟨.hbm, 46, rfl⟩
abbrev main_v30_7 : Ref sig .tc := ⟨.hbm, 47, rfl⟩
abbrev main_v30_8 : Ref sig .tc := ⟨.hbm, 48, rfl⟩
abbrev main_v30_9 : Ref sig .tc := ⟨.hbm, 49, rfl⟩
abbrev main_while0c_c_11 : Ref sig .tc := ⟨.hbm, 50, rfl⟩
abbrev main_while0c_v35 : Ref sig .tc := ⟨.hbm, 51, rfl⟩
abbrev main_while0b_c_11 : Ref sig .tc := ⟨.hbm, 52, rfl⟩
abbrev main_while0b_v35 : Ref sig .tc := ⟨.hbm, 53, rfl⟩
abbrev main_while0b_c_12 : Ref sig .tc := ⟨.hbm, 54, rfl⟩
abbrev main_while0b_v36 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_v0 : Ref sig .tc := ⟨.hbm, 59, rfl⟩
abbrev main_while0b_v37 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_c_1 : Ref sig .tc := ⟨.hbm, 63, rfl⟩
abbrev main_while0b_call1_v0 : Ref sig .tc := ⟨.hbm, 64, rfl⟩
abbrev main_while0b_v38 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_v0 : Ref sig .tc := ⟨.hbm, 69, rfl⟩
abbrev main_while0b_v39 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_v0 : Ref sig .tc := ⟨.hbm, 74, rfl⟩
abbrev main_while0b_v40 : Ref sig .tc := ⟨.hbm, 75, rfl⟩
abbrev main_while0b_call4_c : Ref sig .tc := ⟨.hbm, 76, rfl⟩
abbrev main_while0b_call4_c_0 : Ref sig .tc := ⟨.hbm, 77, rfl⟩
abbrev main_while0b_call4_c_1 : Ref sig .tc := ⟨.hbm, 78, rfl⟩
abbrev main_while0b_call4_v0 : Ref sig .tc := ⟨.hbm, 79, rfl⟩
abbrev main_while0b_v41 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_v0 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_v45 : Ref sig .tc := ⟨.hbm, 88, rfl⟩
abbrev main_while0b_v46 : Ref sig .tc := ⟨.hbm, 89, rfl⟩
abbrev main_while0b_v47 : Ref sig .tc := ⟨.hbm, 90, rfl⟩
abbrev main_while0b_v48 : Ref sig .tc := ⟨.hbm, 91, rfl⟩
abbrev main_while0b_v49 : Ref sig .tc := ⟨.hbm, 92, rfl⟩
abbrev main_while0b_v50 : Ref sig .tc := ⟨.hbm, 93, rfl⟩
abbrev main_while0b_v51 : Ref sig .tc := ⟨.hbm, 94, rfl⟩
abbrev main_while0b_v52 : Ref sig .tc := ⟨.hbm, 95, rfl⟩
abbrev main_while0b_v53 : Ref sig .tc := ⟨.hbm, 96, rfl⟩
abbrev main_while0b_v54 : Ref sig .tc := ⟨.hbm, 97, rfl⟩
abbrev main_while0b_v55 : Ref sig .tc := ⟨.hbm, 98, rfl⟩
abbrev main_while0b_v56 : Ref sig .tc := ⟨.hbm, 99, rfl⟩
abbrev main_while0b_call6_v0 : Ref sig .tc := ⟨.hbm, 100, rfl⟩
abbrev main_while0b_call6_c : Ref sig .tc := ⟨.hbm, 101, rfl⟩
abbrev main_while0b_call6_c_0 : Ref sig .tc := ⟨.hbm, 102, rfl⟩
abbrev main_while0b_call6_c_1 : Ref sig .tc := ⟨.hbm, 103, rfl⟩
abbrev main_while0b_v57 : Ref sig .tc := ⟨.hbm, 104, rfl⟩
abbrev main_while0b_call7_v0 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_v58 : Ref sig .tc := ⟨.hbm, 109, rfl⟩
abbrev main_while0b_c_13 : Ref sig .tc := ⟨.hbm, 110, rfl⟩
abbrev main_while0b_v59 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S1x1024, .f32⟩
  | .hbm, ⟨5, _⟩ => ⟨S8192x2816, .bf16⟩
  | .hbm, ⟨6, _⟩ => ⟨S8192x2816, .bf16⟩
  | .hbm, ⟨7, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S1408x1024, .f32⟩
  | .local _ .vmem, ⟨14, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg1 : BitVec 32 := BitVec.ofNat 32 (i 1).val
  let c0_i32_20 : BitVec 32 := 0#32
  let v38 : BitVec 1 := Scalar.cmpi .sgt arg1 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8192x1024 : Shape := ⟨2, ![8192, 1024]⟩
abbrev S8192x2816 : Shape := ⟨2, ![8192, 2816]⟩
abbrev S2816x1024 : Shape := ⟨2, ![2816, 1024]⟩
abbrev S1x1024 : Shape := ⟨2, ![1, 1024]⟩
abbrev S_ : Shape := ⟨0, ![]⟩
abbrev S1024x2816 : Shape := ⟨2, ![1024, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S1x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S2816x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .bf16⟩
  | .hbm, ⟨4, _⟩ => ⟨S8192x1024, .f32⟩
  | .hbm, ⟨5, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8192x1024 : Shape := ⟨2, ![8192, 1024]⟩
abbrev S1024x1024 : Shape := ⟨2, ![1024, 1024]⟩
abbrev S8192x512 : Shape := ⟨2, ![8192, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩
abbrev S4x1024 : Shape := ⟨2, ![4, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S2816x1024, .f32⟩
  | .hbm, ⟨39, _⟩ => ⟨S1024x2816, .f32⟩
  | .hbm, ⟨40, _⟩ => ⟨S8192x2816, .f32⟩
  | .hbm, ⟨41, _⟩ => ⟨S2816x1024, .f32⟩
  | .hbm, ⟨42, _⟩ => ⟨S1024x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .bf16⟩
  | .hbm, ⟨92, _⟩ => ⟨S_, .f32⟩
  | .hbm, ⟨93, _⟩ => ⟨S4x1024, .f32⟩
  | .hbm, ⟨94, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S3600x1024 : Shape := ⟨2, ![3600, 1024]⟩
abbrev S_ : Shape := ⟨0, ![]⟩
abbrev S3712x1024 : Shape := ⟨2, ![3712, 1024]⟩
abbrev S8192x1536 : Shape := ⟨2, ![8192, 1536]⟩
abbrev S8192x2048 : Shape := ⟨2, ![8192, 2048]⟩
abbrev S8192x128 : Shape := ⟨2, ![8192, 128]⟩
abbrev S512x1024 : Shape := ⟨2, ![512, 1024]⟩
abbrev S512x1536 : Shape := ⟨2, ![512, 1536]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1536x1024 : Shape := ⟨2, ![1536, 1024]⟩
abbrev S2048x1024 : Shape := ⟨2, ![2048, 1024]⟩
abbrev S128x1024 : Shape := ⟨2, ![128, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3600x1024, .bf16⟩
  | .hbm, ⟨5, _⟩ => ⟨S_, .i32⟩
  | .hbm, ⟨6, _⟩ => ⟨S_, .bf16⟩
  | .hbm, ⟨7, _⟩ => ⟨S3712x1024, .bf16⟩
  | .hbm, ⟨8, _⟩ => ⟨S8192x1024, .bf16⟩
  | .hbm, ⟨9, _⟩ => ⟨S8192x1536, .f32⟩
  | .hbm, ⟨10, _⟩ => ⟨S8192x2048, .f32⟩
  | .hbm, ⟨11, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3712x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1536, .f32⟩
  | .local _ .vmem, ⟨9, _⟩ => ⟨S512x1536, .f32⟩
  | .local _ .vmem, ⟨10, _⟩ => ⟨S512x2048, .f32⟩
  | .local _ .vmem, ⟨11, _⟩ => ⟨S512x2048, .f32⟩
  | .local _ .vmem, ⟨12, _⟩ => ⟨S512x128, .f32⟩
  | .local _ .vmem, ⟨13, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3712x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8192x1024 : Shape := ⟨2, ![8192, 1024]⟩
abbrev S1x1024 : Shape := ⟨2, ![1, 1024]⟩
abbrev S3600x1024 : Shape := ⟨2, ![3600, 1024]⟩
abbrev S_ : Shape := ⟨0, ![]⟩
abbrev S8192 : Shape := ⟨1, ![8192]⟩
abbrev S8192x1 : Shape := ⟨2, ![8192, 1]⟩
abbrev S1024x3600 : Shape := ⟨2, ![1024, 3600]⟩
abbrev S8192x3600 : Shape := ⟨2, ![8192, 3600]⟩
abbrev S8192x1536 : Shape := ⟨2, ![8192, 1536]⟩
abbrev S8192x2048 : Shape := ⟨2, ![8192, 2048]⟩
abbrev S8192x16 : Shape := ⟨2, ![8192, 16]⟩
abbrev S8192x128 : Shape := ⟨2, ![8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3600x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S3600x1024, .f32⟩
  | .hbm, ⟨28, _⟩ => ⟨S1024x3600, .f32⟩
  | .hbm, ⟨29, _⟩ => ⟨S8192x3600, .f32⟩
  | .hbm, ⟨30, _⟩ => ⟨S8192x1536, .f32⟩
  | .hbm, ⟨31, _⟩ => ⟨S8192x2048, .f32⟩
  | .hbm, ⟨32, _⟩ => ⟨S8192x16, .f32⟩
  | .hbm, ⟨33, _⟩ => ⟨S8192x1024, .bf16⟩
  | .hbm, ⟨34, _⟩ => ⟨S_, .i32⟩
  | .hbm, ⟨35, _⟩ => ⟨S_, .f32⟩
  | .hbm, ⟨36, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel7.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x512, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel10.lean ====
abbrev S8192x512 : Shape := ⟨2, ![8192, 512]⟩
abbrev S8192x1536 : Shape := ⟨2, ![8192, 1536]⟩
abbrev S8192x128 : Shape := ⟨2, ![8192, 128]⟩
abbrev S3600x1024 : Shape := ⟨2, ![3600, 1024]⟩
abbrev S8192x1024 : Shape := ⟨2, ![8192, 1024]⟩
abbrev S1x1024 : Shape := ⟨2, ![1, 1024]⟩
abbrev S_ : Shape := ⟨0, ![]⟩
abbrev S3712x1024 : Shape := ⟨2, ![3712, 1024]⟩
abbrev S8x1024 : Shape := ⟨2, ![8, 1024]⟩
abbrev S512x512 : Shape := ⟨2, ![512, 512]⟩
abbrev S512x1536 : Shape := ⟨2, ![512, 1536]⟩
abbrev S512x128 : Shape := ⟨2, ![512, 128]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x512, .f32⟩
  | .hbm, ⟨5, _⟩ => ⟨S8192x128, .f32⟩
  | .hbm, ⟨6, _⟩ => ⟨S3600x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S_, .i32⟩
  | .hbm, ⟨12, _⟩ => ⟨S_, .bf16⟩
  | .hbm, ⟨13, _⟩ => ⟨S3712x1024, .bf16⟩
  | .hbm, ⟨14, _⟩ => ⟨S8192x1024, .f32⟩
  | .hbm, ⟨15, _⟩ => ⟨S8x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S3712x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3712x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference10Ideal.lean ====
abbrev S8192x512 : Shape := ⟨2, ![8192, 512]⟩
abbrev S8192x1536 : Shape := ⟨2, ![8192, 1536]⟩
abbrev S8192x128 : Shape := ⟨2, ![8192, 128]⟩
abbrev S3600x1024 : Shape := ⟨2, ![3600, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x3600 : Shape := ⟨2, ![1024, 3600]⟩
abbrev S8192x3600 : Shape := ⟨2, ![8192, 3600]⟩
abbrev S8192x16 : Shape := ⟨2, ![8192, 16]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1536, .f32⟩
  | .hbm, ⟨4, _⟩ => ⟨S8192x512, .f32⟩
  | .hbm, ⟨5, _⟩ => ⟨S8192x128, .f32⟩
  | .hbm, ⟨6, _⟩ => ⟨S3600x1024, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S3600x1024, .f32⟩
  | .hbm, ⟨40, _⟩ => ⟨S1024x3600, .f32⟩
  | .hbm, ⟨41, _⟩ => ⟨S8192x3600, .f32⟩
  | .hbm, ⟨42, _⟩ => ⟨S8192x16, .f32⟩
  | .hbm, ⟨43, _⟩ => ⟨S8192x3600, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S5x1024, .f32⟩
  | .hbm, ⟨80, _⟩ => ⟨S8x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S1536x1024 : Shape := ⟨2, ![1536, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .bf16⟩
  | .hbm, ⟨4, _⟩ => ⟨S1536x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1536x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference8Ideal.lean ====
abbrev S8192x512 : Shape := ⟨2, ![8192, 512]⟩
abbrev S8192x1024 : Shape := ⟨2, ![8192, 1024]⟩
abbrev S8192x1536 : Shape := ⟨2, ![8192, 1536]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .bf16⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S1024x1536, .f32⟩
  | .hbm, ⟨8, _⟩ => ⟨S1536x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelFrame.lean ====
/- The kernel's frame. This module follows the generated frame module of this program, over the runs stated in KernelRun
   instead of the generated ones. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: one of them a store of the WHOLE buffer (Lib/Ring.lean `sl_whole_mem`). -/
theorem scover0_A_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (y : S8x64x64.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_wholeMem (kernelRun0_A c i arg1 harg1 arg2 harg2 arg3 harg3 arg4 harg4 arg5 harg5 arg6 harg6 arg7 harg7 arg8 harg8 arg9 harg9 hc0 x0 x1 x2 x3 x4 x5).1 (by sl_whole_mem) y

/-- What case A leaves in scratch `arg9`: its pieces read back over junk. -/
def sout0_A_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) : Vec F S8x64x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).1)

/-- Case B's pieces for scratch `arg9`, which the kernel carries between points, cover it: 64 pieces of `S1x64x64` tiling it (Lib/Ring.lean `Piece.tiledL`). -/
theorem scover0_B_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) (y : S8x64x64.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S1x64x64.size (by sl_kernel_rfl) y

/-- What case B leaves in scratch `arg9`: its pieces read back over junk. -/
def sout0_B_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) : Vec F S8x64x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x64x64 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 16 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

attribute [local irreducible] kernelRun0_A kernelRun0_B

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, H6, H7, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument ends unchanged, from a run whose results' contents are forgotten: a staged argument by its window,
    another as a buffer that the call does not touch. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.KernelIdealRun.lean ====
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a trip stores in the first result does not depend on what the two results' buffers held. -/
theorem trip_indep7 (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f8 f8' : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).1 f7 f8 f9 = (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).1 f7' f8' f9 := by
  unfold trip_k0_t1
  rfl

/-- What a trip stores in the second result does not depend on them. -/
theorem trip_indep8 (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f8 f8' : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).2.1 f7 f8 f9 = (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).2.1 f7' f8' f9 := by
  unfold trip_k0_t1
  rfl

/-- What a trip stores in the state does not depend on them. -/
theorem trip_indep9 (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 f7' : BufTy.Contents (Elt F) arg7.view.ty) (f8 f8' : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).2.2.1 f7 f8 f9 = (trip_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 k).2.2.1 f7' f8' f9 := by
  unfold trip_k0_t1
  rfl

/-- So the pieces of the trips before `n` do not depend on it either. -/
theorem pb_indep (𝒱 : Variants) (c : Dev nD) (bd : Option 𝒱.V) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f7 f7' : BufTy.Contents (Elt F) arg7.view.ty) (f8 f8' : BufTy.Contents (Elt F) arg8.view.ty) (f9 : BufTy.Contents (Elt F) arg9.view.ty) (n : ℕ) :
    pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 f7 f8 f9 n = pb_k0_t1 (F := F) 𝒱 c bd i arg1 harg1 arg2 harg2 arg3 harg3 arg4 harg4 arg5 harg5 arg6 harg6 arg7 harg7 arg8 harg8 arg9 harg9 X_arg1 X_arg2 X_arg3 X_arg4 X_arg5 X_arg6 f7' f8' f9 n := by
  induction n with
  | zero => rfl
  | succ n ih =>
    by_cases h : n < k0_t1_loop.trips
    · have e1 := pb_k0_t1_succ (F := F) 𝒱 c bd i arg1 harg1 arg2 harg2 arg3 harg3 arg4 harg4 arg5 harg5 arg6 harg6 arg7 harg7 arg8 harg8 arg9 harg9 X_arg1 X_arg2 X_arg3 X_arg4 X_arg5 X_arg6 f7 f8 f9 ⟨n, h⟩
      have e2 := pb_k0_t1_succ (F := F) 𝒱 c bd i arg1 harg1 arg2 harg2 arg3 harg3 arg4 harg4 arg5 harg5 arg6 harg6 arg7 harg7 arg8 harg8 arg9 harg9 X_arg1 X_arg2 X_arg3 X_arg4 X_arg5 X_arg6 f7' f8' f9 ⟨n, h⟩
      dsimp only at e1 e2
      rw [e1, e2, ih]
      exact Prod.ext (congrArg (· ++ _) (trip_indep7 𝒱 c bd i arg1 harg1 arg2 harg2 arg3 harg3 arg4 harg4 arg5 harg5 arg6 harg6 arg7 harg7 arg8 harg8 arg9 harg9 X_arg1 X_arg2 X_arg3 X_arg4 X_arg5 X_arg6 ⟨n, h⟩ _ _ _ _ _))
        (Prod.ext (congrArg (· ++ _) (trip_indep8 𝒱 c bd i arg1 harg1 arg2 harg2 arg3 harg3 arg4 harg4 arg5 harg5 arg6 harg6 arg7 harg7 arg8 harg8 arg9 harg9 X_arg1 X_arg2 X_arg3 X_arg4 X_arg5 X_arg6 ⟨n, h⟩ _ _ _ _ _))
          (congrArg (· ++ _) (trip_indep9 𝒱 c bd i arg1 harg1 arg2 harg2 arg3 harg3 arg4 harg4 arg5 harg5 arg6 harg6 arg7 harg7 arg8 harg8 arg9 harg9 X_arg1 X_arg2 X_arg3 X_arg4 X_arg5 X_arg6 ⟨n, h⟩ _ _ _ _ _)))
    · rw [pb_k0_t1.eq_2, pb_k0_t1.eq_2]
      unfold pb_k0_t1Step
      rw [dif_neg h, dif_neg h]
      exact ih

set_option maxHeartbeats 4000000 in
/-- The body's run at the first grid point, with the pieces each buffer ends with. -/
noncomputable def kernelRun0_A (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) :
    Σ' (L6 : List (View.Piece (Elt F) S8x512x64 .f32)), Σ' (L7 : List (View.Piece (Elt F) S8x512x64 .f32)), { LS0 : List (View.Piece (Elt F) S8x64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_delta_scan_bwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_delta_scan_bwd_eq_skeleton]; unfold cc0_delta_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    rw [pb_indep _ _ _ _ _ _ _ _ _ _ _ _ _ _ _ _ _ _ _ _ _ _ _ _ _ _ _ _ f6 arg7.view.junk f7 arg8.view.junk]
    isplitl [H6]; · iexists _; iexact H6
    isplitl [H7]; · iexists _; iexact H7
    iexists _; iexact HS0

set_option maxHeartbeats 4000000 in
/-- The body's run at a later grid point, with the pieces each buffer ends with. -/
noncomputable def kernelRun0_B (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) :
    Σ' (L6 : List (View.Piece (Elt F) S8x512x64 .f32)), Σ' (L7 : List (View.Piece (Elt F) S8x512x64 .f32)), { LS0 : List (View.Piece (Elt F) S8x64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_delta_scan_bwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_delta_scan_bwd_eq_skeleton]; unfold cc0_delta_scan_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    rw [pb_indep _ _ _ _ _ _ _ _ _ _ _ _ _ _ _ _ _ _ _ _ _ _ _ _ _ _ _ _ f6 arg7.view.junk f7 arg8.view.junk]
    isplitl [H6]; · iexists _; iexact H6
    isplitl [H7]; · iexists _; iexact H7
    iexists _; iexact HS0

end Cert.KernelIdeal.Gen
end
-- ==== Proof.KernelIdealFrame.lean ====
/- The ideal kernel's frame and its results at every grid point. This module follows the generated frame module of this
   program, over the runs stated in KernelIdealRun instead of the generated ones. -/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (64 stores of `S1x64x64`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (y : S8x512x64.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S1x64x64.size (by sl_kernel_rfl) y

/-- What case A leaves in output 6's staging buffer: its pieces read back over junk. -/
def out0_A_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) : Vec F S8x512x64 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 tile its block (64 stores of `S1x64x64`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (y : S8x512x64.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x64x64.size (by sl_kernel_rfl) y

/-- What case A leaves in output 7's staging buffer: its pieces read back over junk. -/
def out0_A_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) : Vec F S8x512x64 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for scratch `arg9`, which the kernel carries between points, cover it: one of them a store of the WHOLE buffer (Lib/Ring.lean `sl_whole_mem`). -/
theorem scover0_A_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (y : S8x64x64.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_wholeMem (kernelRun0_A c i arg1 harg1 arg2 harg2 arg3 harg3 arg4 harg4 arg5 harg5 arg6 harg6 arg7 harg7 arg8 harg8 arg9 harg9 hc0 x0 x1 x2 x3 x4 x5).2.2.1 (by sl_whole_mem) y

/-- What case A leaves in scratch `arg9`: its pieces read back over junk. -/
def sout0_A_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) : Vec F S8x64x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (64 stores of `S1x64x64`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) (y : S8x512x64.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S1x64x64.size (by sl_kernel_rfl) y

/-- What case B leaves in output 6's staging buffer: its pieces read back over junk. -/
def out0_B_6 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) : Vec F S8x512x64 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- Case B's pieces for output 7 tile its block (64 stores of `S1x64x64`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) (y : S8x512x64.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.1 S1x64x64.size (by sl_kernel_rfl) y

/-- What case B leaves in output 7's staging buffer: its pieces read back over junk. -/
def out0_B_7 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) : Vec F S8x512x64 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- Case B's pieces for scratch `arg9`, which the kernel carries between points, cover it: 64 pieces of `S1x64x64` tiling it (Lib/Ring.lean `Piece.tiledL`). -/
theorem scover0_B_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) (y : S8x64x64.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.2.1 S1x64x64.size (by sl_kernel_rfl) y

/-- What case B leaves in scratch `arg9`: its pieces read back over junk. -/
def sout0_B_0 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S8x512x64 .f32) (harg4 : arg4.IsWhole) (arg5 : Memref sig .tc .vmem S8x512x64 .f32) (harg5 : arg5.IsWhole) (arg6 : Memref sig .tc .vmem S512x512 .f32) (harg6 : arg6.IsWhole) (arg7 : Memref sig .tc .vmem S8x512x64 .f32) (harg7 : arg7.IsWhole) (arg8 : Memref sig .tc .vmem S8x512x64 .f32) (harg8 : arg8.IsWhole) (arg9 : Memref sig .tc .vmem S8x64x64 .f32) (harg9 : arg9.IsWhole) (hc0 : ¬cond0_0 i)
    (x0 : Vec F S1x512x512 .f32) (x1 : Vec F S1x512x512 .f32) (x2 : Vec F S1x512x512 .f32) (x3 : Vec F S8x512x64 .f32) (x4 : Vec F S8x512x64 .f32) (x5 : Vec F S512x512 .f32) (xs0 : Vec F S8x64x64 .f32) : Vec F S8x64x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x512x64 .f32 × Vec F S8x512x64 .f32 × Vec F S8x64x64 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 16 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

attribute [local irreducible] kernelRun0_A kernelRun0_B

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.KernelIdealValue.lean ====
/- The ideal kernel's results by blocks. This module follows the generated value module of this program, over the frame of
   KernelIdealFrame. -/
module

public import proofs.«01_k».proof.Proof.KernelIdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed6, outsAt0_B m c t h0]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8x8192x64.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed7, outsAt0_B m c t h0]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S8x8192x64.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v10_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v10_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v10_0) = (dats m 0 c).arrAt 6 cfg0.N
      ∧ r.2.mem ((c : Thread nD τ).loc main_v10_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S8x64x64 .f32) : Vec F S8x64x64 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2) 16 (fun n h => scAt0_0 m c n h (VS0_0.read (Elt F) VS0_0.junk)) (scAt0_0 m c)
    (fun n h hn => by
      have hN := lt_of_lt_of_eq h (show cfg0.N = 16 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 16 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

end Cert.KernelIdeal.Value

end
-- ==== Proof.ScanPay.lean ====
module
public import proofs.«01_k».proof.Proof.Gen.KernelIdeal.Loops
public import Idealize.ShloMosaic.Lib.ValueIdx
public import Idealize.ShloMosaic.Lib.ValueLayout
public import Idealize.ShloMosaic.PureOps.Ideal
public import Idealize.ShloMosaic.PureOps.Ideal.Laws

@[expose] public section
set_option maxRecDepth 16384
noncomputable section
namespace Cert.KernelIdeal.Scan
open Cert.KernelIdeal Cert.KernelIdeal.Gen Idealize.ShloMosaic Idealize.ShloMosaic.TcCoe Idealize.SL.Sem
open Idealize.ShloMosaic.ValueIdx
open scoped BigOperators

/-- The product of a 64×64 matrix's transpose with another, both contracted along their rows, read at an entry. -/
theorem tn_apply {φ₁ φ₂ : FTy} (A : FVec Ideal S64x64 φ₁) (B : FVec Ideal S64x64 φ₂) (acc : FVec Ideal S64x64 .f32)
    (r v : Fin 64) :
    matmul dot_S64x64_S64x64_S64x64_0_0_1_1_n_n none A B acc (ix2 r v)
      = acc (ix2 r v) + ∑ c : Fin 64, A (ix2 c r) * B (ix2 c v) := by
  show FloatOps.matmul _ none A B acc (ix2 r v) = _
  rw [Ideal.matmul_apply, ← Equiv.sum_comp (contrEquiv1 dot_S64x64_S64x64_S64x64_0_0_1_1_n_n 64 rfl rfl).symm]
  refine congrArg (acc (ix2 r v) + ·) (Finset.sum_congr rfl fun k _ => ?_)
  have hk := contrEquiv1_symm_val dot_S64x64_S64x64_S64x64_0_0_1_1_n_n 64 rfl rfl k
  have el : dot_S64x64_S64x64_S64x64_0_0_1_1_n_n.lhsIdx (ix2 r v)
      ((contrEquiv1 dot_S64x64_S64x64_S64x64_0_0_1_1_n_n 64 rfl rfl).symm k) = ix2 k r := by
    funext a; apply Fin.ext
    match a with
    | ⟨0, _⟩ => exact hk
    | ⟨1, _⟩ => rfl
  have er : dot_S64x64_S64x64_S64x64_0_0_1_1_n_n.rhsIdx (ix2 r v)
      ((contrEquiv1 dot_S64x64_S64x64_S64x64_0_0_1_1_n_n 64 rfl rfl).symm k) = ix2 k v := by
    funext a; apply Fin.ext
    match a with
    | ⟨0, _⟩ => exact hk
    | ⟨1, _⟩ => rfl
  rw [el, er]

/-- The plain product of two 64×64 matrices read at an entry. -/
theorem nn_apply {φ₁ φ₂ : FTy} (A : FVec Ideal S64x64 φ₁) (B : FVec Ideal S64x64 φ₂) (acc : FVec Ideal S64x64 .f32)
    (r v : Fin 64) :
    matmul dot_S64x64_S64x64_S64x64_1_0_0_1_n_n none A B acc (ix2 r v)
      = acc (ix2 r v) + ∑ c : Fin 64, A (ix2 r c) * B (ix2 c v) := by
  show FloatOps.matmul _ none A B acc (ix2 r v) = _
  rw [Ideal.matmul_apply, ← Equiv.sum_comp (contrEquiv1 dot_S64x64_S64x64_S64x64_1_0_0_1_n_n 64 rfl rfl).symm]
  refine congrArg (acc (ix2 r v) + ·) (Finset.sum_congr rfl fun k _ => ?_)
  have hk := contrEquiv1_symm_val dot_S64x64_S64x64_S64x64_1_0_0_1_n_n 64 rfl rfl k
  have el : dot_S64x64_S64x64_S64x64_1_0_0_1_n_n.lhsIdx (ix2 r v)
      ((contrEquiv1 dot_S64x64_S64x64_S64x64_1_0_0_1_n_n 64 rfl rfl).symm k) = ix2 r k := by
    funext a; apply Fin.ext
    match a with
    | ⟨0, _⟩ => rfl
    | ⟨1, _⟩ => exact hk
  have er : dot_S64x64_S64x64_S64x64_1_0_0_1_n_n.rhsIdx (ix2 r v)
      ((contrEquiv1 dot_S64x64_S64x64_S64x64_1_0_0_1_n_n 64 rfl rfl).symm k) = ix2 k v := by
    funext a; apply Fin.ext
    match a with
    | ⟨0, _⟩ => exact hk
    | ⟨1, _⟩ => rfl
  rw [el, er]

/-- The zero splat reads zero. -/
theorem zero_apply (i : S64x64.Idx) : (constant S64x64 .f32 0x00000000#32 : FVec Ideal S64x64 .f32) i = 0 := by
  exact Ideal.ofBits_zero_f32

variable (G D QK K Q W : Vec Ideal S1x64x64 .f32) (DO : Vec Ideal S64x64 .f32) (dv : FVec Ideal S64x64 .f32)

/-- The gradient of one chunk's corrected values (`v_new`) for one head, as the kernel's trip computes it. -/
def dvPay : FVec Ideal S64x64 .f32 :=
  k0_pay61 (k0_pay6 G) (k0_pay44 D) (k0_pay52 DO) (k0_pay60 QK) K

/-- The gradient of the state one chunk earlier for one head, as the kernel's trip computes it. -/
def nextPay : FVec Ideal S1x64x64 .f32 :=
  k0_pay87 (k0_pay5 G) (k0_pay7 G) (k0_pay44 D) (k0_pay52 DO) (dvPay G D QK K DO) Q W

/-- The running decays as a matrix. -/
theorem pay3_apply (r v : Fin 64) : k0_pay3 G (ix2 r v) = G (ix3 0 r v) := by
  unfold k0_pay3
  exact shapeCast_1ab_ab_apply _ _ _ _

/-- The last row of the running decays, laid along every row. -/
theorem pay4_apply (r v : Fin 64) : k0_pay4 G (ix2 r v) = G (ix3 0 63 v) := by
  unfold k0_pay4
  rw [broadcastTo_1b_ab_apply, shapeCast_self]
  show k0_pay3 G _ = _
  refine Eq.trans ?_ (pay3_apply G 63 v)
  refine congrArg (k0_pay3 G) ?_
  funext a; apply Fin.ext
  match a with
  | ⟨0, _⟩ => rfl
  | ⟨1, _⟩ => exact Nat.zero_add _

theorem dvPay_apply (r v : Fin 64) : dvPay G D QK K DO (ix2 r v)
    = (∑ c : Fin 64, QK (ix3 0 c r) * DO (ix2 c v))
      + ∑ κ : Fin 64, (K (ix3 0 r κ) * Ideal.exp (G (ix3 0 63 κ) - G (ix3 0 r κ))) * D (ix3 0 κ v) := by
  unfold dvPay k0_pay61
  rw [addf_apply, tn_apply, nn_apply, zero_apply, zero_add, zero_add]
  refine congrArg₂ (· + ·) (Finset.sum_congr rfl fun c _ => ?_) (Finset.sum_congr rfl fun c _ => ?_)
  · unfold k0_pay60 k0_pay52
    rw [truncf_apply, truncf_apply, shapeCast_1ab_ab_apply]
  · unfold k0_pay6 k0_pay44
    dsimp only
    rw [truncf_apply, truncf_apply, mulf_apply, shapeCast_1ab_ab_apply, shapeCast_1ab_ab_apply]
    show _ * Ideal.exp (k0_pay4 G (ix2 r c) - k0_pay3 G (ix2 r c)) * _ = _
    rw [pay4_apply, pay3_apply]

theorem nextPay_apply (κ v : Fin 64) : nextPay G D QK K Q W DO (ix3 0 κ v)
    = (∑ c : Fin 64, (Q (ix3 0 c κ) * Ideal.exp (G (ix3 0 c κ))) * DO (ix2 c v))
      + Ideal.exp (G (ix3 0 63 v)) * D (ix3 0 κ v)
      - ∑ c : Fin 64, W (ix3 0 c κ) * dvPay G D QK K DO (ix2 c v) := by
  unfold nextPay k0_pay87
  rw [shapeCast_ab_1ab_apply, subf_apply, addf_apply, mulf_apply, tn_apply, tn_apply, zero_apply, zero_add, zero_add]
  refine congrArg₂ (· - ·) (congrArg₂ (· + ·) (Finset.sum_congr rfl fun c _ => ?_) ?_) (Finset.sum_congr rfl fun c _ => ?_)
  · unfold k0_pay5 k0_pay52
    dsimp only
    rw [truncf_apply, truncf_apply, mulf_apply, shapeCast_1ab_ab_apply]
    show _ * Ideal.exp (k0_pay3 G (ix2 c κ)) * _ = _
    rw [pay3_apply]
  · unfold k0_pay7 k0_pay44
    rw [shapeCast_1ab_ab_apply]
    show Ideal.exp (k0_pay4 G (ix2 κ v)) * _ = _
    rw [pay4_apply]
  · rw [truncf_apply, truncf_apply, shapeCast_1ab_ab_apply]

/-! Each head's payloads are the same functions of its loads, cut at different places into the body's parts. -/

/-- What a trip stores of the carried state's gradient. -/
def stPay : FVec Ideal S1x64x64 .f32 := k0_pay71 (k0_pay44 D)
/-- What a trip stores of the corrected values' gradient. -/
def dwPay : FVec Ideal S1x64x64 .f32 := k0_pay72 (dvPay G D QK K DO)

/-- The stored state's gradient is the loaded one. -/
theorem stPay_apply (κ v : Fin 64) : stPay D (ix3 0 κ v) = D (ix3 0 κ v) := by
  unfold stPay k0_pay71 k0_pay44
  rw [shapeCast_ab_1ab_apply, shapeCast_1ab_ab_apply]

/-- The stored values' gradient is the computed one. -/
theorem dwPay_apply (r v : Fin 64) : dwPay G D QK K DO (ix3 0 r v) = dvPay G D QK K DO (ix2 r v) := by
  unfold dwPay k0_pay72
  rw [shapeCast_ab_1ab_apply]

theorem stP0 : k0_pay71 (k0_pay44 D) = stPay D := rfl
theorem dvP0 : k0_pay61 (k0_pay6 G) (k0_pay44 D) (k0_pay52 DO) (k0_pay60 QK) K = dvPay G D QK K DO := rfl
theorem dwP0 : k0_pay72 (k0_pay61 (k0_pay6 G) (k0_pay44 D) (k0_pay52 DO) (k0_pay60 QK) K) = dwPay G D QK K DO := rfl
theorem nxP0 : k0_pay87 (k0_pay5 G) (k0_pay7 G) (k0_pay44 D) (k0_pay52 DO) (k0_pay61 (k0_pay6 G) (k0_pay44 D) (k0_pay52 DO) (k0_pay60 QK) K) Q W = nextPay G D QK K Q W DO := by
  rw [dvP0]; rfl
theorem stP1 : k0_pay73 (k0_pay45 D) = stPay D := rfl
theorem dvP1 : k0_pay62 (k0_pay11 G) (k0_pay45 D) (k0_pay53 DO) QK K = dvPay G D QK K DO := rfl
theorem dwP1 : k0_pay74 (k0_pay62 (k0_pay11 G) (k0_pay45 D) (k0_pay53 DO) QK K) = dwPay G D QK K DO := rfl
theorem nxP1 : k0_pay89 (k0_pay62 (k0_pay11 G) (k0_pay45 D) (k0_pay53 DO) QK K) (k0_pay88 (k0_pay10 G) (k0_pay12 G) (k0_pay45 D) (k0_pay53 DO) Q) W = nextPay G D QK K Q W DO := by
  rw [dvP1]; rfl
theorem stP2 : k0_pay75 (k0_pay46 D) = stPay D := rfl
theorem dvP2 : k0_pay63 (k0_pay16 G) (k0_pay46 D) (k0_pay54 DO) QK K = dvPay G D QK K DO := rfl
theorem dwP2 : k0_pay76 (k0_pay63 (k0_pay16 G) (k0_pay46 D) (k0_pay54 DO) QK K) = dwPay G D QK K DO := rfl
theorem nxP2 : k0_pay90 (k0_pay15 G) (k0_pay17 G) (k0_pay46 D) (k0_pay54 DO) (k0_pay63 (k0_pay16 G) (k0_pay46 D) (k0_pay54 DO) QK K) Q W = nextPay G D QK K Q W DO := by
  rw [dvP2]; rfl
theorem stP3 : k0_pay77 (k0_pay47 D) = stPay D := rfl
theorem dvP3 : k0_pay65 (k0_pay21 G) (k0_pay47 D) (k0_pay64 (k0_pay55 DO) QK) K = dvPay G D QK K DO := rfl
theorem dwP3 : k0_pay78 (k0_pay65 (k0_pay21 G) (k0_pay47 D) (k0_pay64 (k0_pay55 DO) QK) K) = dwPay G D QK K DO := rfl
theorem nxP3 : k0_pay94 (k0_pay91 (k0_pay20 G) (k0_pay22 G) (k0_pay47 D) (k0_pay55 DO) Q) (k0_pay92 W) (k0_pay93 (k0_pay65 (k0_pay21 G) (k0_pay47 D) (k0_pay64 (k0_pay55 DO) QK) K)) = nextPay G D QK K Q W DO := by
  rw [dvP3]; rfl
theorem stP4 : k0_pay79 (k0_pay48 D) = stPay D := rfl
theorem dvP4 : k0_pay66 (k0_pay27 (k0_pay23 G) (k0_pay24 G)) (k0_pay48 D) (k0_pay56 DO) QK K = dvPay G D QK K DO := rfl
theorem dwP4 : k0_pay80 (k0_pay66 (k0_pay27 (k0_pay23 G) (k0_pay24 G)) (k0_pay48 D) (k0_pay56 DO) QK K) = dwPay G D QK K DO := rfl
theorem nxP4 : k0_pay95 (k0_pay26 (k0_pay23 G)) (k0_pay28 (k0_pay24 G)) (k0_pay48 D) (k0_pay56 DO) (k0_pay66 (k0_pay27 (k0_pay23 G) (k0_pay24 G)) (k0_pay48 D) (k0_pay56 DO) QK K) Q W = nextPay G D QK K Q W DO := by
  rw [dvP4]; rfl
theorem stP5 : k0_pay81 (k0_pay49 D) = stPay D := rfl
theorem dvP5 : k0_pay67 (k0_pay32 G) (k0_pay49 D) (k0_pay57 DO) QK K = dvPay G D QK K DO := rfl
theorem dwP5 : k0_pay82 (k0_pay67 (k0_pay32 G) (k0_pay49 D) (k0_pay57 DO) QK K) = dwPay G D QK K DO := rfl
theorem nxP5 : k0_pay97 (k0_pay96 (k0_pay31 G) (k0_pay33 G) (k0_pay49 D) (k0_pay57 DO) (k0_pay67 (k0_pay32 G) (k0_pay49 D) (k0_pay57 DO) QK K) Q W) = nextPay G D QK K Q W DO := by
  rw [dvP5]; rfl
theorem stP6 : k0_pay83 (k0_pay50 D) = stPay D := rfl
theorem dvP6 : k0_pay69 (k0_pay37 G) (k0_pay50 D) (k0_pay68 (k0_pay58 DO) QK) K = dvPay G D QK K DO := rfl
theorem dwP6 : k0_pay84 (k0_pay69 (k0_pay37 G) (k0_pay50 D) (k0_pay68 (k0_pay58 DO) QK) K) = dwPay G D QK K DO := rfl
theorem nxP6 : k0_pay98 (k0_pay36 G) (k0_pay38 G) (k0_pay50 D) (k0_pay58 DO) (k0_pay69 (k0_pay37 G) (k0_pay50 D) (k0_pay68 (k0_pay58 DO) QK) K) Q W = nextPay G D QK K Q W DO := by
  rw [dvP6]; rfl
theorem stP7 : k0_pay85 (k0_pay51 D) = stPay D := rfl
theorem dvP7 : k0_pay70 (k0_pay42 G) (k0_pay51 D) (k0_pay59 DO) QK K = dvPay G D QK K DO := rfl
theorem dwP7 : k0_pay86 (k0_pay70 (k0_pay42 G) (k0_pay51 D) (k0_pay59 DO) QK K) = dwPay G D QK K DO := rfl
theorem nxP7 : k0_pay2 (k0_pay99 (k0_pay41 G) (k0_pay43 G) (k0_pay51 D) (k0_pay59 DO) (k0_pay70 (k0_pay42 G) (k0_pay51 D) (k0_pay59 DO) QK K) Q W) = nextPay G D QK K Q W DO := by
  rw [dvP7]; rfl

end Cert.KernelIdeal.Scan
end
-- ==== Proof.ScanTrip.lean ====
module
public import proofs.«01_k».proof.Proof.ScanPay
public import Idealize.ShloMosaic.Lib.WholeRead
public import Idealize.ShloMosaic.Lib.Writes

@[expose] public section
set_option maxRecDepth 16384
noncomputable section
namespace Cert.KernelIdeal.Scan
open Cert.KernelIdeal Cert.KernelIdeal.Gen Idealize.ShloMosaic Idealize.ShloMosaic.TcCoe Idealize.SL.Sem
open Idealize.ShloMosaic.ValueIdx
open scoped BigOperators

/-! The offsets of a trip's loads and stores: trip `k` works on chunk `7 − k` of the block. -/
theorem off1 : ∀ k : Fin k0_t1_loop.trips, k0_off1 k = ![0, 64 * (7 - k.val), 64 * 0] := by decide +kernel
theorem off2 : ∀ k : Fin k0_t1_loop.trips, k0_off2 k = ![0, 64 * (7 - k.val), 64 * 1] := by decide +kernel
theorem off3 : ∀ k : Fin k0_t1_loop.trips, k0_off3 k = ![0, 64 * (7 - k.val), 64 * 2] := by decide +kernel
theorem off4 : ∀ k : Fin k0_t1_loop.trips, k0_off4 k = ![0, 64 * (7 - k.val), 64 * 3] := by decide +kernel
theorem off5 : ∀ k : Fin k0_t1_loop.trips, k0_off5 k = ![0, 64 * (7 - k.val), 64 * 4] := by decide +kernel
theorem off6 : ∀ k : Fin k0_t1_loop.trips, k0_off6 k = ![0, 64 * (7 - k.val), 64 * 5] := by decide +kernel
theorem off7 : ∀ k : Fin k0_t1_loop.trips, k0_off7 k = ![0, 64 * (7 - k.val), 64 * 6] := by decide +kernel
theorem off8 : ∀ k : Fin k0_t1_loop.trips, k0_off8 k = ![0, 64 * (7 - k.val), 64 * 7] := by decide +kernel
theorem off9 : ∀ k : Fin k0_t1_loop.trips, k0_off9 k = ![64 * (7 - k.val), 64 * 0] := by decide +kernel
theorem off10 : ∀ k : Fin k0_t1_loop.trips, k0_off10 k = ![64 * (7 - k.val), 64 * 1] := by decide +kernel
theorem off11 : ∀ k : Fin k0_t1_loop.trips, k0_off11 k = ![64 * (7 - k.val), 64 * 2] := by decide +kernel
theorem off12 : ∀ k : Fin k0_t1_loop.trips, k0_off12 k = ![64 * (7 - k.val), 64 * 3] := by decide +kernel
theorem off13 : ∀ k : Fin k0_t1_loop.trips, k0_off13 k = ![64 * (7 - k.val), 64 * 4] := by decide +kernel
theorem off14 : ∀ k : Fin k0_t1_loop.trips, k0_off14 k = ![64 * (7 - k.val), 64 * 5] := by decide +kernel
theorem off15 : ∀ k : Fin k0_t1_loop.trips, k0_off15 k = ![64 * (7 - k.val), 64 * 6] := by decide +kernel
theorem off16 : ∀ k : Fin k0_t1_loop.trips, k0_off16 k = ![64 * (7 - k.val), 64 * 7] := by decide +kernel
theorem off17 : ∀ k : Fin k0_t1_loop.trips, k0_off17 k = ![0, 64 * (7 - k.val), 0] := by decide +kernel
theorem off18 : ∀ k : Fin k0_t1_loop.trips, k0_off18 k = ![1, 64 * (7 - k.val), 0] := by decide +kernel
theorem off19 : ∀ k : Fin k0_t1_loop.trips, k0_off19 k = ![2, 64 * (7 - k.val), 0] := by decide +kernel
theorem off20 : ∀ k : Fin k0_t1_loop.trips, k0_off20 k = ![3, 64 * (7 - k.val), 0] := by decide +kernel
theorem off21 : ∀ k : Fin k0_t1_loop.trips, k0_off21 k = ![4, 64 * (7 - k.val), 0] := by decide +kernel
theorem off22 : ∀ k : Fin k0_t1_loop.trips, k0_off22 k = ![5, 64 * (7 - k.val), 0] := by decide +kernel
theorem off23 : ∀ k : Fin k0_t1_loop.trips, k0_off23 k = ![6, 64 * (7 - k.val), 0] := by decide +kernel
theorem off24 : ∀ k : Fin k0_t1_loop.trips, k0_off24 k = ![7, 64 * (7 - k.val), 0] := by decide +kernel

/-- The chunk of the block that trip `k` works on. -/
def ch (k : ℕ) : Fin 8 := ⟨7 - k, by omega⟩

/-- Row `r` of chunk `j` of a block, and lane `v` of head `h`. -/
def row (j : Fin 8) (r : Fin 64) : Fin 512 := ⟨64 * j.val + r.val, by omega⟩

/-- A body's memrefs and the blocks its six operands hold. -/
structure Env where
  𝒱 : Variants
  c : Dev nD
  bd : Option 𝒱.V
  i : grid0.Coords
  arg1 : Memref sig .tc .vmem S1x512x512 .f32
  harg1 : arg1.IsWhole
  arg2 : Memref sig .tc .vmem S1x512x512 .f32
  harg2 : arg2.IsWhole
  arg3 : Memref sig .tc .vmem S1x512x512 .f32
  harg3 : arg3.IsWhole
  arg4 : Memref sig .tc .vmem S8x512x64 .f32
  harg4 : arg4.IsWhole
  arg5 : Memref sig .tc .vmem S8x512x64 .f32
  harg5 : arg5.IsWhole
  arg6 : Memref sig .tc .vmem S512x512 .f32
  harg6 : arg6.IsWhole
  arg7 : Memref sig .tc .vmem S8x512x64 .f32
  harg7 : arg7.IsWhole
  arg8 : Memref sig .tc .vmem S8x512x64 .f32
  harg8 : arg8.IsWhole
  arg9 : Memref sig .tc .vmem S8x64x64 .f32
  harg9 : arg9.IsWhole
  x1 : Vec Ideal S1x512x512 .f32
  x2 : Vec Ideal S1x512x512 .f32
  x3 : Vec Ideal S1x512x512 .f32
  x4 : Vec Ideal S8x512x64 .f32
  x5 : Vec Ideal S8x512x64 .f32
  x6 : Vec Ideal S512x512 .f32

variable (e : Env)

/-- Chunk `j` of head `h` cut from a block of tokens by lanes. -/
def ldA (B : Vec Ideal S1x512x512 .f32) (j h : Fin 8) : Vec Ideal S1x64x64 .f32 :=
  fun x => B (ix3 0 (row j (x 1)) (row h (x 2)))
/-- The same from a block that has no leading axis. -/
def ldC (B : Vec Ideal S512x512 .f32) (j h : Fin 8) : Vec Ideal S64x64 .f32 :=
  fun x => B (ix2 (row j (x 0)) (row h (x 1)))
/-- Chunk `j` of head `h` cut from a block laid out by head. -/
def ldB (B : Vec Ideal S8x512x64 .f32) (j h : Fin 8) : Vec Ideal S1x64x64 .f32 :=
  fun x => B (ix3 h (row j (x 1)) (x 2))
/-- Head `h` of the carried state's gradient. -/
def ldD (D : Vec Ideal S8x64x64 .f32) (h : Fin 8) : Vec Ideal S1x64x64 .f32 :=
  fun x => D (ix3 h (x 1) (x 2))

/-- A load of a body's, at the contents that read the block `B`. -/
abbrev rdA {m : Memref sig .tc .vmem S1x512x512 .f32} (hm : m.IsWhole) (B : Vec Ideal S1x512x512 .f32) {off : Fin 3 → ℕ}
    (inb : ∀ a, off a + (![1, 64, 64] : Fin 3 → ℕ) a ≤ S1x512x512.size a) : Vec Ideal S1x64x64 .f32 :=
  View.readAt (Elt Ideal) m.view (Rect.unit (s := S1x512x512) off ![1, 64, 64] inb).toLoadRect (hm.unread B)

/-- A load of a body's, at the contents that read the block `B`. -/
abbrev rdB {m : Memref sig .tc .vmem S8x512x64 .f32} (hm : m.IsWhole) (B : Vec Ideal S8x512x64 .f32) {off : Fin 3 → ℕ}
    (inb : ∀ a, off a + (![1, 64, 64] : Fin 3 → ℕ) a ≤ S8x512x64.size a) : Vec Ideal S1x64x64 .f32 :=
  View.readAt (Elt Ideal) m.view (Rect.unit (s := S8x512x64) off ![1, 64, 64] inb).toLoadRect (hm.unread B)

/-- A load of a body's, at the contents that read the block `B`. -/
abbrev rdC {m : Memref sig .tc .vmem S512x512 .f32} (hm : m.IsWhole) (B : Vec Ideal S512x512 .f32) {off : Fin 2 → ℕ}
    (inb : ∀ a, off a + (![64, 64] : Fin 2 → ℕ) a ≤ S512x512.size a) : Vec Ideal S64x64 .f32 :=
  View.readAt (Elt Ideal) m.view (Rect.unit (s := S512x512) off ![64, 64] inb).toLoadRect (hm.unread B)

/-- A load of a body's, at the contents that read the block `B`. -/
abbrev rdD {m : Memref sig .tc .vmem S8x64x64 .f32} (hm : m.IsWhole) (B : Vec Ideal S8x64x64 .f32) {off : Fin 3 → ℕ}
    (inb : ∀ a, off a + (![1, 64, 64] : Fin 3 → ℕ) a ≤ S8x64x64.size a) : Vec Ideal S1x64x64 .f32 :=
  View.readAt (Elt Ideal) m.view (Rect.unit (s := S8x64x64) off ![1, 64, 64] inb).toLoadRect (hm.unread B)

theorem readA (m : Memref sig .tc .vmem S1x512x512 .f32) (hm : m.IsWhole) (B : Vec Ideal S1x512x512 .f32)
    {off : Fin 3 → ℕ} (inb : ∀ a, (off : Fin 3 → ℕ) a + (![1, 64, 64] : Fin 3 → ℕ) a ≤ S1x512x512.size a) (j h : Fin 8) (eo : off = ![0, 64 * j.val, 64 * h.val]) :
    View.readAt (Elt Ideal) m.view (Rect.unit off ![1, 64, 64] inb).toLoadRect (hm.unread B) = ldA B j h := by
  subst eo
  funext x
  refine (hm.readAt_unread B _ x).trans (congrArg B ?_)
  funext a; apply Fin.ext
  match a with
  | ⟨0, _⟩ => have := (x 0).isLt; show 0 + 1 * (x 0).val = 0; simp at this ⊢; omega
  | ⟨1, _⟩ => show 64 * j.val + 1 * (x 1).val = 64 * j.val + (x 1).val; omega
  | ⟨2, _⟩ => show 64 * h.val + 1 * (x 2).val = 64 * h.val + (x 2).val; omega

theorem readC (m : Memref sig .tc .vmem S512x512 .f32) (hm : m.IsWhole) (B : Vec Ideal S512x512 .f32)
    {off : Fin 2 → ℕ} (inb : ∀ a, (off : Fin 2 → ℕ) a + (![64, 64] : Fin 2 → ℕ) a ≤ S512x512.size a) (j h : Fin 8) (eo : off = ![64 * j.val, 64 * h.val]) :
    View.readAt (Elt Ideal) m.view (Rect.unit off ![64, 64] inb).toLoadRect (hm.unread B) = ldC B j h := by
  subst eo
  funext x
  refine (hm.readAt_unread B _ x).trans (congrArg B ?_)
  funext a; apply Fin.ext
  match a with
  | ⟨0, _⟩ => show 64 * j.val + 1 * (x 0).val = 64 * j.val + (x 0).val; omega
  | ⟨1, _⟩ => show 64 * h.val + 1 * (x 1).val = 64 * h.val + (x 1).val; omega

theorem readB (m : Memref sig .tc .vmem S8x512x64 .f32) (hm : m.IsWhole) (B : Vec Ideal S8x512x64 .f32)
    {off : Fin 3 → ℕ} (inb : ∀ a, (off : Fin 3 → ℕ) a + (![1, 64, 64] : Fin 3 → ℕ) a ≤ S8x512x64.size a) (j h : Fin 8) (eo : off = ![h.val, 64 * j.val, 0]) :
    View.readAt (Elt Ideal) m.view (Rect.unit off ![1, 64, 64] inb).toLoadRect (hm.unread B) = ldB B j h := by
  subst eo
  funext x
  refine (hm.readAt_unread B _ x).trans (congrArg B ?_)
  funext a; apply Fin.ext
  match a with
  | ⟨0, _⟩ => have := (x 0).isLt; show h.val + 1 * (x 0).val = h.val; simp at this ⊢; omega
  | ⟨1, _⟩ => show 64 * j.val + 1 * (x 1).val = 64 * j.val + (x 1).val; omega
  | ⟨2, _⟩ => show 0 + 1 * (x 2).val = (x 2).val; omega

theorem readD (m : Memref sig .tc .vmem S8x64x64 .f32) (hm : m.IsWhole) (D : Vec Ideal S8x64x64 .f32)
    (h : Fin 8) (inb : ∀ a, (![h.val, 0, 0] : Fin 3 → ℕ) a + (![1, 64, 64] : Fin 3 → ℕ) a ≤ S8x64x64.size a) :
    View.readAt (Elt Ideal) m.view (Rect.unit ![h.val, 0, 0] ![1, 64, 64] inb).toLoadRect (hm.unread D) = ldD D h := by
  funext x
  refine (hm.readAt_unread D _ x).trans (congrArg D ?_)
  funext a; apply Fin.ext
  match a with
  | ⟨0, _⟩ => have := (x 0).isLt; show h.val + 1 * (x 0).val = h.val; simp at this ⊢; omega
  | ⟨1, _⟩ => show 0 + 1 * (x 1).val = (x 1).val; omega
  | ⟨2, _⟩ => show 0 + 1 * (x 2).val = (x 2).val; omega

/-- The gradient of chunk `j`'s corrected values for head `h`, from the block's operands and the state's gradient. -/
def Env.dvm (j : Fin 8) (D : Vec Ideal S8x64x64 .f32) (h : Fin 8) : FVec Ideal S64x64 .f32 :=
  dvPay (ldA e.x3 j h) (ldD D h) (ldB e.x4 j h) (ldA e.x2 j h) (ldC e.x6 j h)

/-- The state's gradient one chunk earlier for head `h`. -/
def Env.nxm (j : Fin 8) (D : Vec Ideal S8x64x64 .f32) (h : Fin 8) : FVec Ideal S1x64x64 .f32 :=
  nextPay (ldA e.x3 j h) (ldD D h) (ldB e.x4 j h) (ldA e.x2 j h) (ldA e.x1 j h) (ldB e.x5 j h) (ldC e.x6 j h)

/-- The state's gradient one chunk earlier, all heads. -/
def Env.nx (j : Fin 8) (D : Vec Ideal S8x64x64 .f32) : Vec Ideal S8x64x64 .f32 :=
  fun y => e.nxm j D (y 0) (ix3 0 (y 1) (y 2))

/-- One trip's pieces. -/
def Env.trip (k : Fin k0_t1_loop.trips) :=
  trip_k0_t1 (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 (e.harg1.unread e.x1) (e.harg2.unread e.x2) (e.harg3.unread e.x3) (e.harg4.unread e.x4) (e.harg5.unread e.x5) (e.harg6.unread e.x6) k

theorem inbA {off : Fin 3 → ℕ} {j h : Fin 8} (eo : off = ![0, 64 * j.val, 64 * h.val]) :
    ∀ a, off a + (![1, 64, 64] : Fin 3 → ℕ) a ≤ S1x512x512.size a := by
  subst eo
  intro a
  match a with
  | ⟨0, _⟩ => show 0 + 1 ≤ 1; omega
  | ⟨1, _⟩ => show 64 * j.val + 64 ≤ 512; omega
  | ⟨2, _⟩ => show 64 * h.val + 64 ≤ 512; omega

theorem inbB {off : Fin 3 → ℕ} {j h : Fin 8} (eo : off = ![h.val, 64 * j.val, 0]) :
    ∀ a, off a + (![1, 64, 64] : Fin 3 → ℕ) a ≤ S8x512x64.size a := by
  subst eo
  intro a
  match a with
  | ⟨0, _⟩ => show h.val + 1 ≤ 8; omega
  | ⟨1, _⟩ => show 64 * j.val + 64 ≤ 512; omega
  | ⟨2, _⟩ => show 0 + 64 ≤ 64; omega

theorem inbC {off : Fin 2 → ℕ} {j h : Fin 8} (eo : off = ![64 * j.val, 64 * h.val]) :
    ∀ a, off a + (![64, 64] : Fin 2 → ℕ) a ≤ S512x512.size a := by
  subst eo
  intro a
  match a with
  | ⟨0, _⟩ => show 64 * j.val + 64 ≤ 512; omega
  | ⟨1, _⟩ => show 64 * h.val + 64 ≤ 512; omega

theorem inbD (h : Fin 8) : ∀ a, (![h.val, 0, 0] : Fin 3 → ℕ) a + (![1, 64, 64] : Fin 3 → ℕ) a ≤ S8x64x64.size a := by
  intro a
  match a with
  | ⟨0, _⟩ => show h.val + 1 ≤ 8; omega
  | ⟨1, _⟩ => show 0 + 64 ≤ 64; omega
  | ⟨2, _⟩ => show 0 + 64 ≤ 64; omega

/-- The next state's gradient of one head as a trip computes it from its loads. -/
theorem piece9 (k : Fin k0_t1_loop.trips) (h : Fin 8) {o3 : Fin 3 → ℕ} {o2 : Fin 2 → ℕ} {o1 : Fin 3 → ℕ}
    (e3 : o3 = ![0, 64 * (ch k).val, 64 * h.val]) (e2 : o2 = ![64 * (ch k).val, 64 * h.val])
    (e1 : o1 = ![h.val, 64 * (ch k).val, 0])
    (D : Vec Ideal S8x64x64 .f32) (x : S1x64x64.Idx) :
    nextPay (rdA e.harg3 e.x3 (inbA e3)) (rdD e.harg9 D (inbD h)) (rdB e.harg4 e.x4 (inbB e1))
      (rdA e.harg2 e.x2 (inbA e3)) (rdA e.harg1 e.x1 (inbA e3)) (rdB e.harg5 e.x5 (inbB e1)) (rdC e.harg6 e.x6 (inbC e2)) x
    = e.nx (ch k) D ((Rect.unit (s := S8x64x64) ![h.val, 0, 0] ![1, 64, 64] (inbD h)).emb x) := by
  unfold rdA rdB rdC rdD
  rw [readA _ _ _ _ (ch k) h e3, readA _ _ _ _ (ch k) h e3, readA _ _ _ _ (ch k) h e3, readD, readB _ _ _ _ (ch k) h e1,
    readB _ _ _ _ (ch k) h e1, readC _ _ _ _ (ch k) h e2]
  have q0 : ((Rect.unit (s := S8x64x64) ![h.val, 0, 0] ![1, 64, 64] (inbD h)).emb x) 0 = h := by
    apply Fin.ext; have := (x 0).isLt; show h.val + 1 * (x 0).val = h.val; simp at this ⊢; omega
  have q1 : ((Rect.unit (s := S8x64x64) ![h.val, 0, 0] ![1, 64, 64] (inbD h)).emb x) 1 = x 1 := by
    apply Fin.ext; show 0 + 1 * (x 1).val = (x 1).val; omega
  have q2 : ((Rect.unit (s := S8x64x64) ![h.val, 0, 0] ![1, 64, 64] (inbD h)).emb x) 2 = x 2 := by
    apply Fin.ext; show 0 + 1 * (x 2).val = (x 2).val; omega
  have q3 : x = ix3 0 (x 1) (x 2) := by
    funext a; apply Fin.ext
    match a with
    | ⟨0, _⟩ => have := (x 0).isLt; show (x 0).val = 0; simp at this ⊢; omega
    | ⟨1, _⟩ => rfl
    | ⟨2, _⟩ => rfl
  show _ = e.nxm (ch k) D _ (ix3 0 _ _)
  rw [q0, q1, q2]
  exact congrArg _ q3

/-- The gradient of the corrected values that a trip stores for one head, from its loads. -/
theorem piece8 (k : Fin k0_t1_loop.trips) (h : Fin 8) {o3 : Fin 3 → ℕ} {o2 : Fin 2 → ℕ} {o1 : Fin 3 → ℕ}
    (e3 : o3 = ![0, 64 * (ch k).val, 64 * h.val]) (e2 : o2 = ![64 * (ch k).val, 64 * h.val])
    (e1 : o1 = ![h.val, 64 * (ch k).val, 0])
    (D : Vec Ideal S8x64x64 .f32) (G : Vec Ideal S8x512x64 .f32)
    (hG : ∀ r v, G (ix3 h (row (ch k) r) v) = e.dvm (ch k) D h (ix2 r v)) (x : S1x64x64.Idx) :
    dwPay (rdA e.harg3 e.x3 (inbA e3)) (rdD e.harg9 D (inbD h)) (rdB e.harg4 e.x4 (inbB e1))
      (rdA e.harg2 e.x2 (inbA e3)) (rdC e.harg6 e.x6 (inbC e2)) x
    = G ((Rect.unit (s := S8x512x64) o1 ![1, 64, 64] (inbB e1)).emb x) := by
  unfold rdA rdB rdC rdD
  rw [readA _ _ _ _ (ch k) h e3, readA _ _ _ _ (ch k) h e3, readD, readB _ _ _ _ (ch k) h e1, readC _ _ _ _ (ch k) h e2]
  subst e1
  have q3 : x = ix3 0 (x 1) (x 2) := by
    funext a; apply Fin.ext
    match a with
    | ⟨0, _⟩ => have := (x 0).isLt; show (x 0).val = 0; simp at this ⊢; omega
    | ⟨1, _⟩ => rfl
    | ⟨2, _⟩ => rfl
  have q : (Rect.unit (s := S8x512x64) ![h.val, 64 * (ch k).val, 0] ![1, 64, 64] (inbB rfl)).emb x
      = ix3 h (row (ch k) (x 1)) (x 2) := by
    funext a; apply Fin.ext
    match a with
    | ⟨0, _⟩ => have := (x 0).isLt; show h.val + 1 * (x 0).val = h.val; simp at this ⊢; omega
    | ⟨1, _⟩ => show 64 * (ch k).val + 1 * (x 1).val = 64 * (ch k).val + (x 1).val; omega
    | ⟨2, _⟩ => show 0 + 1 * (x 2).val = (x 2).val; omega
  refine Eq.trans ?_ ((congrArg G q).trans (hG (x 1) (x 2))).symm
  refine (congrArg _ q3).trans (dwPay_apply _ _ _ _ _ _ _)

/-- The state's gradient that a trip stores for one head, from its load. -/
theorem piece7 (k : Fin k0_t1_loop.trips) (h : Fin 8) {o1 : Fin 3 → ℕ}
    (e1 : o1 = ![h.val, 64 * (ch k).val, 0])
    (D : Vec Ideal S8x64x64 .f32) (G : Vec Ideal S8x512x64 .f32)
    (hG : ∀ r v, G (ix3 h (row (ch k) r) v) = D (ix3 h r v)) (x : S1x64x64.Idx) :
    stPay (rdD e.harg9 D (inbD h)) x
    = G ((Rect.unit (s := S8x512x64) o1 ![1, 64, 64] (inbB e1)).emb x) := by
  unfold rdD
  rw [readD]
  subst e1
  have q3 : x = ix3 0 (x 1) (x 2) := by
    funext a; apply Fin.ext
    match a with
    | ⟨0, _⟩ => have := (x 0).isLt; show (x 0).val = 0; simp at this ⊢; omega
    | ⟨1, _⟩ => rfl
    | ⟨2, _⟩ => rfl
  have q : (Rect.unit (s := S8x512x64) ![h.val, 64 * (ch k).val, 0] ![1, 64, 64] (inbB rfl)).emb x
      = ix3 h (row (ch k) (x 1)) (x 2) := by
    funext a; apply Fin.ext
    match a with
    | ⟨0, _⟩ => have := (x 0).isLt; show h.val + 1 * (x 0).val = h.val; simp at this ⊢; omega
    | ⟨1, _⟩ => show 64 * (ch k).val + 1 * (x 1).val = 64 * (ch k).val + (x 1).val; omega
    | ⟨2, _⟩ => show 0 + 1 * (x 2).val = (x 2).val; omega
  refine Eq.trans ?_ ((congrArg G q).trans (hG (x 1) (x 2))).symm
  exact (congrArg _ q3).trans (stPay_apply _ _ _)

set_option maxHeartbeats 1000000 in
/-- The pieces a trip stores into the carried state's gradient are the step's. -/
theorem trip9 (k : Fin k0_t1_loop.trips) (f7 f8) (D : Vec Ideal S8x64x64 .f32) :
    ∀ p ∈ (e.trip k).2.2.1 f7 f8 (e.harg9.unread D), ∀ x : p.1.shape.Idx, p.2 x = e.nx (ch k) D (p.1.emb x) := by
  unfold Env.trip trip_k0_t1
  dsimp only
  refine List.forall_mem_cons.2 ⟨fun x => Eq.trans (congrFun (nxP7 (rdA e.harg3 e.x3 (inbA (j := ch k) (h := 7) (off8 k))) (rdD e.harg9 D (inbD 7)) (rdB e.harg4 e.x4 (inbB (j := ch k) (h := 7) (off24 k))) (rdA e.harg2 e.x2 (inbA (j := ch k) (h := 7) (off8 k))) (rdA e.harg1 e.x1 (inbA (j := ch k) (h := 7) (off8 k))) (rdB e.harg5 e.x5 (inbB (j := ch k) (h := 7) (off24 k))) (rdC e.harg6 e.x6 (inbC (j := ch k) (h := 7) (off16 k)))) x)
    (piece9 e k 7 (off8 k) (off16 k) (off24 k) D x), ?_⟩
  refine List.forall_mem_cons.2 ⟨fun x => Eq.trans (congrFun (nxP6 (rdA e.harg3 e.x3 (inbA (j := ch k) (h := 6) (off7 k))) (rdD e.harg9 D (inbD 6)) (rdB e.harg4 e.x4 (inbB (j := ch k) (h := 6) (off23 k))) (rdA e.harg2 e.x2 (inbA (j := ch k) (h := 6) (off7 k))) (rdA e.harg1 e.x1 (inbA (j := ch k) (h := 6) (off7 k))) (rdB e.harg5 e.x5 (inbB (j := ch k) (h := 6) (off23 k))) (rdC e.harg6 e.x6 (inbC (j := ch k) (h := 6) (off15 k)))) x)
    (piece9 e k 6 (off7 k) (off15 k) (off23 k) D x), ?_⟩
  refine List.forall_mem_cons.2 ⟨fun x => Eq.trans (congrFun (nxP5 (rdA e.harg3 e.x3 (inbA (j := ch k) (h := 5) (off6 k))) (rdD e.harg9 D (inbD 5)) (rdB e.harg4 e.x4 (inbB (j := ch k) (h := 5) (off22 k))) (rdA e.harg2 e.x2 (inbA (j := ch k) (h := 5) (off6 k))) (rdA e.harg1 e.x1 (inbA (j := ch k) (h := 5) (off6 k))) (rdB e.harg5 e.x5 (inbB (j := ch k) (h := 5) (off22 k))) (rdC e.harg6 e.x6 (inbC (j := ch k) (h := 5) (off14 k)))) x)
    (piece9 e k 5 (off6 k) (off14 k) (off22 k) D x), ?_⟩
  refine List.forall_mem_cons.2 ⟨fun x => Eq.trans (congrFun (nxP4 (rdA e.harg3 e.x3 (inbA (j := ch k) (h := 4) (off5 k))) (rdD e.harg9 D (inbD 4)) (rdB e.harg4 e.x4 (inbB (j := ch k) (h := 4) (off21 k))) (rdA e.harg2 e.x2 (inbA (j := ch k) (h := 4) (off5 k))) (rdA e.harg1 e.x1 (inbA (j := ch k) (h := 4) (off5 k))) (rdB e.harg5 e.x5 (inbB (j := ch k) (h := 4) (off21 k))) (rdC e.harg6 e.x6 (inbC (j := ch k) (h := 4) (off13 k)))) x)
    (piece9 e k 4 (off5 k) (off13 k) (off21 k) D x), ?_⟩
  refine List.forall_mem_cons.2 ⟨fun x => Eq.trans (congrFun (nxP3 (rdA e.harg3 e.x3 (inbA (j := ch k) (h := 3) (off4 k))) (rdD e.harg9 D (inbD 3)) (rdB e.harg4 e.x4 (inbB (j := ch k) (h := 3) (off20 k))) (rdA e.harg2 e.x2 (inbA (j := ch k) (h := 3) (off4 k))) (rdA e.harg1 e.x1 (inbA (j := ch k) (h := 3) (off4 k))) (rdB e.harg5 e.x5 (inbB (j := ch k) (h := 3) (off20 k))) (rdC e.harg6 e.x6 (inbC (j := ch k) (h := 3) (off12 k)))) x)
    (piece9 e k 3 (off4 k) (off12 k) (off20 k) D x), ?_⟩
  refine List.forall_mem_cons.2 ⟨fun x => Eq.trans (congrFun (nxP2 (rdA e.harg3 e.x3 (inbA (j := ch k) (h := 2) (off3 k))) (rdD e.harg9 D (inbD 2)) (rdB e.harg4 e.x4 (inbB (j := ch k) (h := 2) (off19 k))) (rdA e.harg2 e.x2 (inbA (j := ch k) (h := 2) (off3 k))) (rdA e.harg1 e.x1 (inbA (j := ch k) (h := 2) (off3 k))) (rdB e.harg5 e.x5 (inbB (j := ch k) (h := 2) (off19 k))) (rdC e.harg6 e.x6 (inbC (j := ch k) (h := 2) (off11 k)))) x)
    (piece9 e k 2 (off3 k) (off11 k) (off19 k) D x), ?_⟩
  refine List.forall_mem_cons.2 ⟨fun x => Eq.trans (congrFun (nxP1 (rdA e.harg3 e.x3 (inbA (j := ch k) (h := 1) (off2 k))) (rdD e.harg9 D (inbD 1)) (rdB e.harg4 e.x4 (inbB (j := ch k) (h := 1) (off18 k))) (rdA e.harg2 e.x2 (inbA (j := ch k) (h := 1) (off2 k))) (rdA e.harg1 e.x1 (inbA (j := ch k) (h := 1) (off2 k))) (rdB e.harg5 e.x5 (inbB (j := ch k) (h := 1) (off18 k))) (rdC e.harg6 e.x6 (inbC (j := ch k) (h := 1) (off10 k)))) x)
    (piece9 e k 1 (off2 k) (off10 k) (off18 k) D x), ?_⟩
  refine List.forall_mem_cons.2 ⟨fun x => Eq.trans (congrFun (nxP0 (rdA e.harg3 e.x3 (inbA (j := ch k) (h := 0) (off1 k))) (rdD e.harg9 D (inbD 0)) (rdB e.harg4 e.x4 (inbB (j := ch k) (h := 0) (off17 k))) (rdA e.harg2 e.x2 (inbA (j := ch k) (h := 0) (off1 k))) (rdA e.harg1 e.x1 (inbA (j := ch k) (h := 0) (off1 k))) (rdB e.harg5 e.x5 (inbB (j := ch k) (h := 0) (off17 k))) (rdC e.harg6 e.x6 (inbC (j := ch k) (h := 0) (off9 k)))) x)
    (piece9 e k 0 (off1 k) (off9 k) (off17 k) D x), ?_⟩
  exact List.forall_mem_nil _

set_option maxHeartbeats 1000000 in
/-- The pieces a trip stores into the second result are the values' gradients at its chunk's rows. -/
theorem trip8 (k : Fin k0_t1_loop.trips) (f7 f8) (D : Vec Ideal S8x64x64 .f32) (G : Vec Ideal S8x512x64 .f32) (hG : ∀ h r v, G (ix3 h (row (ch k) r) v) = e.dvm (ch k) D h (ix2 r v)) :
    ∀ p ∈ (e.trip k).2.1 f7 f8 (e.harg9.unread D), ∀ x : p.1.shape.Idx, p.2 x = G (p.1.emb x) := by
  unfold Env.trip trip_k0_t1
  dsimp only
  refine List.forall_mem_cons.2 ⟨fun x => Eq.trans (congrFun (dwP7 (rdA e.harg3 e.x3 (inbA (j := ch k) (h := 7) (off8 k))) (rdD e.harg9 D (inbD 7)) (rdB e.harg4 e.x4 (inbB (j := ch k) (h := 7) (off24 k))) (rdA e.harg2 e.x2 (inbA (j := ch k) (h := 7) (off8 k))) (rdC e.harg6 e.x6 (inbC (j := ch k) (h := 7) (off16 k)))) x)
    (piece8 e k 7 (off8 k) (off16 k) (off24 k) D G (hG 7) x), ?_⟩
  refine List.forall_mem_cons.2 ⟨fun x => Eq.trans (congrFun (dwP6 (rdA e.harg3 e.x3 (inbA (j := ch k) (h := 6) (off7 k))) (rdD e.harg9 D (inbD 6)) (rdB e.harg4 e.x4 (inbB (j := ch k) (h := 6) (off23 k))) (rdA e.harg2 e.x2 (inbA (j := ch k) (h := 6) (off7 k))) (rdC e.harg6 e.x6 (inbC (j := ch k) (h := 6) (off15 k)))) x)
    (piece8 e k 6 (off7 k) (off15 k) (off23 k) D G (hG 6) x), ?_⟩
  refine List.forall_mem_cons.2 ⟨fun x => Eq.trans (congrFun (dwP5 (rdA e.harg3 e.x3 (inbA (j := ch k) (h := 5) (off6 k))) (rdD e.harg9 D (inbD 5)) (rdB e.harg4 e.x4 (inbB (j := ch k) (h := 5) (off22 k))) (rdA e.harg2 e.x2 (inbA (j := ch k) (h := 5) (off6 k))) (rdC e.harg6 e.x6 (inbC (j := ch k) (h := 5) (off14 k)))) x)
    (piece8 e k 5 (off6 k) (off14 k) (off22 k) D G (hG 5) x), ?_⟩
  refine List.forall_mem_cons.2 ⟨fun x => Eq.trans (congrFun (dwP4 (rdA e.harg3 e.x3 (inbA (j := ch k) (h := 4) (off5 k))) (rdD e.harg9 D (inbD 4)) (rdB e.harg4 e.x4 (inbB (j := ch k) (h := 4) (off21 k))) (rdA e.harg2 e.x2 (inbA (j := ch k) (h := 4) (off5 k))) (rdC e.harg6 e.x6 (inbC (j := ch k) (h := 4) (off13 k)))) x)
    (piece8 e k 4 (off5 k) (off13 k) (off21 k) D G (hG 4) x), ?_⟩
  refine List.forall_mem_cons.2 ⟨fun x => Eq.trans (congrFun (dwP3 (rdA e.harg3 e.x3 (inbA (j := ch k) (h := 3) (off4 k))) (rdD e.harg9 D (inbD 3)) (rdB e.harg4 e.x4 (inbB (j := ch k) (h := 3) (off20 k))) (rdA e.harg2 e.x2 (inbA (j := ch k) (h := 3) (off4 k))) (rdC e.harg6 e.x6 (inbC (j := ch k) (h := 3) (off12 k)))) x)
    (piece8 e k 3 (off4 k) (off12 k) (off20 k) D G (hG 3) x), ?_⟩
  refine List.forall_mem_cons.2 ⟨fun x => Eq.trans (congrFun (dwP2 (rdA e.harg3 e.x3 (inbA (j := ch k) (h := 2) (off3 k))) (rdD e.harg9 D (inbD 2)) (rdB e.harg4 e.x4 (inbB (j := ch k) (h := 2) (off19 k))) (rdA e.harg2 e.x2 (inbA (j := ch k) (h := 2) (off3 k))) (rdC e.harg6 e.x6 (inbC (j := ch k) (h := 2) (off11 k)))) x)
    (piece8 e k 2 (off3 k) (off11 k) (off19 k) D G (hG 2) x), ?_⟩
  refine List.forall_mem_cons.2 ⟨fun x => Eq.trans (congrFun (dwP1 (rdA e.harg3 e.x3 (inbA (j := ch k) (h := 1) (off2 k))) (rdD e.harg9 D (inbD 1)) (rdB e.harg4 e.x4 (inbB (j := ch k) (h := 1) (off18 k))) (rdA e.harg2 e.x2 (inbA (j := ch k) (h := 1) (off2 k))) (rdC e.harg6 e.x6 (inbC (j := ch k) (h := 1) (off10 k)))) x)
    (piece8 e k 1 (off2 k) (off10 k) (off18 k) D G (hG 1) x), ?_⟩
  refine List.forall_mem_cons.2 ⟨fun x => Eq.trans (congrFun (dwP0 (rdA e.harg3 e.x3 (inbA (j := ch k) (h := 0) (off1 k))) (rdD e.harg9 D (inbD 0)) (rdB e.harg4 e.x4 (inbB (j := ch k) (h := 0) (off17 k))) (rdA e.harg2 e.x2 (inbA (j := ch k) (h := 0) (off1 k))) (rdC e.harg6 e.x6 (inbC (j := ch k) (h := 0) (off9 k)))) x)
    (piece8 e k 0 (off1 k) (off9 k) (off17 k) D G (hG 0) x), ?_⟩
  exact List.forall_mem_nil _

set_option maxHeartbeats 1000000 in
/-- The pieces a trip stores into the first result are the carried state's gradient at its chunk's rows. -/
theorem trip7 (k : Fin k0_t1_loop.trips) (f7 f8) (D : Vec Ideal S8x64x64 .f32) (G : Vec Ideal S8x512x64 .f32) (hG : ∀ h r v, G (ix3 h (row (ch k) r) v) = D (ix3 h r v)) :
    ∀ p ∈ (e.trip k).1 f7 f8 (e.harg9.unread D), ∀ x : p.1.shape.Idx, p.2 x = G (p.1.emb x) := by
  unfold Env.trip trip_k0_t1
  dsimp only
  refine List.forall_mem_cons.2 ⟨fun x => Eq.trans (congrFun (stP7 (rdD e.harg9 D (inbD 7))) x)
    (piece7 e k 7 (off24 k) D G (hG 7) x), ?_⟩
  refine List.forall_mem_cons.2 ⟨fun x => Eq.trans (congrFun (stP6 (rdD e.harg9 D (inbD 6))) x)
    (piece7 e k 6 (off23 k) D G (hG 6) x), ?_⟩
  refine List.forall_mem_cons.2 ⟨fun x => Eq.trans (congrFun (stP5 (rdD e.harg9 D (inbD 5))) x)
    (piece7 e k 5 (off22 k) D G (hG 5) x), ?_⟩
  refine List.forall_mem_cons.2 ⟨fun x => Eq.trans (congrFun (stP4 (rdD e.harg9 D (inbD 4))) x)
    (piece7 e k 4 (off21 k) D G (hG 4) x), ?_⟩
  refine List.forall_mem_cons.2 ⟨fun x => Eq.trans (congrFun (stP3 (rdD e.harg9 D (inbD 3))) x)
    (piece7 e k 3 (off20 k) D G (hG 3) x), ?_⟩
  refine List.forall_mem_cons.2 ⟨fun x => Eq.trans (congrFun (stP2 (rdD e.harg9 D (inbD 2))) x)
    (piece7 e k 2 (off19 k) D G (hG 2) x), ?_⟩
  refine List.forall_mem_cons.2 ⟨fun x => Eq.trans (congrFun (stP1 (rdD e.harg9 D (inbD 1))) x)
    (piece7 e k 1 (off18 k) D G (hG 1) x), ?_⟩
  refine List.forall_mem_cons.2 ⟨fun x => Eq.trans (congrFun (stP0 (rdD e.harg9 D (inbD 0))) x)
    (piece7 e k 0 (off17 k) D G (hG 0) x), ?_⟩
  exact List.forall_mem_nil _

end Cert.KernelIdeal.Scan
end
-- ==== Proof.ScanLoop.lean ====
module

public import proofs.«01_k».proof.Proof.ScanTrip
public import proofs.«01_k».proof.Proof.KernelIdealValue
public import Idealize.ShloMosaic.Lib.Ring

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx Idealize.ShloMosaic.Tactic
open scoped BigOperators

variable (e : Env)

/-- The carried gradient after the first `n` trips, from `D` on. -/
def Env.stN (e : Env) (D : Vec Ideal S8x64x64 .f32) : ℕ → Vec Ideal S8x64x64 .f32
  | 0 => D
  | n + 1 => e.nx (ch n) (Env.stN e D n)

/-- The pieces of the trips before `n`. -/
def Env.pb (G7 : BufTy.Contents (Elt Ideal) e.arg7.view.ty) (G8 : BufTy.Contents (Elt Ideal) e.arg8.view.ty)
    (G9 : BufTy.Contents (Elt Ideal) e.arg9.view.ty) (n : ℕ) :=
  pb_k0_t1 (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 (e.harg1.unread e.x1) (e.harg2.unread e.x2) (e.harg3.unread e.x3) (e.harg4.unread e.x4) (e.harg5.unread e.x5) (e.harg6.unread e.x6) G7 G8 G9 n

/-- A trip stores every head of the carried state. -/
theorem cover9 (k : Fin k0_t1_loop.trips) (f7 f8 f9) : ∀ y, ∃ p ∈ (e.trip k).2.2.1 f7 f8 f9, y ∈ p.1.set :=
  View.cover_of_tiledL ((e.trip k).2.2.1 f7 f8 f9) S1x64x64.size (by sl_kernel_rfl)

/-- So after a trip the carried state is the next one. -/
theorem after9 (k : Fin k0_t1_loop.trips) (f7 f8) (D : Vec Ideal S8x64x64 .f32) :
    e.arg9.view.writes (Elt Ideal) (e.harg9.unread D) ((e.trip k).2.2.1 f7 f8 (e.harg9.unread D)) = e.harg9.unread (e.nx (ch k) D) :=
  e.harg9.eq_unread (funext fun y =>
    View.read_writes_apply_of_pieces _ _ (e.nx (ch k) D) _ (trip9 e k f7 f8 D) y (cover9 e k f7 f8 _ y))

theorem pb_succ (G7 G8 G9) (k : Fin k0_t1_loop.trips) :
    e.pb G7 G8 G9 (k.val + 1) =
      ((e.trip k).1 (e.arg7.view.writes (Elt Ideal) G7 (e.pb G7 G8 G9 k.val).1) (e.arg8.view.writes (Elt Ideal) G8 (e.pb G7 G8 G9 k.val).2.1) (e.arg9.view.writes (Elt Ideal) G9 (e.pb G7 G8 G9 k.val).2.2) ++ (e.pb G7 G8 G9 k.val).1,
       (e.trip k).2.1 (e.arg7.view.writes (Elt Ideal) G7 (e.pb G7 G8 G9 k.val).1) (e.arg8.view.writes (Elt Ideal) G8 (e.pb G7 G8 G9 k.val).2.1) (e.arg9.view.writes (Elt Ideal) G9 (e.pb G7 G8 G9 k.val).2.2) ++ (e.pb G7 G8 G9 k.val).2.1,
       (e.trip k).2.2.1 (e.arg7.view.writes (Elt Ideal) G7 (e.pb G7 G8 G9 k.val).1) (e.arg8.view.writes (Elt Ideal) G8 (e.pb G7 G8 G9 k.val).2.1) (e.arg9.view.writes (Elt Ideal) G9 (e.pb G7 G8 G9 k.val).2.2) ++ (e.pb G7 G8 G9 k.val).2.2) :=
  pb_k0_t1_succ (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 (e.harg1.unread e.x1) (e.harg2.unread e.x2) (e.harg3.unread e.x3) (e.harg4.unread e.x4) (e.harg5.unread e.x5) (e.harg6.unread e.x6) G7 G8 G9 k

/-- The carried state after the trips before `n`. -/
theorem pb9 (D : Vec Ideal S8x64x64 .f32) (G7 G8) (n : ℕ) (hn : n ≤ k0_t1_loop.trips) :
    e.arg9.view.writes (Elt Ideal) (e.harg9.unread D) (e.pb G7 G8 (e.harg9.unread D) n).2.2 = e.harg9.unread (e.stN D n) := by
  induction n with
  | zero => rfl
  | succ n ih =>
    have h := pb_succ e G7 G8 (e.harg9.unread D) ⟨n, hn⟩
    dsimp only at h
    rw [h]
    dsimp only
    rw [View.writes_append, ih (by omega), after9]
    rfl

/-- What the trips before `n` store in the first result: the carried state at each trip's rows. -/
theorem pb7 (D : Vec Ideal S8x64x64 .f32) (G7 G8) (G : Vec Ideal S8x512x64 .f32)
    (hG : ∀ k : Fin 8, ∀ h r v, G (ix3 h (row (ch k) r) v) = e.stN D k (ix3 h r v)) (n : ℕ) (hn : n ≤ k0_t1_loop.trips) :
    ∀ p ∈ (e.pb G7 G8 (e.harg9.unread D) n).1, ∀ x : p.1.shape.Idx, p.2 x = G (p.1.emb x) := by
  induction n with
  | zero => intro p hp; exact absurd hp List.not_mem_nil
  | succ n ih =>
    have h := pb_succ e G7 G8 (e.harg9.unread D) ⟨n, hn⟩
    dsimp only at h
    rw [h]
    dsimp only
    rw [pb9 e D G7 G8 n (by omega)]
    intro p hp
    rcases List.mem_append.1 hp with hp | hp
    · exact trip7 e ⟨n, hn⟩ _ _ _ G (fun h r v => hG ⟨n, hn⟩ h r v) p hp
    · exact ih (by omega) p hp

/-- What the trips before `n` store in the second result: the values' gradient at each trip's rows. -/
theorem pb8 (D : Vec Ideal S8x64x64 .f32) (G7 G8) (G : Vec Ideal S8x512x64 .f32)
    (hG : ∀ k : Fin 8, ∀ h r v, G (ix3 h (row (ch k) r) v) = e.dvm (ch k) (e.stN D k) h (ix2 r v)) (n : ℕ) (hn : n ≤ k0_t1_loop.trips) :
    ∀ p ∈ (e.pb G7 G8 (e.harg9.unread D) n).2.1, ∀ x : p.1.shape.Idx, p.2 x = G (p.1.emb x) := by
  induction n with
  | zero => intro p hp; exact absurd hp List.not_mem_nil
  | succ n ih =>
    have h := pb_succ e G7 G8 (e.harg9.unread D) ⟨n, hn⟩
    dsimp only at h
    rw [h]
    dsimp only
    rw [pb9 e D G7 G8 n (by omega)]
    intro p hp
    rcases List.mem_append.1 hp with hp | hp
    · exact trip8 e ⟨n, hn⟩ _ _ _ G (fun h r v => hG ⟨n, hn⟩ h r v) p hp
    · exact ih (by omega) p hp

/-- A block's first result: at each chunk's rows the state its trip starts from. -/
def Env.out7 (D : Vec Ideal S8x64x64 .f32) : Vec Ideal S8x512x64 .f32 := fun y =>
  e.stN D (7 - (y 1).val / 64) (ix3 (y 0) ⟨(y 1).val % 64, Nat.mod_lt _ (by decide)⟩ (y 2))

/-- A block's second result. -/
def Env.out8 (D : Vec Ideal S8x64x64 .f32) : Vec Ideal S8x512x64 .f32 := fun y =>
  e.dvm ⟨(y 1).val / 64, by have := (y 1).isLt; change (y 1).val < 512 at this; omega⟩ (e.stN D (7 - (y 1).val / 64)) (y 0)
    (ix2 ⟨(y 1).val % 64, Nat.mod_lt _ (by decide)⟩ (y 2))

theorem row_div (j : Fin 8) (r : Fin 64) : (row j r).val / 64 = j.val := by
  show (64 * j.val + r.val) / 64 = j.val
  omega

theorem row_mod (j : Fin 8) (r : Fin 64) : (row j r).val % 64 = r.val := by
  show (64 * j.val + r.val) % 64 = r.val
  omega

theorem out7_at (D : Vec Ideal S8x64x64 .f32) (k : Fin 8) (h : Fin 8) (r v : Fin 64) :
    e.out7 D (ix3 h (row (ch k) r) v) = e.stN D k (ix3 h r v) := by
  show e.stN D (7 - (row (ch k) r).val / 64) (ix3 h ⟨(row (ch k) r).val % 64, _⟩ v) = _
  have e1 : 7 - (row (ch k) r).val / 64 = k.val := by rw [row_div]; show 7 - (7 - k.val) = k.val; omega
  have e2 : (⟨(row (ch k) r).val % 64, Nat.mod_lt _ (by decide)⟩ : Fin 64) = r := Fin.ext (row_mod _ _)
  rw [e1, e2]

theorem out8_at (D : Vec Ideal S8x64x64 .f32) (k : Fin 8) (h : Fin 8) (r v : Fin 64) :
    e.out8 D (ix3 h (row (ch k) r) v) = e.dvm (ch k) (e.stN D k) h (ix2 r v) := by
  show e.dvm ⟨(row (ch k) r).val / 64, _⟩ (e.stN D (7 - (row (ch k) r).val / 64)) h (ix2 ⟨(row (ch k) r).val % 64, _⟩ v) = _
  have e1 : 7 - (row (ch k) r).val / 64 = k.val := by rw [row_div]; show 7 - (7 - k.val) = k.val; omega
  have e2 : (⟨(row (ch k) r).val % 64, Nat.mod_lt _ (by decide)⟩ : Fin 64) = r := Fin.ext (row_mod _ _)
  have e3 : ∀ H, (⟨(row (ch k) r).val / 64, H⟩ : Fin 8) = ch k := fun H => Fin.ext (row_div _ _)
  rw [e1, e2, e3]

end Cert.KernelIdeal.Scan
end
-- ==== Proof.ScanSpec.lean ====
module

public import Idealize.ShloMosaic.PureOps.Ideal

@[expose] public section

noncomputable section

namespace Cert.Scan

open Idealize.ShloMosaic
open scoped BigOperators

/-- The six arguments, read at coordinates. -/
structure Ins where
  q : Fin 8192 → Fin 512 → Ideal .f32
  k : Fin 8192 → Fin 512 → Ideal .f32
  g : Fin 8192 → Fin 8 → Ideal .f32
  qk : Fin 8 → Fin 8192 → Fin 64 → Ideal .f32
  w : Fin 8 → Fin 8192 → Fin 64 → Ideal .f32
  ct : Fin 8192 → Fin 512 → Ideal .f32

/-- Token `r` of chunk `j`. -/
def tok (j : Fin 128) (r : Fin 64) : Fin 8192 := ⟨64 * j.val + r.val, by omega⟩

/-- Lane `v` of head `h`. -/
def lane (h : Fin 8) (v : Fin 64) : Fin 512 := ⟨64 * h.val + v.val, by omega⟩

/-- A state of all heads. -/
abbrev State := Fin 8 → Fin 64 → Fin 64 → Ideal .f32

variable (a : Ins)

/-- The gradient of chunk `j`'s corrected values, where the state it leaves has gradient `D`. -/
def dv (j : Fin 128) (D : State) (h : Fin 8) (r v : Fin 64) : Ideal .f32 :=
  (∑ c : Fin 64, a.qk h (tok j c) r * a.ct (tok j c) (lane h v))
    + ∑ κ : Fin 64, (a.k (tok j r) (lane h κ) * Ideal.exp (a.g (tok j 63) h - a.g (tok j r) h)) * D h κ v

/-- The gradient of the state that chunk `j` starts from. -/
def nx (j : Fin 128) (D : State) : State := fun h κ v =>
  (∑ c : Fin 64, (a.q (tok j c) (lane h κ) * Ideal.exp (a.g (tok j c) h)) * a.ct (tok j c) (lane h v))
    + Ideal.exp (a.g (tok j 63) h) * D h κ v
    - ∑ c : Fin 64, a.w h (tok j c) κ * dv a j D h c v

/-- The `n`-th chunk from the end. -/
def rev (n : ℕ) : Fin 128 := ⟨127 - n, by omega⟩

/-- The state's gradient after the last `n` chunks. -/
def st (a : Ins) : ℕ → State
  | 0 => fun _ _ _ => 0
  | n + 1 => nx a (rev n) (st a n)

/-- The first result: the gradient of the state that each token's chunk leaves. -/
def dsn (h : Fin 8) (s : Fin 8192) (v : Fin 64) : Ideal .f32 :=
  st a (127 - s.val / 64) h ⟨s.val % 64, Nat.mod_lt _ (by decide)⟩ v

/-- The second result: the gradient of each token's corrected value. -/
def dvn (h : Fin 8) (s : Fin 8192) (v : Fin 64) : Ideal .f32 :=
  dv a ⟨s.val / 64, by omega⟩ (st a (127 - s.val / 64)) h ⟨s.val % 64, Nat.mod_lt _ (by decide)⟩ v

end Cert.Scan
end
-- ==== Proof.ScanHost.lean ====
module

public import proofs.«01_k».proof.Proof.ScanLoop
public import proofs.«01_k».proof.Proof.ScanSpec
public import Idealize.ShloMosaic.Lib.Pipeline.ValueKit.Tiles
public import Idealize.ShloMosaic.Lib.ValueLayout

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx Idealize.ShloMosaic.Tactic
open scoped BigOperators

variable (m : (ℓ : Loc nD τ sig) → Buf (Elt Ideal) ℓ)

/-- An argument's array. -/
abbrev A0 (c : Dev nD) : Vec Ideal S8192x512 .f32 := m ((c : Thread nD τ).loc main_arg0)
abbrev A1 (c : Dev nD) : Vec Ideal S8192x512 .f32 := m ((c : Thread nD τ).loc main_arg1)
abbrev A2 (c : Dev nD) : Vec Ideal S8192x8 .f32 := m ((c : Thread nD τ).loc main_arg2)
abbrev A3 (c : Dev nD) : Vec Ideal S8x8192x64 .f32 := m ((c : Thread nD τ).loc main_arg3)
abbrev A4 (c : Dev nD) : Vec Ideal S8x8192x64 .f32 := m ((c : Thread nD τ).loc main_arg4)
abbrev A5 (c : Dev nD) : Vec Ideal S8192x512 .f32 := m ((c : Thread nD τ).loc main_arg5)

/-- The arguments at coordinates. -/
def ins (c : Dev nD) : Cert.Scan.Ins where
  q := fun s l => A0 m c (ix2 s l)
  k := fun s l => A1 m c (ix2 s l)
  g := fun s h => A2 m c (ix2 s h)
  qk := fun h s v => A3 m c (ix3 h s v)
  w := fun h s v => A4 m c (ix3 h s v)
  ct := fun s l => A5 m c (ix2 s l)

/-- The decay of every lane, as the kernel's host part repeats it. -/
def gcA (c : Dev nD) : Vec Ideal S8192x512 .f32 :=
  shapeCast S8192x512 (broadcastInDim S8192x8x64 ![0, 1] bcast_S8192x8_S8192x8x64_0_1 (A2 m c)) shapeCasts_S8192x8x64_S8192x512

theorem gcA_apply (c : Dev nD) (s : Fin 8192) (h : Fin 8) (v : Fin 64) : gcA m c (ix2 s (row h v)) = A2 m c (ix2 s h) := by
  unfold gcA
  rw [shapeCast_apply _ _ (ix2 s (row h v)) (ix3 s h v)]
  · exact broadcastInDim_apply _ _ _ _ (ix2 s h) (fun a => match a with
      | ⟨0, _⟩ => rfl
      | ⟨1, _⟩ => rfl)
  · rw [Shape.rowMajor_val_two, Shape.rowMajor_val_three]
    show _ = s.val * 512 + (64 * h.val + v.val)
    show (s.val * 8 + h.val) * 64 + v.val = _
    omega

/-- The stack of five that the call reads, by its parts. -/
theorem V9 (c : Dev nD) : V m c main_v9 = concatenate S5x8192x512 0
    [⟨S1x8192x512, broadcastInDim S1x8192x512 ![1, 2] bcast_S8192x512_S1x8192x512_1_2 (A0 m c)⟩,
     ⟨S1x8192x512, broadcastInDim S1x8192x512 ![1, 2] bcast_S8192x512_S1x8192x512_1_2 (A1 m c)⟩,
     ⟨S1x8192x512, broadcastInDim S1x8192x512 ![1, 2] bcast_S8192x512_S1x8192x512_1_2 (broadcastInDim S8192x512 ![] bcast_S_S8192x512 (constant S_ .f32 0x00000000#32 : FVec Ideal S_ .f32))⟩,
     ⟨S1x8192x512, broadcastInDim S1x8192x512 ![1, 2] bcast_S8192x512_S1x8192x512_1_2 (broadcastInDim S8192x512 ![] bcast_S_S8192x512 (constant S_ .f32 0x00000000#32 : FVec Ideal S_ .f32))⟩,
     ⟨S1x8192x512, broadcastInDim S1x8192x512 ![1, 2] bcast_S8192x512_S1x8192x512_1_2 (gcA m c)⟩]
    concatenates_S1x8192x512_S1x8192x512_S1x8192x512_S1x8192x512_S1x8192x512_S5x8192x512_d0 := by
  unfold V
  after_results
  rfl

/-- A part of the stack at an index. -/
theorem part_apply (X : Vec Ideal S8192x512 .f32) (i : S1x8192x512.Idx) (s : Fin 8192) (l : Fin 512)
    (h1 : (i 1).val = s.val) (h2 : (i 2).val = l.val) :
    broadcastInDim S1x8192x512 ![1, 2] bcast_S8192x512_S1x8192x512_1_2 X i = X (ix2 s l) :=
  broadcastInDim_apply _ _ _ _ (ix2 s l) (fun a => match a with
    | ⟨0, _⟩ => h1.symm
    | ⟨1, _⟩ => h2.symm)

theorem V9_0 (c : Dev nD) (s : Fin 8192) (l : Fin 512) : V m c main_v9 (ix3 (0 : Fin 5) s l) = A0 m c (ix2 s l) := by
  rw [V9]
  refine concatenate_unit_eq _ _ _ _ _ rfl ⟨?_, ?_, ?_, ?_, ?_, trivial⟩
  · exact fun _ _ i _ hb => part_apply _ i s l (hb 1 (by decide)) (hb 2 (by decide))
  all_goals (intro hc; change (0 : ℕ) = _ at hc; exact absurd hc (by decide))

theorem V9_1 (c : Dev nD) (s : Fin 8192) (l : Fin 512) : V m c main_v9 (ix3 (1 : Fin 5) s l) = A1 m c (ix2 s l) := by
  rw [V9]
  refine concatenate_unit_eq _ _ _ _ _ rfl ⟨?_, ?_, ?_, ?_, ?_, trivial⟩
  on_goal 2 => exact fun _ _ i _ hb => part_apply _ i s l (hb 1 (by decide)) (hb 2 (by decide))
  all_goals (intro hc; change (1 : ℕ) = _ at hc; exact absurd hc (by decide))

theorem V9_4 (c : Dev nD) (s : Fin 8192) (l : Fin 512) : V m c main_v9 (ix3 (4 : Fin 5) s l) = gcA m c (ix2 s l) := by
  rw [V9]
  refine concatenate_unit_eq _ _ _ _ _ rfl ⟨?_, ?_, ?_, ?_, ?_, trivial⟩
  on_goal 5 => exact fun _ _ i _ hb => part_apply (gcA m c) i s l (hb 1 (by decide)) (hb 2 (by decide))
  all_goals (intro hc; change (4 : ℕ) = _ at hc; exact absurd hc (by decide))

/-! The blocks of the windows: point `t` works on the `t`-th block from the end. -/

theorem idx0 : ∀ t : Fin cfg0.N, win0_0.index t 0 = 0 ∧ win0_0.index t 1 = 15 - t.val ∧ win0_0.index t 2 = 0 :=
  (by decide +kernel : ∀ t : Fin grid0.N, win0_0.index t 0 = 0 ∧ win0_0.index t 1 = 15 - t.val ∧ win0_0.index t 2 = 0)
theorem idx1 : ∀ t : Fin cfg0.N, win0_1.index t 0 = 1 ∧ win0_1.index t 1 = 15 - t.val ∧ win0_1.index t 2 = 0 :=
  (by decide +kernel : ∀ t : Fin grid0.N, win0_1.index t 0 = 1 ∧ win0_1.index t 1 = 15 - t.val ∧ win0_1.index t 2 = 0)
theorem idx2 : ∀ t : Fin cfg0.N, win0_2.index t 0 = 4 ∧ win0_2.index t 1 = 15 - t.val ∧ win0_2.index t 2 = 0 :=
  (by decide +kernel : ∀ t : Fin grid0.N, win0_2.index t 0 = 4 ∧ win0_2.index t 1 = 15 - t.val ∧ win0_2.index t 2 = 0)
theorem idx3 : ∀ t : Fin cfg0.N, win0_3.index t 0 = 0 ∧ win0_3.index t 1 = 15 - t.val ∧ win0_3.index t 2 = 0 :=
  (by decide +kernel : ∀ t : Fin grid0.N, win0_3.index t 0 = 0 ∧ win0_3.index t 1 = 15 - t.val ∧ win0_3.index t 2 = 0)
theorem idx4 : ∀ t : Fin cfg0.N, win0_4.index t 0 = 0 ∧ win0_4.index t 1 = 15 - t.val ∧ win0_4.index t 2 = 0 :=
  (by decide +kernel : ∀ t : Fin grid0.N, win0_4.index t 0 = 0 ∧ win0_4.index t 1 = 15 - t.val ∧ win0_4.index t 2 = 0)
theorem idx5 : ∀ t : Fin cfg0.N, win0_5.index t 0 = 15 - t.val ∧ win0_5.index t 1 = 0 :=
  (by decide +kernel : ∀ t : Fin grid0.N, win0_5.index t 0 = 15 - t.val ∧ win0_5.index t 1 = 0)

/-- Row `a` of the block that point `t` works on. -/
def tokB (t : Fin cfg0.N) (a : Fin 512) : Fin 8192 := ⟨512 * (15 - t.val) + a.val, by omega⟩

theorem blk0 (c : Dev nD) (t : Fin cfg0.N) (u : Fin 1) (s l : Fin 512) : iblk m c 0 t (ix3 u s l) = A0 m c (ix2 (tokB t s) l) := by
  rw [← V9_0]
  unfold iblk
  rw [View.read_apply]
  refine congrArg (V m c main_v9) (funext fun a => Fin.ext ?_)
  match a with
  | ⟨0, _⟩ => show win0_0.index t 0 * 1 + 1 * u.val = 0; rw [(idx0 t).1]; omega
  | ⟨1, _⟩ => show win0_0.index t 1 * 512 + 1 * s.val = 512 * (15 - t.val) + s.val; rw [(idx0 t).2.1]; omega
  | ⟨2, _⟩ => show win0_0.index t 2 * 512 + 1 * l.val = l.val; rw [(idx0 t).2.2]; omega

theorem blk1 (c : Dev nD) (t : Fin cfg0.N) (u : Fin 1) (s l : Fin 512) : iblk m c 1 t (ix3 u s l) = A1 m c (ix2 (tokB t s) l) := by
  rw [← V9_1]
  unfold iblk
  rw [View.read_apply]
  refine congrArg (V m c main_v9) (funext fun a => Fin.ext ?_)
  match a with
  | ⟨0, _⟩ => show win0_1.index t 0 * 1 + 1 * u.val = 1; rw [(idx1 t).1]; omega
  | ⟨1, _⟩ => show win0_1.index t 1 * 512 + 1 * s.val = 512 * (15 - t.val) + s.val; rw [(idx1 t).2.1]; omega
  | ⟨2, _⟩ => show win0_1.index t 2 * 512 + 1 * l.val = l.val; rw [(idx1 t).2.2]; omega

theorem blk2 (c : Dev nD) (t : Fin cfg0.N) (u : Fin 1) (s l : Fin 512) : iblk m c 2 t (ix3 u s l) = gcA m c (ix2 (tokB t s) l) := by
  rw [← V9_4]
  unfold iblk
  rw [View.read_apply]
  refine congrArg (V m c main_v9) (funext fun a => Fin.ext ?_)
  match a with
  | ⟨0, _⟩ => show win0_2.index t 0 * 1 + 1 * u.val = 4; rw [(idx2 t).1]; omega
  | ⟨1, _⟩ => show win0_2.index t 1 * 512 + 1 * s.val = 512 * (15 - t.val) + s.val; rw [(idx2 t).2.1]; omega
  | ⟨2, _⟩ => show win0_2.index t 2 * 512 + 1 * l.val = l.val; rw [(idx2 t).2.2]; omega

theorem blk3 (c : Dev nD) (t : Fin cfg0.N) (h : Fin 8) (s : Fin 512) (l : Fin 64) : iblk m c 3 t (ix3 h s l) = A3 m c (ix3 h (tokB t s) l) := by
  unfold A3
  rw [← V_main_arg3 m c]
  unfold iblk
  rw [View.read_apply]
  refine congrArg (V m c main_arg3) (funext fun a => Fin.ext ?_)
  match a with
  | ⟨0, _⟩ => show win0_3.index t 0 * 8 + 1 * h.val = h.val; rw [(idx3 t).1]; omega
  | ⟨1, _⟩ => show win0_3.index t 1 * 512 + 1 * s.val = 512 * (15 - t.val) + s.val; rw [(idx3 t).2.1]; omega
  | ⟨2, _⟩ => show win0_3.index t 2 * 64 + 1 * l.val = l.val; rw [(idx3 t).2.2]; omega

theorem blk4 (c : Dev nD) (t : Fin cfg0.N) (h : Fin 8) (s : Fin 512) (l : Fin 64) : iblk m c 4 t (ix3 h s l) = A4 m c (ix3 h (tokB t s) l) := by
  unfold A4
  rw [← V_main_arg4 m c]
  unfold iblk
  rw [View.read_apply]
  refine congrArg (V m c main_arg4) (funext fun a => Fin.ext ?_)
  match a with
  | ⟨0, _⟩ => show win0_4.index t 0 * 8 + 1 * h.val = h.val; rw [(idx4 t).1]; omega
  | ⟨1, _⟩ => show win0_4.index t 1 * 512 + 1 * s.val = 512 * (15 - t.val) + s.val; rw [(idx4 t).2.1]; omega
  | ⟨2, _⟩ => show win0_4.index t 2 * 64 + 1 * l.val = l.val; rw [(idx4 t).2.2]; omega

theorem blk5 (c : Dev nD) (t : Fin cfg0.N) (s l : Fin 512) : iblk m c 5 t (ix2 s l) = A5 m c (ix2 (tokB t s) l) := by
  unfold A5
  rw [← V_main_arg5 m c]
  unfold iblk
  rw [View.read_apply]
  refine congrArg (V m c main_arg5) (funext fun a => Fin.ext ?_)
  match a with
  | ⟨0, _⟩ => show win0_5.index t 0 * 512 + 1 * s.val = 512 * (15 - t.val) + s.val; rw [(idx5 t).1]; omega
  | ⟨1, _⟩ => show win0_5.index t 1 * 512 + 1 * l.val = l.val; rw [(idx5 t).2]; omega

end Cert.KernelIdeal.Scan
end
-- ==== Proof.ScanGrid.lean ====
module

public import proofs.«01_k».proof.Proof.ScanHost

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx Idealize.ShloMosaic.Tactic
open scoped BigOperators
open Cert.Scan (State tok lane)

variable (m : (ℓ : Loc nD τ sig) → Buf (Elt Ideal) ℓ)

/-- A point's memrefs and blocks. -/
def env (c : Dev nD) (t : Fin cfg0.N) : Env where
  𝒱 := Variants.none
  c := c
  bd := none
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := scM0_0
  harg9 := Memref.isWhole_whole _
  x1 := iblk m c 0 t
  x2 := iblk m c 1 t
  x3 := iblk m c 2 t
  x4 := iblk m c 3 t
  x5 := iblk m c 4 t
  x6 := iblk m c 5 t

/-- A state as the scratch holds it. -/
def toV (S : State) : Vec Ideal S8x64x64 .f32 := fun y => S (y 0) (y 1) (y 2)

/-- Chunk `j` of the block that point `t` works on. -/
def chunkOf (t : Fin cfg0.N) (j : Fin 8) : Fin 128 := ⟨8 * (15 - t.val) + j.val, by omega⟩

theorem tokB_row (t : Fin cfg0.N) (j : Fin 8) (r : Fin 64) : tokB t (row j r) = tok (chunkOf t j) r :=
  Fin.ext (by
    show 512 * (15 - t.val) + (64 * j.val + r.val) = 64 * (8 * (15 - t.val) + j.val) + r.val
    omega)

theorem ld1 (c : Dev nD) (t : Fin cfg0.N) (j h : Fin 8) (r v : Fin 64) :
    ldA (env m c t).x1 j h (ix3 0 r v) = (ins m c).q (tok (chunkOf t j) r) (lane h v) :=
  (blk0 m c t 0 (row j r) (row h v)).trans (congrArg (fun s => A0 m c (ix2 s (row h v))) (tokB_row t j r))

theorem ld2 (c : Dev nD) (t : Fin cfg0.N) (j h : Fin 8) (r v : Fin 64) :
    ldA (env m c t).x2 j h (ix3 0 r v) = (ins m c).k (tok (chunkOf t j) r) (lane h v) :=
  (blk1 m c t 0 (row j r) (row h v)).trans (congrArg (fun s => A1 m c (ix2 s (row h v))) (tokB_row t j r))

theorem ld3 (c : Dev nD) (t : Fin cfg0.N) (j h : Fin 8) (r v : Fin 64) :
    ldA (env m c t).x3 j h (ix3 0 r v) = (ins m c).g (tok (chunkOf t j) r) h :=
  (blk2 m c t 0 (row j r) (row h v)).trans ((gcA_apply m c (tokB t (row j r)) h v).trans
    (congrArg (fun s => A2 m c (ix2 s h)) (tokB_row t j r)))

theorem ld4 (c : Dev nD) (t : Fin cfg0.N) (j h : Fin 8) (r v : Fin 64) :
    ldB (env m c t).x4 j h (ix3 0 r v) = (ins m c).qk h (tok (chunkOf t j) r) v :=
  (blk3 m c t h (row j r) v).trans (congrArg (fun s => A3 m c (ix3 h s v)) (tokB_row t j r))

theorem ld5 (c : Dev nD) (t : Fin cfg0.N) (j h : Fin 8) (r v : Fin 64) :
    ldB (env m c t).x5 j h (ix3 0 r v) = (ins m c).w h (tok (chunkOf t j) r) v :=
  (blk4 m c t h (row j r) v).trans (congrArg (fun s => A4 m c (ix3 h s v)) (tokB_row t j r))

theorem ld6 (c : Dev nD) (t : Fin cfg0.N) (j h : Fin 8) (r v : Fin 64) :
    ldC (env m c t).x6 j h (ix2 r v) = (ins m c).ct (tok (chunkOf t j) r) (lane h v) :=
  (blk5 m c t (row j r) (row h v)).trans (congrArg (fun s => A5 m c (ix2 s (row h v))) (tokB_row t j r))

/-- What a trip computes for the values' gradient. -/
theorem dvm_eq (c : Dev nD) (t : Fin cfg0.N) (j h : Fin 8) (S : State) (r v : Fin 64) :
    (env m c t).dvm j (toV S) h (ix2 r v) = Cert.Scan.dv (ins m c) (chunkOf t j) S h r v := by
  unfold Env.dvm Cert.Scan.dv
  rw [dvPay_apply]
  refine congrArg₂ (· + ·) (Finset.sum_congr rfl fun x _ => congrArg₂ (· * ·) (ld4 m c t j h x r) (ld6 m c t j h x v))
    (Finset.sum_congr rfl fun x _ => congrArg₂ (· * ·) (congrArg₂ (· * ·) (ld2 m c t j h r x)
      (congrArg Ideal.exp (congrArg₂ (· - ·) (ld3 m c t j h 63 x) (ld3 m c t j h r x)))) rfl)

/-- What a trip computes for the next state's gradient, one head's entry. -/
theorem nxm_eq (c : Dev nD) (t : Fin cfg0.N) (j h : Fin 8) (S : State) (κ v : Fin 64) :
    (env m c t).nxm j (toV S) h (ix3 0 κ v) = Cert.Scan.nx (ins m c) (chunkOf t j) S h κ v := by
  unfold Env.nxm Cert.Scan.nx
  rw [nextPay_apply]
  refine congrArg₂ (· - ·) (congrArg₂ (· + ·)
    (Finset.sum_congr rfl fun x _ => congrArg₂ (· * ·) (congrArg₂ (· * ·) (ld1 m c t j h x κ)
      (congrArg Ideal.exp (ld3 m c t j h x κ))) (ld6 m c t j h x v))
    (congrArg₂ (· * ·) (congrArg Ideal.exp (ld3 m c t j h 63 v)) rfl))
    (Finset.sum_congr rfl fun x _ => congrArg₂ (· * ·) (ld5 m c t j h x κ) (dvm_eq m c t j h S x v))

/-- What a trip computes for the next state's gradient. -/
theorem nx_eq (c : Dev nD) (t : Fin cfg0.N) (j : Fin 8) (S : State) :
    (env m c t).nx j (toV S) = toV (Cert.Scan.nx (ins m c) (chunkOf t j) S) :=
  funext fun y => nxm_eq m c t j (y 0) S (y 1) (y 2)

theorem chunkOf_ch (t : Fin cfg0.N) (n : ℕ) (hn : n < 8) : chunkOf t (ch n) = Cert.Scan.rev (8 * t.val + n) :=
  Fin.ext (by
    have ht : t.val < 16 := lt_of_lt_of_eq t.isLt (show cfg0.N = 16 from N_0)
    show 8 * (15 - t.val) + (7 - n) = 127 - (8 * t.val + n)
    omega)

/-- The carried state after `n` trips of point `t`. -/
theorem stN_eq (c : Dev nD) (t : Fin cfg0.N) (n : ℕ) (hn : n ≤ 8) :
    (env m c t).stN (toV (Cert.Scan.st (ins m c) (8 * t.val))) n = toV (Cert.Scan.st (ins m c) (8 * t.val + n)) := by
  induction n with
  | zero => rfl
  | succ n ih =>
    show (env m c t).nx (ch n) ((env m c t).stN _ n) = _
    rw [ih (by omega), nx_eq, chunkOf_ch t n (by omega)]
    rfl

/-- The zeros that the first point stores in the scratch. -/
abbrev zeroed : BufTy.Contents (Elt Ideal) scM0_0.view.ty :=
  scM0_0.view.writes (Elt Ideal) scM0_0.view.junk [⟨Rect.unit (s := S8x64x64) ![0, 0, 0] S8x64x64.size inb_S8x64x64_S8x64x64_0_0_0, k0_pay1 (F := Ideal)⟩]

theorem zeroed_eq (c : Dev nD) (t : Fin cfg0.N) (h0 : t.val % 16 = 0) :
    zeroed = (env m c t).harg9.unread (toV (Cert.Scan.st (ins m c) (8 * t.val))) := by
  refine (env m c t).harg9.eq_unread (funext fun y => ?_)
  have ht : t.val < 16 := lt_of_lt_of_eq t.isLt (show cfg0.N = 16 from N_0)
  rw [show 8 * t.val = 0 by omega]
  refine View.read_writes_apply_of_pieces _ _ (fun _ => (0 : Ideal .f32)) _ ?_ y
    (View.cover_of_tiledL [(⟨Rect.unit (s := S8x64x64) ![0, 0, 0] S8x64x64.size inb_S8x64x64_S8x64x64_0_0_0, k0_pay1 (F := Ideal)⟩ : View.Piece (Elt Ideal) S8x64x64 .f32)] S8x64x64.size (by sl_kernel_rfl) y)
  intro p hp x
  obtain rfl := List.mem_singleton.1 hp
  exact Ideal.ofBits_zero_f32

theorem runA_1 (c : Dev nD) (t : Fin cfg0.N) (h0 : t.val % 16 = 0) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)).1 = ((env m c t).pb (ms0_6 t).view.junk (ms0_7 t).view.junk zeroed k0_t1_loop.trips).1 := by
  unfold kernelRun0_A
  rfl

theorem runA_2 (c : Dev nD) (t : Fin cfg0.N) (h0 : t.val % 16 = 0) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)).2.1 = ((env m c t).pb (ms0_6 t).view.junk (ms0_7 t).view.junk zeroed k0_t1_loop.trips).2.1 := by
  unfold kernelRun0_A
  rfl

theorem runA_3 (c : Dev nD) (t : Fin cfg0.N) (h0 : t.val % 16 = 0) :
    (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)).2.2.1 = ((env m c t).pb (ms0_6 t).view.junk (ms0_7 t).view.junk zeroed k0_t1_loop.trips).2.2
      ++ [⟨Rect.unit (s := S8x64x64) ![0, 0, 0] S8x64x64.size inb_S8x64x64_S8x64x64_0_0_0, k0_pay1 (F := Ideal)⟩] := by
  unfold kernelRun0_A
  rfl

theorem runB_1 (c : Dev nD) (t : Fin cfg0.N) (h0 : ¬t.val % 16 = 0) (D : Vec Ideal S8x64x64 .f32) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D).1 = ((env m c t).pb (ms0_6 t).view.junk (ms0_7 t).view.junk ((env m c t).harg9.unread D) k0_t1_loop.trips).1 := by
  unfold kernelRun0_B
  rfl

theorem runB_2 (c : Dev nD) (t : Fin cfg0.N) (h0 : ¬t.val % 16 = 0) (D : Vec Ideal S8x64x64 .f32) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D).2.1 = ((env m c t).pb (ms0_6 t).view.junk (ms0_7 t).view.junk ((env m c t).harg9.unread D) k0_t1_loop.trips).2.1 := by
  unfold kernelRun0_B
  rfl

theorem runB_3 (c : Dev nD) (t : Fin cfg0.N) (h0 : ¬t.val % 16 = 0) (D : Vec Ideal S8x64x64 .f32) :
    (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D).2.2.1 = ((env m c t).pb (ms0_6 t).view.junk (ms0_7 t).view.junk ((env m c t).harg9.unread D) k0_t1_loop.trips).2.2 := by
  unfold kernelRun0_B
  rfl

/-- What point `t` leaves: both results' blocks and the state after its trips. -/
abbrev fin7 (c : Dev nD) (t : Fin cfg0.N) := (env m c t).out7 (toV (Cert.Scan.st (ins m c) (8 * t.val)))
abbrev fin8 (c : Dev nD) (t : Fin cfg0.N) := (env m c t).out8 (toV (Cert.Scan.st (ins m c) (8 * t.val)))

theorem outA_6 (c : Dev nD) (t : Fin cfg0.N) (h0 : t.val % 16 = 0) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) = fin7 m c t := by
  funext y
  refine View.read_writes_apply_of_pieces _ _ (fin7 m c t) _ ?_ y (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) y)
  rw [runA_1 m c t h0, zeroed_eq m c t h0]
  exact pb7 (env m c t) _ _ _ _ (fun k h r v => out7_at (env m c t) _ k h r v) _ le_rfl

theorem outA_7 (c : Dev nD) (t : Fin cfg0.N) (h0 : t.val % 16 = 0) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) = fin8 m c t := by
  funext y
  refine View.read_writes_apply_of_pieces _ _ (fin8 m c t) _ ?_ y (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) y)
  rw [runA_2 m c t h0, zeroed_eq m c t h0]
  exact pb8 (env m c t) _ _ _ _ (fun k h r v => out8_at (env m c t) _ k h r v) _ le_rfl

theorem trips8 : k0_t1_loop.trips = 8 := by decide +kernel

theorem soutA (c : Dev nD) (t : Fin cfg0.N) (h0 : t.val % 16 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) = toV (Cert.Scan.st (ins m c) (8 * t.val + 8)) := by
  unfold sout0_A_0
  rw [View.read_writes_of_cover VS0_0 VS0_0.junk scM0_0.view scM0_0.view.junk _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)), runA_3 m c t h0,
    View.writes_append]
  show scM0_0.view.read (Elt Ideal) (scM0_0.view.writes (Elt Ideal) zeroed _) = _
  rw [zeroed_eq m c t h0]
  have h := pb9 (env m c t) (toV (Cert.Scan.st (ins m c) (8 * t.val))) (ms0_6 t).view.junk (ms0_7 t).view.junk k0_t1_loop.trips le_rfl
  refine (congrArg (scM0_0.view.read (Elt Ideal)) h).trans (((env m c t).harg9.read_unread _).trans ?_)
  rw [trips8, stN_eq m c t 8 le_rfl]

theorem outB_6 (c : Dev nD) (t : Fin cfg0.N) (h0 : ¬t.val % 16 = 0) (D : Vec Ideal S8x64x64 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D = (env m c t).out7 D := by
  funext y
  refine View.read_writes_apply_of_pieces _ _ ((env m c t).out7 D) _ ?_ y (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D y)
  rw [runB_1]
  exact pb7 (env m c t) _ _ _ _ (fun k h r v => out7_at (env m c t) _ k h r v) _ le_rfl

theorem outB_7 (c : Dev nD) (t : Fin cfg0.N) (h0 : ¬t.val % 16 = 0) (D : Vec Ideal S8x64x64 .f32) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D = (env m c t).out8 D := by
  funext y
  refine View.read_writes_apply_of_pieces _ _ ((env m c t).out8 D) _ ?_ y (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D y)
  rw [runB_2]
  exact pb8 (env m c t) _ _ _ _ (fun k h r v => out8_at (env m c t) _ k h r v) _ le_rfl

theorem soutB (c : Dev nD) (t : Fin cfg0.N) (h0 : ¬t.val % 16 = 0) (D : Vec Ideal S8x64x64 .f32)
    (hD : D = toV (Cert.Scan.st (ins m c) (8 * t.val))) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D = toV (Cert.Scan.st (ins m c) (8 * t.val + 8)) := by
  unfold sout0_B_0
  rw [View.read_writes_of_cover VS0_0 VS0_0.junk scM0_0.view ((env m c t).harg9.unread D) _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) D), runB_3]
  have h := pb9 (env m c t) D (ms0_6 t).view.junk (ms0_7 t).view.junk k0_t1_loop.trips le_rfl
  refine (congrArg (scM0_0.view.read (Elt Ideal)) h).trans (((env m c t).harg9.read_unread _).trans ?_)
  rw [trips8, hD, stN_eq m c t 8 le_rfl]

/-- The scratch after point `n`, and what the point writes to both results. -/
theorem outs_eq (c : Dev nD) (n : ℕ) (hn : n < cfg0.N) :
    outsAt0 m c n hn = (fin7 m c ⟨n, hn⟩, fin8 m c ⟨n, hn⟩, toV (Cert.Scan.st (ins m c) (8 * n + 8))) := by
  induction n with
  | zero =>
    have e := outsAt0_A m c ⟨0, hn⟩ rfl
    refine e.trans ?_
    rw [outA_6 m c ⟨0, hn⟩ rfl, outA_7 m c ⟨0, hn⟩ rfl, soutA m c ⟨0, hn⟩ rfl]
  | succ n ih =>
    have ht : n + 1 < 16 := lt_of_lt_of_eq hn (show cfg0.N = 16 from N_0)
    have h0 : ¬(n + 1) % 16 = 0 := by omega
    have e := outsAt0_B m c ⟨n + 1, hn⟩ h0
    have hp := congrArg (fun p => p.2.2) (ih (by omega))
    refine e.trans ?_
    dsimp only at hp ⊢
    have hp' : (outsAt0 m c (n + 1 - 1) (by omega)).2.2 = toV (Cert.Scan.st (ins m c) (8 * (n + 1))) := hp
    rw [outB_6 m c ⟨n + 1, hn⟩ h0, outB_7 m c ⟨n + 1, hn⟩ h0, soutB m c ⟨n + 1, hn⟩ h0 _ hp', hp']

end Cert.KernelIdeal.Scan
end
-- ==== Proof.ScanKernel.lean ====
module

public import proofs.«01_k».proof.Proof.ScanGrid

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.ValueIdx
open Cert.Scan (State tok lane)

variable (m : (ℓ : Loc nD τ sig) → Buf (Elt Ideal) ℓ)

theorem idx6 : ∀ t : Fin cfg0.N, win0_6.index t 0 = 0 ∧ win0_6.index t 1 = 15 - t.val ∧ win0_6.index t 2 = 0 :=
  (by decide +kernel : ∀ t : Fin grid0.N, win0_6.index t 0 = 0 ∧ win0_6.index t 1 = 15 - t.val ∧ win0_6.index t 2 = 0)
theorem idx7 : ∀ t : Fin cfg0.N, win0_7.index t 0 = 0 ∧ win0_7.index t 1 = 15 - t.val ∧ win0_7.index t 2 = 0 :=
  (by decide +kernel : ∀ t : Fin grid0.N, win0_7.index t 0 = 0 ∧ win0_7.index t 1 = 15 - t.val ∧ win0_7.index t 2 = 0)

theorem flush6 : ∀ t : Fin cfg0.N, (cfg0.win 6).flush t = true :=
  (by decide +kernel : ∀ t : Fin grid0.N, win0_6.flush t = true)
theorem flush7 : ∀ t : Fin cfg0.N, (cfg0.win 7).flush t = true :=
  (by decide +kernel : ∀ t : Fin grid0.N, win0_7.flush t = true)

/-- The point that works on token `s`. -/
def pt (s : Fin 8192) : Fin cfg0.N := ⟨15 - s.val / 512, by rw [show cfg0.N = 16 from N_0]; omega⟩

/-- Token `s`'s row in its block. -/
def sub (s : Fin 8192) : Fin 512 := ⟨s.val % 512, Nat.mod_lt _ (by decide)⟩

theorem fin7_at (c : Dev nD) (h : Fin 8) (s : Fin 8192) (v : Fin 64) :
    fin7 m c (pt s) (ix3 h (sub s) v) = Cert.Scan.dsn (ins m c) h s v := by
  show (env m c (pt s)).stN (toV (Cert.Scan.st (ins m c) (8 * (pt s).val))) (7 - s.val % 512 / 64)
    (ix3 h ⟨s.val % 512 % 64, Nat.mod_lt _ (by decide)⟩ v) = _
  rw [stN_eq m c (pt s) _ (by omega)]
  unfold Cert.Scan.dsn
  have e1 : 8 * (pt s).val + (7 - s.val % 512 / 64) = 127 - s.val / 64 := by
    show 8 * (15 - s.val / 512) + (7 - s.val % 512 / 64) = 127 - s.val / 64
    have := s.isLt
    omega
  have e2 : (⟨s.val % 512 % 64, Nat.mod_lt _ (by decide)⟩ : Fin 64) = ⟨s.val % 64, Nat.mod_lt _ (by decide)⟩ :=
    Fin.ext (show s.val % 512 % 64 = s.val % 64 by omega)
  rw [e1, e2]
  rfl

theorem fin8_at (c : Dev nD) (h : Fin 8) (s : Fin 8192) (v : Fin 64) :
    fin8 m c (pt s) (ix3 h (sub s) v) = Cert.Scan.dvn (ins m c) h s v := by
  have hj : s.val % 512 / 64 < 8 := by omega
  show (env m c (pt s)).dvm ⟨s.val % 512 / 64, _⟩ ((env m c (pt s)).stN (toV (Cert.Scan.st (ins m c) (8 * (pt s).val))) (7 - s.val % 512 / 64))
    h (ix2 ⟨s.val % 512 % 64, Nat.mod_lt _ (by decide)⟩ v) = _
  rw [stN_eq m c (pt s) _ (by omega), dvm_eq]
  unfold Cert.Scan.dvn
  have e1 : 8 * (pt s).val + (7 - s.val % 512 / 64) = 127 - s.val / 64 := by
    show 8 * (15 - s.val / 512) + (7 - s.val % 512 / 64) = 127 - s.val / 64
    have := s.isLt
    omega
  have e2 : (⟨s.val % 512 % 64, Nat.mod_lt _ (by decide)⟩ : Fin 64) = ⟨s.val % 64, Nat.mod_lt _ (by decide)⟩ :=
    Fin.ext (show s.val % 512 % 64 = s.val % 64 by omega)
  have e3 : chunkOf (pt s) ⟨s.val % 512 / 64, hj⟩ = ⟨s.val / 64, by omega⟩ := Fin.ext (by
    show 8 * (15 - (15 - s.val / 512)) + s.val % 512 / 64 = s.val / 64
    have := s.isLt
    omega)
  rw [e1, e2, e3]

/-- The first result array after the run. -/
theorem res6 (c : Dev nD) (h : Fin 8) (s : Fin 8192) (v : Fin 64) :
    (dats m 0 c).arrAt 6 cfg0.N (ix3 h s v) = Cert.Scan.dsn (ins m c) h s v := by
  have e := congrFun (Value.blocks6 m c (pt s) (flush6 _)) (ix3 h (sub s) v)
  rw [View.read_apply, Value.flushed6, outs_eq] at e
  refine Eq.trans (congrArg ((dats m 0 c).arrAt 6 cfg0.N) (funext fun a => Fin.ext ?_)) (e.trans (fin7_at m c h s v))
  match a with
  | ⟨0, _⟩ => show h.val = win0_6.index (pt s) 0 * 8 + 1 * h.val; rw [(idx6 _).1]; omega
  | ⟨1, _⟩ =>
    show s.val = win0_6.index (pt s) 1 * 512 + 1 * (s.val % 512)
    rw [(idx6 _).2.1]
    show s.val = (15 - (15 - s.val / 512)) * 512 + 1 * (s.val % 512)
    have := s.isLt
    omega
  | ⟨2, _⟩ => show v.val = win0_6.index (pt s) 2 * 64 + 1 * v.val; rw [(idx6 _).2.2]; omega

/-- The second result array after the run. -/
theorem res7 (c : Dev nD) (h : Fin 8) (s : Fin 8192) (v : Fin 64) :
    (dats m 0 c).arrAt 7 cfg0.N (ix3 h s v) = Cert.Scan.dvn (ins m c) h s v := by
  have e := congrFun (Value.blocks7 m c (pt s) (flush7 _)) (ix3 h (sub s) v)
  rw [View.read_apply, Value.flushed7, outs_eq] at e
  refine Eq.trans (congrArg ((dats m 0 c).arrAt 7 cfg0.N) (funext fun a => Fin.ext ?_)) (e.trans (fin8_at m c h s v))
  match a with
  | ⟨0, _⟩ => show h.val = win0_7.index (pt s) 0 * 8 + 1 * h.val; rw [(idx7 _).1]; omega
  | ⟨1, _⟩ =>
    show s.val = win0_7.index (pt s) 1 * 512 + 1 * (s.val % 512)
    rw [(idx7 _).2.1]
    show s.val = (15 - (15 - s.val / 512)) * 512 + 1 * (s.val % 512)
    have := s.isLt
    omega
  | ⟨2, _⟩ => show v.val = win0_7.index (pt s) 2 * 64 + 1 * v.val; rw [(idx7 _).2.2]; omega

end Cert.KernelIdeal.Scan
end
-- ==== Proof.ScanRefOps.lean ====
module

public import proofs.«01_k».proof.Proof.Gen.ReferenceIdeal
public import proofs.«01_k».proof.Proof.ScanSpec
public import Idealize.ShloMosaic.Lib.DynamicIndex
public import Idealize.ShloMosaic.Lib.Pipeline.Value
public import Idealize.ShloMosaic.Lib.KernelVsHost

@[expose] public section

set_option maxRecDepth 16384

noncomputable section

namespace Cert.ReferenceIdeal.Scan

open Cert.ReferenceIdeal Cert.ReferenceIdeal.Gen Idealize.ShloMosaic Idealize.ShloMosaic.TcCoe Idealize.SL.Sem
open Idealize.ShloMosaic.ValueIdx
open Cert.Scan (tok lane)
open scoped BigOperators

/-! ## The host's layouts, read at coordinates -/

/-- An array by tokens and lanes, cut into chunks and heads. -/
theorem chunks_apply (X : Vec Ideal S8192x512 .f32) (j : Fin 128) (h : Fin 8) (r v : Fin 64) :
    transpose S128x8x64x64 [0, 2, 1, 3] (shapeCast S128x64x8x64 X shapeCasts_S8192x512_S128x64x8x64)
        transposes_S128x64x8x64_S128x8x64x64_0_2_1_3 (ix4 j h r v) = X (ix2 (tok j r) (lane h v)) := by
  rw [transpose_apply _ _ _ (ix4 j h r v) (ix4 j r h v) (fun b => match b with
    | ⟨0, _⟩ => rfl
    | ⟨1, _⟩ => rfl
    | ⟨2, _⟩ => rfl
    | ⟨3, _⟩ => rfl)]
  refine shapeCast_apply _ _ _ _ ?_
  rw [Shape.rowMajor_val_two, Shape.rowMajor_val_four]
  show (64 * j.val + r.val) * 512 + (64 * h.val + v.val) = ((j.val * 64 + r.val) * 8 + h.val) * 64 + v.val
  omega

/-- An array by heads, cut into chunks. -/
theorem heads_apply (X : Vec Ideal S8x8192x64 .f32) (j : Fin 128) (h : Fin 8) (r v : Fin 64) :
    transpose S128x8x64x64 [1, 0, 2, 3] (shapeCast S8x128x64x64 X shapeCasts_S8x8192x64_S8x128x64x64)
        transposes_S8x128x64x64_S128x8x64x64_1_0_2_3 (ix4 j h r v) = X (ix3 h (tok j r) v) := by
  rw [transpose_apply _ _ _ (ix4 j h r v) (ix4 h j r v) (fun b => match b with
    | ⟨0, _⟩ => rfl
    | ⟨1, _⟩ => rfl
    | ⟨2, _⟩ => rfl
    | ⟨3, _⟩ => rfl)]
  refine shapeCast_apply _ _ _ _ ?_
  rw [Shape.rowMajor_val_three, Shape.rowMajor_val_four]
  show (h.val * 8192 + (64 * j.val + r.val)) * 64 + v.val = ((h.val * 128 + j.val) * 64 + r.val) * 64 + v.val
  omega

/-- The decays, cut into chunks. -/
theorem decay_apply (X : Vec Ideal S8192x8 .f32) (j : Fin 128) (h : Fin 8) (r : Fin 64) :
    transpose S128x8x64 [0, 2, 1] (shapeCast S128x64x8 X shapeCasts_S8192x8_S128x64x8)
        transposes_S128x64x8_S128x8x64_0_2_1 (ix3 j h r) = X (ix2 (tok j r) h) := by
  rw [transpose_apply _ _ _ (ix3 j h r) (ix3 j r h) (fun b => match b with
    | ⟨0, _⟩ => rfl
    | ⟨1, _⟩ => rfl
    | ⟨2, _⟩ => rfl)]
  refine shapeCast_apply _ _ _ _ ?_
  rw [Shape.rowMajor_val_two, Shape.rowMajor_val_three]
  show (64 * j.val + r.val) * 8 + h.val = (j.val * 64 + r.val) * 8 + h.val
  omega

/-- The chunks of a result, put side by side again. -/
theorem back_apply (X : Vec Ideal S128x8x64x64 .f32) (h : Fin 8) (s : Fin 8192) (v : Fin 64) :
    shapeCast S8x8192x64 (transpose S8x128x64x64 [1, 0, 2, 3] X transposes_S128x8x64x64_S8x128x64x64_1_0_2_3)
        shapeCasts_S8x128x64x64_S8x8192x64 (ix3 h s v)
      = X (ix4 (⟨s.val / 64, by omega⟩ : Fin 128) h (⟨s.val % 64, Nat.mod_lt _ (by decide)⟩ : Fin 64) v) := by
  rw [shapeCast_apply _ _ (ix3 h s v)
    (ix4 h (⟨s.val / 64, by omega⟩ : Fin 128) (⟨s.val % 64, Nat.mod_lt _ (by decide)⟩ : Fin 64) v)]
  · exact transpose_apply _ _ _ _ _ (fun b => match b with
      | ⟨0, _⟩ => rfl
      | ⟨1, _⟩ => rfl
      | ⟨2, _⟩ => rfl
      | ⟨3, _⟩ => rfl)
  · rw [Shape.rowMajor_val_three, Shape.rowMajor_val_four]
    show ((h.val * 128 + s.val / 64) * 64 + s.val % 64) * 64 + v.val = (h.val * 8192 + s.val) * 64 + v.val
    omega

/-! ## One chunk read and written -/

/-- The starts of a chunk's slice. -/
abbrev starts (i : IVec S_ 32) : Fin 4 → Int := fun k =>
  (((![i, constantI S_ 32 0#32, constantI S_ 32 0#32, constantI S_ 32 0#32] : Fin 4 → IVec S_ 32)) k
    (Shape.Idx.first h_S_)).toInt

/-- The chunk that a slice reads. -/
theorem chunk_apply (X : Vec Ideal S128x8x64x64 .f32) (i : IVec S_ 32) (j : Fin 128)
    (hi : (i (Shape.Idx.first h_S_)).toInt = (j.val : Int)) (h : Fin 8) (r v : Fin 64) :
    shapeCast S8x64x64 (Host.dynamicSlice S1x8x64x64 X (starts i) sliceFits_S128x8x64x64_S1x8x64x64)
        shapeCasts_S1x8x64x64_S8x64x64 (ix3 h r v) = X (ix4 j h r v) := by
  rw [shapeCast_apply _ _ (ix3 h r v) (ix4 (0 : Fin 1) h r v),
    Host.dynamicSlice_eq_extractStridedSlice S1x8x64x64 X (starts i) ![j.val, 0, 0, 0] _ (by
      refine ⟨rfl, fun a => ?_⟩
      match a with
      | ⟨0, _⟩ => show j.val + 1 ≤ 128; omega
      | ⟨1, _⟩ => show 0 + 8 ≤ 8; omega
      | ⟨2, _⟩ => show 0 + 64 ≤ 64; omega
      | ⟨3, _⟩ => show 0 + 64 ≤ 64; omega) (fun a => match a with
      | ⟨0, _⟩ => hi
      | ⟨1, _⟩ => rfl
      | ⟨2, _⟩ => rfl
      | ⟨3, _⟩ => rfl)]
  · exact extractStridedSlice_apply _ _ _ _ _ (fun a => match a with
      | ⟨0, _⟩ => rfl
      | ⟨1, _⟩ => (Nat.zero_add _).symm
      | ⟨2, _⟩ => (Nat.zero_add _).symm
      | ⟨3, _⟩ => (Nat.zero_add _).symm)
  · rw [Shape.rowMajor_val_three, Shape.rowMajor_val_four]
    show ((0 * 8 + h.val) * 64 + r.val) * 64 + v.val = (h.val * 64 + r.val) * 64 + v.val
    omega

/-- The chunk of the whole chunks' decays that a slice reads. -/
theorem chunk1_apply (X : Vec Ideal S128x8x1x1 .f32) (i : IVec S_ 32) (j : Fin 128)
    (hi : (i (Shape.Idx.first h_S_)).toInt = (j.val : Int)) (h : Fin 8) :
    shapeCast S8x1x1 (Host.dynamicSlice S1x8x1x1 X (starts i) sliceFits_S128x8x1x1_S1x8x1x1)
        shapeCasts_S1x8x1x1_S8x1x1 (ix3 h (0 : Fin 1) (0 : Fin 1)) = X (ix4 j h (0 : Fin 1) (0 : Fin 1)) := by
  rw [shapeCast_apply _ _ (ix3 h (0 : Fin 1) (0 : Fin 1)) (ix4 (0 : Fin 1) h (0 : Fin 1) (0 : Fin 1)),
    Host.dynamicSlice_eq_extractStridedSlice S1x8x1x1 X (starts i) ![j.val, 0, 0, 0] _ (by
      refine ⟨rfl, fun a => ?_⟩
      match a with
      | ⟨0, _⟩ => show j.val + 1 ≤ 128; omega
      | ⟨1, _⟩ => show 0 + 8 ≤ 8; omega
      | ⟨2, _⟩ => show 0 + 1 ≤ 1; omega
      | ⟨3, _⟩ => show 0 + 1 ≤ 1; omega) (fun a => match a with
      | ⟨0, _⟩ => hi
      | ⟨1, _⟩ => rfl
      | ⟨2, _⟩ => rfl
      | ⟨3, _⟩ => rfl)]
  · exact extractStridedSlice_apply _ _ _ _ _ (fun a => match a with
      | ⟨0, _⟩ => rfl
      | ⟨1, _⟩ => (Nat.zero_add _).symm
      | ⟨2, _⟩ => rfl
      | ⟨3, _⟩ => rfl)
  · rw [Shape.rowMajor_val_three, Shape.rowMajor_val_four]
    show ((0 * 8 + h.val) * 1 + 0) * 1 + 0 = (h.val * 1 + 0) * 1 + 0
    omega

/-- A chunk written into a buffer of chunks: the chunk itself at its place, the buffer's other chunks unchanged. -/
theorem put_apply (X : Vec Ideal S128x8x64x64 .f32) (U : Vec Ideal S8x64x64 .f32) (i : IVec S_ 32) (j : Fin 128)
    (hi : (i (Shape.Idx.first h_S_)).toInt = (j.val : Int)) (j' : Fin 128) (h : Fin 8) (r v : Fin 64) :
    Host.dynamicUpdateSlice X (broadcastInDim S1x8x64x64 ![1, 2, 3] bcast_S8x64x64_S1x8x64x64_1_2_3 U) (starts i)
        updateFits_S128x8x64x64_S1x8x64x64 (ix4 j' h r v)
      = if j' = j then U (ix3 h r v) else X (ix4 j' h r v) := by
  have hfit : S128x8x64x64.Slices ![j.val, 0, 0, 0] S1x8x64x64 := by
    refine ⟨rfl, fun a => ?_⟩
    match a with
    | ⟨0, _⟩ => show j.val + 1 ≤ 128; omega
    | ⟨1, _⟩ => show 0 + 8 ≤ 8; omega
    | ⟨2, _⟩ => show 0 + 64 ≤ 64; omega
    | ⟨3, _⟩ => show 0 + 64 ≤ 64; omega
  rw [Host.dynamicUpdateSlice_eq_updateSlice X _ (starts i) _ ![j.val, 0, 0, 0] (by
      intro a
      match a with
      | ⟨0, _⟩ =>
        show (min (max (i (Shape.Idx.first h_S_)).toInt 0) ((128 - 1 : ℕ) : Int)).toNat = j.val
        rw [hi]; omega
      | ⟨1, _⟩ => rfl
      | ⟨2, _⟩ => rfl
      | ⟨3, _⟩ => rfl) hfit]
  unfold updateSlice
  by_cases e : j' = j
  · rw [if_pos e, dif_pos (by
      intro a
      match a with
      | ⟨0, _⟩ => subst e; exact ⟨le_refl j'.val, Nat.lt_succ_self j'.val⟩
      | ⟨1, _⟩ => exact ⟨Nat.zero_le _, by show h.val < 0 + 8; omega⟩
      | ⟨2, _⟩ => exact ⟨Nat.zero_le _, by show r.val < 0 + 64; omega⟩
      | ⟨3, _⟩ => exact ⟨Nat.zero_le _, by show v.val < 0 + 64; omega⟩)]
    exact broadcastInDim_apply _ _ _ _ (ix3 h r v) (fun a => match a with
      | ⟨0, _⟩ => rfl
      | ⟨1, _⟩ => rfl
      | ⟨2, _⟩ => rfl)
  · rw [if_neg e, dif_neg (fun hall => e (by
      have h0 : j.val ≤ j'.val ∧ j'.val < j.val + 1 := hall 0
      exact Fin.ext (by omega)))]

/-! ## The products of every head -/

/-- Products of every head over the first array's second axis and the second's third. -/
theorem dot12_apply (A B : FVec Ideal S8x64x64 .f32) (h : Fin 8) (r v : Fin 64) :
    transpose S8x64x64 [0, 2, 1] (Host.dotGeneral (F := Ideal) dot_S8x64x64_S8x64x64_S8x64x64_1_2_2_1_0_0 none A B)
        transposes_S8x64x64_S8x64x64_0_2_1 (ix3 h r v)
      = ∑ c : Fin 64, A (ix3 h c v) * B (ix3 h r c) := by
  rw [transpose_apply _ _ _ (ix3 h r v) (ix3 h v r) (fun b => match b with
    | ⟨0, _⟩ => rfl
    | ⟨1, _⟩ => rfl
    | ⟨2, _⟩ => rfl)]
  show FloatOps.dotGeneral _ none _ A B (ix3 h v r) = _
  rw [Ideal.dotGeneral_apply,
    ← Equiv.sum_comp (contrEquiv1 dot_S8x64x64_S8x64x64_S8x64x64_1_2_2_1_0_0 64 rfl rfl).symm]
  refine Finset.sum_congr rfl fun c _ => ?_
  have c3 := contrEquiv1_symm_val dot_S8x64x64_S8x64x64_S8x64x64_1_2_2_1_0_0 64 rfl rfl c
  have l3 : dot_S8x64x64_S8x64x64_S8x64x64_1_2_2_1_0_0.lhsIdx (ix3 h v r)
      ((contrEquiv1 dot_S8x64x64_S8x64x64_S8x64x64_1_2_2_1_0_0 64 rfl rfl).symm c) = ix3 h c v := by
    funext ax; apply Fin.ext
    match ax with
    | ⟨0, _⟩ => simp [DotDims.lhsIdx, dot_S8x64x64_S8x64x64_S8x64x64_1_2_2_1_0_0]; rfl
    | ⟨1, _⟩ => simp [DotDims.lhsIdx, dot_S8x64x64_S8x64x64_S8x64x64_1_2_2_1_0_0]; exact c3
    | ⟨2, _⟩ => simp [DotDims.lhsIdx, dot_S8x64x64_S8x64x64_S8x64x64_1_2_2_1_0_0]; rfl
  have r3 : dot_S8x64x64_S8x64x64_S8x64x64_1_2_2_1_0_0.rhsIdx (ix3 h v r)
      ((contrEquiv1 dot_S8x64x64_S8x64x64_S8x64x64_1_2_2_1_0_0 64 rfl rfl).symm c) = ix3 h r c := by
    funext ax; apply Fin.ext
    match ax with
    | ⟨0, _⟩ => simp [DotDims.rhsIdx, dot_S8x64x64_S8x64x64_S8x64x64_1_2_2_1_0_0]; rfl
    | ⟨1, _⟩ => simp [DotDims.rhsIdx, dot_S8x64x64_S8x64x64_S8x64x64_1_2_2_1_0_0]; rfl
    | ⟨2, _⟩ => simp [DotDims.rhsIdx, dot_S8x64x64_S8x64x64_S8x64x64_1_2_2_1_0_0]; exact c3
  rw [l3, r3]

/-- Products of every head over the second axes of both arrays. -/
theorem dot11_apply (A B : FVec Ideal S8x64x64 .f32) (h : Fin 8) (r v : Fin 64) :
    transpose S8x64x64 [0, 2, 1] (Host.dotGeneral (F := Ideal) dot_S8x64x64_S8x64x64_S8x64x64_1_1_2_2_0_0 none A B)
        transposes_S8x64x64_S8x64x64_0_2_1 (ix3 h r v)
      = ∑ c : Fin 64, A (ix3 h c v) * B (ix3 h c r) := by
  rw [transpose_apply _ _ _ (ix3 h r v) (ix3 h v r) (fun b => match b with
    | ⟨0, _⟩ => rfl
    | ⟨1, _⟩ => rfl
    | ⟨2, _⟩ => rfl)]
  show FloatOps.dotGeneral _ none _ A B (ix3 h v r) = _
  rw [Ideal.dotGeneral_apply,
    ← Equiv.sum_comp (contrEquiv1 dot_S8x64x64_S8x64x64_S8x64x64_1_1_2_2_0_0 64 rfl rfl).symm]
  refine Finset.sum_congr rfl fun c _ => ?_
  have c3 := contrEquiv1_symm_val dot_S8x64x64_S8x64x64_S8x64x64_1_1_2_2_0_0 64 rfl rfl c
  have l3 : dot_S8x64x64_S8x64x64_S8x64x64_1_1_2_2_0_0.lhsIdx (ix3 h v r)
      ((contrEquiv1 dot_S8x64x64_S8x64x64_S8x64x64_1_1_2_2_0_0 64 rfl rfl).symm c) = ix3 h c v := by
    funext ax; apply Fin.ext
    match ax with
    | ⟨0, _⟩ => simp [DotDims.lhsIdx, dot_S8x64x64_S8x64x64_S8x64x64_1_1_2_2_0_0]; rfl
    | ⟨1, _⟩ => simp [DotDims.lhsIdx, dot_S8x64x64_S8x64x64_S8x64x64_1_1_2_2_0_0]; exact c3
    | ⟨2, _⟩ => simp [DotDims.lhsIdx, dot_S8x64x64_S8x64x64_S8x64x64_1_1_2_2_0_0]; rfl
  have r3 : dot_S8x64x64_S8x64x64_S8x64x64_1_1_2_2_0_0.rhsIdx (ix3 h v r)
      ((contrEquiv1 dot_S8x64x64_S8x64x64_S8x64x64_1_1_2_2_0_0 64 rfl rfl).symm c) = ix3 h c r := by
    funext ax; apply Fin.ext
    match ax with
    | ⟨0, _⟩ => simp [DotDims.rhsIdx, dot_S8x64x64_S8x64x64_S8x64x64_1_1_2_2_0_0]; rfl
    | ⟨1, _⟩ => simp [DotDims.rhsIdx, dot_S8x64x64_S8x64x64_S8x64x64_1_1_2_2_0_0]; exact c3
    | ⟨2, _⟩ => simp [DotDims.rhsIdx, dot_S8x64x64_S8x64x64_S8x64x64_1_1_2_2_0_0]; rfl
  rw [l3, r3]

end Cert.ReferenceIdeal.Scan
end
-- ==== Proof.ScanRefEntry.lean ====
module

public import proofs.«01_k».proof.Proof.Gen.ReferenceIdeal.Run
public import proofs.«01_k».proof.Proof.ScanRefOps

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.TcCoe Idealize.SL.Sem
open Idealize.ShloMosaic.StableHlo Idealize.ShloMosaic.Tactic
open Idealize.ShloMosaic.ValueIdx
open Cert.Scan (tok lane)
open scoped BigOperators

variable (m : (ℓ : Loc nD τ sig) → Buf (Elt Ideal) ℓ)

/-- An argument's array. -/
abbrev B0 (c : Dev nD) : FVec Ideal S8192x512 .f32 := m ((c.tc : Thread nD τ).loc main_arg0)
abbrev B1 (c : Dev nD) : FVec Ideal S8192x512 .f32 := m ((c.tc : Thread nD τ).loc main_arg1)
abbrev B2 (c : Dev nD) : FVec Ideal S8192x8 .f32 := m ((c.tc : Thread nD τ).loc main_arg2)
abbrev B3 (c : Dev nD) : FVec Ideal S8x8192x64 .f32 := m ((c.tc : Thread nD τ).loc main_arg3)
abbrev B4 (c : Dev nD) : FVec Ideal S8x8192x64 .f32 := m ((c.tc : Thread nD τ).loc main_arg4)
abbrev B5 (c : Dev nD) : FVec Ideal S8192x512 .f32 := m ((c.tc : Thread nD τ).loc main_arg5)

/-- The reference's arguments at coordinates. -/
def ins (c : Dev nD) : Cert.Scan.Ins where
  q := fun s l => B0 m c (ix2 s l)
  k := fun s l => B1 m c (ix2 s l)
  g := fun s h => B2 m c (ix2 s h)
  qk := fun h s v => B3 m c (ix3 h s v)
  w := fun h s v => B4 m c (ix3 h s v)
  ct := fun s l => B5 m c (ix2 s l)

/-- An array by tokens, cut into chunks and heads. -/
abbrev chunked (X : FVec Ideal S8192x512 .f32) : FVec Ideal S128x8x64x64 .f32 :=
  transpose S128x8x64x64 [0, 2, 1, 3] (shapeCast S128x64x8x64 X shapeCasts_S8192x512_S128x64x8x64)
    transposes_S128x64x8x64_S128x8x64x64_0_2_1_3
/-- An array by heads, cut into chunks. -/
abbrev headed (X : FVec Ideal S8x8192x64 .f32) : FVec Ideal S128x8x64x64 .f32 :=
  transpose S128x8x64x64 [1, 0, 2, 3] (shapeCast S8x128x64x64 X shapeCasts_S8x8192x64_S8x128x64x64)
    transposes_S8x128x64x64_S128x8x64x64_1_0_2_3
/-- The decays, cut into chunks. -/
abbrev dec (X : FVec Ideal S8192x8 .f32) : FVec Ideal S128x8x64 .f32 :=
  transpose S128x8x64 [0, 2, 1] (shapeCast S128x64x8 X shapeCasts_S8192x8_S128x64x8)
    transposes_S128x64x8_S128x8x64_0_2_1
/-- The decay of every whole chunk. -/
abbrev last (X : FVec Ideal S8192x8 .f32) : FVec Ideal S128x8 .f32 :=
  shapeCast S128x8 (extractStridedSlice S128x8x1 ![0, 0, 63] (dec X) slices_S128x8x64_S128x8x1_0_0_63)
    shapeCasts_S128x8x1_S128x8
/-- A factor of every token, copied over its lanes. -/
abbrev over (X : FVec Ideal S128x8x64 .f32) : FVec Ideal S128x8x64x64 .f32 :=
  broadcastInDim S128x8x64x64 ![0, 1, 2, 3] bcast_S128x8x64x1_S128x8x64x64_0_1_2_3
    (broadcastInDim S128x8x64x1 ![0, 1, 2] bcast_S128x8x64_S128x8x64x1_0_1_2 X)
/-- A number of every chunk, copied over its tokens. -/
abbrev spread (X : FVec Ideal S128x8 .f32) : FVec Ideal S128x8x64 .f32 :=
  broadcastInDim S128x8x64 ![0, 1, 2] bcast_S128x8x1_S128x8x64_0_1_2
    (broadcastInDim S128x8x1 ![0, 1] bcast_S128x8_S128x8x1_0_1 X)

theorem over_apply (X : FVec Ideal S128x8x64 .f32) (j : Fin 128) (h : Fin 8) (r v : Fin 64) :
    over X (ix4 j h r v) = X (ix3 j h r) := by
  unfold over
  rw [broadcastInDim_apply _ _ _ (ix4 j h r v) (ix4 j h r (0 : Fin 1)) (fun a => match a with
    | ⟨0, _⟩ => rfl
    | ⟨1, _⟩ => rfl
    | ⟨2, _⟩ => rfl
    | ⟨3, _⟩ => rfl)]
  exact broadcastInDim_apply _ _ _ _ (ix3 j h r) (fun a => match a with
    | ⟨0, _⟩ => rfl
    | ⟨1, _⟩ => rfl
    | ⟨2, _⟩ => rfl)

theorem spread_apply (X : FVec Ideal S128x8 .f32) (j : Fin 128) (h : Fin 8) (r : Fin 64) :
    spread X (ix3 j h r) = X (ix2 j h) := by
  unfold spread
  rw [broadcastInDim_apply _ _ _ (ix3 j h r) (ix3 j h (0 : Fin 1)) (fun a => match a with
    | ⟨0, _⟩ => rfl
    | ⟨1, _⟩ => rfl
    | ⟨2, _⟩ => rfl)]
  exact broadcastInDim_apply _ _ _ _ (ix2 j h) (fun a => match a with
    | ⟨0, _⟩ => rfl
    | ⟨1, _⟩ => rfl)

theorem last_apply (X : FVec Ideal S8192x8 .f32) (j : Fin 128) (h : Fin 8) :
    last X (ix2 j h) = X (ix2 (tok j 63) h) := by
  unfold last
  rw [shapeCast_apply _ _ (ix2 j h) (ix3 j h (0 : Fin 1)) (by
    rw [Shape.rowMajor_val_two, Shape.rowMajor_val_three]
    show (j.val * 8 + h.val) * 1 + 0 = j.val * 8 + h.val
    omega)]
  rw [extractStridedSlice_apply _ _ _ (ix3 j h (0 : Fin 1)) (ix3 j h (63 : Fin 64)) (fun a => match a with
    | ⟨0, _⟩ => (Nat.zero_add _).symm
    | ⟨1, _⟩ => (Nat.zero_add _).symm
    | ⟨2, _⟩ => rfl)]
  exact decay_apply X j h 63

/-! ## The buffers that the loop carries, at its entry -/

theorem entry0 (c : Dev nD) : entryContents preI m c (Proc.devRef .tc main_v30_0) = chunked (B5 m c) := by
  simp only [entryContents, afterL_cons, afterL_nil]
  after_reads_simp
  rfl
theorem entry1 (c : Dev nD) : entryContents preI m c (Proc.devRef .tc main_v30_1)
    = broadcastInDim S128x8x1x1 ![0, 1] bcast_S128x8_S128x8x1x1_0_1 (Host.exp (F := Ideal) (last (B2 m c))) := by
  simp only [entryContents, afterL_cons, afterL_nil]
  after_reads_simp
  rfl
theorem entry2 (c : Dev nD) : entryContents preI m c (Proc.devRef .tc main_v30_2)
    = mulf (chunked (B1 m c)) (over (Host.exp (F := Ideal) (subf (spread (last (B2 m c))) (dec (B2 m c))))) := by
  simp only [entryContents, afterL_cons, afterL_nil]
  after_reads_simp
  rfl
theorem entry3 (c : Dev nD) : entryContents preI m c (Proc.devRef .tc main_v30_3) = headed (B4 m c) := by
  simp only [entryContents, afterL_cons, afterL_nil]
  after_reads_simp
  rfl
theorem entry4 (c : Dev nD) : entryContents preI m c (Proc.devRef .tc main_v30_4)
    = mulf (chunked (B0 m c)) (over (Host.exp (F := Ideal) (dec (B2 m c)))) := by
  simp only [entryContents, afterL_cons, afterL_nil]
  after_reads_simp
  rfl
theorem entry5 (c : Dev nD) : entryContents preI m c (Proc.devRef .tc main_v30_5) = headed (B3 m c) := by
  simp only [entryContents, afterL_cons, afterL_nil]
  after_reads_simp
  rfl
theorem entry7 (c : Dev nD) : entryContents preI m c (Proc.devRef .tc main_v30_7)
    = broadcastInDim S8x64x64 ![] bcast_S_S8x64x64 (constant S_ .f32 0x00000000#32 : FVec Ideal S_ .f32) := by
  simp only [entryContents, afterL_cons, afterL_nil]
  after_reads_simp
  rfl

end Cert.ReferenceIdeal.Scan
end
-- ==== Proof.ScanRef.lean ====
module

public import proofs.«01_k».proof.Proof.ScanRefEntry

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.TcCoe Idealize.SL.Sem
open Idealize.ShloMosaic.StableHlo Idealize.ShloMosaic.Tactic
open Idealize.ShloMosaic.ValueIdx
open Cert.Scan (tok lane rev st dv nx)
open scoped BigOperators

/-! ## The carried buffers of a valuation -/

abbrev X0 (V : Valuation τ sig (Elt Ideal)) : FVec Ideal S128x8x64x64 .f32 := V (Proc.devRef .tc main_v30_0)
abbrev X1 (V : Valuation τ sig (Elt Ideal)) : FVec Ideal S128x8x1x1 .f32 := V (Proc.devRef .tc main_v30_1)
abbrev X2 (V : Valuation τ sig (Elt Ideal)) : FVec Ideal S128x8x64x64 .f32 := V (Proc.devRef .tc main_v30_2)
abbrev X3 (V : Valuation τ sig (Elt Ideal)) : FVec Ideal S128x8x64x64 .f32 := V (Proc.devRef .tc main_v30_3)
abbrev X4 (V : Valuation τ sig (Elt Ideal)) : FVec Ideal S128x8x64x64 .f32 := V (Proc.devRef .tc main_v30_4)
abbrev X5 (V : Valuation τ sig (Elt Ideal)) : FVec Ideal S128x8x64x64 .f32 := V (Proc.devRef .tc main_v30_5)
abbrev X6 (V : Valuation τ sig (Elt Ideal)) : IVec S_ 32 := V (Proc.devRef .tc main_v30_6)
abbrev X7 (V : Valuation τ sig (Elt Ideal)) : FVec Ideal S8x64x64 .f32 := V (Proc.devRef .tc main_v30_7)
abbrev X8 (V : Valuation τ sig (Elt Ideal)) : FVec Ideal S128x8x64x64 .f32 := V (Proc.devRef .tc main_v30_8)
abbrev X9 (V : Valuation τ sig (Elt Ideal)) : FVec Ideal S128x8x64x64 .f32 := V (Proc.devRef .tc main_v30_9)

/-- What the carried buffers hold after `n` trips: the arrays cut into chunks, the counter, the state's gradient, and in
    the two buffers of results the chunks already visited. -/
structure Inv (a : Cert.Scan.Ins) (n : ℕ) (V : Valuation τ sig (Elt Ideal)) : Prop where
  c0 : ∀ j h r v, X0 V (ix4 j h r v) = a.ct (tok j r) (lane h v)
  c1 : ∀ j h, X1 V (ix4 j h (0 : Fin 1) (0 : Fin 1)) = Ideal.exp (a.g (tok j 63) h)
  c2 : ∀ j h r v, X2 V (ix4 j h r v) = a.k (tok j r) (lane h v) * Ideal.exp (a.g (tok j 63) h - a.g (tok j r) h)
  c3 : ∀ j h r v, X3 V (ix4 j h r v) = a.w h (tok j r) v
  c4 : ∀ j h r v, X4 V (ix4 j h r v) = a.q (tok j r) (lane h v) * Ideal.exp (a.g (tok j r) h)
  c5 : ∀ j h r v, X5 V (ix4 j h r v) = a.qk h (tok j r) v
  c6 : X6 V = fun _ => BitVec.ofNat 32 n
  c7 : ∀ h κ v, X7 V (ix3 h κ v) = st a n h κ v
  c8 : ∀ (j : Fin 128) h r v, 128 - n ≤ j.val → X8 V (ix4 j h r v) = dv a j (st a (127 - j.val)) h r v
  c9 : ∀ (j : Fin 128) h r v, 128 - n ≤ j.val → X9 V (ix4 j h r v) = st a (127 - j.val) h r v

section Step
variable {a : Cert.Scan.Ins} {n : ℕ} {V : Valuation τ sig (Elt Ideal)}

/-- The chunk that trip `n` visits. -/
theorem start_eq (H : Inv a n V) (hn : n < 128) :
    ((res_main_while0b_v36 (F := Ideal) V : IVec S_ 32) (Shape.Idx.first h_S_)).toInt = ((rev n).val : Int) := by
  have e : (res_main_while0b_v36 (F := Ideal) V : IVec S_ 32) (Shape.Idx.first h_S_) = BitVec.ofNat 32 (127 - n) := by
    show (128#32 - X6 V (Shape.Idx.first h_S_)) - 1#32 = _
    rw [H.c6]
    apply BitVec.eq_of_toNat_eq
    simp only [BitVec.toNat_sub, BitVec.toNat_ofNat]
    omega
  rw [e, toInt_ofNat_of_lt (by omega)]
  rfl

theorem v37_apply (H : Inv a n V) (hn : n < 128) (h : Fin 8) (r v : Fin 64) :
    (res_main_while0b_v37 (F := Ideal) V : FVec Ideal S8x64x64 .f32) (ix3 h r v) = a.ct (tok (rev n) r) (lane h v) := by
  rw [← H.c0 (rev n) h r v]
  exact chunk_apply (X0 V) (res_main_while0b_v36 (F := Ideal) V) (rev n) (start_eq H hn) h r v

/-- One trip's gradient of the corrected values. -/
theorem v49_apply (H : Inv a n V) (hn : n < 128) (h : Fin 8) (r v : Fin 64) :
    (res_main_while0b_v49 (F := Ideal) V : FVec Ideal S8x64x64 .f32) (ix3 h r v) = dv a (rev n) (st a n) h r v := by
  have h1 := dot12_apply (X7 V) (shapeCast S8x64x64 (Host.dynamicSlice S1x8x64x64 (X2 V)
    (starts (res_main_while0b_v36 (F := Ideal) V)) sliceFits_S128x8x64x64_S1x8x64x64) shapeCasts_S1x8x64x64_S8x64x64) h r v
  have h2 := dot11_apply (res_main_while0b_v37 (F := Ideal) V) (shapeCast S8x64x64 (Host.dynamicSlice S1x8x64x64 (X5 V)
    (starts (res_main_while0b_v36 (F := Ideal) V)) sliceFits_S128x8x64x64_S1x8x64x64) shapeCasts_S1x8x64x64_S8x64x64) h r v
  refine (congrArg₂ (fun x y : Ideal .f32 => (x + y : EReal)) h1 h2).trans ?_
  unfold dv
  refine (add_comm (G := EReal) _ _).trans (congrArg₂ (fun x y : EReal => x + y) ?_ ?_)
  · refine Finset.sum_congr rfl fun c _ => ?_
    rw [v37_apply H hn, chunk_apply (X5 V) _ (rev n) (start_eq H hn), H.c5]
    exact mul_comm (G := EReal) _ _
  · refine Finset.sum_congr rfl fun c _ => ?_
    rw [chunk_apply (X2 V) _ (rev n) (start_eq H hn), H.c2, H.c7]
    exact mul_comm (G := EReal) _ _

/-- One trip's gradient of the state. -/
theorem step7_apply (H : Inv a n V) (hn : n < 128) (h : Fin 8) (κ v : Fin 64) :
    (step_main_v30_7 (F := Ideal) V : FVec Ideal S8x64x64 .f32) (ix3 h κ v) = nx a (rev n) (st a n) h κ v := by
  have h0 : broadcastInDim S8x64x64 ![0, 1, 2] bcast_S8x1x1_S8x64x64_0_1_2 (shapeCast S8x1x1 (Host.dynamicSlice S1x8x1x1 (X1 V)
      (starts (res_main_while0b_v36 (F := Ideal) V)) sliceFits_S128x8x1x1_S1x8x1x1) shapeCasts_S1x8x1x1_S8x1x1) (ix3 h κ v)
      = Ideal.exp (a.g (tok (rev n) 63) h) := by
    rw [← H.c1 (rev n) h, ← chunk1_apply (X1 V) _ (rev n) (start_eq H hn) h]
    exact broadcastInDim_apply _ _ _ _ (ix3 h (0 : Fin 1) (0 : Fin 1)) (fun a => match a with
      | ⟨0, _⟩ => rfl
      | ⟨1, _⟩ => rfl
      | ⟨2, _⟩ => rfl)
  have h1 := dot11_apply (res_main_while0b_v37 (F := Ideal) V) (shapeCast S8x64x64 (Host.dynamicSlice S1x8x64x64 (X4 V)
    (starts (res_main_while0b_v36 (F := Ideal) V)) sliceFits_S128x8x64x64_S1x8x64x64) shapeCasts_S1x8x64x64_S8x64x64) h κ v
  have h2 := dot11_apply (res_main_while0b_v49 (F := Ideal) V) (shapeCast S8x64x64 (Host.dynamicSlice S1x8x64x64 (X3 V)
    (starts (res_main_while0b_v36 (F := Ideal) V)) sliceFits_S128x8x64x64_S1x8x64x64) shapeCasts_S1x8x64x64_S8x64x64) h κ v
  refine (congrArg₂ (fun x y : Ideal .f32 => (x + -y : EReal))
    (congrArg₂ (fun x y : Ideal .f32 => (X7 V (ix3 h κ v) * x + y : EReal)) h0 h1) h2).trans ?_
  unfold nx
  refine (congrArg₂ (fun x y : EReal => x + -y) ?_ ?_).trans (sub_eq_add_neg (G := EReal) _ _).symm
  · refine (add_comm (G := EReal) _ _).trans (congrArg₂ (fun x y : EReal => x + y) ?_ ?_)
    · refine Finset.sum_congr rfl fun c _ => ?_
      rw [v37_apply H hn, chunk_apply (X4 V) _ (rev n) (start_eq H hn), H.c4]
      exact mul_comm (G := EReal) _ _
    · rw [H.c7]
      exact mul_comm (G := EReal) _ _
  · refine Finset.sum_congr rfl fun c _ => ?_
    rw [v49_apply H hn, chunk_apply (X3 V) _ (rev n) (start_eq H hn), H.c3]
    exact mul_comm (G := EReal) _ _

/-- A trip leads from `n` visited chunks to `n + 1`. -/
theorem step_inv (H : Inv a n V) (hn : n < 128) : Inv a (n + 1) (STEP (F := Ideal) V) where
  c0 := fun j h r v => (congrFun (STEP_main_v30_0 (F := Ideal) V) _).trans (H.c0 j h r v)
  c1 := fun j h => (congrFun (STEP_main_v30_1 (F := Ideal) V) _).trans (H.c1 j h)
  c2 := fun j h r v => (congrFun (STEP_main_v30_2 (F := Ideal) V) _).trans (H.c2 j h r v)
  c3 := fun j h r v => (congrFun (STEP_main_v30_3 (F := Ideal) V) _).trans (H.c3 j h r v)
  c4 := fun j h r v => (congrFun (STEP_main_v30_4 (F := Ideal) V) _).trans (H.c4 j h r v)
  c5 := fun j h r v => (congrFun (STEP_main_v30_5 (F := Ideal) V) _).trans (H.c5 j h r v)
  c6 := by
    refine (STEP_main_v30_6 (F := Ideal) V).trans ?_
    show addi (X6 V) (constantI S_ 32 1#32) = _
    rw [H.c6]
    funext i
    show BitVec.ofNat 32 n + 1#32 = _
    exact (BitVec.ofNat_add n 1).symm
  c7 := fun h κ v => (congrFun (STEP_main_v30_7 (F := Ideal) V) _).trans (step7_apply H hn h κ v)
  c8 := fun j h r v hj => by
    refine (congrFun (STEP_main_v30_8 (F := Ideal) V) _).trans ?_
    refine (put_apply (X8 V) (res_main_while0b_v49 (F := Ideal) V) _ (rev n) (start_eq H hn) j h r v).trans ?_
    by_cases e : j = rev n
    · rw [if_pos e, v49_apply H hn, e]
      have : 127 - (rev n).val = n := by show 127 - (127 - n) = n; omega
      rw [this]
    · rw [if_neg e]
      refine H.c8 j h r v ?_
      have : j.val ≠ 127 - n := fun he => e (Fin.ext he)
      omega
  c9 := fun j h r v hj => by
    refine (congrFun (STEP_main_v30_9 (F := Ideal) V) _).trans ?_
    refine (put_apply (X9 V) (X7 V) _ (rev n) (start_eq H hn) j h r v).trans ?_
    by_cases e : j = rev n
    · rw [if_pos e, H.c7, e]
      have : 127 - (rev n).val = n := by show 127 - (127 - n) = n; omega
      rw [this]
    · rw [if_neg e]
      refine H.c9 j h r v ?_
      have : j.val ≠ 127 - n := fun he => e (Fin.ext he)
      omega

end Step

variable (m : (ℓ : Loc nD τ sig) → Buf (Elt Ideal) ℓ)

/-- At the loop's entry no chunk is visited. -/
theorem inv_zero (c : Dev nD) : Inv (ins m c) 0 (entryContents preI m c) where
  c0 := fun j h r v => (congrFun (entry0 m c) _).trans (chunks_apply (B5 m c) j h r v)
  c1 := fun j h => by
    refine (congrFun (entry1 m c) _).trans ?_
    rw [broadcastInDim_apply _ _ _ (ix4 j h (0 : Fin 1) (0 : Fin 1)) (ix2 j h) (fun a => match a with
      | ⟨0, _⟩ => rfl
      | ⟨1, _⟩ => rfl)]
    exact congrArg Ideal.exp (last_apply (B2 m c) j h)
  c2 := fun j h r v => by
    refine (congrFun (entry2 m c) _).trans ?_
    refine congrArg₂ (fun x y : Ideal .f32 => (x * y : EReal)) (chunks_apply (B1 m c) j h r v) ?_
    refine (over_apply _ j h r v).trans (congrArg Ideal.exp ?_)
    exact congrArg₂ (fun x y : Ideal .f32 => (x - y : EReal)) ((spread_apply _ j h r).trans (last_apply (B2 m c) j h))
      (decay_apply (B2 m c) j h r)
  c3 := fun j h r v => (congrFun (entry3 m c) _).trans (heads_apply (B4 m c) j h r v)
  c4 := fun j h r v => by
    refine (congrFun (entry4 m c) _).trans ?_
    refine congrArg₂ (fun x y : Ideal .f32 => (x * y : EReal)) (chunks_apply (B0 m c) j h r v) ?_
    exact (over_apply _ j h r v).trans (congrArg Ideal.exp (decay_apply (B2 m c) j h r))
  c5 := fun j h r v => (congrFun (entry5 m c) _).trans (heads_apply (B3 m c) j h r v)
  c6 := ctr_entry m c
  c7 := fun h κ v => by
    refine (congrFun (entry7 m c) _).trans ?_
    rw [broadcastInDim_apply _ _ _ (ix3 h κ v) (fun a => a.elim0) (fun a => a.elim0)]
    exact Ideal.ofBits_zero_f32
  c8 := fun j h r v hj => absurd j.isLt (by omega)
  c9 := fun j h r v hj => absurd j.isLt (by omega)

/-- After `n` trips `n` chunks are visited. -/
theorem inv_iter (c : Dev nD) : ∀ n, n ≤ 128 → Inv (ins m c) n ((STEP (F := Ideal))^[n] (entryContents preI m c))
  | 0, _ => inv_zero m c
  | n + 1, hn => by
    rw [Function.iterate_succ_apply']
    exact step_inv (inv_iter c n (by omega)) (by omega)

/-- The reference's first result. -/
theorem out32 (c : Dev nD) (h : Fin 8) (s : Fin 8192) (v : Fin 64) :
    (out_main_v32 (F := Ideal) ((STEP (F := Ideal))^[128] (entryContents preI m c)) : FVec Ideal S8x8192x64 .f32) (ix3 h s v)
      = Cert.Scan.dsn (ins m c) h s v :=
  (back_apply _ h s v).trans ((inv_iter m c 128 (le_refl _)).c9 _ _ _ _ (Nat.zero_le _))

/-- The reference's second result. -/
theorem out34 (c : Dev nD) (h : Fin 8) (s : Fin 8192) (v : Fin 64) :
    (out_main_v34 (F := Ideal) ((STEP (F := Ideal))^[128] (entryContents preI m c)) : FVec Ideal S8x8192x64 .f32) (ix3 h s v)
      = Cert.Scan.dvn (ins m c) h s v :=
  (back_apply _ h s v).trans ((inv_iter m c 128 (le_refl _)).c8 _ _ _ _ (Nat.zero_le _))

end Cert.ReferenceIdeal.Scan
end
-- ==== Proof.BlockSums.lean ====
module

public import Mathlib.Data.EReal.Operations
public import Mathlib.Algebra.BigOperators.Fin

@[expose] public section

noncomputable section

namespace Cert.Sums

open scoped BigOperators

/-- A finite family of extended reals, continued by zero past its end. -/
def ext {n : ℕ} (f : Fin n → EReal) (k : ℕ) : EReal := if h : k < n then f ⟨k, h⟩ else 0

theorem ext_of_lt {n : ℕ} (f : Fin n → EReal) (k : ℕ) (h : k < n) : ext f k = f ⟨k, h⟩ := dif_pos h

/-- A partial sum grows by the next block's sum. -/
theorem range_add {n : ℕ} (f : Fin n → EReal) (a b : ℕ) :
    ∑ k ∈ Finset.range (a + b), ext f k = ∑ k ∈ Finset.range a, ext f k + ∑ r : Fin b, ext f (a + r.val) := by
  rw [Finset.sum_range_add, Finset.sum_range (fun x => ext f (a + x))]

/-- The first block's sum is a partial sum. -/
theorem range_first {n : ℕ} (f : Fin n → EReal) (b : ℕ) :
    ∑ k ∈ Finset.range b, ext f k = ∑ r : Fin b, ext f r.val := Finset.sum_range _

/-- The whole partial sum is the sum of the family. -/
theorem range_all {n : ℕ} (f : Fin n → EReal) : ∑ k ∈ Finset.range n, ext f k = ∑ k : Fin n, f k := by
  rw [Finset.sum_range]
  exact Finset.sum_congr rfl fun k _ => ext_of_lt f k.val k.isLt

end Cert.Sums
end
-- ==== Proof.Silu.lean ====
/- The logistic function by way of tanh, and the slope of silu, over the extended reals. -/
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Tactic
public import Mathlib.Analysis.SpecialFunctions.Trigonometric.DerivHyp
public import Mathlib.Analysis.Complex.Trigonometric

@[expose] public section

noncomputable section

namespace Cert.Silu

open Idealize.ShloMosaic

/-- The word of one half. -/
theorem half : Ideal.ofBits .f32 0x3F000000#32 = ((1 / 2 : ℝ) : EReal) := by
  have h : ((0x3F000000#32 : BitVec 32)).toNat = 0x3F000000 := rfl
  simp [Ideal.ofBits, Ideal.ieee]
  norm_cast
  norm_num

/-- The logistic function over the reals by way of tanh. -/
theorem real_sigmoid (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; ring_nf
  have h : Real.exp (1 / 2 * r) * Real.exp (-(1 / 2 * r)) = 1 := by rw [← Real.exp_add]; simp
  rw [e]
  have p := Real.exp_pos (1 / 2 * r)
  have q := Real.exp_pos (-(1 / 2 * r))
  have hq : Real.exp (1 / 2 * r) = (Real.exp (-(1 / 2 * r)))⁻¹ := eq_inv_of_mul_eq_one_left h
  generalize Real.exp (-(1 / 2 * r)) = b at *
  rw [hq]
  field_simp
  ring

/-- The logistic function over the extended reals by way of tanh. -/
theorem sigmoid (x : EReal) : ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, show (-1 : EReal) = ((-1 : ℝ) : EReal) from rfl]
    rw [← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, real_sigmoid]

/-- The slope of silu in its two forms: where the cotangent is finite. -/
theorem slope (x c : EReal) (hb : c ≠ ⊥) (ht : c ≠ ⊤) :
    c * (Ideal.logistic x * (1 + x * (1 - Ideal.logistic x)))
      = c * Ideal.logistic x + x * c * (Ideal.logistic x * (1 - Ideal.logistic x)) := by
  lift c to ℝ using ⟨ht, hb⟩
  induction x using EReal.rec with
  | bot => rw [Ideal.logistic_bot]; simp
  | top =>
    rw [Ideal.logistic_top]
    have h : (1 : EReal) - 1 = 0 := by rw [← EReal.coe_one, ← EReal.coe_sub, sub_self, EReal.coe_zero]
    simp [h]
  | coe r =>
    rw [Ideal.logistic_coe]
    norm_cast
    ring_nf

/-- The gradient by the gate's product `x`: the cotangent `d` times `u` times silu's slope. -/
def dgate (x u d : EReal) : EReal := d * u * (Ideal.logistic x * (1 + x * (1 - Ideal.logistic x)))
/-- The gradient by the other product: the cotangent `d` times silu of `x`. -/
def dup (x d : EReal) : EReal := d * (x * Ideal.logistic x)
/-- The gated product. -/
def act (x u : EReal) : EReal := x * Ideal.logistic x * u

end Cert.Silu
end
-- ==== Proof.FfnActKernel.lean ====
/- The feed-forward part's activation gradients: what the kernel leaves in its three results. -/
module

public import proofs.«01_k».proof.Proof.Gen.Kernel3Ideal.Value
public import proofs.«01_k».proof.Proof.BlockSums
public import proofs.«01_k».proof.Proof.Silu
public import Idealize.ShloMosaic.Lib.ValueIdx
public import Idealize.ShloMosaic.Lib.ValueLayout
public import Idealize.ShloMosaic.PureOps.Ideal
public import Idealize.ShloMosaic.PureOps.Ideal.Laws
public import Idealize.ShloMosaic.Lib.Tactic

@[expose] public section

set_option maxRecDepth 16384

noncomputable section

namespace Cert.Kernel3Ideal.FfnAct

open Cert.Kernel3Ideal Cert.Kernel3Ideal.Gen Idealize.ShloMosaic Idealize.ShloMosaic.TcCoe Idealize.SL.Sem
open Idealize.ShloMosaic.ValueIdx
open Cert.Sums
open scoped BigOperators

variable (m : (ℓ : Loc nD τ sig) → Buf (Elt Ideal) ℓ)

theorem hz : (![0, 0] : Fin 2 → Nat) = fun _ => 0 := funext fun a => by fin_cases a <;> rfl

/-- A block's product with another's transpose, both contracted along their columns, read at an entry. -/
theorem nt_apply {φ₁ φ₂ : FTy} (A : FVec Ideal S512x1024 φ₁) (B : FVec Ideal S1408x1024 φ₂) (acc : FVec Ideal S512x1408 .f32)
    (i : Fin 512) (j : Fin 1408) :
    matmul dot_S512x1024_S1408x1024_S512x1408_1_1_0_0_n_n none A B acc (ix2 i j) = acc (ix2 i j) + ∑ r : Fin 1024, A (ix2 i r) * B (ix2 j r) := by
  show FloatOps.matmul _ none A B acc (ix2 i j) = _
  rw [Ideal.matmul_apply, ← Equiv.sum_comp (contrEquiv1 dot_S512x1024_S1408x1024_S512x1408_1_1_0_0_n_n 1024 rfl rfl).symm]
  refine congrArg (acc (ix2 i j) + ·) (Finset.sum_congr rfl fun r _ => ?_)
  have hk := contrEquiv1_symm_val dot_S512x1024_S1408x1024_S512x1408_1_1_0_0_n_n 1024 rfl rfl r
  have el : dot_S512x1024_S1408x1024_S512x1408_1_1_0_0_n_n.lhsIdx (ix2 i j) ((contrEquiv1 dot_S512x1024_S1408x1024_S512x1408_1_1_0_0_n_n 1024 rfl rfl).symm r) = ix2 i r := by
    funext a; apply Fin.ext
    match a with
    | ⟨0, _⟩ => rfl
    | ⟨1, _⟩ => exact hk
  have er : dot_S512x1024_S1408x1024_S512x1408_1_1_0_0_n_n.rhsIdx (ix2 i j) ((contrEquiv1 dot_S512x1024_S1408x1024_S512x1408_1_1_0_0_n_n 1024 rfl rfl).symm r) = ix2 j r := by
    funext a; apply Fin.ext
    match a with
    | ⟨0, _⟩ => rfl
    | ⟨1, _⟩ => exact hk
  rw [el, er]

/-- The product of a block's transpose with another, both contracted along their rows, read at an entry. -/
theorem tn_apply {φ₁ φ₂ : FTy} (A : FVec Ideal S512x1408 φ₁) (B : FVec Ideal S512x1024 φ₂) (acc : FVec Ideal S1408x1024 .f32)
    (i : Fin 1408) (j : Fin 1024) :
    matmul dot_S512x1408_S512x1024_S1408x1024_0_0_1_1_n_n none A B acc (ix2 i j) = acc (ix2 i j) + ∑ r : Fin 512, A (ix2 r i) * B (ix2 r j) := by
  show FloatOps.matmul _ none A B acc (ix2 i j) = _
  rw [Ideal.matmul_apply, ← Equiv.sum_comp (contrEquiv1 dot_S512x1408_S512x1024_S1408x1024_0_0_1_1_n_n 512 rfl rfl).symm]
  refine congrArg (acc (ix2 i j) + ·) (Finset.sum_congr rfl fun r _ => ?_)
  have hk := contrEquiv1_symm_val dot_S512x1408_S512x1024_S1408x1024_0_0_1_1_n_n 512 rfl rfl r
  have el : dot_S512x1408_S512x1024_S1408x1024_0_0_1_1_n_n.lhsIdx (ix2 i j) ((contrEquiv1 dot_S512x1408_S512x1024_S1408x1024_0_0_1_1_n_n 512 rfl rfl).symm r) = ix2 r i := by
    funext a; apply Fin.ext
    match a with
    | ⟨0, _⟩ => exact hk
    | ⟨1, _⟩ => rfl
  have er : dot_S512x1408_S512x1024_S1408x1024_0_0_1_1_n_n.rhsIdx (ix2 i j) ((contrEquiv1 dot_S512x1408_S512x1024_S1408x1024_0_0_1_1_n_n 512 rfl rfl).symm r) = ix2 r j := by
    funext a; apply Fin.ext
    match a with
    | ⟨0, _⟩ => exact hk
    | ⟨1, _⟩ => rfl
  rw [el, er]

theorem out_A_5 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : cond0_0 i) (hc1 : ¬cond0_1 i) (x0 : Vec Ideal S512x1024 .f32) (x1 : Vec Ideal S1x1024 .f32) (x2 x3 : Vec Ideal S512x1408 .bf16) (x4 : Vec Ideal S1408x1024 .bf16) :
    out0_A_5 c i a2 h2 a3 h3 a4 h4 a5 h5 a6 h6 a7 h7 a8 h8 a9 h9 hc0 hc1 x0 x1 x2 x3 x4 = k0_pay8 x1 x0 x2 x3 x4 := by
  unfold out0_A_5
  rw [View.read_writes_eq_canon _ _ _ (cover0_A_5 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

theorem out_A_6 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : cond0_0 i) (hc1 : ¬cond0_1 i) (x0 : Vec Ideal S512x1024 .f32) (x1 : Vec Ideal S1x1024 .f32) (x2 x3 : Vec Ideal S512x1408 .bf16) (x4 : Vec Ideal S1408x1024 .bf16) :
    out0_A_6 c i a2 h2 a3 h3 a4 h4 a5 h5 a6 h6 a7 h7 a8 h8 a9 h9 hc0 hc1 x0 x1 x2 x3 x4 = k0_pay9 x1 x0 x2 x4 := by
  unfold out0_A_6
  rw [View.read_writes_eq_canon _ _ _ (cover0_A_6 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

theorem out_A_7 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : cond0_0 i) (hc1 : ¬cond0_1 i) (x0 : Vec Ideal S512x1024 .f32) (x1 : Vec Ideal S1x1024 .f32) (x2 x3 : Vec Ideal S512x1408 .bf16) (x4 : Vec Ideal S1408x1024 .bf16) :
    out0_A_7 c i a2 h2 a3 h3 a4 h4 a5 h5 a6 h6 a7 h7 a8 h8 a9 h9 hc0 hc1 x0 x1 x2 x3 x4 = k0_pay10 x1 x0 x2 x3 := by
  unfold out0_A_7
  rw [View.read_writes_eq_canon _ _ _ (cover0_A_7 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

theorem out_B_5 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : ¬cond0_0 i) (hc1 : cond0_1 i) (x0 : Vec Ideal S512x1024 .f32) (x1 : Vec Ideal S1x1024 .f32) (x2 x3 : Vec Ideal S512x1408 .bf16) (x4 : Vec Ideal S1408x1024 .bf16) (xo : Vec Ideal S1408x1024 .f32) :
    out0_B_5 c i a2 h2 a3 h3 a4 h4 a5 h5 a6 h6 a7 h7 a8 h8 a9 h9 hc0 hc1 x0 x1 x2 x3 x4 xo = k0_pay8 x1 x0 x2 x3 x4 := by
  unfold out0_B_5
  rw [View.read_writes_eq_canon _ _ _ (cover0_B_5 c i a2 h2 a3 h3 a4 h4 a5 h5 a6 h6 a7 h7 a8 h8 a9 h9 hc0 hc1 x0 x1 x2 x3 x4 xo)]
  unfold kernelRun0_B
  dsimp only
  sl_unfold_words
  rw [View.canon_unit_zero hz]
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

theorem out_B_6 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : ¬cond0_0 i) (hc1 : cond0_1 i) (x0 : Vec Ideal S512x1024 .f32) (x1 : Vec Ideal S1x1024 .f32) (x2 x3 : Vec Ideal S512x1408 .bf16) (x4 : Vec Ideal S1408x1024 .bf16) (xo : Vec Ideal S1408x1024 .f32) :
    out0_B_6 c i a2 h2 a3 h3 a4 h4 a5 h5 a6 h6 a7 h7 a8 h8 a9 h9 hc0 hc1 x0 x1 x2 x3 x4 xo = k0_pay9 x1 x0 x2 x4 := by
  unfold out0_B_6
  rw [View.read_writes_eq_canon _ _ _ (cover0_B_6 c i a2 h2 a3 h3 a4 h4 a5 h5 a6 h6 a7 h7 a8 h8 a9 h9 hc0 hc1 x0 x1 x2 x3 x4 xo)]
  unfold kernelRun0_B
  dsimp only
  sl_unfold_words
  rw [View.canon_unit_zero hz]
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

theorem out_B_7 (c : Dev nD) (i : grid0.Coords) (a2 : Memref sig .tc .vmem S512x1024 .f32) (h2 : a2.IsWhole)
    (a3 : Memref sig .tc .vmem S1x1024 .f32) (h3 : a3.IsWhole) (a4 : Memref sig .tc .vmem S512x1408 .bf16) (h4 : a4.IsWhole)
    (a5 : Memref sig .tc .vmem S512x1408 .bf16) (h5 : a5.IsWhole) (a6 : Memref sig .tc .vmem S1408x1024 .bf16) (h6 : a6.IsWhole)
    (a7 : Memref sig .tc .vmem S512x1408 .bf16) (h7 : a7.IsWhole) (a8 : Memref sig .tc .vmem S512x1408 .bf16) (h8 : a8.IsWhole)
    (a9 : Memref sig .tc .vmem S1408x1024 .f32) (h9 : a9.IsWhole)
    (hc0 : ¬cond0_0 i) (hc1 : cond0_1 i) (x0 : Vec Ideal S512x1024 .f32) (x1 : Vec Ideal S1x1024 .f32) (x2 x3 : Vec Ideal S512x1408 .bf16) (x4 : Vec Ideal S1408x1024 .bf16) (xo : Vec Ideal S1408x1024 .f32) :
    out0_B_7 c i a2 h2 a3 h3 a4 h4 a5 h5 a6 h6 a7 h7 a8 h8 a9 h9 hc0 hc1 x0 x1 x2 x3 x4 xo = addf xo (k0_pay10 x1 x0 x2 x3) := by
  unfold out0_B_7
  rw [View.read_writes_eq_canon _ _ _ (cover0_B_7 c i a2 h2 a3 h3 a4 h4 a5 h5 a6 h6 a7 h7 a8 h8 a9 h9 hc0 hc1 x0 x1 x2 x3 x4 xo)]
  unfold kernelRun0_B
  dsimp only
  sl_unfold_words
  rw [View.canon_unit_zero hz]
  unfold k0_pay1
  simp only [View.readAt_eq_ld, h2.read_unread, h3.read_unread, h4.read_unread, h5.read_unread, h6.read_unread, h9.read_unread,
    View.ld_unit_zero (S := S512x1024) hz, View.ld_unit_zero (S := S1x1024) hz, View.ld_unit_zero (S := S512x1408) hz,
    View.ld_unit_zero (S := S1408x1024) hz, shapeCast_self]

/-- The gradient's rows that a product reads: gate times cotangent. -/
theorem pay2_apply (g : Vec Ideal S1x1024 .f32) (d : Vec Ideal S512x1024 .f32) (i : Fin 512) (k : Fin 1024) :
    k0_pay2 g d (ix2 i k) = g (ix2 0 k) * d (ix2 i k) := by
  unfold k0_pay2
  show broadcastTo S512x1024 g broadcasts_S1x1024_S512x1024 (ix2 i k) * d (ix2 i k) = _
  rw [broadcastTo_apply g _ (ix2 i k) (ix2 0 k) (fun a => match a with
    | ⟨0, _⟩ => rfl
    | ⟨1, _⟩ => rfl)]

/-- The cotangent of the gated product, read at an entry. -/
theorem pay5_apply (g : Vec Ideal S1x1024 .f32) (d : Vec Ideal S512x1024 .f32) (w : Vec Ideal S1408x1024 .bf16) (i : Fin 512) (j : Fin 1408) :
    k0_pay5 g d w (ix2 i j) = ∑ k : Fin 1024, (g (ix2 0 k) * d (ix2 i k)) * w (ix2 j k) := by
  unfold k0_pay5
  refine (nt_apply (k0_pay2 g d) w _ i j).trans ?_
  rw [show (constant S512x1408 .f32 0x00000000#32 : FVec Ideal S512x1408 .f32) (ix2 i j) = 0 from Ideal.ofBits_zero_f32, zero_add]
  exact Finset.sum_congr rfl fun k _ => congrArg (fun a : EReal => a * w (ix2 j k)) (pay2_apply g d i k)

/-- The logistic function of the gate's product. -/
theorem pay6_apply (x : Vec Ideal S512x1408 .bf16) (y : S512x1408.Idx) : k0_pay6 x y = Ideal.logistic (x y) := by
  unfold k0_pay6 k0_pay3
  show Ideal.ofBits .f32 0x3F000000#32 * Ideal.tanh (Ideal.ofBits .f32 0x3F000000#32 * x y) + Ideal.ofBits .f32 0x3F000000#32 = _
  rw [Silu.half, Silu.sigmoid]

/-- A block of the first result at an entry. -/
theorem pay8_apply (g : Vec Ideal S1x1024 .f32) (d : Vec Ideal S512x1024 .f32) (x u : Vec Ideal S512x1408 .bf16) (w : Vec Ideal S1408x1024 .bf16)
    (i : Fin 512) (j : Fin 1408) :
    k0_pay8 g d x u w (ix2 i j) = Silu.dgate (x (ix2 i j)) (u (ix2 i j)) (∑ k : Fin 1024, (g (ix2 0 k) * d (ix2 i k)) * w (ix2 j k)) := by
  unfold k0_pay8 k0_pay3 k0_pay4
  show (k0_pay5 g d w (ix2 i j) * u (ix2 i j)) * (k0_pay6 x (ix2 i j) * (Ideal.ofBits .f32 0x3F800000#32
    + x (ix2 i j) * (Ideal.ofBits .f32 0x3F800000#32 - k0_pay6 x (ix2 i j)))) = _
  rw [pay5_apply, pay6_apply, Ideal.ofBits_one_f32]
  rfl

/-- A block of the second result at an entry. -/
theorem pay9_apply (g : Vec Ideal S1x1024 .f32) (d : Vec Ideal S512x1024 .f32) (x : Vec Ideal S512x1408 .bf16) (w : Vec Ideal S1408x1024 .bf16)
    (i : Fin 512) (j : Fin 1408) :
    k0_pay9 g d x w (ix2 i j) = Silu.dup (x (ix2 i j)) (∑ k : Fin 1024, (g (ix2 0 k) * d (ix2 i k)) * w (ix2 j k)) := by
  unfold k0_pay9 k0_pay7 k0_pay3
  show k0_pay5 g d w (ix2 i j) * (x (ix2 i j) * k0_pay6 x (ix2 i j)) = _
  rw [pay5_apply, pay6_apply]
  rfl

/-- A point's part of the third result at an entry. -/
theorem pay10_apply (g : Vec Ideal S1x1024 .f32) (d : Vec Ideal S512x1024 .f32) (x u : Vec Ideal S512x1408 .bf16) (i : Fin 1408) (j : Fin 1024) :
    k0_pay10 g d x u (ix2 i j) = ∑ r : Fin 512, Silu.act (x (ix2 r i)) (u (ix2 r i)) * (g (ix2 0 j) * d (ix2 r j)) := by
  unfold k0_pay10
  refine (tn_apply _ (k0_pay2 g d) _ i j).trans ?_
  rw [show (constant S1408x1024 .f32 0x00000000#32 : FVec Ideal S1408x1024 .f32) (ix2 i j) = 0 from Ideal.ofBits_zero_f32, zero_add]
  refine Finset.sum_congr rfl fun r _ => congrArg₂ (fun a b : EReal => a * b) ?_ (pay2_apply g d r j)
  unfold k0_pay7 k0_pay3 k0_pay4
  show (x (ix2 r i) * k0_pay6 x (ix2 r i)) * u (ix2 r i) = _
  rw [pay6_apply]
  rfl

/-- The arguments' arrays and the blocks that a point reads of them. -/
abbrev A0 (c : Dev nD) : FVec Ideal S8192x1024 .f32 := m ((c : Thread nD τ).loc main_arg0)
abbrev A1 (c : Dev nD) : FVec Ideal S8192x2816 .bf16 := m ((c : Thread nD τ).loc main_arg1)
abbrev A2 (c : Dev nD) : FVec Ideal S8192x2816 .bf16 := m ((c : Thread nD τ).loc main_arg2)
abbrev A3 (c : Dev nD) : FVec Ideal S2816x1024 .bf16 := m ((c : Thread nD τ).loc main_arg3)
abbrev A4 (c : Dev nD) : FVec Ideal S1x1024 .f32 := m ((c : Thread nD τ).loc main_arg4)
abbrev X0 (c : Dev nD) (t : Fin cfg0.N) : Vec Ideal S512x1024 .f32 := iblk m c 0 t
abbrev X1 (c : Dev nD) (t : Fin cfg0.N) : Vec Ideal S1x1024 .f32 := iblk m c 1 t
abbrev X2 (c : Dev nD) (t : Fin cfg0.N) : Vec Ideal S512x1408 .bf16 := iblk m c 2 t
abbrev X3 (c : Dev nD) (t : Fin cfg0.N) : Vec Ideal S512x1408 .bf16 := iblk m c 3 t
abbrev X4 (c : Dev nD) (t : Fin cfg0.N) : Vec Ideal S1408x1024 .bf16 := iblk m c 4 t

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val % 16 ∧ win0_2.index t 1 = t.val / 16 :=
  (by decide +kernel : ∀ t : Fin grid0.N, win0_2.index t 0 = t.val % 16 ∧ win0_2.index t 1 = t.val / 16)
theorem idx3 : ∀ t : Fin cfg0.N, win0_3.index t 0 = t.val % 16 ∧ win0_3.index t 1 = t.val / 16 :=
  (by decide +kernel : ∀ t : Fin grid0.N, win0_3.index t 0 = t.val % 16 ∧ win0_3.index t 1 = t.val / 16)
theorem idx4 : ∀ t : Fin cfg0.N, win0_4.index t 0 = t.val / 16 ∧ win0_4.index t 1 = 0 :=
  (by decide +kernel : ∀ t : Fin grid0.N, win0_4.index t 0 = t.val / 16 ∧ win0_4.index t 1 = 0)
theorem idx5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)
theorem idx6 : ∀ t : Fin cfg0.N, win0_6.index t 0 = t.val % 16 ∧ win0_6.index t 1 = t.val / 16 :=
  (by decide +kernel : ∀ t : Fin grid0.N, win0_6.index t 0 = t.val % 16 ∧ win0_6.index t 1 = t.val / 16)
theorem idx7 : ∀ t : Fin cfg0.N, win0_7.index t 0 = t.val / 16 ∧ win0_7.index t 1 = 0 :=
  (by decide +kernel : ∀ t : Fin grid0.N, win0_7.index t 0 = t.val / 16 ∧ win0_7.index t 1 = 0)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)
theorem flush7 : ∀ t : Fin cfg0.N, (cfg0.win 7).flush t = true ↔ t.val % 16 = 15 :=
  (by decide +kernel : ∀ t : Fin grid0.N, win0_7.flush t = true ↔ t.val % 16 = 15)

theorem tlt (t : Fin cfg0.N) : t.val < 32 := lt_of_lt_of_eq t.isLt (show cfg0.N = 32 from N_0)
/-- The hidden feature of a block's column, and the token of a block's row, in the whole arrays. -/
def hid (t : Fin cfg0.N) (j : Fin 1408) : Fin 2816 := ⟨1408 * (t.val / 16) + j.val, by have := tlt t; omega⟩
def tok (t : Fin cfg0.N) (r : Fin 512) : Fin 8192 := ⟨512 * (t.val % 16) + r.val, by omega⟩

theorem blk0 (c : Dev nD) (t : Fin cfg0.N) (a : Fin 512) (b : Fin 1024) : X0 m c t (ix2 a b) = A0 m c (ix2 (tok t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 512 + 1 * a.val = 512 * (t.val % 16) + a.val; rw [(idx0 t).1]; omega
  | ⟨1, _⟩ => show win0_0.index t 1 * 1024 + 1 * b.val = b.val; rw [(idx0 t).2]; omega

theorem blk1 (c : Dev nD) (t : Fin cfg0.N) (a : Fin 1) (b : Fin 1024) : X1 m c t (ix2 a b) = A4 m c (ix2 a b) := by
  show iblk m c 1 t (ix2 a b) = _
  unfold iblk
  rw [View.read_apply]
  refine (congrArg (V m c main_arg4) (funext fun z => Fin.ext ?_)).trans (congrFun (V_main_arg4 m c) _)
  match z with
  | ⟨0, _⟩ => show win0_1.index t 0 * 1 + 1 * a.val = a.val; rw [(idx1 t).1]; omega
  | ⟨1, _⟩ => show win0_1.index t 1 * 1024 + 1 * b.val = b.val; rw [(idx1 t).2]; omega

theorem blk2 (c : Dev nD) (t : Fin cfg0.N) (a : Fin 512) (b : Fin 1408) : X2 m c t (ix2 a b) = A1 m c (ix2 (tok t a) (hid t b)) := by
  show iblk m c 2 t (ix2 a b) = _
  unfold iblk
  rw [View.read_apply]
  refine (congrArg (V m c main_arg1) (funext fun z => Fin.ext ?_)).trans (congrFun (V_main_arg1 m c) _)
  match z with
  | ⟨0, _⟩ => show win0_2.index t 0 * 512 + 1 * a.val = 512 * (t.val % 16) + a.val; rw [(idx2 t).1]; omega
  | ⟨1, _⟩ => show win0_2.index t 1 * 1408 + 1 * b.val = 1408 * (t.val / 16) + b.val; rw [(idx2 t).2]; omega

theorem blk3 (c : Dev nD) (t : Fin cfg0.N) (a : Fin 512) (b : Fin 1408) : X3 m c t (ix2 a b) = A2 m c (ix2 (tok t a) (hid t b)) := by
  show iblk m c 3 t (ix2 a b) = _
  unfold iblk
  rw [View.read_apply]
  refine (congrArg (V m c main_arg2) (funext fun z => Fin.ext ?_)).trans (congrFun (V_main_arg2 m c) _)
  match z with
  | ⟨0, _⟩ => show win0_3.index t 0 * 512 + 1 * a.val = 512 * (t.val % 16) + a.val; rw [(idx3 t).1]; omega
  | ⟨1, _⟩ => show win0_3.index t 1 * 1408 + 1 * b.val = 1408 * (t.val / 16) + b.val; rw [(idx3 t).2]; omega

theorem blk4 (c : Dev nD) (t : Fin cfg0.N) (a : Fin 1408) (b : Fin 1024) : X4 m c t (ix2 a b) = A3 m c (ix2 (hid t a) b) := by
  show iblk m c 4 t (ix2 a b) = _
  unfold iblk
  rw [View.read_apply]
  refine (congrArg (V m c main_arg3) (funext fun z => Fin.ext ?_)).trans (congrFun (V_main_arg3 m c) _)
  match z with
  | ⟨0, _⟩ => show win0_4.index t 0 * 1408 + 1 * a.val = 1408 * (t.val / 16) + a.val; rw [(idx4 t).1]; omega
  | ⟨1, _⟩ => show win0_4.index t 1 * 1024 + 1 * b.val = b.val; rw [(idx4 t).2]; omega

/-- The cotangent of the gated product, from the arguments. -/
def dact (c : Dev nD) (s : Fin 8192) (f : Fin 2816) : EReal := ∑ k : Fin 1024, (A4 m c (ix2 0 k) * A0 m c (ix2 s k)) * A3 m c (ix2 f k)
/-- The products that an entry of the third result sums, by token. -/
def term (c : Dev nD) (f : Fin 2816) (j : Fin 1024) (s : Fin 8192) : EReal :=
  Silu.act (A1 m c (ix2 s f)) (A2 m c (ix2 s f)) * (A4 m c (ix2 0 j) * A0 m c (ix2 s j))

theorem dact_blk (c : Dev nD) (t : Fin cfg0.N) (i : Fin 512) (j : Fin 1408) :
    (∑ k : Fin 1024, (X1 m c t (ix2 0 k) * X0 m c t (ix2 i k)) * X4 m c t (ix2 j k)) = dact m c (tok t i) (hid t j) := by
  unfold dact
  refine Finset.sum_congr rfl fun k _ => ?_
  rw [blk0, blk1, blk4]

/-- The three results. -/
def result5 (c : Dev nD) : FVec Ideal S8192x2816 .bf16 := fun y =>
  Silu.dgate (A1 m c (ix2 (y 0) (y 1))) (A2 m c (ix2 (y 0) (y 1))) (dact m c (y 0) (y 1))
def result6 (c : Dev nD) : FVec Ideal S8192x2816 .bf16 := fun y => Silu.dup (A1 m c (ix2 (y 0) (y 1))) (dact m c (y 0) (y 1))
def result7 (c : Dev nD) : FVec Ideal S2816x1024 .f32 := fun y => ∑ s : Fin 8192, term m c (y 0) (y 1) s

theorem outs5_eq (c : Dev nD) (t : Fin cfg0.N) : (outsAt0 m c t.val t.isLt).1 = k0_pay8 (X1 m c t) (X0 m c t) (X2 m c t) (X3 m c t) (X4 m c t) := by
  by_cases h0 : t.val % 16 = 0
  · rw [outsAt0_A m c t h0 (by omega)]; dsimp only; exact out_A_5 ..
  · rw [outsAt0_B m c t h0 (by omega)]; dsimp only; exact out_B_5 ..

theorem outs6_eq (c : Dev nD) (t : Fin cfg0.N) : (outsAt0 m c t.val t.isLt).2.1 = k0_pay9 (X1 m c t) (X0 m c t) (X2 m c t) (X4 m c t) := by
  by_cases h0 : t.val % 16 = 0
  · rw [outsAt0_A m c t h0 (by omega)]; dsimp only; exact out_A_6 ..
  · rw [outsAt0_B m c t h0 (by omega)]; dsimp only; exact out_B_6 ..

/-- A point's product is its token block's part of the sum. -/
theorem part_eq (c : Dev nD) (t : Fin cfg0.N) (i : Fin 1408) (j : Fin 1024) :
    k0_pay10 (X1 m c t) (X0 m c t) (X2 m c t) (X3 m c t) (ix2 i j)
      = ∑ r : Fin 512, ext (term m c (hid t i) j) (512 * (t.val % 16) + r.val) := by
  rw [pay10_apply]
  refine Finset.sum_congr rfl fun r _ => ?_
  rw [blk0, blk1, blk2, blk3]
  exact (ext_of_lt (term m c (hid t i) j) _ (tok t r).isLt).symm

/-- After each point the third result's block holds the sum over the tokens read so far. -/
theorem outs7_eq (c : Dev nD) : ∀ (n : ℕ) (h : n < cfg0.N) (i : Fin 1408) (j : Fin 1024),
    (outsAt0 m c n h).2.2 (ix2 i j) = ∑ k ∈ Finset.range (512 * (n % 16 + 1)), ext (term m c (hid ⟨n, h⟩ i) j) k := by
  intro n
  induction n with
  | zero =>
    intro h i j
    rw [show outsAt0 m c 0 h = _ from outsAt0_A m c ⟨0, h⟩ rfl (fun h' => absurd (show 1 ≤ 0 % 16 from h') (by decide))]
    dsimp only
    refine (congrFun (out_A_7 ..) _).trans ((part_eq m c ⟨0, h⟩ i j).trans ?_)
    rw [range_first]
    exact Finset.sum_congr rfl fun r _ => congrArg (ext _) (Nat.zero_add _)
  | succ n ih =>
    intro h i j
    by_cases h0 : (n + 1) % 16 = 0
    · rw [show outsAt0 m c (n + 1) h = _ from outsAt0_A m c ⟨n + 1, h⟩ h0 (by show ¬1 ≤ (n + 1) % 16; omega)]
      dsimp only
      refine (congrFun (out_A_7 ..) _).trans ((part_eq m c ⟨n + 1, h⟩ i j).trans ?_)
      rw [h0, range_first]
      refine Finset.sum_congr rfl fun r _ => congrArg (ext _) ?_
      exact Nat.zero_add _
    · rw [show outsAt0 m c (n + 1) h = _ from outsAt0_B m c ⟨n + 1, h⟩ h0 (by show 1 ≤ (n + 1) % 16; omega)]
      dsimp only
      have e1 : 512 * ((n + 1) % 16 + 1) = 512 * (n % 16 + 1) + 512 := by omega
      have e2 : 512 * ((n + 1) % 16) = 512 * (n % 16 + 1) := by omega
      have e3 : hid ⟨n, Nat.lt_of_succ_lt h⟩ i = hid ⟨n + 1, h⟩ i := Fin.ext (by
        show 1408 * (n / 16) + i.val = 1408 * ((n + 1) / 16) + i.val
        omega)
      refine (congrFun (out_B_7 ..) _).trans ?_
      rw [e1, range_add, ← e3]
      refine congrArg₂ (fun a b : EReal => a + b) (ih (Nat.lt_of_succ_lt h) i j) ((part_eq m c ⟨n + 1, h⟩ i j).trans ?_)
      refine Finset.sum_congr rfl fun r _ => ?_
      rw [← e3]
      refine congrArg (ext _) ?_
      show 512 * ((n + 1) % 16) + r.val = _
      rw [e2]

theorem flushed5_eq (c : Dev nD) (t : Fin cfg0.N) :
    (dats m 0 c).flushed 5 t = ((cfg0.win 5).blk t).view.read (Elt Ideal) (result5 m c) := by
  rw [Value.flushed5, outs5_eq]
  funext y
  rw [View.read_apply]
  refine Eq.trans ((congrArg (k0_pay8 (X1 m c t) (X0 m c t) (X2 m c t) (X3 m c t) (X4 m c t)) (ValueIdx.eq_ix2 y)).trans
    (pay8_apply _ _ _ _ _ (y 0) (y 1))) ?_
  refine (congrArg₂ (fun p d => Silu.dgate p.1 p.2 d) (congrArg₂ Prod.mk (blk2 m c t (y 0) (y 1)) (blk3 m c t (y 0) (y 1)))
    (dact_blk m c t (y 0) (y 1))).trans ?_
  refine congrArg₂ (fun s f => Silu.dgate (A1 m c (ix2 s f)) (A2 m c (ix2 s f)) (dact m c s f)) (Fin.ext ?_) (Fin.ext ?_)
  · show 512 * (t.val % 16) + (y 0).val = win0_5.index t 0 * 512 + 1 * (y 0).val; rw [(idx5 t).1]; omega
  · show 1408 * (t.val / 16) + (y 1).val = win0_5.index t 1 * 1408 + 1 * (y 1).val; rw [(idx5 t).2]; omega

theorem flushed6_eq (c : Dev nD) (t : Fin cfg0.N) :
    (dats m 0 c).flushed 6 t = ((cfg0.win 6).blk t).view.read (Elt Ideal) (result6 m c) := by
  rw [Value.flushed6, outs6_eq]
  funext y
  rw [View.read_apply]
  refine Eq.trans ((congrArg (k0_pay9 (X1 m c t) (X0 m c t) (X2 m c t) (X4 m c t)) (ValueIdx.eq_ix2 y)).trans
    (pay9_apply _ _ _ _ (y 0) (y 1))) ?_
  refine (congrArg₂ Silu.dup (blk2 m c t (y 0) (y 1)) (dact_blk m c t (y 0) (y 1))).trans ?_
  refine congrArg₂ (fun s f => Silu.dup (A1 m c (ix2 s f)) (dact m c s f)) (Fin.ext ?_) (Fin.ext ?_)
  · show 512 * (t.val % 16) + (y 0).val = win0_6.index t 0 * 512 + 1 * (y 0).val; rw [(idx6 t).1]; omega
  · show 1408 * (t.val / 16) + (y 1).val = win0_6.index t 1 * 1408 + 1 * (y 1).val; rw [(idx6 t).2]; omega

theorem flushed7_eq (c : Dev nD) (t : Fin cfg0.N) (hf : (cfg0.win 7).flush t = true) :
    (dats m 0 c).flushed 7 t = ((cfg0.win 7).blk t).view.read (Elt Ideal) (result7 m c) := by
  have h3 := (flush7 t).mp hf
  rw [Value.flushed7]
  funext y
  rw [View.read_apply]
  refine Eq.trans ((congrArg (outsAt0 m c t.val t.isLt).2.2 (ValueIdx.eq_ix2 y)).trans (outs7_eq m c t.val t.isLt (y 0) (y 1))) ?_
  rw [h3, show 512 * (15 + 1) = 8192 from rfl, range_all]
  refine congrArg₂ (fun i j => ∑ s : Fin 8192, term m c i j s) (Fin.ext ?_) (Fin.ext ?_)
  · show 1408 * (t.val / 16) + (y 0).val = win0_7.index t 0 * 1408 + 1 * (y 0).val; rw [(idx7 t).1]; omega
  · show (y 1).val = win0_7.index t 1 * 1024 + 1 * (y 1).val; rw [(idx7 t).2]; omega

theorem cover5 (i : S8192x2816.Idx) : ∃ t : Fin cfg0.N, (cfg0.win 5).flush t = true ∧ i ∈ ((View.whole main_v0_0).slice (win0_5.rect t)).set := by
  have h0 : (i 0 : Nat) < 8192 := (i 0).isLt
  have h1 : (i 1 : Nat) < 2816 := (i 1).isLt
  let t : Fin cfg0.N := ⟨16 * ((i 1 : Nat) / 1408) + (i 0 : Nat) / 512, by rw [show cfg0.N = 32 from N_0]; omega⟩
  have tv : t.val = 16 * ((i 1 : Nat) / 1408) + (i 0 : Nat) / 512 := rfl
  refine ⟨t, flush5 t, ?_⟩
  rw [View.set_slice_whole, Rect.mem_set_unit]
  intro a
  match a with
  | ⟨0, _⟩ =>
    show win0_5.index t 0 * 512 ≤ (i 0 : Nat) ∧ (i 0 : Nat) < win0_5.index t 0 * 512 + 512
    rw [(idx5 t).1]; omega
  | ⟨1, _⟩ =>
    show win0_5.index t 1 * 1408 ≤ (i 1 : Nat) ∧ (i 1 : Nat) < win0_5.index t 1 * 1408 + 1408
    rw [(idx5 t).2]; omega

theorem cover6 (i : S8192x2816.Idx) : ∃ t : Fin cfg0.N, (cfg0.win 6).flush t = true ∧ i ∈ ((View.whole main_v0_1).slice (win0_6.rect t)).set := by
  have h0 : (i 0 : Nat) < 8192 := (i 0).isLt
  have h1 : (i 1 : Nat) < 2816 := (i 1).isLt
  let t : Fin cfg0.N := ⟨16 * ((i 1 : Nat) / 1408) + (i 0 : Nat) / 512, by rw [show cfg0.N = 32 from N_0]; omega⟩
  have tv : t.val = 16 * ((i 1 : Nat) / 1408) + (i 0 : Nat) / 512 := rfl
  refine ⟨t, flush6 t, ?_⟩
  rw [View.set_slice_whole, Rect.mem_set_unit]
  intro a
  match a with
  | ⟨0, _⟩ =>
    show win0_6.index t 0 * 512 ≤ (i 0 : Nat) ∧ (i 0 : Nat) < win0_6.index t 0 * 512 + 512
    rw [(idx6 t).1]; omega
  | ⟨1, _⟩ =>
    show win0_6.index t 1 * 1408 ≤ (i 1 : Nat) ∧ (i 1 : Nat) < win0_6.index t 1 * 1408 + 1408
    rw [(idx6 t).2]; omega

theorem cover7 (i : S2816x1024.Idx) : ∃ t : Fin cfg0.N, (cfg0.win 7).flush t = true ∧ i ∈ ((View.whole main_v0_2).slice (win0_7.rect t)).set := by
  have h0 : (i 0 : Nat) < 2816 := (i 0).isLt
  have h1 : (i 1 : Nat) < 1024 := (i 1).isLt
  let t : Fin cfg0.N := ⟨16 * ((i 0 : Nat) / 1408) + 15, by rw [show cfg0.N = 32 from N_0]; omega⟩
  have tv : t.val = 16 * ((i 0 : Nat) / 1408) + 15 := rfl
  refine ⟨t, (flush7 t).mpr (by omega), ?_⟩
  rw [View.set_slice_whole, Rect.mem_set_unit]
  intro a
  match a with
  | ⟨0, _⟩ =>
    show win0_7.index t 0 * 1408 ≤ (i 0 : Nat) ∧ (i 0 : Nat) < win0_7.index t 0 * 1408 + 1408
    rw [(idx7 t).1]; omega
  | ⟨1, _⟩ =>
    show win0_7.index t 1 * 1024 ≤ (i 1 : Nat) ∧ (i 1 : Nat) < win0_7.index t 1 * 1024 + 1024
    rw [(idx7 t).2]; omega

/-- The three result arrays after the run. -/
theorem final5 (c : Dev nD) : (dats m 0 c).arrAt 5 cfg0.N = result5 m c :=
  (dats m 0 c).arrAt_eq_of_cover 5 (result5 m c) (fun t _ => flushed5_eq m c t) cover5
theorem final6 (c : Dev nD) : (dats m 0 c).arrAt 6 cfg0.N = result6 m c :=
  (dats m 0 c).arrAt_eq_of_cover 6 (result6 m c) (fun t _ => flushed6_eq m c t) cover6
theorem final7 (c : Dev nD) : (dats m 0 c).arrAt 7 cfg0.N = result7 m c :=
  (dats m 0 c).arrAt_eq_of_cover 7 (result7 m c) (flushed7_eq m c) cover7

end Cert.Kernel3Ideal.FfnAct
end
-- ==== Proof.FfnActRef.lean ====
/- The feed-forward part's activation gradients: the reference's three results at their entries. -/
module

public import proofs.«01_k».proof.Proof.Gen.Reference3Ideal.Run
public import proofs.«01_k».proof.Proof.Gen.Pre_finite
public import proofs.«01_k».proof.Proof.Silu
public import Idealize.ShloMosaic.Lib.ReduceAll
public import Idealize.ShloMosaic.Lib.ValueIdx
public import Idealize.ShloMosaic.Lib.ValueLayout
public import Idealize.ShloMosaic.Lib.Pipeline.Value
public import Idealize.ShloMosaic.PureOps.Ideal
public import Idealize.ShloMosaic.PureOps.Ideal.Laws

@[expose] public section

set_option maxRecDepth 16384

noncomputable section

namespace Cert.Reference3Ideal.FfnAct

open Cert.Reference3Ideal Cert.Reference3Ideal.Gen Idealize.ShloMosaic Idealize.ShloMosaic.TcCoe Idealize.SL.Sem
open Idealize.ShloMosaic.ValueIdx
open scoped BigOperators

/-- The product of a matrix with another's transpose, both contracted along their columns, read at an entry. -/
theorem nt_apply (A : FVec Ideal S8192x1024 .f32) (B : FVec Ideal S2816x1024 .f32)
    (i : Fin 8192) (j : Fin 2816) :
    Host.dotGeneral dot_S8192x1024_S2816x1024_S8192x2816_1_1_0_0_n_n none A B (ix2 i j) = ∑ r : Fin 1024, A (ix2 i r) * B (ix2 j r) := by
  show FloatOps.dotGeneral _ none _ A B (ix2 i j) = _
  rw [Ideal.dotGeneral_apply, ← Equiv.sum_comp (contrEquiv1 dot_S8192x1024_S2816x1024_S8192x2816_1_1_0_0_n_n 1024 rfl rfl).symm]
  refine Finset.sum_congr rfl fun r _ => ?_
  have hk := contrEquiv1_symm_val dot_S8192x1024_S2816x1024_S8192x2816_1_1_0_0_n_n 1024 rfl rfl r
  have el : dot_S8192x1024_S2816x1024_S8192x2816_1_1_0_0_n_n.lhsIdx (ix2 i j) ((contrEquiv1 dot_S8192x1024_S2816x1024_S8192x2816_1_1_0_0_n_n 1024 rfl rfl).symm r) = ix2 i r := by
    funext a; apply Fin.ext
    match a with
    | ⟨0, _⟩ => rfl
    | ⟨1, _⟩ => exact hk
  have er : dot_S8192x1024_S2816x1024_S8192x2816_1_1_0_0_n_n.rhsIdx (ix2 i j) ((contrEquiv1 dot_S8192x1024_S2816x1024_S8192x2816_1_1_0_0_n_n 1024 rfl rfl).symm r) = ix2 j r := by
    funext a; apply Fin.ext
    match a with
    | ⟨0, _⟩ => rfl
    | ⟨1, _⟩ => exact hk
  rw [el, er]

/-- The product of one matrix's transpose with another, both contracted along their tokens, read at an entry. -/
theorem tn_apply (A : FVec Ideal S8192x1024 .f32) (B : FVec Ideal S8192x2816 .f32)
    (i : Fin 1024) (j : Fin 2816) :
    Host.dotGeneral dot_S8192x1024_S8192x2816_S1024x2816_0_0_1_1_n_n none A B (ix2 i j) = ∑ r : Fin 8192, A (ix2 r i) * B (ix2 r j) := by
  show FloatOps.dotGeneral _ none _ A B (ix2 i j) = _
  rw [Ideal.dotGeneral_apply, ← Equiv.sum_comp (contrEquiv1 dot_S8192x1024_S8192x2816_S1024x2816_0_0_1_1_n_n 8192 rfl rfl).symm]
  refine Finset.sum_congr rfl fun r _ => ?_
  have hk := contrEquiv1_symm_val dot_S8192x1024_S8192x2816_S1024x2816_0_0_1_1_n_n 8192 rfl rfl r
  have el : dot_S8192x1024_S8192x2816_S1024x2816_0_0_1_1_n_n.lhsIdx (ix2 i j) ((contrEquiv1 dot_S8192x1024_S8192x2816_S1024x2816_0_0_1_1_n_n 8192 rfl rfl).symm r) = ix2 r i := by
    funext a; apply Fin.ext
    match a with
    | ⟨0, _⟩ => exact hk
    | ⟨1, _⟩ => rfl
  have er : dot_S8192x1024_S8192x2816_S1024x2816_0_0_1_1_n_n.rhsIdx (ix2 i j) ((contrEquiv1 dot_S8192x1024_S8192x2816_S1024x2816_0_0_1_1_n_n 8192 rfl rfl).symm r) = ix2 r j := by
    funext a; apply Fin.ext
    match a with
    | ⟨0, _⟩ => exact hk
    | ⟨1, _⟩ => rfl
  rw [el, er]

/-- The reference's logistic function of the gate's product. -/
abbrev lgs (X : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf X)))

theorem lgs_apply (X : FVec Ideal S8192x2816 .f32) (y : S8192x2816.Idx) : lgs X y = Ideal.logistic (X y) := by
  show Ideal.div (Ideal.ofBits .f32 0x3F800000#32) (Ideal.ofBits .f32 0x3F800000#32 + Ideal.exp (-(X y))) = _
  rw [Ideal.ofBits_one_f32]
  rfl

/-- Gate times cotangent. -/
abbrev gd (G : FVec Ideal S1x1024 .f32) (D : FVec Ideal S8192x1024 .f32) : FVec Ideal S8192x1024 .f32 :=
  mulf (broadcastInDim S8192x1024 ![0, 1] bcast_S1x1024_S8192x1024_0_1 G) D

theorem gd_apply (G : FVec Ideal S1x1024 .f32) (D : FVec Ideal S8192x1024 .f32) (s : Fin 8192) (k : Fin 1024) :
    gd G D (ix2 s k) = G (ix2 0 k) * D (ix2 s k) := by
  show broadcastInDim S8192x1024 ![0, 1] bcast_S1x1024_S8192x1024_0_1 G (ix2 s k) * D (ix2 s k) = _
  rw [broadcastInDim_apply _ _ G (ix2 s k) (ix2 0 k) (fun a => match a with
    | ⟨0, _⟩ => rfl
    | ⟨1, _⟩ => rfl)]

/-- The cotangent of the gated product. -/
abbrev da (G : FVec Ideal S1x1024 .f32) (D : FVec Ideal S8192x1024 .f32) (W : FVec Ideal S2816x1024 .bf16) : FVec Ideal S8192x2816 .f32 :=
  Host.dotGeneral dot_S8192x1024_S2816x1024_S8192x2816_1_1_0_0_n_n none (gd G D) (extf .f32 W bitsLt_bf16_f32)

/-- The same at an entry, as a sum. -/
def dact (G : FVec Ideal S1x1024 .f32) (D : FVec Ideal S8192x1024 .f32) (W : FVec Ideal S2816x1024 .bf16) (s : Fin 8192) (f : Fin 2816) : EReal :=
  ∑ k : Fin 1024, (G (ix2 0 k) * D (ix2 s k)) * W (ix2 f k)

theorem da_apply (G : FVec Ideal S1x1024 .f32) (D : FVec Ideal S8192x1024 .f32) (W : FVec Ideal S2816x1024 .bf16) (s : Fin 8192) (f : Fin 2816) :
    da G D W (ix2 s f) = dact G D W s f :=
  (nt_apply _ _ s f).trans (Finset.sum_congr rfl fun k _ => congrArg (fun a : EReal => a * W (ix2 f k)) (gd_apply G D s k))

/-- The reference's first result at an entry, where the cotangent times `u` is finite. -/
theorem res16_apply (D : FVec Ideal S8192x1024 .f32) (X U : FVec Ideal S8192x2816 .bf16) (W : FVec Ideal S2816x1024 .bf16) (G : FVec Ideal S1x1024 .f32)
    (s : Fin 8192) (f : Fin 2816) (hb : dact G D W s f * U (ix2 s f) ≠ ⊥) (ht : dact G D W s f * U (ix2 s f) ≠ ⊤) :
    (truncf .bf16 (addf (mulf (mulf (da G D W) (extf .f32 U bitsLt_bf16_f32)) (lgs (extf .f32 X bitsLt_bf16_f32)))
      (mulf (mulf (extf .f32 X bitsLt_bf16_f32) (mulf (da G D W) (extf .f32 U bitsLt_bf16_f32)))
        (mulf (lgs (extf .f32 X bitsLt_bf16_f32)) (subf (broadcastInDim S8192x2816 ![] bcast_S_S8192x2816 (constant S_ .f32 0x3F800000#32))
          (lgs (extf .f32 X bitsLt_bf16_f32)))))) bitsLt_bf16_f32 : FVec Ideal S8192x2816 .bf16) (ix2 s f)
      = Silu.dgate (X (ix2 s f)) (U (ix2 s f)) (dact G D W s f) := by
  show da G D W (ix2 s f) * U (ix2 s f) * lgs (extf .f32 X bitsLt_bf16_f32) (ix2 s f)
    + X (ix2 s f) * (da G D W (ix2 s f) * U (ix2 s f)) * (lgs (extf .f32 X bitsLt_bf16_f32) (ix2 s f)
      * (Ideal.ofBits .f32 0x3F800000#32 - lgs (extf .f32 X bitsLt_bf16_f32) (ix2 s f))) = _
  rw [lgs_apply, da_apply, Ideal.ofBits_one_f32]
  exact (Silu.slope (X (ix2 s f)) _ hb ht).symm

/-- The reference's second result at an entry. -/
theorem res17_apply (D : FVec Ideal S8192x1024 .f32) (X : FVec Ideal S8192x2816 .bf16) (W : FVec Ideal S2816x1024 .bf16) (G : FVec Ideal S1x1024 .f32)
    (s : Fin 8192) (f : Fin 2816) :
    (truncf .bf16 (mulf (mulf (extf .f32 X bitsLt_bf16_f32) (lgs (extf .f32 X bitsLt_bf16_f32))) (da G D W)) bitsLt_bf16_f32
      : FVec Ideal S8192x2816 .bf16) (ix2 s f) = Silu.dup (X (ix2 s f)) (dact G D W s f) := by
  show X (ix2 s f) * lgs (extf .f32 X bitsLt_bf16_f32) (ix2 s f) * da G D W (ix2 s f) = _
  rw [lgs_apply, da_apply, mul_comm (G := EReal)]
  rfl

/-- The reference's third result at an entry. -/
theorem res11_apply (D : FVec Ideal S8192x1024 .f32) (X U : FVec Ideal S8192x2816 .bf16) (G : FVec Ideal S1x1024 .f32) (f : Fin 2816) (j : Fin 1024) :
    transpose S2816x1024 [1, 0] (Host.dotGeneral dot_S8192x1024_S8192x2816_S1024x2816_0_0_1_1_n_n none (gd G D)
      (mulf (mulf (extf .f32 X bitsLt_bf16_f32) (lgs (extf .f32 X bitsLt_bf16_f32))) (extf .f32 U bitsLt_bf16_f32)))
      transposes_S1024x2816_S2816x1024_1_0 (ix2 f j)
      = ∑ s : Fin 8192, Silu.act (X (ix2 s f)) (U (ix2 s f)) * (G (ix2 0 j) * D (ix2 s j)) := by
  rw [transpose_apply _ _ _ (ix2 f j) (ix2 j f) (fun a => match a with
    | ⟨0, _⟩ => rfl
    | ⟨1, _⟩ => rfl)]
  refine (tn_apply _ _ j f).trans (Finset.sum_congr rfl fun s _ => ?_)
  rw [mul_comm (G := EReal), gd_apply]
  show X (ix2 s f) * lgs (extf .f32 X bitsLt_bf16_f32) (ix2 s f) * U (ix2 s f) * _ = _
  rw [lgs_apply]
  rfl

/-- A sum of real numbers, read as extended reals. -/
theorem coe_sum {ι : Type} (S : Finset ι) (g : ι → ℝ) : ∑ k ∈ S, ((g k : ℝ) : EReal) = ((∑ k ∈ S, g k : ℝ) : EReal) := by
  classical
  induction S using Finset.induction_on with
  | empty => rfl
  | insert a S ha ih => rw [Finset.sum_insert ha, Finset.sum_insert ha, ih, EReal.coe_add]

/-- A finite sum of products of three finite numbers is finite. -/
theorem dact_real (G : FVec Ideal S1x1024 .f32) (D : FVec Ideal S8192x1024 .f32) (W : FVec Ideal S2816x1024 .bf16) (s : Fin 8192) (f : Fin 2816)
    (hG : ∀ y, ∃ r : ℝ, G y = (r : EReal)) (hD : ∀ y, ∃ r : ℝ, D y = (r : EReal)) (hW : ∀ y, ∃ r : ℝ, W y = (r : EReal)) :
    ∃ r : ℝ, dact G D W s f = (r : EReal) := by
  choose g hg using hG
  choose d hd using hD
  choose w hw using hW
  refine ⟨∑ k : Fin 1024, (g (ix2 0 k) * d (ix2 s k)) * w (ix2 f k), ?_⟩
  unfold dact
  refine Eq.trans (Finset.sum_congr rfl fun k _ => ?_) (coe_sum _ _)
  rw [hg, hd, hw, ← EReal.coe_mul, ← EReal.coe_mul]

/-- An extended real whose magnitude is under the word of infinity is a real number. -/
theorem real_of_lt (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

theorem inf32 : Ideal.ofBits .f32 0x7F800000#32 = ⊤ := by simp [Ideal.ofBits, Ideal.ieee]
theorem inf16 : Ideal.ofBits .bf16 0x7F80#16 = ⊤ := by simp [Ideal.ofBits, Ideal.ieee]

instance : Subsingleton (Cert.Pre_finite.S_.Idx) := ⟨fun a b => funext fun z => Fin.elim0 z⟩

/-- What the precondition says: the four arrays hold real numbers. -/
theorem finite_spec (D : FVec Ideal S8192x1024 .f32) (X U : FVec Ideal S8192x2816 .bf16) (W : FVec Ideal S2816x1024 .bf16) (G : FVec Ideal S1x1024 .f32)
    (j : Cert.Pre_finite.S_.Idx) (h : Cert.Pre_finite.fn (F := Ideal) D X U W G j = 1#1) :
    (∀ y, ∃ r : ℝ, D y = (r : EReal)) ∧ (∀ y, ∃ r : ℝ, U y = (r : EReal)) ∧ (∀ y, ∃ r : ℝ, W y = (r : EReal)) ∧ (∀ y, ∃ r : ℝ, G y = (r : EReal)) := by
  unfold Cert.Pre_finite.fn Cert.Pre_finite.fn_part1 at h
  obtain ⟨h1, hG⟩ := Idealize.ShloMosaic.IntOp.andi_eq_one.mp h
  obtain ⟨h2, hW⟩ := Idealize.ShloMosaic.IntOp.andi_eq_one.mp h1
  obtain ⟨hD, hU⟩ := Idealize.ShloMosaic.IntOp.andi_eq_one.mp h2
  refine ⟨fun y => real_of_lt _ ?_, fun y => real_of_lt _ ?_, fun y => real_of_lt _ ?_, fun y => real_of_lt _ ?_⟩
  · exact (congrArg (Ideal.cmp .olt _) inf32.symm).trans (Host.reduce_andi_all _ _ _ _ j hD y)
  · exact (congrArg (Ideal.cmp .olt _) inf16.symm).trans (Host.reduce_andi_all _ _ _ _ j hU y)
  · exact (congrArg (Ideal.cmp .olt _) inf16.symm).trans (Host.reduce_andi_all _ _ _ _ j hW y)
  · exact (congrArg (Ideal.cmp .olt _) inf32.symm).trans (Host.reduce_andi_all _ _ _ _ j hG y)

end Cert.Reference3Ideal.FfnAct
end
-- ==== Proof.WgradKernel.lean ====
module

public import proofs.«01_k».proof.Proof.Gen.Kernel2Ideal.Value
public import proofs.«01_k».proof.Proof.BlockSums
public import Idealize.ShloMosaic.Lib.ValueIdx
public import Idealize.ShloMosaic.Lib.ValueLayout
public import Idealize.ShloMosaic.PureOps.Ideal
public import Idealize.ShloMosaic.PureOps.Ideal.Laws
public import Idealize.ShloMosaic.Lib.Tactic

@[expose] public section

set_option maxRecDepth 16384

noncomputable section

namespace Cert.Kernel2Ideal.Wgrad

open Cert.Kernel2Ideal Cert.Kernel2Ideal.Gen Idealize.ShloMosaic Idealize.ShloMosaic.TcCoe Idealize.SL.Sem
open Idealize.ShloMosaic.ValueIdx
open Cert.Sums
open scoped BigOperators

variable (m : (ℓ : Loc nD τ sig) → Buf (Elt Ideal) ℓ)

theorem hz : (![0, 0] : Fin 2 → Nat) = fun _ => 0 := funext fun a => by fin_cases a <;> rfl

/-- The product of a block's transpose with another, both contracted along their rows, read at an entry. -/
theorem tn_apply {φ₁ φ₂ : FTy} (A : FVec Ideal S2048x1408 φ₁) (B : FVec Ideal S2048x1024 φ₂) (acc : FVec Ideal S1408x1024 .f32)
    (i : Fin 1408) (j : Fin 1024) :
    matmul dot_S2048x1408_S2048x1024_S1408x1024_0_0_1_1_n_n none A B acc (ix2 i j)
      = acc (ix2 i j) + ∑ r : Fin 2048, A (ix2 r i) * B (ix2 r j) := by
  show FloatOps.matmul _ none A B acc (ix2 i j) = _
  rw [Ideal.matmul_apply, ← Equiv.sum_comp (contrEquiv1 dot_S2048x1408_S2048x1024_S1408x1024_0_0_1_1_n_n 2048 rfl rfl).symm]
  refine congrArg (acc (ix2 i j) + ·) (Finset.sum_congr rfl fun k _ => ?_)
  have hk := contrEquiv1_symm_val dot_S2048x1408_S2048x1024_S1408x1024_0_0_1_1_n_n 2048 rfl rfl k
  have el : dot_S2048x1408_S2048x1024_S1408x1024_0_0_1_1_n_n.lhsIdx (ix2 i j)
      ((contrEquiv1 dot_S2048x1408_S2048x1024_S1408x1024_0_0_1_1_n_n 2048 rfl rfl).symm k) = ix2 k i := by
    funext a; apply Fin.ext
    match a with
    | ⟨0, _⟩ => exact hk
    | ⟨1, _⟩ => rfl
  have er : dot_S2048x1408_S2048x1024_S1408x1024_0_0_1_1_n_n.rhsIdx (ix2 i j)
      ((contrEquiv1 dot_S2048x1408_S2048x1024_S1408x1024_0_0_1_1_n_n 2048 rfl rfl).symm k) = ix2 k j := by
    funext a; apply Fin.ext
    match a with
    | ⟨0, _⟩ => exact hk
    | ⟨1, _⟩ => rfl
  rw [el, er]

/-- A point's product, read at an entry. -/
theorem pay1_apply (x0 : Vec Ideal S2048x1408 .bf16) (x1 : Vec Ideal S2048x1024 .bf16) (i : Fin 1408) (j : Fin 1024) :
    k0_pay1 x0 x1 (ix2 i j) = ∑ r : Fin 2048, x0 (ix2 r i) * x1 (ix2 r j) := by
  unfold k0_pay1
  refine (tn_apply x0 x1 _ i j).trans ?_
  rw [show (constant S1408x1024 .f32 0x00000000#32 : FVec Ideal S1408x1024 .f32) (ix2 i j) = 0 from Ideal.ofBits_zero_f32, zero_add]

/-- What a row block's first point leaves: that point's product. -/
theorem out_A (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (hc0 : cond0_0 i) (hc1 : ¬cond0_1 i) (x0 : Vec Ideal S2048x1408 .bf16) (x1 : Vec Ideal S2048x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S2048x1408) hz,
    View.ld_unit_zero (S := S2048x1024) hz]

/-- What a later point leaves: its product added to what it found. -/
theorem out_B (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (hc0 : ¬cond0_0 i) (hc1 : cond0_1 i) (x0 : Vec Ideal S2048x1408 .bf16) (x1 : Vec Ideal S2048x1024 .bf16)
    (xo : Vec Ideal S1408x1024 .f32) :
    out0_B_2 c i a3 h3 a4 h4 a5 h5 hc0 hc1 x0 x1 xo = addf xo (k0_pay1 x0 x1) := by
  unfold out0_B_2
  rw [View.read_writes_eq_canon _ _ _ (cover0_B_2 c i a3 h3 a4 h4 a5 h5 hc0 hc1 x0 x1 xo)]
  unfold kernelRun0_B
  dsimp only
  rw [View.canon_unit_zero hz]
  unfold k0_pay2
  simp only [View.readAt_eq_ld, h3.read_unread, h4.read_unread, h5.read_unread, View.ld_unit_zero (S := S2048x1408) hz,
    View.ld_unit_zero (S := S2048x1024) hz, View.ld_unit_zero (S := S1408x1024) hz, shapeCast_self]

/-- The arguments' arrays. -/
abbrev A0 (c : Dev nD) : FVec Ideal S8192x2816 .bf16 := m ((c : Thread nD τ).loc main_arg0)
abbrev A1 (c : Dev nD) : FVec Ideal S8192x1024 .bf16 := m ((c : Thread nD τ).loc main_arg1)

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem flush2 : ∀ t : Fin cfg0.N, (cfg0.win 2).flush t = true ↔ t.val % 4 = 3 :=
  (by decide +kernel : ∀ t : Fin grid0.N, win0_2.flush t = true ↔ t.val % 4 = 3)

/-- Row `i` of the block that point `t` sums, in the whole result. -/
def out (t : Fin cfg0.N) (i : Fin 1408) : Fin 2816 :=
  ⟨1408 * (t.val / 4) + i.val, by have ht : t.val < 8 := lt_of_lt_of_eq t.isLt (show cfg0.N = 8 from N_0); omega⟩
/-- Token `r` of the block that point `t` reads. -/
def tok (t : Fin cfg0.N) (r : Fin 2048) : Fin 8192 := ⟨2048 * (t.val % 4) + r.val, by omega⟩

theorem blk0 (c : Dev nD) (t : Fin cfg0.N) (r : Fin 2048) (i : Fin 1408) :
    iblk m c 0 t (ix2 r i) = A0 m c (ix2 (tok t r) (out t i)) := by
  unfold iblk
  rw [View.read_apply]
  refine (congrArg (V m c main_arg0) (funext fun a => Fin.ext ?_)).trans (congrFun (V_main_arg0 m c) _)
  match a with
  | ⟨0, _⟩ => show win0_0.index t 0 * 2048 + 1 * r.val = 2048 * (t.val % 4) + r.val; rw [(idx0 t).1]; omega
  | ⟨1, _⟩ => show win0_0.index t 1 * 1408 + 1 * i.val = 1408 * (t.val / 4) + i.val; rw [(idx0 t).2]; omega

theorem blk1 (c : Dev nD) (t : Fin cfg0.N) (r : Fin 2048) (j : Fin 1024) :
    iblk m c 1 t (ix2 r j) = A1 m c (ix2 (tok t r) j) := by
  unfold iblk
  rw [View.read_apply]
  refine (congrArg (V m c main_arg1) (funext fun a => Fin.ext ?_)).trans (congrFun (V_main_arg1 m c) _)
  match a with
  | ⟨0, _⟩ => show win0_1.index t 0 * 2048 + 1 * r.val = 2048 * (t.val % 4) + r.val; rw [(idx1 t).1]; omega
  | ⟨1, _⟩ => show win0_1.index t 1 * 1024 + 1 * j.val = j.val; rw [(idx1 t).2]; omega

/-- The products that an entry of the result sums, by token. -/
abbrev term (c : Dev nD) (i : Fin 2816) (j : Fin 1024) (s : Fin 8192) : EReal := A0 m c (ix2 s i) * A1 m c (ix2 s j)

/-- A point's product is its token block's part of the sum. -/
theorem part_eq (c : Dev nD) (t : Fin cfg0.N) (i : Fin 1408) (j : Fin 1024) :
    k0_pay1 (iblk m c 0 t) (iblk m c 1 t) (ix2 i j) = ∑ r : Fin 2048, ext (term m c (out t i) j) (2048 * (t.val % 4) + r.val) := by
  rw [pay1_apply]
  refine Finset.sum_congr rfl fun r _ => ?_
  exact (congrArg₂ (fun a b : EReal => a * b) (blk0 m c t r i) (blk1 m c t r j)).trans (ext_of_lt (term m c (out t i) j) _ (tok t r).isLt).symm

/-- After each point the block holds the sum over the tokens read so far. -/
theorem outs_eq (c : Dev nD) : ∀ (n : ℕ) (h : n < cfg0.N) (i : Fin 1408) (j : Fin 1024),
    outsAt0 m c n h (ix2 i j) = ∑ k ∈ Finset.range (2048 * (n % 4 + 1)), ext (term m c (out ⟨n, h⟩ i) j) k := by
  intro n
  induction n with
  | zero =>
    intro h i j
    rw [show outsAt0 m c 0 h = _ from outsAt0_A m c ⟨0, h⟩ rfl (fun h' => absurd (show 1 ≤ 0 % 4 from h') (by decide)), out_A, part_eq, range_first]
    exact Finset.sum_congr rfl fun r _ => congrArg (ext _) (Nat.zero_add _)
  | succ n ih =>
    intro h i j
    by_cases h0 : (n + 1) % 4 = 0
    · rw [show outsAt0 m c (n + 1) h = _ from outsAt0_A m c ⟨n + 1, h⟩ h0 (by show ¬1 ≤ (n + 1) % 4; omega), out_A, part_eq, h0,
        range_first]
      refine Finset.sum_congr rfl fun r _ => congrArg (ext _) ?_
      exact Nat.zero_add _
    · rw [show outsAt0 m c (n + 1) h = _ from outsAt0_B m c ⟨n + 1, h⟩ h0 (by show 1 ≤ (n + 1) % 4; omega), out_B, addf_apply, part_eq]
      have e1 : 2048 * ((n + 1) % 4 + 1) = 2048 * (n % 4 + 1) + 2048 := by omega
      have e2 : 2048 * ((n + 1) % 4) = 2048 * (n % 4 + 1) := by omega
      have e3 : out ⟨n, Nat.lt_of_succ_lt h⟩ i = out ⟨n + 1, h⟩ i := Fin.ext (by
        show 1408 * (n / 4) + i.val = 1408 * ((n + 1) / 4) + i.val
        omega)
      rw [e1, range_add, ← e3]
      refine congrArg₂ (· + ·) (ih (Nat.lt_of_succ_lt h) i j) (Finset.sum_congr rfl fun r _ => congrArg (ext _) ?_)
      show 2048 * ((n + 1) % 4) + r.val = _
      rw [e2]

/-- The result: every entry is the sum over all tokens. -/
def result (c : Dev nD) : FVec Ideal S2816x1024 .f32 := fun y => ∑ s : Fin 8192, term m c (y 0) (y 1) s

theorem flushed_eq (c : Dev nD) (t : Fin cfg0.N) (hf : (cfg0.win 2).flush t = true) :
    (dats m 0 c).flushed 2 t = ((cfg0.win 2).blk t).view.read (Elt Ideal) (result m c) := by
  have h3 := (flush2 t).mp hf
  show (cfg0.win 2).cut (grid0.coords t) ((dats m 0 c).after 2 t) = _
  rw [after0_2]
  funext y
  rw [View.read_apply]
  refine Eq.trans ((congrArg (outsAt0 m c t.val t.isLt) (ValueIdx.eq_ix2 y)).trans (outs_eq m c t.val t.isLt (y 0) (y 1))) ?_
  rw [h3, show 2048 * (3 + 1) = 8192 from rfl, range_all]
  refine congrArg₂ (fun i j => ∑ s : Fin 8192, term m c i j s) (Fin.ext ?_) (Fin.ext ?_)
  · show 1408 * (t.val / 4) + (y 0).val = win0_2.index t 0 * 1408 + 1 * (y 0).val; rw [(idx2 t).1]; omega
  · show (y 1).val = win0_2.index t 1 * 1024 + 1 * (y 1).val; rw [(idx2 t).2]; omega

/-- The result array after the run. -/
theorem final (c : Dev nD) : (dats m 0 c).arrAt 2 cfg0.N = result m c :=
  (dats m 0 c).arrAt_eq_of_cover 2 (result m c) (flushed_eq m c) fun i => by
    have h0 : (i 0 : Nat) < 2816 := (i 0).isLt
    have h1 : (i 1 : Nat) < 1024 := (i 1).isLt
    let t : Fin cfg0.N := ⟨4 * ((i 0 : Nat) / 1408) + 3, by rw [show cfg0.N = 8 from N_0]; omega⟩
    have tv : t.val = 4 * ((i 0 : Nat) / 1408) + 3 := rfl
    refine ⟨t, (flush2 t).mpr (by omega), ?_⟩
    show i ∈ ((View.whole main_v0).slice (win0_2.rect t)).set
    rw [View.set_slice_whole, Rect.mem_set_unit]
    intro a
    match a with
    | ⟨0, _⟩ =>
      show win0_2.index t 0 * 1408 ≤ (i 0 : Nat) ∧ (i 0 : Nat) < win0_2.index t 0 * 1408 + 1408
      rw [(idx2 t).1]; omega
    | ⟨1, _⟩ =>
      show win0_2.index t 1 * 1024 ≤ (i 1 : Nat) ∧ (i 1 : Nat) < win0_2.index t 1 * 1024 + 1024
      rw [(idx2 t).2]; omega

end Cert.Kernel2Ideal.Wgrad
end
-- ==== Proof.WgradRef.lean ====
module

public import proofs.«01_k».proof.Proof.Gen.Reference2Ideal.Run
public import Idealize.ShloMosaic.Lib.ValueIdx
public import Idealize.ShloMosaic.Lib.ValueLayout
public import Idealize.ShloMosaic.PureOps.Ideal
public import Idealize.ShloMosaic.PureOps.Ideal.Laws

@[expose] public section

set_option maxRecDepth 16384

noncomputable section

namespace Cert.Reference2Ideal.Wgrad

open Cert.Reference2Ideal Cert.Reference2Ideal.Gen Idealize.ShloMosaic Idealize.ShloMosaic.TcCoe Idealize.SL.Sem
open Idealize.ShloMosaic.ValueIdx
open scoped BigOperators

/-- The product of one matrix's transpose with another, both contracted along their tokens, read at an entry. -/
theorem dot_apply (A : FVec Ideal S8192x2816 .f32) (B : FVec Ideal S8192x1024 .f32) (i : Fin 2816) (j : Fin 1024) :
    Host.dotGeneral dot_S8192x2816_S8192x1024_S2816x1024_0_0_1_1_n_n none A B (ix2 i j) = ∑ s : Fin 8192, A (ix2 s i) * B (ix2 s j) := by
  show FloatOps.dotGeneral _ none _ A B (ix2 i j) = _
  rw [Ideal.dotGeneral_apply, ← Equiv.sum_comp (contrEquiv1 dot_S8192x2816_S8192x1024_S2816x1024_0_0_1_1_n_n 8192 rfl rfl).symm]
  refine Finset.sum_congr rfl fun k _ => ?_
  have hk := contrEquiv1_symm_val dot_S8192x2816_S8192x1024_S2816x1024_0_0_1_1_n_n 8192 rfl rfl k
  have el : dot_S8192x2816_S8192x1024_S2816x1024_0_0_1_1_n_n.lhsIdx (ix2 i j)
      ((contrEquiv1 dot_S8192x2816_S8192x1024_S2816x1024_0_0_1_1_n_n 8192 rfl rfl).symm k) = ix2 k i := by
    funext a; apply Fin.ext
    match a with
    | ⟨0, _⟩ => exact hk
    | ⟨1, _⟩ => rfl
  have er : dot_S8192x2816_S8192x1024_S2816x1024_0_0_1_1_n_n.rhsIdx (ix2 i j)
      ((contrEquiv1 dot_S8192x2816_S8192x1024_S2816x1024_0_0_1_1_n_n 8192 rfl rfl).symm k) = ix2 k j := by
    funext a; apply Fin.ext
    match a with
    | ⟨0, _⟩ => exact hk
    | ⟨1, _⟩ => rfl
  rw [el, er]

/-- The reference's result (a product, transposed twice) is at each entry the sum over all tokens. -/
theorem res_apply (A : FVec Ideal S8192x2816 .bf16) (B : FVec Ideal S8192x1024 .bf16) (i : Fin 2816) (j : Fin 1024) :
    transpose S2816x1024 [1, 0] (transpose S1024x2816 [1, 0] (Host.dotGeneral dot_S8192x2816_S8192x1024_S2816x1024_0_0_1_1_n_n none
      (extf .f32 A bitsLt_bf16_f32) (extf .f32 B bitsLt_bf16_f32)) transposes_S2816x1024_S1024x2816_1_0)
      transposes_S1024x2816_S2816x1024_1_0 (ix2 i j) = ∑ s : Fin 8192, A (ix2 s i) * B (ix2 s j) := by
  rw [transpose_apply _ _ _ (ix2 i j) (ix2 j i) (fun a => match a with
    | ⟨0, _⟩ => rfl
    | ⟨1, _⟩ => rfl)]
  rw [transpose_apply _ _ _ (ix2 j i) (ix2 i j) (fun a => match a with
    | ⟨0, _⟩ => rfl
    | ⟨1, _⟩ => rfl)]
  exact dot_apply _ _ i j

end Cert.Reference2Ideal.Wgrad
end
-- ==== Proof.OutprojKernel.lean ====
module

public import proofs.«01_k».proof.Proof.Gen.Kernel4Ideal.Value
public import proofs.«01_k».proof.Proof.BlockSums
public import Idealize.ShloMosaic.Lib.ValueIdx
public import Idealize.ShloMosaic.Lib.ValueLayout
public import Idealize.ShloMosaic.Lib.WritesUnit
public import Idealize.ShloMosaic.PureOps.Ideal
public import Idealize.ShloMosaic.PureOps.Ideal.Laws
public import Idealize.ShloMosaic.Lib.Tactic

@[expose] public section

set_option maxRecDepth 16384

noncomputable section

namespace Cert.Kernel4Ideal.Outproj

open Cert.Kernel4Ideal Cert.Kernel4Ideal.Gen Idealize.ShloMosaic Idealize.ShloMosaic.TcCoe Idealize.SL.Sem
open Idealize.ShloMosaic.ValueIdx
open Cert.Sums
open scoped BigOperators

variable (m : (ℓ : Loc nD τ sig) → Buf (Elt Ideal) ℓ)

theorem hz : (![0, 0] : Fin 2 → Nat) = fun _ => 0 := funext fun a => by fin_cases a <;> rfl

/-- The product of a matrix with another's transpose, both contracted along their columns, read at an entry. -/
theorem nt_apply {φ₁ φ₂ : FTy} (A : FVec Ideal S512x1024 φ₁) (B : FVec Ideal S1024x1024 φ₂) (acc : FVec Ideal S512x1024 .f32)
    (i : Fin 512) (j : Fin 1024) :
    matmul dot_S512x1024_S1024x1024_S512x1024_1_1_0_0_n_n none A B acc (ix2 i j) = acc (ix2 i j) + ∑ r : Fin 1024, A (ix2 i r) * B (ix2 j r) := by
  show FloatOps.matmul _ none A B acc (ix2 i j) = _
  rw [Ideal.matmul_apply, ← Equiv.sum_comp (contrEquiv1 dot_S512x1024_S1024x1024_S512x1024_1_1_0_0_n_n 1024 rfl rfl).symm]
  refine congrArg (acc (ix2 i j) + ·) (Finset.sum_congr rfl fun r _ => ?_)
  have hk := contrEquiv1_symm_val dot_S512x1024_S1024x1024_S512x1024_1_1_0_0_n_n 1024 rfl rfl r
  have el : dot_S512x1024_S1024x1024_S512x1024_1_1_0_0_n_n.lhsIdx (ix2 i j) ((contrEquiv1 dot_S512x1024_S1024x1024_S512x1024_1_1_0_0_n_n 1024 rfl rfl).symm r) = ix2 i r := by
    funext a; apply Fin.ext
    match a with
    | ⟨0, _⟩ => rfl
    | ⟨1, _⟩ => exact hk
  have er : dot_S512x1024_S1024x1024_S512x1024_1_1_0_0_n_n.rhsIdx (ix2 i j) ((contrEquiv1 dot_S512x1024_S1024x1024_S512x1024_1_1_0_0_n_n 1024 rfl rfl).symm r) = ix2 j r := by
    funext a; apply Fin.ext
    match a with
    | ⟨0, _⟩ => rfl
    | ⟨1, _⟩ => exact hk
  rw [el, er]

/-- The product of a matrix's transpose with another, both contracted along their rows, read at an entry. -/
theorem tn_apply {φ₁ φ₂ : FTy} (A : FVec Ideal S512x512 φ₁) (B : FVec Ideal S512x1024 φ₂) (acc : FVec Ideal S512x1024 .f32)
    (i : Fin 512) (j : Fin 1024) :
    matmul dot_S512x512_S512x1024_S512x1024_0_0_1_1_n_n none A B acc (ix2 i j) = acc (ix2 i j) + ∑ r : Fin 512, A (ix2 r i) * B (ix2 r j) := by
  show FloatOps.matmul _ none A B acc (ix2 i j) = _
  rw [Ideal.matmul_apply, ← Equiv.sum_comp (contrEquiv1 dot_S512x512_S512x1024_S512x1024_0_0_1_1_n_n 512 rfl rfl).symm]
  refine congrArg (acc (ix2 i j) + ·) (Finset.sum_congr rfl fun r _ => ?_)
  have hk := contrEquiv1_symm_val dot_S512x512_S512x1024_S512x1024_0_0_1_1_n_n 512 rfl rfl r
  have el : dot_S512x512_S512x1024_S512x1024_0_0_1_1_n_n.lhsIdx (ix2 i j) ((contrEquiv1 dot_S512x512_S512x1024_S512x1024_0_0_1_1_n_n 512 rfl rfl).symm r) = ix2 r i := by
    funext a; apply Fin.ext
    match a with
    | ⟨0, _⟩ => exact hk
    | ⟨1, _⟩ => rfl
  have er : dot_S512x512_S512x1024_S512x1024_0_0_1_1_n_n.rhsIdx (ix2 i j) ((contrEquiv1 dot_S512x512_S512x1024_S512x1024_0_0_1_1_n_n 512 rfl rfl).symm r) = ix2 r j := by
    funext a; apply Fin.ext
    match a with
    | ⟨0, _⟩ => exact hk
    | ⟨1, _⟩ => rfl
  rw [el, er]

theorem z512 (i : S512x1024.Idx) : (constant S512x1024 .f32 0x00000000#32 : FVec Ideal S512x1024 .f32) i = 0 := Ideal.ofBits_zero_f32

theorem pay1_apply (y : S1024x1024.Idx) : (k0_pay1 (F := Ideal)) y = 0 := Ideal.ofBits_zero_f32

/-- A point's product by the weights' transpose, read at an entry. -/
theorem pay2_apply (x0 : Vec Ideal S512x1024 .bf16) (x1 : Vec Ideal S1024x1024 .bf16) (r : Fin 512) (j : Fin 1024) :
    k0_pay2 x0 x1 (ix2 r j) = ∑ k : Fin 1024, x0 (ix2 r k) * x1 (ix2 j k) := by
  unfold k0_pay2
  refine (nt_apply x0 x1 _ r j).trans ?_
  rw [z512, zero_add]

/-- A point's addition to the first half of the weights' gradient, read at an entry. -/
theorem pay3_apply (x0 : Vec Ideal S512x1024 .bf16) (z : Vec Ideal S512x1024 .f32) (x2 : Vec Ideal S512x512 .f32) (r : Fin 512) (j : Fin 1024) :
    k0_pay3 x0 z x2 (ix2 r j) = z (ix2 r j) + ∑ k : Fin 512, x2 (ix2 k r) * x0 (ix2 k j) := by
  unfold k0_pay3
  rw [addf_apply, shapeCast_self]
  refine congrArg (fun s : EReal => z (ix2 r j) + s) ((tn_apply _ x0 _ r j).trans ?_)
  rw [z512, zero_add]
  rfl

/-- A point's addition to the second half of the weights' gradient, read at an entry. -/
theorem pay4_apply (x0 : Vec Ideal S512x1024 .bf16) (z : Vec Ideal S512x1024 .f32) (x3 : Vec Ideal S512x512 .bf16) (r : Fin 512) (j : Fin 1024) :
    k0_pay4 x0 z x3 (ix2 r j) = z (ix2 r j) + ∑ k : Fin 512, x3 (ix2 k r) * x0 (ix2 k j) := by
  unfold k0_pay4
  rw [addf_apply, shapeCast_self]
  refine congrArg (fun s : EReal => z (ix2 r j) + s) ((tn_apply x3 x0 _ r j).trans ?_)
  rw [z512, zero_add]

/-- Row `r` of the first half, and of the second. -/
def lo (r : Fin 512) : Fin 1024 := ⟨r.val, by omega⟩
def hi (r : Fin 512) : Fin 1024 := ⟨512 + r.val, by omega⟩

section
variable (c : Dev nD) (i : grid0.Coords) (a1 : Memref sig .tc .vmem S512x1024 .bf16) (h1 : a1.IsWhole)
    (a2 : Memref sig .tc .vmem S1024x1024 .bf16) (h2 : a2.IsWhole) (a3 : Memref sig .tc .vmem S512x512 .f32) (h3 : a3.IsWhole)
    (a4 : Memref sig .tc .vmem S512x512 .bf16) (h4 : a4.IsWhole) (a5 : Memref sig .tc .vmem S512x1024 .f32) (h5 : a5.IsWhole)
    (a6 : Memref sig .tc .vmem S1024x1024 .f32) (h6 : a6.IsWhole)
    (x0 : Vec Ideal S512x1024 .bf16) (x1 : Vec Ideal S1024x1024 .bf16) (x2 : Vec Ideal S512x512 .f32) (x3 : Vec Ideal S512x512 .bf16)
    (xo : Vec Ideal S1024x1024 .f32)

/-- What a point writes of the gradient of the product's left factor: that block's product. -/
theorem out_A4 (hc : cond0_0 i) : out0_A_4 c i a1 h1 a2 h2 a3 h3 a4 h4 a5 h5 a6 h6 hc x0 x1 x2 x3 = k0_pay2 x0 x1 := by
  unfold out0_A_4
  rw [View.read_writes_eq_canon _ _ _ (cover0_A_4 c i a1 h1 a2 h2 a3 h3 a4 h4 a5 h5 a6 h6 hc x0 x1 x2 x3)]
  unfold kernelRun0_A
  dsimp only
  rw [View.canon_unit_zero hz]
  simp only [View.readAt_eq_ld, h1.read_unread, h2.read_unread, View.ld_unit_zero (S := S512x1024) hz,
    View.ld_unit_zero (S := S1024x1024) hz]

theorem out_B4 (hc : ¬cond0_0 i) : out0_B_4 c i a1 h1 a2 h2 a3 h3 a4 h4 a5 h5 a6 h6 hc x0 x1 x2 x3 xo = k0_pay2 x0 x1 := by
  unfold out0_B_4
  rw [View.read_writes_eq_canon _ _ _ (cover0_B_4 c i a1 h1 a2 h2 a3 h3 a4 h4 a5 h5 a6 h6 hc x0 x1 x2 x3 xo)]
  unfold kernelRun0_B
  dsimp only
  rw [View.canon_unit_zero hz]
  simp only [View.readAt_eq_ld, h1.read_unread, h2.read_unread, View.ld_unit_zero (S := S512x1024) hz,
    View.ld_unit_zero (S := S1024x1024) hz]

theorem out_B5_lo (hc : ¬cond0_0 i) (r : Fin 512) (j : Fin 1024) :
    out0_B_5 c i a1 h1 a2 h2 a3 h3 a4 h4 a5 h5 a6 h6 hc x0 x1 x2 x3 xo (ix2 (lo r) j)
      = xo (ix2 (lo r) j) + ∑ k : Fin 512, x2 (ix2 k r) * x0 (ix2 k j) := by
  unfold out0_B_5 kernelRun0_B
  dsimp only
  sl_unfold_words
  simp only [View.readAt_eq_ld, h1.read_unread, h2.read_unread, h3.read_unread, h4.read_unread, h6.read_unread,
    View.ld_unit_zero (S := S512x1024) hz, View.ld_unit_zero (S := S1024x1024) hz, View.ld_unit_zero (S := S512x512) hz]
  rw [View.read_writes_cons_rows_of_not_mem (o := 512) (W := 512) _ _ _ _ _ (ix2 (lo r) j) rfl rfl (.inl r.isLt)]
  refine (View.read_writes_cons_rows_of_mem (o := 0) _ _ _ _ _ (ix2 (lo r) j) (ix2 r j) rfl (Nat.zero_add _).symm rfl).trans ?_
  rw [pay3_apply]
  refine congrArg (fun s : EReal => s + _) (congrArg xo (funext fun a => Fin.ext ?_))
  match a with
  | ⟨0, _⟩ => show 0 + 1 * r.val = r.val; omega
  | ⟨1, _⟩ => show 0 + 1 * j.val = j.val; omega

theorem out_B5_hi (hc : ¬cond0_0 i) (r : Fin 512) (j : Fin 1024) :
    out0_B_5 c i a1 h1 a2 h2 a3 h3 a4 h4 a5 h5 a6 h6 hc x0 x1 x2 x3 xo (ix2 (hi r) j)
      = xo (ix2 (hi r) j) + ∑ k : Fin 512, x3 (ix2 k r) * x0 (ix2 k j) := by
  unfold out0_B_5 kernelRun0_B
  dsimp only
  sl_unfold_words
  simp only [View.readAt_eq_ld, h1.read_unread, h2.read_unread, h3.read_unread, h4.read_unread, h6.read_unread,
    View.ld_unit_zero (S := S512x1024) hz, View.ld_unit_zero (S := S1024x1024) hz, View.ld_unit_zero (S := S512x512) hz]
  refine (View.read_writes_cons_rows_of_mem (o := 512) _ _ _ _ _ (ix2 (hi r) j) (ix2 r j) rfl rfl rfl).trans ?_
  rw [pay4_apply]
  refine congrArg (fun s : EReal => s + _) (congrArg xo (funext fun a => Fin.ext ?_))
  match a with
  | ⟨0, _⟩ => show 512 + 1 * r.val = 512 + r.val; omega
  | ⟨1, _⟩ => show 0 + 1 * j.val = j.val; omega

/-- What the first point's loads find in the buffer that it has just cleared. -/
theorem cleared (y : S1024x1024.Idx) : a6.view.read (Elt Ideal) (a6.view.writes (Elt Ideal) a6.view.junk
    [⟨Rect.unit ![0, 0] ![1024, 1024] inb_S1024x1024_S1024x1024_0_0, k0_pay1 (F := Ideal)⟩]) y = 0 :=
  (View.read_writes_cons_rows_of_mem (o := 0) _ _ _ _ _ y y rfl (Nat.zero_add _).symm rfl).trans (pay1_apply y)

theorem kept (w : Vec Ideal S512x1024 .f32) (r : Fin 512) (j : Fin 1024) :
    a6.view.readCov [⟨Rect.unit ![0, 0] ![512, 1024] inb_S1024x1024_S512x1024_0_0, w⟩,
      ⟨Rect.unit ![0, 0] ![1024, 1024] inb_S1024x1024_S1024x1024_0_0, k0_pay1 (F := Ideal)⟩]
      (Rect.unit (s := S1024x1024) ![512, 0] S512x1024.size inb_S1024x1024_S512x1024_512_0).toLoadRect (ix2 r j) = 0 := by
  show a6.view.read (Elt Ideal) (a6.view.writes (Elt Ideal) a6.view.junk _)
    ((Rect.unit (s := S1024x1024) ![512, 0] S512x1024.size inb_S1024x1024_S512x1024_512_0).toLoadRect.idx (ix2 r j)) = 0
  rw [View.read_writes_cons_rows_of_not_mem (o := 0) (W := 512) _ _ _ _ _ _ rfl rfl
    (.inr (show 0 + 512 ≤ 512 + 1 * r.val by omega))]
  exact cleared a6 _

theorem out_A5_lo (hc : cond0_0 i) (r : Fin 512) (j : Fin 1024) :
    out0_A_5 c i a1 h1 a2 h2 a3 h3 a4 h4 a5 h5 a6 h6 hc x0 x1 x2 x3 (ix2 (lo r) j)
      = ∑ k : Fin 512, x2 (ix2 k r) * x0 (ix2 k j) := by
  unfold out0_A_5 kernelRun0_A
  dsimp only
  sl_unfold_words
  simp only [View.readAt_eq_ld, h1.read_unread, h2.read_unread, h3.read_unread, h4.read_unread,
    View.ld_unit_zero (S := S512x1024) hz, View.ld_unit_zero (S := S1024x1024) hz, View.ld_unit_zero (S := S512x512) hz]
  rw [View.read_writes_cons_rows_of_not_mem (o := 512) (W := 512) _ _ _ _ _ (ix2 (lo r) j) rfl rfl (.inl r.isLt)]
  refine (View.read_writes_cons_rows_of_mem (o := 0) _ _ _ _ _ (ix2 (lo r) j) (ix2 r j) rfl (Nat.zero_add _).symm rfl).trans ?_
  rw [pay3_apply]
  refine (congrArg (fun s : EReal => s + _) (cleared a6 _)).trans (zero_add _)

theorem out_A5_hi (hc : cond0_0 i) (r : Fin 512) (j : Fin 1024) :
    out0_A_5 c i a1 h1 a2 h2 a3 h3 a4 h4 a5 h5 a6 h6 hc x0 x1 x2 x3 (ix2 (hi r) j)
      = ∑ k : Fin 512, x3 (ix2 k r) * x0 (ix2 k j) := by
  unfold out0_A_5 kernelRun0_A
  dsimp only
  sl_unfold_words
  simp only [View.readAt_eq_ld, h1.read_unread, h2.read_unread, h3.read_unread, h4.read_unread,
    View.ld_unit_zero (S := S512x1024) hz, View.ld_unit_zero (S := S1024x1024) hz, View.ld_unit_zero (S := S512x512) hz]
  refine (View.read_writes_cons_rows_of_mem (o := 512) _ _ _ _ _ (ix2 (hi r) j) (ix2 r j) rfl rfl rfl).trans ?_
  rw [pay4_apply]
  exact (congrArg (fun s : EReal => s + _) (kept a6 _ r j)).trans (zero_add _)

end

/-- The arguments' arrays. -/
abbrev A0 (c : Dev nD) : FVec Ideal S8192x1024 .bf16 := m ((c : Thread nD τ).loc main_arg0)
abbrev A1 (c : Dev nD) : FVec Ideal S1024x1024 .bf16 := m ((c : Thread nD τ).loc main_arg1)
abbrev A2 (c : Dev nD) : FVec Ideal S8192x512 .f32 := m ((c : Thread nD τ).loc main_arg2)
abbrev A3 (c : Dev nD) : FVec Ideal S8192x512 .bf16 := m ((c : Thread nD τ).loc main_arg3)

theorem idx0 : ∀ t : Fin cfg0.N, win0_0.index t 0 = t.val ∧ win0_0.index t 1 = 0 :=
  (by decide +kernel : ∀ t : Fin grid0.N, win0_0.index t 0 = t.val ∧ win0_0.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem flush4 : ∀ t : Fin cfg0.N, (cfg0.win 4).flush t = true :=
  (by decide +kernel : ∀ t : Fin grid0.N, win0_4.flush t = true)
theorem flush5 : ∀ t : Fin cfg0.N, (cfg0.win 5).flush t = true ↔ t.val = 15 :=
  (by decide +kernel : ∀ t : Fin grid0.N, win0_5.flush t = true ↔ t.val = 15)

theorem tlt (t : Fin cfg0.N) : t.val < 16 := lt_of_lt_of_eq t.isLt (show cfg0.N = 16 from N_0)

/-- Token `r` of the block that point `t` reads. -/
def tok (t : Fin cfg0.N) (r : Fin 512) : Fin 8192 := ⟨512 * t.val + r.val, by have := tlt t; omega⟩

theorem blk0 (c : Dev nD) (t : Fin cfg0.N) (r : Fin 512) (j : Fin 1024) :
    iblk m c 0 t (ix2 r j) = A0 m c (ix2 (tok t r) j) := by
  unfold iblk
  rw [View.read_apply]
  refine (congrArg (V m c main_arg0) (funext fun a => Fin.ext ?_)).trans (congrFun (V_main_arg0 m c) _)
  match a with
  | ⟨0, _⟩ => show win0_0.index t 0 * 512 + 1 * r.val = 512 * t.val + r.val; rw [(idx0 t).1]; omega
  | ⟨1, _⟩ => show win0_0.index t 1 * 1024 + 1 * j.val = j.val; rw [(idx0 t).2]; omega

theorem blk1 (c : Dev nD) (t : Fin cfg0.N) (r : Fin 1024) (j : Fin 1024) :
    iblk m c 1 t (ix2 r j) = A1 m c (ix2 r j) := by
  unfold iblk
  rw [View.read_apply]
  refine (congrArg (V m c main_arg1) (funext fun a => Fin.ext ?_)).trans (congrFun (V_main_arg1 m c) _)
  match a with
  | ⟨0, _⟩ => show win0_1.index t 0 * 1024 + 1 * r.val = r.val; rw [(idx1 t).1]; omega
  | ⟨1, _⟩ => show win0_1.index t 1 * 1024 + 1 * j.val = j.val; rw [(idx1 t).2]; omega

theorem blk2 (c : Dev nD) (t : Fin cfg0.N) (r : Fin 512) (j : Fin 512) :
    iblk m c 2 t (ix2 r j) = A2 m c (ix2 (tok t r) j) := by
  unfold iblk
  rw [View.read_apply]
  refine (congrArg (V m c main_arg2) (funext fun a => Fin.ext ?_)).trans (congrFun (V_main_arg2 m c) _)
  match a with
  | ⟨0, _⟩ => show win0_2.index t 0 * 512 + 1 * r.val = 512 * t.val + r.val; rw [(idx2 t).1]; omega
  | ⟨1, _⟩ => show win0_2.index t 1 * 512 + 1 * j.val = j.val; rw [(idx2 t).2]; omega

theorem blk3 (c : Dev nD) (t : Fin cfg0.N) (r : Fin 512) (j : Fin 512) :
    iblk m c 3 t (ix2 r j) = A3 m c (ix2 (tok t r) j) := by
  unfold iblk
  rw [View.read_apply]
  refine (congrArg (V m c main_arg3) (funext fun a => Fin.ext ?_)).trans (congrFun (V_main_arg3 m c) _)
  match a with
  | ⟨0, _⟩ => show win0_3.index t 0 * 512 + 1 * r.val = 512 * t.val + r.val; rw [(idx3 t).1]; omega
  | ⟨1, _⟩ => show win0_3.index t 1 * 512 + 1 * j.val = j.val; rw [(idx3 t).2]; omega

/-- The two halves side by side: the matrix whose gradient is taken. -/
def cat (c : Dev nD) (s : Fin 8192) (r : Fin 1024) : EReal :=
  if h : r.val < 512 then A2 m c (ix2 s ⟨r.val, h⟩) else A3 m c (ix2 s ⟨r.val - 512, by omega⟩)

theorem cat_lo (c : Dev nD) (s : Fin 8192) (r : Fin 512) : cat m c s (lo r) = A2 m c (ix2 s r) := dif_pos r.isLt
theorem cat_hi (c : Dev nD) (s : Fin 8192) (r : Fin 512) : cat m c s (hi r) = A3 m c (ix2 s r) := by
  unfold cat
  rw [dif_neg (show ¬ (hi r).val < 512 by show ¬ 512 + r.val < 512; omega)]
  refine congrArg (fun k => A3 m c (ix2 s k)) (Fin.ext ?_)
  show 512 + r.val - 512 = r.val
  omega

/-- A row lies in the first half or in the second. -/
theorem half (i : Fin 1024) : (∃ r, i = lo r) ∨ (∃ r, i = hi r) := by
  by_cases h : i.val < 512
  · exact .inl ⟨⟨i.val, h⟩, rfl⟩
  · exact .inr ⟨⟨i.val - 512, by omega⟩, Fin.ext (by show i.val = 512 + (i.val - 512); omega)⟩

/-- The products that an entry of the weights' gradient sums, by token. -/
abbrev term (c : Dev nD) (i j : Fin 1024) (s : Fin 8192) : EReal := cat m c s i * A0 m c (ix2 s j)

/-- A point's blocks. -/
abbrev X0 (c : Dev nD) (t : Fin cfg0.N) : Vec Ideal S512x1024 .bf16 := iblk m c 0 t
abbrev X2 (c : Dev nD) (t : Fin cfg0.N) : Vec Ideal S512x512 .f32 := iblk m c 2 t
abbrev X3 (c : Dev nD) (t : Fin cfg0.N) : Vec Ideal S512x512 .bf16 := iblk m c 3 t

theorem part_lo (c : Dev nD) (t : Fin cfg0.N) (r : Fin 512) (j : Fin 1024) :
    (∑ k : Fin 512, X2 m c t (ix2 k r) * X0 m c t (ix2 k j))
      = ∑ k : Fin 512, ext (term m c (lo r) j) (512 * t.val + k.val) :=
  Finset.sum_congr rfl fun k _ => (congrArg₂ (fun a b : EReal => a * b) ((blk2 m c t k r).trans (cat_lo m c _ r).symm) (blk0 m c t k j)).trans
    (ext_of_lt (term m c (lo r) j) _ (tok t k).isLt).symm

theorem part_hi (c : Dev nD) (t : Fin cfg0.N) (r : Fin 512) (j : Fin 1024) :
    (∑ k : Fin 512, X3 m c t (ix2 k r) * X0 m c t (ix2 k j))
      = ∑ k : Fin 512, ext (term m c (hi r) j) (512 * t.val + k.val) :=
  Finset.sum_congr rfl fun k _ => (congrArg₂ (fun a b : EReal => a * b) ((blk3 m c t k r).trans (cat_hi m c _ r).symm) (blk0 m c t k j)).trans
    (ext_of_lt (term m c (hi r) j) _ (tok t k).isLt).symm

/-- After each point the weights' gradient holds the sum over the tokens read so far. -/
theorem outs5_eq (c : Dev nD) : ∀ (n : ℕ) (h : n < cfg0.N) (i j : Fin 1024),
    (outsAt0 m c n h).2 (ix2 i j) = ∑ k ∈ Finset.range (512 * n + 512), ext (term m c i j) k := by
  intro n
  induction n with
  | zero =>
    intro h i j
    rw [show outsAt0 m c 0 h = _ from outsAt0_A m c ⟨0, h⟩ rfl]
    dsimp only
    rw [range_first]
    rcases half i with ⟨r, rfl⟩ | ⟨r, rfl⟩
    · exact (out_A5_lo ..).trans ((part_lo m c ⟨0, h⟩ r j).trans (Finset.sum_congr rfl fun k _ => congrArg (ext _) (Nat.zero_add _)))
    · exact (out_A5_hi ..).trans ((part_hi m c ⟨0, h⟩ r j).trans (Finset.sum_congr rfl fun k _ => congrArg (ext _) (Nat.zero_add _)))
  | succ n ih =>
    intro h i j
    have hn : n + 1 < 16 := tlt ⟨n + 1, h⟩
    rw [show outsAt0 m c (n + 1) h = _ from outsAt0_B m c ⟨n + 1, h⟩ (show ¬(n + 1) % 16 = 0 by omega)]
    dsimp only
    rw [range_add, show 512 * (n + 1) = 512 * n + 512 by omega]
    rcases half i with ⟨r, rfl⟩ | ⟨r, rfl⟩
    · exact (out_B5_lo ..).trans (congrArg₂ (fun a b : EReal => a + b) (ih (Nat.lt_of_succ_lt h) (lo r) j) (part_lo m c ⟨n + 1, h⟩ r j))
    · exact (out_B5_hi ..).trans (congrArg₂ (fun a b : EReal => a + b) (ih (Nat.lt_of_succ_lt h) (hi r) j) (part_hi m c ⟨n + 1, h⟩ r j))

/-- The first result: the cotangent times the weights' transpose. -/
def result4 (c : Dev nD) : FVec Ideal S8192x1024 .f32 := fun y => ∑ k : Fin 1024, A0 m c (ix2 (y 0) k) * A1 m c (ix2 (y 1) k)

/-- The second result: the weights' gradient, every entry a sum over all tokens. -/
def result5 (c : Dev nD) : FVec Ideal S1024x1024 .f32 := fun y => ∑ s : Fin 8192, term m c (y 0) (y 1) s

theorem outs4_eq (c : Dev nD) (t : Fin cfg0.N) : (outsAt0 m c t.val t.isLt).1 = k0_pay2 (iblk m c 0 t) (iblk m c 1 t) := by
  by_cases h0 : t.val % 16 = 0
  · rw [outsAt0_A m c t h0]; dsimp only; exact out_A4 ..
  · rw [outsAt0_B m c t h0]; dsimp only; exact out_B4 ..

theorem flushed4_eq (c : Dev nD) (t : Fin cfg0.N) :
    (dats m 0 c).flushed 4 t = ((cfg0.win 4).blk t).view.read (Elt Ideal) (result4 m c) := by
  rw [Value.flushed4, outs4_eq]
  funext y
  rw [View.read_apply]
  refine Eq.trans ((congrArg (k0_pay2 (iblk m c 0 t) (iblk m c 1 t)) (ValueIdx.eq_ix2 y)).trans (pay2_apply _ _ (y 0) (y 1))) ?_
  refine (Finset.sum_congr rfl fun k _ => congrArg₂ (fun a b : EReal => a * b) (blk0 m c t (y 0) k) (blk1 m c t (y 1) k)).trans ?_
  refine congrArg₂ (fun s i => ∑ k : Fin 1024, A0 m c (ix2 s k) * A1 m c (ix2 i k)) (Fin.ext ?_) (Fin.ext ?_)
  · show 512 * t.val + (y 0).val = win0_4.index t 0 * 512 + 1 * (y 0).val; rw [(idx4 t).1]; omega
  · show (y 1).val = win0_4.index t 1 * 1024 + 1 * (y 1).val; rw [(idx4 t).2]; omega

/-- The first result array after the run. -/
theorem final4 (c : Dev nD) : (dats m 0 c).arrAt 4 cfg0.N = result4 m c :=
  (dats m 0 c).arrAt_eq_of_cover 4 (result4 m c) (fun t _ => flushed4_eq m c t) fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    have tv : t.val = (i 0 : Nat) / 512 := rfl
    refine ⟨t, flush4 t, ?_⟩
    show i ∈ ((View.whole main_v0_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(idx4 t).1]; omega
    | ⟨1, _⟩ =>
      show win0_4.index t 1 * 1024 ≤ (i 1 : Nat) ∧ (i 1 : Nat) < win0_4.index t 1 * 1024 + 1024
      rw [(idx4 t).2]; omega

theorem flushed5_eq (c : Dev nD) (t : Fin cfg0.N) (hf : (cfg0.win 5).flush t = true) :
    (dats m 0 c).flushed 5 t = ((cfg0.win 5).blk t).view.read (Elt Ideal) (result5 m c) := by
  have h3 := (flush5 t).mp hf
  rw [Value.flushed5]
  funext y
  rw [View.read_apply]
  refine Eq.trans ((congrArg (outsAt0 m c t.val t.isLt).2 (ValueIdx.eq_ix2 y)).trans (outs5_eq m c t.val t.isLt (y 0) (y 1))) ?_
  rw [h3, show 512 * 15 + 512 = 8192 from rfl, range_all]
  refine congrArg₂ (fun i j => ∑ s : Fin 8192, term m c i j s) (Fin.ext ?_) (Fin.ext ?_)
  · show (y 0).val = win0_5.index t 0 * 1024 + 1 * (y 0).val; rw [(idx5 t).1]; omega
  · show (y 1).val = win0_5.index t 1 * 1024 + 1 * (y 1).val; rw [(idx5 t).2]; omega

/-- The second result array after the run. -/
theorem final5 (c : Dev nD) : (dats m 0 c).arrAt 5 cfg0.N = result5 m c :=
  (dats m 0 c).arrAt_eq_of_cover 5 (result5 m c) (flushed5_eq m c) fun i => by
    have h0 : (i 0 : Nat) < 1024 := (i 0).isLt
    have h1 : (i 1 : Nat) < 1024 := (i 1).isLt
    let t : Fin cfg0.N := ⟨15, by rw [show cfg0.N = 16 from N_0]; omega⟩
    refine ⟨t, (flush5 t).mpr rfl, ?_⟩
    show i ∈ ((View.whole main_v0_1).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [(idx5 t).1]; omega
    | ⟨1, _⟩ =>
      show win0_5.index t 1 * 1024 ≤ (i 1 : Nat) ∧ (i 1 : Nat) < win0_5.index t 1 * 1024 + 1024
      rw [(idx5 t).2]; omega

end Cert.Kernel4Ideal.Outproj
end
-- ==== Proof.OutprojRef.lean ====
module

public import proofs.«01_k».proof.Proof.Gen.Reference4Ideal.Run
public import Idealize.ShloMosaic.Lib.ValueIdx
public import Idealize.ShloMosaic.Lib.ValueLayout
public import Idealize.ShloMosaic.Lib.Pipeline.Value
public import Idealize.ShloMosaic.PureOps.Ideal
public import Idealize.ShloMosaic.PureOps.Ideal.Laws

@[expose] public section

set_option maxRecDepth 16384

noncomputable section

namespace Cert.Reference4Ideal.Outproj

open Cert.Reference4Ideal Cert.Reference4Ideal.Gen Idealize.ShloMosaic Idealize.ShloMosaic.TcCoe Idealize.SL.Sem
open Idealize.ShloMosaic.ValueIdx
open scoped BigOperators

/-- The product of a matrix with another's transpose, both contracted along their columns, read at an entry. -/
theorem nt_apply (A : FVec Ideal S8192x1024 .f32) (B : FVec Ideal S1024x1024 .f32)
    (i : Fin 8192) (j : Fin 1024) :
    Host.dotGeneral dot_S8192x1024_S1024x1024_S8192x1024_1_1_0_0_n_n none A B (ix2 i j) = ∑ r : Fin 1024, A (ix2 i r) * B (ix2 j r) := by
  show FloatOps.dotGeneral _ none _ A B (ix2 i j) = _
  rw [Ideal.dotGeneral_apply, ← Equiv.sum_comp (contrEquiv1 dot_S8192x1024_S1024x1024_S8192x1024_1_1_0_0_n_n 1024 rfl rfl).symm]
  refine Finset.sum_congr rfl fun r _ => ?_
  have hk := contrEquiv1_symm_val dot_S8192x1024_S1024x1024_S8192x1024_1_1_0_0_n_n 1024 rfl rfl r
  have el : dot_S8192x1024_S1024x1024_S8192x1024_1_1_0_0_n_n.lhsIdx (ix2 i j) ((contrEquiv1 dot_S8192x1024_S1024x1024_S8192x1024_1_1_0_0_n_n 1024 rfl rfl).symm r) = ix2 i r := by
    funext a; apply Fin.ext
    match a with
    | ⟨0, _⟩ => rfl
    | ⟨1, _⟩ => exact hk
  have er : dot_S8192x1024_S1024x1024_S8192x1024_1_1_0_0_n_n.rhsIdx (ix2 i j) ((contrEquiv1 dot_S8192x1024_S1024x1024_S8192x1024_1_1_0_0_n_n 1024 rfl rfl).symm r) = ix2 j r := by
    funext a; apply Fin.ext
    match a with
    | ⟨0, _⟩ => rfl
    | ⟨1, _⟩ => exact hk
  rw [el, er]

/-- The product of one matrix's transpose with another, both contracted along their tokens, read at an entry. -/
theorem tn_apply (A : FVec Ideal S8192x1024 .f32) (B : FVec Ideal S8192x1024 .f32)
    (i : Fin 1024) (j : Fin 1024) :
    Host.dotGeneral dot_S8192x1024_S8192x1024_S1024x1024_0_0_1_1_n_n none A B (ix2 i j) = ∑ r : Fin 8192, A (ix2 r i) * B (ix2 r j) := by
  show FloatOps.dotGeneral _ none _ A B (ix2 i j) = _
  rw [Ideal.dotGeneral_apply, ← Equiv.sum_comp (contrEquiv1 dot_S8192x1024_S8192x1024_S1024x1024_0_0_1_1_n_n 8192 rfl rfl).symm]
  refine Finset.sum_congr rfl fun r _ => ?_
  have hk := contrEquiv1_symm_val dot_S8192x1024_S8192x1024_S1024x1024_0_0_1_1_n_n 8192 rfl rfl r
  have el : dot_S8192x1024_S8192x1024_S1024x1024_0_0_1_1_n_n.lhsIdx (ix2 i j) ((contrEquiv1 dot_S8192x1024_S8192x1024_S1024x1024_0_0_1_1_n_n 8192 rfl rfl).symm r) = ix2 r i := by
    funext a; apply Fin.ext
    match a with
    | ⟨0, _⟩ => exact hk
    | ⟨1, _⟩ => rfl
  have er : dot_S8192x1024_S8192x1024_S1024x1024_0_0_1_1_n_n.rhsIdx (ix2 i j) ((contrEquiv1 dot_S8192x1024_S8192x1024_S1024x1024_0_0_1_1_n_n 8192 rfl rfl).symm r) = ix2 r j := by
    funext a; apply Fin.ext
    match a with
    | ⟨0, _⟩ => exact hk
    | ⟨1, _⟩ => rfl
  rw [el, er]

/-- Two halves side by side, read at an entry. -/
def cat (X : FVec Ideal S8192x512 .f32) (Y : FVec Ideal S8192x512 .bf16) (s : Fin 8192) (r : Fin 1024) : EReal :=
  if h : r.val < 512 then X (ix2 s ⟨r.val, h⟩) else Y (ix2 s ⟨r.val - 512, by omega⟩)

theorem concat_apply (X : FVec Ideal S8192x512 .f32) (Y : FVec Ideal S8192x512 .bf16) (s : Fin 8192) (r : Fin 1024) :
    (concatenate S8192x1024 1 [⟨S8192x512, X⟩, ⟨S8192x512, (extf .f32 Y bitsLt_bf16_f32)⟩] concatenates_S8192x512_S8192x512_S8192x1024_d1
      : FVec Ideal S8192x1024 .f32) (ix2 s r) = cat X Y s r := by
  unfold cat
  by_cases h : r.val < 512
  · rw [dif_pos h]
    exact concatenate_pair_apply_left (1 : Fin 2) X _ _ (ix2 s r) rfl (ix2 s ⟨r.val, h⟩) (fun b => match b with
      | ⟨0, _⟩ => rfl
      | ⟨1, _⟩ => rfl)
  · rw [dif_neg h]
    exact concatenate_pair_apply_right (1 : Fin 2) X (extf .f32 Y bitsLt_bf16_f32) _ (ix2 s r) rfl rfl (ix2 s ⟨r.val - 512, by omega⟩)
      (fun b => match b with
        | ⟨0, _⟩ => fun _ => rfl
        | ⟨1, _⟩ => fun hb => absurd rfl hb)
      (show r.val - 512 + 512 = r.val by omega)

/-- The reference's first result at an entry. -/
theorem res4_apply (A : FVec Ideal S8192x1024 .bf16) (B : FVec Ideal S1024x1024 .bf16) (i : Fin 8192) (j : Fin 1024) :
    Host.dotGeneral dot_S8192x1024_S1024x1024_S8192x1024_1_1_0_0_n_n none (extf .f32 A bitsLt_bf16_f32) (extf .f32 B bitsLt_bf16_f32) (ix2 i j)
      = ∑ k : Fin 1024, A (ix2 i k) * B (ix2 j k) := nt_apply _ _ i j

/-- The reference's second result at an entry. -/
theorem res5_apply (A : FVec Ideal S8192x1024 .bf16) (X : FVec Ideal S8192x512 .f32) (Y : FVec Ideal S8192x512 .bf16) (i j : Fin 1024) :
    transpose S1024x1024 [1, 0] (Host.dotGeneral dot_S8192x1024_S8192x1024_S1024x1024_0_0_1_1_n_n none (extf .f32 A bitsLt_bf16_f32)
      (concatenate S8192x1024 1 [⟨S8192x512, X⟩, ⟨S8192x512, (extf .f32 Y bitsLt_bf16_f32)⟩] concatenates_S8192x512_S8192x512_S8192x1024_d1))
      transposes_S1024x1024_S1024x1024_1_0 (ix2 i j) = ∑ s : Fin 8192, cat X Y s i * A (ix2 s j) := by
  rw [transpose_apply _ _ _ (ix2 i j) (ix2 j i) (fun a => match a with
    | ⟨0, _⟩ => rfl
    | ⟨1, _⟩ => rfl)]
  refine (tn_apply _ _ j i).trans (Finset.sum_congr rfl fun s _ => ?_)
  rw [mul_comm (G := EReal), concat_apply]
  rfl

end Cert.Reference4Ideal.Outproj
end
-- ==== Proof.Norm.lean ====
/- Rows of 1024 entries, their root mean square norm and the norm's gradient; and sums over rows and columns, read at an entry. -/
module

public import Idealize.ShloMosaic.Lib.ValueIdx
public import Idealize.ShloMosaic.Lib.ValueLayout
public import Idealize.ShloMosaic.Lib.IdealHost
public import Idealize.ShloMosaic.Lib.Pipeline.Value
public import Idealize.ShloMosaic.PureOps.Ideal
public import Idealize.ShloMosaic.PureOps.Ideal.Laws

@[expose] public section

set_option maxRecDepth 16384

noncomputable section

namespace Cert.Norm

open Idealize.ShloMosaic Idealize.ShloMosaic.ValueIdx
open scoped BigOperators

section
variable {a b : ℕ}

/-- A kernel's sum along the rows' entries. -/
theorem rowSum (src : FVec Ideal ⟨2, ![a, b]⟩ .f32) (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src _ h hφ hacc (ix1 r)).trans (Finset.sum_congr rfl fun k _ => congrArg src ?_)
  funext z
  apply Fin.ext
  match z with
  | ⟨0, _⟩ => rfl
  | ⟨1, _⟩ => rfl

/-- A kernel's sum along the columns' entries. -/
theorem colSum (src : FVec Ideal ⟨2, ![a, b]⟩ .f32) (h : Shape.Reduces ⟨2, ![a, b]⟩ [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src _ h hφ hacc (ix1 j)).trans (Finset.sum_congr rfl fun k _ => congrArg src ?_)
  funext z
  apply Fin.ext
  match z with
  | ⟨0, _⟩ => rfl
  | ⟨1, _⟩ => rfl

/-- A column of numbers as a matrix of one column. -/
theorem cast_a_a1 {α : Type} (x : (⟨1, ![a]⟩ : Shape).Idx → α) (h : (⟨1, ![a]⟩ : Shape).ShapeCasts ⟨2, ![a, 1]⟩) (r : Fin a) :
    shapeCast ⟨2, ![a, 1]⟩ x h (ix2 r 0) = x (ix1 r) :=
  shapeCast_apply x h (ix2 r 0) (ix1 r) (by
    rw [Shape.rowMajor_val_two, Shape.rowMajor_val_one]
    show r.val = r.val * 1 + 0
    omega)

/-- A matrix of one column, repeated along every row. -/
theorem bc_a1_ab {α : Type} (x : (⟨2, ![a, 1]⟩ : Shape).Idx → α) (h : (⟨2, ![a, 1]⟩ : Shape).Broadcasts ⟨2, ![a, b]⟩) (r : Fin a) (k : Fin b) :
    broadcastTo ⟨2, ![a, b]⟩ x h (ix2 r k) = x (ix2 r 0) :=
  broadcastTo_apply x h (ix2 r k) (ix2 r 0) fun z => match z with
    | ⟨0, _⟩ => by
      show r.val = if a = 1 then 0 else r.val
      split
      · have := r.isLt; omega
      · rfl
    | ⟨1, _⟩ => rfl

/-- The host's: a matrix of one column, repeated along every row. -/
theorem hbc_a1_ab {α : Type} (x : (⟨2, ![a, 1]⟩ : Shape).Idx → α) (h : (⟨2, ![a, 1]⟩ : Shape).BroadcastsInDim ⟨2, ![a, b]⟩ ![0, 1])
    (r : Fin a) (k : Fin b) : broadcastInDim ⟨2, ![a, b]⟩ ![0, 1] h x (ix2 r k) = x (ix2 r 0) :=
  broadcastInDim_apply _ h x (ix2 r k) (ix2 r 0) fun z => match z with
    | ⟨0, _⟩ => by
      show r.val = if a = 1 then 0 else r.val
      split
      · have := r.isLt; omega
      · rfl
    | ⟨1, _⟩ => rfl

/-- The host's: one row, repeated. -/
theorem hbc_1b_ab {α : Type} (x : (⟨2, ![1, b]⟩ : Shape).Idx → α) (h : (⟨2, ![1, b]⟩ : Shape).BroadcastsInDim ⟨2, ![a, b]⟩ ![0, 1])
    (r : Fin a) (k : Fin b) : broadcastInDim ⟨2, ![a, b]⟩ ![0, 1] h x (ix2 r k) = x (ix2 0 k) :=
  broadcastInDim_apply _ h x (ix2 r k) (ix2 0 k) fun z => match z with
    | ⟨0, _⟩ => rfl
    | ⟨1, _⟩ => by
      show k.val = if b = 1 then 0 else k.val
      split
      · have := k.isLt; omega
      · rfl

/-- The host's: a column of numbers, repeated along every row. -/
theorem hbc_a_ab {α : Type} (x : (⟨1, ![a]⟩ : Shape).Idx → α) (h : (⟨1, ![a]⟩ : Shape).BroadcastsInDim ⟨2, ![a, b]⟩ ![0])
    (r : Fin a) (k : Fin b) : broadcastInDim ⟨2, ![a, b]⟩ ![0] h x (ix2 r k) = x (ix1 r) :=
  broadcastInDim_apply _ h x (ix2 r k) (ix1 r) fun z => match z with
    | ⟨0, _⟩ => by
      show r.val = if a = 1 then 0 else r.val
      split
      · have := r.isLt; omega
      · rfl

/-- The host's sum along the rows' entries. -/
theorem hRowSum (src : FVec Ideal ⟨2, ![a, b]⟩ .f32) (h : Shape.ReducesTo ⟨2, ![a, b]⟩ [1] ⟨1, ![a]⟩) (hu : 0 < (⟨0, ![]⟩ : Shape).numel) (r : Fin a) :
    Host.reduceAdd src (constant (F := Ideal) ⟨0, ![]⟩ .f32 0x00000000#32) h hu (ix1 r) = ∑ k : Fin b, src (ix2 r k) := by
  rw [hostReduceAdd_apply]
  have h' : Shape.Reduces ⟨2, ![a, b]⟩ [1] ⟨1, ![a]⟩ := ⟨h.1, Nat.one_pos, h.2⟩
  refine (Ideal.hostReduceAdd_single h h' src _ (ix1 r)).trans ?_
  rw [show (constant (F := Ideal) ⟨0, ![]⟩ .f32 0x00000000#32) (Shape.Idx.first hu) = (0 : EReal) from Ideal.ofBits_zero_f32, zero_add]
  refine Finset.sum_congr rfl fun k _ => congrArg src ?_
  funext z
  apply Fin.ext
  match z with
  | ⟨0, _⟩ => rfl
  | ⟨1, _⟩ => rfl

/-- The host's sum along the columns' entries. -/
theorem hColSum (src : FVec Ideal ⟨2, ![a, b]⟩ .f32) (h : Shape.ReducesTo ⟨2, ![a, b]⟩ [0] ⟨1, ![b]⟩) (hu : 0 < (⟨0, ![]⟩ : Shape).numel) (r : Fin b) :
    Host.reduceAdd src (constant (F := Ideal) ⟨0, ![]⟩ .f32 0x00000000#32) h hu (ix1 r) = ∑ k : Fin a, src (ix2 k r) := by
  rw [hostReduceAdd_apply]
  have h' : Shape.Reduces ⟨2, ![a, b]⟩ [0] ⟨1, ![b]⟩ := ⟨h.1, Nat.one_pos, h.2⟩
  refine (Ideal.hostReduceAdd_single h h' src _ (ix1 r)).trans ?_
  rw [show (constant (F := Ideal) ⟨0, ![]⟩ .f32 0x00000000#32) (Shape.Idx.first hu) = (0 : EReal) from Ideal.ofBits_zero_f32, zero_add]
  refine Finset.sum_congr rfl fun k _ => congrArg src ?_
  funext z
  apply Fin.ext
  match z with
  | ⟨0, _⟩ => rfl
  | ⟨1, _⟩ => rfl

end

/-- The divisor of a mean over 1024 entries, the number added below the root, and the derivative's factor. -/
abbrev n1024 : EReal := Ideal.ofBits .f32 0x44800000#32
abbrev small : EReal := Ideal.ofBits .f32 0x358637BD#32
abbrev mhalf : EReal := Ideal.ofBits .f32 0xBF000000#32

theorem n1024_eq : n1024 = ((1024 : ℝ) : EReal) := by
  simp [n1024, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem small_pos : ∃ e : ℝ, 0 < e ∧ small = (e : EReal) := by
  refine ⟨_, ?_, by simp [small, Ideal.ofBits, Ideal.ieee]; rfl⟩
  positivity

/-- The mean square of a row plus the small number, and its root's reciprocal. -/
def ms (x : Fin 1024 → EReal) : EReal := Ideal.div (∑ k, x k * x k) n1024 + small
def rstd (x : Fin 1024 → EReal) : EReal := Ideal.rsqrt (ms x)

section
variable {a : ℕ}

/-- A kernel's reciprocal root mean square of a row. -/
theorem kernel_rstd (v : FVec Ideal ⟨2, ![a, 1024]⟩ .f32) (h : Shape.Reduces ⟨2, ![a, 1024]⟩ [1] ⟨1, ![a]⟩) (hφ : FKind.Formats .f32)
    (hacc : (0x00000000#32 : BitVec 32) = FKind.add.neutral .f32 hφ) (hs : (⟨1, ![a]⟩ : Shape).ShapeCasts ⟨2, ![a, 1]⟩) (r : Fin a) :
    rsqrt (addf (divf (shapeCast ⟨2, ![a, 1]⟩ (multiReduction .add [1] ⟨1, ![a]⟩ (mulf v v) 0x00000000#32 h hφ hacc) hs)
      (broadcast ⟨2, ![a, 1]⟩ (Scalar.ofBits .f32 0x44800000#32))) (broadcast ⟨2, ![a, 1]⟩ (Scalar.ofBits .f32 0x358637BD#32)))
      (ix2 r 0) = rstd fun k => v (ix2 r k) := by
  show Ideal.rsqrt (Ideal.div (shapeCast ⟨2, ![a, 1]⟩ (multiReduction .add [1] ⟨1, ![a]⟩ (mulf v v) 0x00000000#32 h hφ hacc) hs (ix2 r 0)) n1024 + small) = _
  rw [cast_a_a1, rowSum]
  rfl

/-- The host's mean square of a row plus the small number. -/
abbrev hms (v : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![]) :
    FVec Ideal ⟨2, ![a, 1]⟩ .f32 :=
  addf (Host.divf (broadcastInDim ⟨2, ![a, 1]⟩ ![0] hb (Host.reduceAdd (mulf v v) (constant ⟨0, ![]⟩ .f32 0x00000000#32) h hu))
    (broadcastInDim ⟨2, ![a, 1]⟩ ![] hc (constant ⟨0, ![]⟩ .f32 0x44800000#32)))
    (broadcastInDim ⟨2, ![a, 1]⟩ ![] hc (constant ⟨0, ![]⟩ .f32 0x358637BD#32))

theorem host_ms (v : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![]) (r : Fin a) :
    hms v h hu hb hc (ix2 r 0) = ms fun k => v (ix2 r k) := by
  show Ideal.div (broadcastInDim ⟨2, ![a, 1]⟩ ![0] hb (Host.reduceAdd (mulf v v) (constant ⟨0, ![]⟩ .f32 0x00000000#32) h hu) (ix2 r 0)) n1024
    + small = _
  rw [hbc_a_ab, hRowSum]
  rfl

end

/-- A square is not negative, and infinite for an infinite number. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A row with an infinite entry has an infinite mean square. -/
theorem ms_top (x : Fin 1024 → EReal) (k : Fin 1024) (hk : x k * x k = ⊤) : ms x = ⊤ := by
  have hS : (∑ k, x k * x k) = ⊤ :=
    top_le_iff.mp (hk ▸ Finset.single_le_sum (f := fun k => x k * x k) (fun i _ => sq_nonneg' (x i)) (Finset.mem_univ k))
  obtain ⟨e, _, he⟩ := small_pos
  unfold ms
  rw [hS, n1024_eq, he]
  unfold Ideal.div
  rw [if_neg (by norm_num), ← EReal.coe_inv, EReal.top_mul_coe_of_pos (by norm_num), EReal.top_add_coe]

/-- A sum of real numbers, read as extended reals. -/
theorem coe_sum {ι : Type} (S : Finset ι) (g : ι → ℝ) : ∑ k ∈ S, ((g k : ℝ) : EReal) = ((∑ k ∈ S, g k : ℝ) : EReal) := by
  classical
  induction S using Finset.induction_on with
  | empty => rfl
  | insert a S ha ih => rw [Finset.sum_insert ha, Finset.sum_insert ha, ih, EReal.coe_add]

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- A row of real entries has a positive real mean square, and the root's reciprocal is that of the real numbers. -/
theorem ms_real (X : Fin 1024 → ℝ) : ∃ M : ℝ, 0 < M ∧ ms (fun k => (X k : EReal)) = (M : EReal)
    ∧ rstd (fun k => (X k : EReal)) = (((Real.sqrt M)⁻¹ : ℝ) : EReal) := by
  obtain ⟨e, he0, he⟩ := small_pos
  have hM : 0 < (∑ k, X k * X k) / 1024 + e := by
    have : 0 ≤ ∑ k, X k * X k := Finset.sum_nonneg fun k _ => mul_self_nonneg (X k)
    positivity
  have hms : ms (fun k => (X k : EReal)) = (((∑ k, X k * X k) / 1024 + e : ℝ) : EReal) := by
    unfold ms
    rw [he, n1024_eq, EReal.coe_add, ← div_coe _ _ (by norm_num), ← coe_sum]
    simp only [EReal.coe_mul]
  refine ⟨_, hM, hms, ?_⟩
  unfold rstd
  rw [hms, Ideal.rsqrt_coe, if_neg (not_lt.mpr hM.le), if_neg hM.ne']

/-- A row is real or has an infinite entry. -/
theorem row_cases (x : Fin 1024 → EReal) : (∃ X : Fin 1024 → ℝ, x = fun k => (X k : EReal)) ∨ ms x = ⊤ := by
  by_cases h : ∀ k, x k ≠ ⊤ ∧ x k ≠ ⊥
  · exact .inl ⟨fun k => (x k).toReal, funext fun k => (EReal.coe_toReal (h k).1 (h k).2).symm⟩
  · push Not at h
    obtain ⟨k, hk⟩ := h
    refine .inr (ms_top x k ?_)
    by_cases ht : x k = ⊤
    · rw [ht, EReal.top_mul_top]
    · rw [hk ht, EReal.bot_mul_bot]

/-- The gradient of the norm by its row as the kernels compute it: `d` is the cotangent times the gain. -/
def back (x d : Fin 1024 → EReal) (k : Fin 1024) : EReal :=
  rstd x * (d k - x k * rstd x * Ideal.div (∑ j, d j * (x j * rstd x)) n1024)

/-- The derivative by the mean square, as the product rule gives it. -/
def byMs (x d : Fin 1024 → EReal) : EReal := Ideal.div ((∑ j, x j * d j) * (mhalf * Ideal.div (rstd x) (ms x))) n1024

theorem div_n1024 (y : EReal) : Ideal.div y n1024 = y * ((1024⁻¹ : ℝ) : EReal) := by
  unfold Ideal.div
  rw [n1024_eq, if_neg (by norm_num), ← EReal.coe_inv]

/-- A sum of multiples by one real number that is not negative. -/
theorem sum_scaled {ι : Type} (S : Finset ι) (f : ι → EReal) (R : ℝ) (hR : 0 ≤ R) : ∑ j ∈ S, f j * (R : EReal) = (∑ j ∈ S, f j) * (R : EReal) := by
  classical
  induction S using Finset.induction_on with
  | empty => rw [Finset.sum_empty, Finset.sum_empty, zero_mul]
  | insert a S ha ih =>
    rw [Finset.sum_insert ha, Finset.sum_insert ha, ih,
      EReal.right_distrib_of_nonneg_of_ne_top (EReal.coe_nonneg.mpr hR) (EReal.coe_ne_top R)]

/-- Twice the same number, which may be infinite. -/
theorem add_same (s : EReal) (y : ℝ) : s * (y : EReal) + s * (y : EReal) = s * ((2 * y : ℝ) : EReal) := by
  have h := EReal.right_distrib_of_nonneg (a := 1) (b := 1) (c := s * (y : EReal)) zero_le_one zero_le_one
  rw [one_mul] at h
  rw [← h, show (1 + 1 : EReal) = ((2 : ℝ) : EReal) by rw [show (2 : ℝ) = 1 + 1 by norm_num, EReal.coe_add, EReal.coe_one], mul_left_comm, ← EReal.coe_mul]

/-- The product rule's gradient is the kernels': the row and the cotangent may hold infinite entries. -/
theorem back_eq (x d : Fin 1024 → EReal) (k : Fin 1024) : d k * rstd x + x k * byMs x d + byMs x d * x k = back x d k := by
  unfold byMs back
  rcases row_cases x with ⟨X, rfl⟩ | h
  · obtain ⟨M, hM, h1, h2⟩ := ms_real X
    have hr : (Real.sqrt M)⁻¹ * (Real.sqrt M)⁻¹ = M⁻¹ := by rw [← mul_inv, Real.mul_self_sqrt hM.le]
    have hR : 0 ≤ (Real.sqrt M)⁻¹ := by positivity
    rw [h1, h2, mhalf_eq, div_coe _ _ hM.ne']
    generalize (Real.sqrt M)⁻¹ = R at hr hR ⊢
    have hS : ∑ j, d j * ((X j : EReal) * (R : EReal)) = (∑ j, (X j : EReal) * d j) * (R : EReal) := by
      rw [← sum_scaled _ _ R hR]
      exact Finset.sum_congr rfl fun j _ => by rw [mul_comm (X j : EReal) (d j), mul_assoc]
    rw [hS, div_n1024, div_n1024]
    generalize (∑ j, (X j : EReal) * d j) = S
    have e1 : S * (((-(1 / 2) : ℝ) : EReal) * ((R / M : ℝ) : EReal)) * ((1024⁻¹ : ℝ) : EReal) = S * ((-(1 / 2) * (R / M) * 1024⁻¹ : ℝ) : EReal) := by
      rw [← EReal.coe_mul, mul_assoc, ← EReal.coe_mul]
    have e2 : (X k : EReal) * (R : EReal) * (S * (R : EReal) * ((1024⁻¹ : ℝ) : EReal)) = S * ((X k * R * (R * 1024⁻¹) : ℝ) : EReal) := by
      rw [mul_assoc S, ← EReal.coe_mul, ← EReal.coe_mul, mul_left_comm, ← EReal.coe_mul]
    rw [e1, e2, mul_left_comm, mul_assoc S, ← EReal.coe_mul, ← EReal.coe_mul, mul_comm (X k), add_assoc, add_same, sub_eq_add_neg,
      EReal.left_distrib_of_nonneg_of_ne_top (EReal.coe_nonneg.mpr hR) (EReal.coe_ne_top R), mul_comm (d k)]
    refine congrArg (fun u : EReal => (R : EReal) * d k + u) ?_
    rw [← mul_neg, ← EReal.coe_neg, mul_left_comm (R : EReal), ← EReal.coe_mul]
    refine congrArg (fun u : ℝ => S * (u : EReal)) ?_
    rw [div_eq_mul_inv R M, ← hr]
    ring
  · have hr : rstd x = 0 := by unfold rstd; rw [h]; rfl
    rw [hr, h]
    have h0 : Ideal.div 0 n1024 = 0 := by
      unfold Ideal.div
      rw [n1024_eq, if_neg (by norm_num), zero_mul]
    have h1 : Ideal.div 0 ⊤ = 0 := by
      unfold Ideal.div
      rw [if_neg (by simp), zero_mul]
    simp only [h1, mul_zero, zero_mul, h0, add_zero]

/-- A normed row, with its gain, scaled and shifted. -/
abbrev one32 : EReal := Ideal.ofBits .f32 0x3F800000#32
def modRow (x g sc sh : Fin 1024 → EReal) (k : Fin 1024) : EReal := x k * rstd x * g k * (one32 + sc k) + sh k

section
variable {a : ℕ}

/-- A kernel's column of reciprocal root mean squares. -/
abbrev krstd (v : FVec Ideal ⟨2, ![a, 1024]⟩ .f32) (h : Shape.Reduces ⟨2, ![a, 1024]⟩ [1] ⟨1, ![a]⟩)
    (hs : (⟨1, ![a]⟩ : Shape).ShapeCasts ⟨2, ![a, 1]⟩) : FVec Ideal ⟨2, ![a, 1]⟩ .f32 :=
  rsqrt (addf (divf (shapeCast ⟨2, ![a, 1]⟩ (multiReduction .add [1] ⟨1, ![a]⟩ (mulf v v) 0x00000000#32 h (.inl rfl) rfl) hs)
      (broadcast ⟨2, ![a, 1]⟩ (Scalar.ofBits .f32 0x44800000#32))) (broadcast ⟨2, ![a, 1]⟩ (Scalar.ofBits .f32 0x358637BD#32)))

/-- A kernel's normed, scaled and shifted rows. -/
theorem kernel_mod (v : FVec Ideal ⟨2, ![a, 1024]⟩ .f32) (g sc sh : FVec Ideal ⟨2, ![1, 1024]⟩ .f32)
    (h : Shape.Reduces ⟨2, ![a, 1024]⟩ [1] ⟨1, ![a]⟩) (hs : (⟨1, ![a]⟩ : Shape).ShapeCasts ⟨2, ![a, 1]⟩)
    (hb : (⟨2, ![a, 1]⟩ : Shape).Broadcasts ⟨2, ![a, 1024]⟩) (hg : (⟨2, ![1, 1024]⟩ : Shape).Broadcasts ⟨2, ![a, 1024]⟩) (r : Fin a) (k : Fin 1024) :
    (addf (mulf (mulf (mulf v (broadcastTo ⟨2, ![a, 1024]⟩ (krstd v h hs) hb)) (broadcastTo ⟨2, ![a, 1024]⟩ g hg))
      (broadcastTo ⟨2, ![a, 1024]⟩ (addf (broadcast ⟨2, ![1, 1024]⟩ (Scalar.ofBits .f32 0x3F800000#32)) sc) hg))
      (broadcastTo ⟨2, ![a, 1024]⟩ sh hg) : FVec Ideal ⟨2, ![a, 1024]⟩ .f32) (ix2 r k)
      = modRow (fun k => v (ix2 r k)) (fun k => g (ix2 0 k)) (fun k => sc (ix2 0 k)) (fun k => sh (ix2 0 k)) k := by
  show v (ix2 r k) * broadcastTo ⟨2, ![a, 1024]⟩ (krstd v h hs) hb (ix2 r k) * broadcastTo ⟨2, ![a, 1024]⟩ g hg (ix2 r k)
      * broadcastTo ⟨2, ![a, 1024]⟩ (addf (broadcast ⟨2, ![1, 1024]⟩ (Scalar.ofBits .f32 0x3F800000#32)) sc) hg (ix2 r k)
      + broadcastTo ⟨2, ![a, 1024]⟩ sh hg (ix2 r k) = _
  rw [bc_a1_ab, broadcastTo_1b_ab_apply, broadcastTo_1b_ab_apply, broadcastTo_1b_ab_apply]
  rw [show krstd v h hs (ix2 r 0) = rstd fun k => v (ix2 r k) from kernel_rstd v h (.inl rfl) rfl hs r]
  rfl

/-- The host's normed, scaled and shifted rows. -/
theorem host_mod (v : FVec Ideal ⟨2, ![a, 1024]⟩ .f32) (g sc sh : FVec Ideal ⟨2, ![1, 1024]⟩ .f32)
    (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![])
    (hd : (⟨2, ![a, 1]⟩ : Shape).BroadcastsInDim ⟨2, ![a, 1024]⟩ ![0, 1]) (hg : (⟨2, ![1, 1024]⟩ : Shape).BroadcastsInDim ⟨2, ![a, 1024]⟩ ![0, 1])
    (ho : (⟨0, ![]⟩ : Shape).BroadcastsInDim ⟨2, ![1, 1024]⟩ ![]) (r : Fin a) (k : Fin 1024) :
    (addf (mulf (mulf (mulf v (broadcastInDim ⟨2, ![a, 1024]⟩ ![0, 1] hd (Host.rsqrt (hms v h hu hb hc)))) (broadcastInDim ⟨2, ![a, 1024]⟩ ![0, 1] hg g))
      (broadcastInDim ⟨2, ![a, 1024]⟩ ![0, 1] hg (addf (broadcastInDim ⟨2, ![1, 1024]⟩ ![] ho (constant ⟨0, ![]⟩ .f32 0x3F800000#32)) sc)))
      (broadcastInDim ⟨2, ![a, 1024]⟩ ![0, 1] hg sh) : FVec Ideal ⟨2, ![a, 1024]⟩ .f32) (ix2 r k)
      = modRow (fun k => v (ix2 r k)) (fun k => g (ix2 0 k)) (fun k => sc (ix2 0 k)) (fun k => sh (ix2 0 k)) k := by
  show v (ix2 r k) * broadcastInDim ⟨2, ![a, 1024]⟩ ![0, 1] hd (Host.rsqrt (hms v h hu hb hc)) (ix2 r k)
      * broadcastInDim ⟨2, ![a, 1024]⟩ ![0, 1] hg g (ix2 r k)
      * broadcastInDim ⟨2, ![a, 1024]⟩ ![0, 1] hg (addf (broadcastInDim ⟨2, ![1, 1024]⟩ ![] ho (constant ⟨0, ![]⟩ .f32 0x3F800000#32)) sc) (ix2 r k)
      + broadcastInDim ⟨2, ![a, 1024]⟩ ![0, 1] hg sh (ix2 r k) = _
  rw [hbc_a1_ab, hbc_1b_ab, hbc_1b_ab, hbc_1b_ab]
  rw [show Host.rsqrt (hms v h hu hb hc) (ix2 r 0) = rstd fun k => v (ix2 r k) from congrArg Ideal.rsqrt (host_ms v h hu hb hc r)]
  rfl

end

end Cert.Norm
end
-- ==== Proof.NormBack.lean ====
/- The norm's gradient as the kernels compute it, and the sums over tokens that they keep, read at an entry. -/
module

public import proofs.«01_k».proof.Proof.Norm
public import Idealize.ShloMosaic.Lib.KernelVsHost

@[expose] public section

set_option maxRecDepth 16384

noncomputable section

namespace Cert.Norm

open Idealize.ShloMosaic Idealize.ShloMosaic.ValueIdx
open scoped BigOperators

section
variable {a : ℕ}

/-- A kernel's normed rows. -/
theorem kernel_xr (v : FVec Ideal ⟨2, ![a, 1024]⟩ .f32) (h : Shape.Reduces ⟨2, ![a, 1024]⟩ [1] ⟨1, ![a]⟩)
    (hs : (⟨1, ![a]⟩ : Shape).ShapeCasts ⟨2, ![a, 1]⟩) (hb : (⟨2, ![a, 1]⟩ : Shape).Broadcasts ⟨2, ![a, 1024]⟩) (r : Fin a) (k : Fin 1024) :
    (mulf v (broadcastTo ⟨2, ![a, 1024]⟩ (krstd v h hs) hb) : FVec Ideal ⟨2, ![a, 1024]⟩ .f32) (ix2 r k)
      = v (ix2 r k) * rstd fun k => v (ix2 r k) := by
  show v (ix2 r k) * broadcastTo ⟨2, ![a, 1024]⟩ (krstd v h hs) hb (ix2 r k) = _
  rw [bc_a1_ab, show krstd v h hs (ix2 r 0) = rstd fun k => v (ix2 r k) from kernel_rstd v h (.inl rfl) rfl hs r]

/-- A matrix times a row of factors. -/
theorem mul_row (v : FVec Ideal ⟨2, ![a, 1024]⟩ .f32) (g : FVec Ideal ⟨2, ![1, 1024]⟩ .f32)
    (hg : (⟨2, ![1, 1024]⟩ : Shape).Broadcasts ⟨2, ![a, 1024]⟩) (r : Fin a) (k : Fin 1024) :
    (mulf v (broadcastTo ⟨2, ![a, 1024]⟩ g hg) : FVec Ideal ⟨2, ![a, 1024]⟩ .f32) (ix2 r k) = v (ix2 r k) * g (ix2 0 k) := by
  show v (ix2 r k) * broadcastTo ⟨2, ![a, 1024]⟩ g hg (ix2 r k) = _
  rw [broadcastTo_1b_ab_apply]

/-- A row of factors times a matrix. -/
theorem row_mul (v : FVec Ideal ⟨2, ![a, 1024]⟩ .f32) (g : FVec Ideal ⟨2, ![1, 1024]⟩ .f32)
    (hg : (⟨2, ![1, 1024]⟩ : Shape).Broadcasts ⟨2, ![a, 1024]⟩) (r : Fin a) (k : Fin 1024) :
    (mulf (broadcastTo ⟨2, ![a, 1024]⟩ g hg) v : FVec Ideal ⟨2, ![a, 1024]⟩ .f32) (ix2 r k) = g (ix2 0 k) * v (ix2 r k) := by
  show broadcastTo ⟨2, ![a, 1024]⟩ g hg (ix2 r k) * v (ix2 r k) = _
  rw [broadcastTo_1b_ab_apply]

/-- A kernel's gradient of the norm, added to what came along the residual. -/
theorem kernel_back (rs : FVec Ideal ⟨2, ![a, 1]⟩ .f32) (xr d dxr e : FVec Ideal ⟨2, ![a, 1024]⟩ .f32) (x : Fin 1024 → EReal)
    (h : Shape.Reduces ⟨2, ![a, 1024]⟩ [1] ⟨1, ![a]⟩) (hs : (⟨1, ![a]⟩ : Shape).ShapeCasts ⟨2, ![a, 1]⟩)
    (hb : (⟨2, ![a, 1]⟩ : Shape).Broadcasts ⟨2, ![a, 1024]⟩) (r : Fin a) (k : Fin 1024)
    (h1 : rs (ix2 r 0) = rstd x) (h2 : ∀ k, xr (ix2 r k) = x k * rstd x) (h3 : ∀ k, dxr (ix2 r k) = d (ix2 r k) * (x k * rstd x)) :
    (addf e (mulf (broadcastTo ⟨2, ![a, 1024]⟩ rs hb) (subf d (mulf xr (broadcastTo ⟨2, ![a, 1024]⟩
      (divf (shapeCast ⟨2, ![a, 1]⟩ (multiReduction .add [1] ⟨1, ![a]⟩ dxr 0x00000000#32 h (.inl rfl) rfl) hs)
        (broadcast ⟨2, ![a, 1]⟩ (Scalar.ofBits .f32 0x44800000#32))) hb)))) : FVec Ideal ⟨2, ![a, 1024]⟩ .f32) (ix2 r k)
      = e (ix2 r k) + back x (fun k => d (ix2 r k)) k := by
  show e (ix2 r k) + broadcastTo ⟨2, ![a, 1024]⟩ rs hb (ix2 r k) * (d (ix2 r k) - xr (ix2 r k) * broadcastTo ⟨2, ![a, 1024]⟩
      (divf (shapeCast ⟨2, ![a, 1]⟩ (multiReduction .add [1] ⟨1, ![a]⟩ dxr 0x00000000#32 h (.inl rfl) rfl) hs)
        (broadcast ⟨2, ![a, 1]⟩ (Scalar.ofBits .f32 0x44800000#32))) hb (ix2 r k)) = _
  rw [bc_a1_ab, bc_a1_ab, h1, h2]
  unfold back
  refine congrArg (fun s : EReal => e (ix2 r k) + rstd x * (d (ix2 r k) - x k * rstd x * s)) ?_
  show Ideal.div (shapeCast ⟨2, ![a, 1]⟩ (multiReduction .add [1] ⟨1, ![a]⟩ dxr 0x00000000#32 h (.inl rfl) rfl) hs (ix2 r 0)) n1024 = _
  rw [cast_a_a1]
  exact congrArg (fun s : EReal => Ideal.div s n1024) ((rowSum dxr h (.inl rfl) rfl r).trans (Finset.sum_congr rfl fun k _ => h3 k))

/-- A kernel's sum over a block's tokens, as a row. -/
theorem kernel_stat (src : FVec Ideal ⟨2, ![a, 1024]⟩ .f32) (h : Shape.Reduces ⟨2, ![a, 1024]⟩ [0] ⟨1, ![1024]⟩)
    (hs : (⟨1, ![1024]⟩ : Shape).ShapeCasts ⟨2, ![1, 1024]⟩) (k : Fin 1024) :
    shapeCast ⟨2, ![1, 1024]⟩ (multiReduction .add [0] ⟨1, ![1024]⟩ src 0x00000000#32 h (.inl rfl) rfl) hs (ix2 0 k) = ∑ r : Fin a, src (ix2 r k) := by
  rw [shapeCast_a_1a_apply]
  exact colSum src h (.inl rfl) rfl k

/-- The host's normed rows. -/
theorem host_xr (v : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![])
    (hd : (⟨2, ![a, 1]⟩ : Shape).BroadcastsInDim ⟨2, ![a, 1024]⟩ ![0, 1]) (r : Fin a) (k : Fin 1024) :
    (mulf v (broadcastInDim ⟨2, ![a, 1024]⟩ ![0, 1] hd (Host.rsqrt (hms v h hu hb hc))) : FVec Ideal ⟨2, ![a, 1024]⟩ .f32) (ix2 r k)
      = v (ix2 r k) * rstd fun k => v (ix2 r k) := by
  show v (ix2 r k) * broadcastInDim ⟨2, ![a, 1024]⟩ ![0, 1] hd (Host.rsqrt (hms v h hu hb hc)) (ix2 r k) = _
  rw [hbc_a1_ab, show Host.rsqrt (hms v h hu hb hc) (ix2 r 0) = rstd fun k => v (ix2 r k) from congrArg Ideal.rsqrt (host_ms v h hu hb hc r)]

/-- The host's matrix times a row of factors. -/
theorem host_mul_row (v : FVec Ideal ⟨2, ![a, 1024]⟩ .f32) (g : FVec Ideal ⟨2, ![1, 1024]⟩ .f32)
    (hg : (⟨2, ![1, 1024]⟩ : Shape).BroadcastsInDim ⟨2, ![a, 1024]⟩ ![0, 1]) (r : Fin a) (k : Fin 1024) :
    (mulf v (broadcastInDim ⟨2, ![a, 1024]⟩ ![0, 1] hg g) : FVec Ideal ⟨2, ![a, 1024]⟩ .f32) (ix2 r k) = v (ix2 r k) * g (ix2 0 k) := by
  show v (ix2 r k) * broadcastInDim ⟨2, ![a, 1024]⟩ ![0, 1] hg g (ix2 r k) = _
  rw [hbc_1b_ab]

/-- The host's derivative by the mean square, one number for each row. -/
abbrev hbyMs (v d : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![])
    (hs : (⟨1, ![a]⟩ : Shape).ShapeCasts ⟨2, ![a, 1]⟩) (h1 : Shape.ReducesTo ⟨2, ![a, 1]⟩ [1] ⟨1, ![a]⟩) : FVec Ideal ⟨1, ![a]⟩ .f32 :=
  Host.reduceAdd (Host.divf (mulf (shapeCast ⟨2, ![a, 1]⟩ (Host.reduceAdd (mulf v d) (constant ⟨0, ![]⟩ .f32 0x00000000#32) h hu) hs)
    (mulf (broadcastInDim ⟨2, ![a, 1]⟩ ![] hc (constant ⟨0, ![]⟩ .f32 0xBF000000#32)) (Host.divf (Host.rsqrt (hms v h hu hb hc)) (hms v h hu hb hc))))
    (broadcastInDim ⟨2, ![a, 1]⟩ ![] hc (constant ⟨0, ![]⟩ .f32 0x44800000#32))) (constant ⟨0, ![]⟩ .f32 0x00000000#32) h1 hu

theorem host_byMs (v d : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![])
    (hs : (⟨1, ![a]⟩ : Shape).ShapeCasts ⟨2, ![a, 1]⟩) (h1 : Shape.ReducesTo ⟨2, ![a, 1]⟩ [1] ⟨1, ![a]⟩) (r : Fin a) :
    hbyMs v d h hu hb hc hs h1 (ix1 r) = byMs (fun k => v (ix2 r k)) (fun k => d (ix2 r k)) := by
  refine (hRowSum (a := a) (b := 1) _ h1 hu r).trans ?_
  rw [Fin.sum_univ_one]
  show Ideal.div (shapeCast ⟨2, ![a, 1]⟩ (Host.reduceAdd (mulf v d) (constant ⟨0, ![]⟩ .f32 0x00000000#32) h hu) hs (ix2 r 0)
    * (mhalf * Ideal.div (Ideal.rsqrt (hms v h hu hb hc (ix2 r 0))) (hms v h hu hb hc (ix2 r 0)))) n1024 = _
  rw [host_ms, cast_a_a1, hRowSum]
  rfl

/-- The host's gradient of the norm, added to what came along the residual. -/
theorem host_back (e v d : FVec Ideal ⟨2, ![a, 1024]⟩ .f32) (h : Shape.ReducesTo ⟨2, ![a, 1024]⟩ [1] ⟨1, ![a]⟩) (hu : 0 < (⟨0, ![]⟩ : Shape).numel)
    (hb : (⟨1, ![a]⟩ : Shape).BroadcastsInDim ⟨2, ![a, 1]⟩ ![0]) (hc : (⟨0, ![]⟩ : Shape).BroadcastsInDim ⟨2, ![a, 1]⟩ ![])
    (hs : (⟨1, ![a]⟩ : Shape).ShapeCasts ⟨2, ![a, 1]⟩) (h1 : Shape.ReducesTo ⟨2, ![a, 1]⟩ [1] ⟨1, ![a]⟩)
    (hd : (⟨2, ![a, 1]⟩ : Shape).BroadcastsInDim ⟨2, ![a, 1024]⟩ ![0, 1]) (hw : (⟨1, ![a]⟩ : Shape).BroadcastsInDim ⟨2, ![a, 1024]⟩ ![0])
    (r : Fin a) (k : Fin 1024) :
    (addf (addf (addf e (mulf d (broadcastInDim ⟨2, ![a, 1024]⟩ ![0, 1] hd (Host.rsqrt (hms v h hu hb hc)))))
      (mulf v (broadcastInDim ⟨2, ![a, 1024]⟩ ![0] hw (hbyMs v d h hu hb hc hs h1))))
      (mulf (broadcastInDim ⟨2, ![a, 1024]⟩ ![0] hw (hbyMs v d h hu hb hc hs h1)) v) : FVec Ideal ⟨2, ![a, 1024]⟩ .f32) (ix2 r k)
      = e (ix2 r k) + back (fun k => v (ix2 r k)) (fun k => d (ix2 r k)) k := by
  show e (ix2 r k) + d (ix2 r k) * broadcastInDim ⟨2, ![a, 1024]⟩ ![0, 1] hd (Host.rsqrt (hms v h hu hb hc)) (ix2 r k)
      + v (ix2 r k) * broadcastInDim ⟨2, ![a, 1024]⟩ ![0] hw (hbyMs v d h hu hb hc hs h1) (ix2 r k)
      + broadcastInDim ⟨2, ![a, 1024]⟩ ![0] hw (hbyMs v d h hu hb hc hs h1) (ix2 r k) * v (ix2 r k) = _
  rw [hbc_a1_ab, hbc_a_ab, host_byMs,
    show Host.rsqrt (hms v h hu hb hc) (ix2 r 0) = rstd fun k => v (ix2 r k) from congrArg Ideal.rsqrt (host_ms v h hu hb hc r),
    ← back_eq, add_assoc, add_assoc, add_assoc]

/-- The host's sum over the tokens, as a row. -/
theorem host_stat (src : FVec Ideal ⟨2, ![a, 1024]⟩ .f32) (h : Shape.ReducesTo ⟨2, ![a, 1024]⟩ [0] ⟨1, ![1024]⟩) (hu : 0 < (⟨0, ![]⟩ : Shape).numel)
    (hs : (⟨1, ![1024]⟩ : Shape).ShapeCasts ⟨2, ![1, 1024]⟩) (k : Fin 1024) :
    shapeCast ⟨2, ![1, 1024]⟩ (Host.reduceAdd src (constant (F := Ideal) ⟨0, ![]⟩ .f32 0x00000000#32) h hu) hs (ix2 0 k) = ∑ r : Fin a, src (ix2 r k) := by
  rw [shapeCast_a_1a_apply, hColSum]

end

end Cert.Norm
end
-- ==== Proof.FfnInKernel.lean ====
/- The gradient through the feed forward block's entry: the kernel's results at an entry, over the reals. -/
module

public import proofs.«01_k».proof.Proof.Gen.Kernel5Ideal.Value
public import proofs.«01_k».proof.Proof.BlockSums
public import proofs.«01_k».proof.Proof.Norm
public import proofs.«01_k».proof.Proof.NormBack
public import Idealize.ShloMosaic.Lib.WritesUnit
public import Idealize.ShloMosaic.Lib.ValueIdx
public import Idealize.ShloMosaic.Lib.ValueLayout
public import Idealize.ShloMosaic.Lib.KernelVsHost
public import Idealize.ShloMosaic.PureOps.Ideal
public import Idealize.ShloMosaic.PureOps.Ideal.Laws
public import Idealize.ShloMosaic.Lib.Tactic

@[expose] public section

set_option maxRecDepth 16384

noncomputable section

namespace Cert.Kernel5Ideal.FfnIn

open Cert.Kernel5Ideal Cert.Kernel5Ideal.Gen Idealize.ShloMosaic Idealize.ShloMosaic.TcCoe Idealize.SL.Sem
open Idealize.ShloMosaic.ValueIdx
open Cert.Sums Cert.Norm
open scoped BigOperators

variable (m : (ℓ : Loc nD τ sig) → Buf (Elt Ideal) ℓ)

theorem hz : (![0, 0] : Fin 2 → Nat) = fun _ => 0 := funext fun a => by fin_cases a <;> rfl

/-- A product of two matrices, read at an entry. -/
theorem nn {φ₁ φ₂ : FTy} (A : FVec Ideal S256x2816 φ₁) (B : FVec Ideal S2816x1024 φ₂) (acc : FVec Ideal S256x1024 .f32)
    (i : Fin 256) (j : Fin 1024) :
    matmul dot_S256x2816_S2816x1024_S256x1024_1_0_0_1_n_n none A B acc (ix2 i j) = acc (ix2 i j) + ∑ r : Fin 2816, A (ix2 i r) * B (ix2 r j) := by
  show FloatOps.matmul _ none A B acc (ix2 i j) = _
  rw [Ideal.matmul_apply, ← Equiv.sum_comp (contrEquiv1 dot_S256x2816_S2816x1024_S256x1024_1_0_0_1_n_n 2816 rfl rfl).symm]
  refine congrArg (acc (ix2 i j) + ·) (Finset.sum_congr rfl fun r _ => ?_)
  have hk := contrEquiv1_symm_val dot_S256x2816_S2816x1024_S256x1024_1_0_0_1_n_n 2816 rfl rfl r
  have el : dot_S256x2816_S2816x1024_S256x1024_1_0_0_1_n_n.lhsIdx (ix2 i j) ((contrEquiv1 dot_S256x2816_S2816x1024_S256x1024_1_0_0_1_n_n 2816 rfl rfl).symm r) = ix2 i r := by
    funext a; apply Fin.ext
    match a with
    | ⟨0, _⟩ => rfl
    | ⟨1, _⟩ => exact hk
  have er : dot_S256x2816_S2816x1024_S256x1024_1_0_0_1_n_n.rhsIdx (ix2 i j) ((contrEquiv1 dot_S256x2816_S2816x1024_S256x1024_1_0_0_1_n_n 2816 rfl rfl).symm r) = ix2 r j := by
    funext a; apply Fin.ext
    match a with
    | ⟨0, _⟩ => exact hk
    | ⟨1, _⟩ => rfl
  rw [el, er]

theorem z256 (i : S256x1024.Idx) : (constant S256x1024 .f32 0x00000000#32 : FVec Ideal S256x1024 .f32) i = 0 := Ideal.ofBits_zero_f32

section
variable (x0 x1 : Vec Ideal S256x2816 .bf16) (x2 x3 : Vec Ideal S2816x1024 .bf16) (x4 x5 : Vec Ideal S256x1024 .f32) (x6 : Vec Ideal S256x1024 .bf16)
    (x7 x8 x9 : Vec Ideal S1x1024 .f32)

/-- The cotangent of the modulated rows: the two products by the weights. -/
theorem pay4_apply (i : Fin 256) (j : Fin 1024) :
    k0_pay4 x0 x2 x1 x3 (ix2 i j) = (∑ k : Fin 2816, x0 (ix2 i k) * x2 (ix2 k j)) + ∑ k : Fin 2816, x1 (ix2 i k) * x3 (ix2 k j) := by
  unfold k0_pay4
  rw [addf_apply]
  refine congrArg₂ (fun a b : EReal => a + b) ((nn x0 x2 _ i j).trans ?_) ((nn x1 x3 _ i j).trans ?_) <;> rw [z256, zero_add]

theorem pay6_apply (i : Fin 256) (k : Fin 1024) : k0_pay6 x5 (ix2 i k) = x5 (ix2 i k) * rstd fun k => x5 (ix2 i k) := by
  unfold k0_pay6 k0_pay5
  exact kernel_xr x5 reduces_S256x1024_S256 shapeCasts_S256_S256x1 broadcasts_S256x1_S256x1024 i k

theorem pay7_apply (i : Fin 256) (k : Fin 1024) : k0_pay7 x5 x8 (ix2 i k) = (x5 (ix2 i k) * rstd fun k => x5 (ix2 i k)) * x8 (ix2 0 k) := by
  unfold k0_pay7
  exact (mul_row (k0_pay6 x5) x8 broadcasts_S1x1024_S256x1024 i k).trans (congrArg (fun a : EReal => a * x8 (ix2 0 k)) (pay6_apply x5 i k))

theorem pay8_apply (i : Fin 256) (k : Fin 1024) : k0_pay8 x0 x2 x1 x3 x9 (ix2 i k) = k0_pay4 x0 x2 x1 x3 (ix2 i k) * (one32 + x9 (ix2 0 k)) := by
  unfold k0_pay8
  exact mul_row (k0_pay4 x0 x2 x1 x3) _ broadcasts_S1x1024_S256x1024 i k

theorem pay9_apply (i : Fin 256) (k : Fin 1024) :
    k0_pay9 x0 x2 x1 x3 x9 x8 (ix2 i k) = k0_pay4 x0 x2 x1 x3 (ix2 i k) * (one32 + x9 (ix2 0 k)) * x8 (ix2 0 k) := by
  unfold k0_pay9
  exact (mul_row (k0_pay8 x0 x2 x1 x3 x9) x8 broadcasts_S1x1024_S256x1024 i k).trans (congrArg (fun a : EReal => a * x8 (ix2 0 k)) (pay8_apply x0 x1 x2 x3 x9 i k))

/-- The block's gradient of the rows before the norm. -/
abbrev dx : FVec Ideal S256x1024 .f32 := k0_pay12 (k0_pay5 x5) (k0_pay6 x5) (k0_pay9 x0 x2 x1 x3 x9 x8) (k0_pay10 x0 x2 x1 x3 x5 x9 x8) x4

theorem dx_apply (i : Fin 256) (k : Fin 1024) : dx x0 x1 x2 x3 x4 x5 x8 x9 (ix2 i k)
    = x4 (ix2 i k) + back (fun k => x5 (ix2 i k)) (fun k => k0_pay9 x0 x2 x1 x3 x9 x8 (ix2 i k)) k := by
  unfold dx k0_pay12
  exact kernel_back (k0_pay5 x5) (k0_pay6 x5) (k0_pay9 x0 x2 x1 x3 x9 x8) (k0_pay10 x0 x2 x1 x3 x5 x9 x8) x4 (fun k => x5 (ix2 i k))
    reduces_S256x1024_S256 shapeCasts_S256_S256x1 broadcasts_S256x1_S256x1024 i k
    (kernel_rstd x5 reduces_S256x1024_S256 (.inl rfl) rfl shapeCasts_S256_S256x1 i) (pay6_apply x5 i)
    (fun k => congrArg (fun a : EReal => k0_pay9 x0 x2 x1 x3 x9 x8 (ix2 i k) * a) (pay6_apply x5 i k))

/-- The block's gradient of the gated rows. -/
theorem pay13_apply (i : Fin 256) (k : Fin 1024) :
    k0_pay13 (k0_pay5 x5) (k0_pay6 x5) (k0_pay9 x0 x2 x1 x3 x9 x8) (k0_pay10 x0 x2 x1 x3 x5 x9 x8) x4 x7 (ix2 i k)
      = x7 (ix2 0 k) * dx x0 x1 x2 x3 x4 x5 x8 x9 (ix2 i k) := by
  unfold k0_pay13
  exact row_mul (dx x0 x1 x2 x3 x4 x5 x8 x9) x7 broadcasts_S1x1024_S256x1024 i k

section
variable (z : Vec Ideal S1x1024 .f32)

theorem stat0 (j : Fin 1024) : k0_pay14 (k0_pay4 x0 x2 x1 x3) z (ix2 0 j) = z (ix2 0 j) + ∑ r : Fin 256, k0_pay4 x0 x2 x1 x3 (ix2 r j) := by
  unfold k0_pay14
  rw [addf_apply, shapeCast_self]
  exact congrArg (fun s : EReal => z (ix2 0 j) + s) (kernel_stat _ reduces_S256x1024_S1024 shapeCasts_S1024_S1x1024 j)

theorem stat1 (j : Fin 1024) : k0_pay15 (k0_pay4 x0 x2 x1 x3) (k0_pay7 x5 x8) z (ix2 0 j)
    = z (ix2 0 j) + ∑ r : Fin 256, k0_pay4 x0 x2 x1 x3 (ix2 r j) * k0_pay7 x5 x8 (ix2 r j) := by
  unfold k0_pay15
  rw [addf_apply, shapeCast_self]
  exact congrArg (fun s : EReal => z (ix2 0 j) + s) (kernel_stat _ reduces_S256x1024_S1024 shapeCasts_S1024_S1x1024 j)

theorem stat2 (j : Fin 1024) : k0_pay1 (k0_pay11 (k0_pay6 x5) (k0_pay8 x0 x2 x1 x3 x9)) z (ix2 0 j)
    = z (ix2 0 j) + ∑ r : Fin 256, k0_pay8 x0 x2 x1 x3 x9 (ix2 r j) * k0_pay6 x5 (ix2 r j) := by
  unfold k0_pay1 k0_pay11
  rw [addf_apply, shapeCast_self]
  exact congrArg (fun s : EReal => z (ix2 0 j) + s) (kernel_stat _ reduces_S256x1024_S1024 shapeCasts_S1024_S1x1024 j)

theorem stat3 (j : Fin 1024) : k0_pay2 (dx x0 x1 x2 x3 x4 x5 x8 x9) z x6 (ix2 0 j)
    = z (ix2 0 j) + ∑ r : Fin 256, dx x0 x1 x2 x3 x4 x5 x8 x9 (ix2 r j) * x6 (ix2 r j) := by
  unfold k0_pay2
  rw [addf_apply, shapeCast_self]
  exact congrArg (fun s : EReal => z (ix2 0 j) + s) (kernel_stat _ reduces_S256x1024_S1024 shapeCasts_S1024_S1x1024 j)

end

theorem pay3_apply (y : S8x1024.Idx) : (k0_pay3 (F := Ideal)) y = 0 := Ideal.ofBits_zero_f32

section
variable (c : Dev nD) (i : grid0.Coords) (a1 : Memref sig .tc .vmem S256x2816 .bf16) (h1 : a1.IsWhole) (a2 : Memref sig .tc .vmem S256x2816 .bf16) (h2 : a2.IsWhole) (a3 : Memref sig .tc .vmem S2816x1024 .bf16) (h3 : a3.IsWhole) (a4 : Memref sig .tc .vmem S2816x1024 .bf16) (h4 : a4.IsWhole) (a5 : Memref sig .tc .vmem S256x1024 .f32) (h5 : a5.IsWhole) (a6 : Memref sig .tc .vmem S256x1024 .f32) (h6 : a6.IsWhole) (a7 : Memref sig .tc .vmem S256x1024 .bf16) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (a11 : Memref sig .tc .vmem S256x1024 .f32) (h11 : a11.IsWhole) (a12 : Memref sig .tc .vmem S256x1024 .bf16) (h12 : a12.IsWhole) (a13 : Memref sig .tc .vmem S8x1024 .f32) (h13 : a13.IsWhole)
    (xo : Vec Ideal S8x1024 .f32)

theorem out_A10 (hc : cond0_0 i) : out0_A_10 c i a1 h1 a2 h2 a3 h3 a4 h4 a5 h5 a6 h6 a7 h7 a8 h8 a9 h9 a10 h10 a11 h11 a12 h12 a13 h13 hc x0 x1 x2 x3 x4 x5 x6 x7 x8 x9 = dx x0 x1 x2 x3 x4 x5 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]

theorem out_A11 (hc : cond0_0 i) : out0_A_11 c i a1 h1 a2 h2 a3 h3 a4 h4 a5 h5 a6 h6 a7 h7 a8 h8 a9 h9 a10 h10 a11 h11 a12 h12 a13 h13 hc x0 x1 x2 x3 x4 x5 x6 x7 x8 x9 = k0_pay13 (k0_pay5 x5) (k0_pay6 x5) (k0_pay9 x0 x2 x1 x3 x9 x8) (k0_pay10 x0 x2 x1 x3 x5 x9 x8) x4 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]

theorem out_B10 (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 x7 x8 x9 xo = dx x0 x1 x2 x3 x4 x5 x8 x9 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]

theorem out_B11 (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 x7 x8 x9 xo = k0_pay13 (k0_pay5 x5) (k0_pay6 x5) (k0_pay9 x0 x2 x1 x3 x9 x8) (k0_pay10 x0 x2 x1 x3 x5 x9 x8) x4 x7 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 x8 x9 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]

theorem out_B12_0 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo (ix2 0 j) = xo (ix2 0 j) + ∑ r : Fin 256, k0_pay4 x0 x2 x1 x3 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h13.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (0 : Fin 8) j) rfl rfl (.inl (show (0 : ℕ) < 3 by decide))]
  rw [View.read_writes_cons_rows_of_not_mem (o := 2) (W := 1) _ _ _ _ _ (ix2 (0 : Fin 8) j) rfl rfl (.inl (show (0 : ℕ) < 2 by decide))]
  rw [View.read_writes_cons_rows_of_not_mem (o := 1) (W := 1) _ _ _ _ _ (ix2 (0 : Fin 8) j) rfl rfl (.inl (show (0 : ℕ) < 1 by decide))]
  refine (View.read_writes_cons_rows_of_mem (o := 0) _ _ _ _ _ (ix2 (0 : Fin 8) j) (ix2 (0 : Fin 1) j) rfl rfl rfl).trans ?_
  refine (stat0 x0 x1 x2 x3 _ j).trans ?_
  refine congrArg (fun s : EReal => s + _) (congrArg xo (funext fun a => Fin.ext ?_))
  match a with
  | ⟨0, _⟩ => rfl
  | ⟨1, _⟩ => show 0 + 1 * j.val = j.val; omega

theorem out_B12_1 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo (ix2 1 j) = xo (ix2 1 j) + ∑ r : Fin 256, k0_pay4 x0 x2 x1 x3 (ix2 r j) * k0_pay7 x5 x8 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h13.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (1 : Fin 8) j) rfl rfl (.inl (show (1 : ℕ) < 3 by decide))]
  rw [View.read_writes_cons_rows_of_not_mem (o := 2) (W := 1) _ _ _ _ _ (ix2 (1 : Fin 8) j) rfl rfl (.inl (show (1 : ℕ) < 2 by decide))]
  refine (View.read_writes_cons_rows_of_mem (o := 1) _ _ _ _ _ (ix2 (1 : Fin 8) j) (ix2 (0 : Fin 1) j) rfl rfl rfl).trans ?_
  refine (stat1 x0 x1 x2 x3 x5 x8 _ j).trans ?_
  refine congrArg (fun s : EReal => s + _) (congrArg xo (funext fun a => Fin.ext ?_))
  match a with
  | ⟨0, _⟩ => rfl
  | ⟨1, _⟩ => show 0 + 1 * j.val = j.val; omega

theorem out_B12_2 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo (ix2 2 j) = xo (ix2 2 j) + ∑ r : Fin 256, k0_pay8 x0 x2 x1 x3 x9 (ix2 r j) * k0_pay6 x5 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h13.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (2 : Fin 8) j) rfl rfl (.inl (show (2 : ℕ) < 3 by decide))]
  refine (View.read_writes_cons_rows_of_mem (o := 2) _ _ _ _ _ (ix2 (2 : Fin 8) j) (ix2 (0 : Fin 1) j) rfl rfl rfl).trans ?_
  refine (stat2 x0 x1 x2 x3 x5 x9 _ j).trans ?_
  refine congrArg (fun s : EReal => s + _) (congrArg xo (funext fun a => Fin.ext ?_))
  match a with
  | ⟨0, _⟩ => rfl
  | ⟨1, _⟩ => show 0 + 1 * j.val = j.val; omega

theorem out_B12_3 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo (ix2 3 j) = xo (ix2 3 j) + ∑ r : Fin 256, dx x0 x1 x2 x3 x4 x5 x8 x9 (ix2 r j) * x6 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h13.read_unread, View.ld_unit_zero (S := S256x2816) hz, View.ld_unit_zero (S := S2816x1024) hz, View.ld_unit_zero (S := S256x1024) hz, View.ld_unit_zero (S := S1x1024) hz]
  refine (View.read_writes_cons_rows_of_mem (o := 3) _ _ _ _ _ (ix2 (3 : Fin 8) j) (ix2 (0 : Fin 1) j) rfl rfl rfl).trans ?_
  refine (stat3 x0 x1 x2 x3 x4 x5 x6 x8 x9 _ j).trans ?_
  refine congrArg (fun s : EReal => s + _) (congrArg xo (funext fun a => Fin.ext ?_))
  match a with
  | ⟨0, _⟩ => rfl
  | ⟨1, _⟩ => show 0 + 1 * j.val = j.val; omega

theorem out_B12_rest (hc : ¬cond0_0 i) (q : Fin 8) (hq : 4 ≤ q.val) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 xo (ix2 q j) = xo (ix2 q j) := by
  unfold out0_B_12 kernelRun0_B
  dsimp only
  sl_unfold_words
  rw [View.read_writes_cons_rows_of_not_mem (o := 3) (W := 1) _ _ _ _ _ (ix2 q j) rfl rfl (.inr (show 3 + 1 ≤ q.val by omega))]
  rw [View.read_writes_cons_rows_of_not_mem (o := 2) (W := 1) _ _ _ _ _ (ix2 q j) rfl rfl (.inr (show 2 + 1 ≤ q.val by omega))]
  rw [View.read_writes_cons_rows_of_not_mem (o := 1) (W := 1) _ _ _ _ _ (ix2 q j) rfl rfl (.inr (show 1 + 1 ≤ q.val by omega))]
  rw [View.read_writes_cons_rows_of_not_mem (o := 0) (W := 1) _ _ _ _ _ (ix2 q j) rfl rfl (.inr (show 0 + 1 ≤ q.val by omega))]
  exact congrFun (h13.read_unread xo) (ix2 q j)

/-- What the first point's loads find in the buffer that it has just cleared. -/
theorem cleared (y : S8x1024.Idx) : a13.view.read (Elt Ideal) (a13.view.writes (Elt Ideal) a13.view.junk [⟨Rect.unit ![0, 0] ![8, 1024] inb_S8x1024_S8x1024_0_0, k0_pay3 (F := Ideal)⟩]) y = 0 :=
  (View.read_writes_cons_rows_of_mem (o := 0) _ _ _ _ _ y y rfl (Nat.zero_add _).symm rfl).trans (pay3_apply y)

theorem kept0 (j : Fin 1024) :
    a13.view.readCov (Val := Elt Ideal) [⟨Rect.unit ![0, 0] ![8, 1024] inb_S8x1024_S8x1024_0_0, k0_pay3 (F := Ideal)⟩]
      (Rect.unit (s := S8x1024) ![0, 0] S1x1024.size inb_S8x1024_S1x1024_0_0).toLoadRect (ix2 0 j) = 0 := by
  show a13.view.read (Elt Ideal) (a13.view.writes (Elt Ideal) a13.view.junk _)
    ((Rect.unit (s := S8x1024) ![0, 0] S1x1024.size inb_S8x1024_S1x1024_0_0).toLoadRect.idx (ix2 0 j)) = 0
  exact cleared a13 _

theorem kept1 (w0 : Vec Ideal S1x1024 .f32) (j : Fin 1024) :
    a13.view.readCov (Val := Elt Ideal) [⟨Rect.unit ![0, 0] ![1, 1024] inb_S8x1024_S1x1024_0_0, w0⟩, ⟨Rect.unit ![0, 0] ![8, 1024] inb_S8x1024_S8x1024_0_0, k0_pay3 (F := Ideal)⟩]
      (Rect.unit (s := S8x1024) ![1, 0] S1x1024.size inb_S8x1024_S1x1024_1_0).toLoadRect (ix2 0 j) = 0 := by
  show a13.view.read (Elt Ideal) (a13.view.writes (Elt Ideal) a13.view.junk _)
    ((Rect.unit (s := S8x1024) ![1, 0] S1x1024.size inb_S8x1024_S1x1024_1_0).toLoadRect.idx (ix2 0 j)) = 0
  rw [View.read_writes_cons_rows_of_not_mem (o := 0) (W := 1) _ _ _ _ _ _ rfl rfl (.inr (show 0 + 1 ≤ 1 + 1 * 0 by decide))]
  exact cleared a13 _

theorem kept2 (w0 w1 : Vec Ideal S1x1024 .f32) (j : Fin 1024) :
    a13.view.readCov (Val := Elt Ideal) [⟨Rect.unit ![1, 0] ![1, 1024] inb_S8x1024_S1x1024_1_0, w1⟩, ⟨Rect.unit ![0, 0] ![1, 1024] inb_S8x1024_S1x1024_0_0, w0⟩, ⟨Rect.unit ![0, 0] ![8, 1024] inb_S8x1024_S8x1024_0_0, k0_pay3 (F := Ideal)⟩]
      (Rect.unit (s := S8x1024) ![2, 0] S1x1024.size inb_S8x1024_S1x1024_2_0).toLoadRect (ix2 0 j) = 0 := by
  show a13.view.read (Elt Ideal) (a13.view.writes (Elt Ideal) a13.view.junk _)
    ((Rect.unit (s := S8x1024) ![2, 0] S1x1024.size inb_S8x1024_S1x1024_2_0).toLoadRect.idx (ix2 0 j)) = 0
  rw [View.read_writes_cons_rows_of_not_mem (o := 1) (W := 1) _ _ _ _ _ _ rfl rfl (.inr (show 1 + 1 ≤ 2 + 1 * 0 by decide))]
  rw [View.read_writes_cons_rows_of_not_mem (o := 0) (W := 1) _ _ _ _ _ _ rfl rfl (.inr (show 0 + 1 ≤ 2 + 1 * 0 by decide))]
  exact cleared a13 _

theorem kept3 (w0 w1 w2 : Vec Ideal S1x1024 .f32) (j : Fin 1024) :
    a13.view.readCov (Val := Elt Ideal) [⟨Rect.unit ![2, 0] ![1, 1024] inb_S8x1024_S1x1024_2_0, w2⟩, ⟨Rect.unit ![1, 0] ![1, 1024] inb_S8x1024_S1x1024_1_0, w1⟩, ⟨Rect.unit ![0, 0] ![1, 1024] inb_S8x1024_S1x1024_0_0, w0⟩, ⟨Rect.unit ![0, 0] ![8, 1024] inb_S8x1024_S8x1024_0_0, k0_pay3 (F := Ideal)⟩]
      (Rect.unit (s := S8x1024) ![3, 0] S1x1024.size inb_S8x1024_S1x1024_3_0).toLoadRect (ix2 0 j) = 0 := by
  show a13.view.read (Elt Ideal) (a13.view.writes (Elt Ideal) a13.view.junk _)
    ((Rect.unit (s := S8x1024) ![3, 0] S1x1024.size inb_S8x1024_S1x1024_3_0).toLoadRect.idx (ix2 0 j)) = 0
  rw [View.read_writes_cons_rows_of_not_mem (o := 2) (W := 1) _ _ _ _ _ _ rfl rfl (.inr (show 2 + 1 ≤ 3 + 1 * 0 by decide))]
  rw [View.read_writes_cons_rows_of_not_mem (o := 1) (W := 1) _ _ _ _ _ _ rfl rfl (.inr (show 1 + 1 ≤ 3 + 1 * 0 by decide))]
  rw [View.read_writes_cons_rows_of_not_mem (o := 0) (W := 1) _ _ _ _ _ _ rfl rfl (.inr (show 0 + 1 ≤ 3 + 1 * 0 by decide))]
  exact cleared a13 _

theorem out_A12_0 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 (ix2 0 j) = ∑ r : Fin 256, k0_pay4 x0 x2 x1 x3 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (0 : Fin 8) j) rfl rfl (.inl (show (0 : ℕ) < 3 by decide))]
  rw [View.read_writes_cons_rows_of_not_mem (o := 2) (W := 1) _ _ _ _ _ (ix2 (0 : Fin 8) j) rfl rfl (.inl (show (0 : ℕ) < 2 by decide))]
  rw [View.read_writes_cons_rows_of_not_mem (o := 1) (W := 1) _ _ _ _ _ (ix2 (0 : Fin 8) j) rfl rfl (.inl (show (0 : ℕ) < 1 by decide))]
  refine (View.read_writes_cons_rows_of_mem (o := 0) _ _ _ _ _ (ix2 (0 : Fin 8) j) (ix2 (0 : Fin 1) j) rfl rfl rfl).trans ?_
  refine (stat0 x0 x1 x2 x3 _ j).trans ?_
  exact (congrArg (fun s : EReal => s + _) (kept0 a13 j)).trans (zero_add _)

theorem out_A12_1 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 (ix2 1 j) = ∑ r : Fin 256, k0_pay4 x0 x2 x1 x3 (ix2 r j) * k0_pay7 x5 x8 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (1 : Fin 8) j) rfl rfl (.inl (show (1 : ℕ) < 3 by decide))]
  rw [View.read_writes_cons_rows_of_not_mem (o := 2) (W := 1) _ _ _ _ _ (ix2 (1 : Fin 8) j) rfl rfl (.inl (show (1 : ℕ) < 2 by decide))]
  refine (View.read_writes_cons_rows_of_mem (o := 1) _ _ _ _ _ (ix2 (1 : Fin 8) j) (ix2 (0 : Fin 1) j) rfl rfl rfl).trans ?_
  refine (stat1 x0 x1 x2 x3 x5 x8 _ j).trans ?_
  exact (congrArg (fun s : EReal => s + _) (kept1 a13 _ j)).trans (zero_add _)

theorem out_A12_2 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 (ix2 2 j) = ∑ r : Fin 256, k0_pay8 x0 x2 x1 x3 x9 (ix2 r j) * k0_pay6 x5 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]
  rw [View.read_writes_cons_rows_of_not_mem (o := 3) (W := 1) _ _ _ _ _ (ix2 (2 : Fin 8) j) rfl rfl (.inl (show (2 : ℕ) < 3 by decide))]
  refine (View.read_writes_cons_rows_of_mem (o := 2) _ _ _ _ _ (ix2 (2 : Fin 8) j) (ix2 (0 : Fin 1) j) rfl rfl rfl).trans ?_
  refine (stat2 x0 x1 x2 x3 x5 x9 _ j).trans ?_
  exact (congrArg (fun s : EReal => s + _) (kept2 a13 _ _ j)).trans (zero_add _)

theorem out_A12_3 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 (ix2 3 j) = ∑ r : Fin 256, dx x0 x1 x2 x3 x4 x5 x8 x9 (ix2 r j) * x6 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, View.ld_unit_zero (S := S256x2816) hz, View.ld_unit_zero (S := S2816x1024) hz, View.ld_unit_zero (S := S256x1024) hz, View.ld_unit_zero (S := S1x1024) hz]
  refine (View.read_writes_cons_rows_of_mem (o := 3) _ _ _ _ _ (ix2 (3 : Fin 8) j) (ix2 (0 : Fin 1) j) rfl rfl rfl).trans ?_
  refine (stat3 x0 x1 x2 x3 x4 x5 x6 x8 x9 _ j).trans ?_
  exact (congrArg (fun s : EReal => s + _) (kept3 a13 _ _ _ j)).trans (zero_add _)

theorem out_A12_rest (hc : cond0_0 i) (q : Fin 8) (hq : 4 ≤ q.val) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 (ix2 q j) = 0 := by
  unfold out0_A_12 kernelRun0_A
  dsimp only
  sl_unfold_words
  rw [View.read_writes_cons_rows_of_not_mem (o := 3) (W := 1) _ _ _ _ _ (ix2 q j) rfl rfl (.inr (show 3 + 1 ≤ q.val by omega))]
  rw [View.read_writes_cons_rows_of_not_mem (o := 2) (W := 1) _ _ _ _ _ (ix2 q j) rfl rfl (.inr (show 2 + 1 ≤ q.val by omega))]
  rw [View.read_writes_cons_rows_of_not_mem (o := 1) (W := 1) _ _ _ _ _ (ix2 q j) rfl rfl (.inr (show 1 + 1 ≤ q.val by omega))]
  rw [View.read_writes_cons_rows_of_not_mem (o := 0) (W := 1) _ _ _ _ _ (ix2 q j) rfl rfl (.inr (show 0 + 1 ≤ q.val by omega))]
  exact cleared _ _

end
end

/-- The arguments' arrays. -/
abbrev A0 (c : Dev nD) : FVec Ideal S8192x2816 .bf16 := m ((c : Thread nD τ).loc main_arg0)
abbrev A1 (c : Dev nD) : FVec Ideal S8192x2816 .bf16 := m ((c : Thread nD τ).loc main_arg1)
abbrev A2 (c : Dev nD) : FVec Ideal S2816x1024 .bf16 := m ((c : Thread nD τ).loc main_arg2)
abbrev A3 (c : Dev nD) : FVec Ideal S2816x1024 .bf16 := m ((c : Thread nD τ).loc main_arg3)
abbrev A4 (c : Dev nD) : FVec Ideal S8192x1024 .f32 := m ((c : Thread nD τ).loc main_arg4)
abbrev A5 (c : Dev nD) : FVec Ideal S8192x1024 .f32 := m ((c : Thread nD τ).loc main_arg5)
abbrev A6 (c : Dev nD) : FVec Ideal S8192x1024 .bf16 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)
abbrev A9 (c : Dev nD) : FVec Ideal S1x1024 .f32 := m ((c : Thread nD τ).loc main_arg9)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)
theorem flush12 : ∀ t : Fin cfg0.N, (cfg0.win 12).flush t = true ↔ t.val = 31 :=
  (by decide +kernel : ∀ t : Fin grid0.N, win0_12.flush t = true ↔ t.val = 31)

/-- The blocks that a point reads. -/
abbrev X0 (c : Dev nD) (t : Fin cfg0.N) : FVec Ideal S256x2816 .bf16 := iblk m c 0 t
abbrev X1 (c : Dev nD) (t : Fin cfg0.N) : FVec Ideal S256x2816 .bf16 := iblk m c 1 t
abbrev X2 (c : Dev nD) (t : Fin cfg0.N) : FVec Ideal S2816x1024 .bf16 := iblk m c 2 t
abbrev X3 (c : Dev nD) (t : Fin cfg0.N) : FVec Ideal S2816x1024 .bf16 := iblk m c 3 t
abbrev X4 (c : Dev nD) (t : Fin cfg0.N) : FVec Ideal S256x1024 .f32 := iblk m c 4 t
abbrev X5 (c : Dev nD) (t : Fin cfg0.N) : FVec Ideal S256x1024 .f32 := iblk m c 5 t
abbrev X6 (c : Dev nD) (t : Fin cfg0.N) : FVec Ideal S256x1024 .bf16 := iblk m c 6 t
abbrev X7 (c : Dev nD) (t : Fin cfg0.N) : FVec Ideal S1x1024 .f32 := iblk m c 7 t
abbrev X8 (c : Dev nD) (t : Fin cfg0.N) : FVec Ideal S1x1024 .f32 := iblk m c 8 t
abbrev X9 (c : Dev nD) (t : Fin cfg0.N) : FVec Ideal S1x1024 .f32 := iblk m c 9 t

/-- Row `i` of a point's block, in the whole array. -/
def row (t : Fin cfg0.N) (i : Fin 256) : Fin 8192 :=
  ⟨256 * (t.val) + i.val, by have ht : t.val < 32 := lt_of_lt_of_eq t.isLt (show cfg0.N = 32 from N_0); omega⟩

theorem blk0 (c : Dev nD) (t : Fin cfg0.N) (a : Fin 256) (b : Fin 2816) : X0 m c t (ix2 a b) = A0 m c (ix2 (row t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 256 + 1 * a.val = 256 * t.val + a.val; rw [(idx0 t).1]; omega
  | ⟨1, _⟩ => show win0_0.index t 1 * 2816 + 1 * b.val = b.val; rw [(idx0 t).2]; omega

theorem blk1 (c : Dev nD) (t : Fin cfg0.N) (a : Fin 256) (b : Fin 2816) : X1 m c t (ix2 a b) = A1 m c (ix2 (row t a) b) := by
  show iblk m c 1 t (ix2 a b) = _
  unfold iblk
  rw [View.read_apply]
  refine (congrArg (V m c main_arg1) (funext fun z => Fin.ext ?_)).trans (congrFun (V_main_arg1 m c) _)
  match z with
  | ⟨0, _⟩ => show win0_1.index t 0 * 256 + 1 * a.val = 256 * t.val + a.val; rw [(idx1 t).1]; omega
  | ⟨1, _⟩ => show win0_1.index t 1 * 2816 + 1 * b.val = b.val; rw [(idx1 t).2]; omega

theorem blk2 (c : Dev nD) (t : Fin cfg0.N) (a : Fin 2816) (b : Fin 1024) : X2 m c t (ix2 a b) = A2 m c (ix2 a b) := by
  show iblk m c 2 t (ix2 a b) = _
  unfold iblk
  rw [View.read_apply]
  refine (congrArg (V m c main_arg2) (funext fun z => Fin.ext ?_)).trans (congrFun (V_main_arg2 m c) _)
  match z with
  | ⟨0, _⟩ => show win0_2.index t 0 * 2816 + 1 * a.val = a.val; rw [(idx2 t).1]; omega
  | ⟨1, _⟩ => show win0_2.index t 1 * 1024 + 1 * b.val = b.val; rw [(idx2 t).2]; omega

theorem blk3 (c : Dev nD) (t : Fin cfg0.N) (a : Fin 2816) (b : Fin 1024) : X3 m c t (ix2 a b) = A3 m c (ix2 a b) := by
  show iblk m c 3 t (ix2 a b) = _
  unfold iblk
  rw [View.read_apply]
  refine (congrArg (V m c main_arg3) (funext fun z => Fin.ext ?_)).trans (congrFun (V_main_arg3 m c) _)
  match z with
  | ⟨0, _⟩ => show win0_3.index t 0 * 2816 + 1 * a.val = a.val; rw [(idx3 t).1]; omega
  | ⟨1, _⟩ => show win0_3.index t 1 * 1024 + 1 * b.val = b.val; rw [(idx3 t).2]; omega

theorem blk4 (c : Dev nD) (t : Fin cfg0.N) (a : Fin 256) (b : Fin 1024) : X4 m c t (ix2 a b) = A4 m c (ix2 (row t a) b) := by
  show iblk m c 4 t (ix2 a b) = _
  unfold iblk
  rw [View.read_apply]
  refine (congrArg (V m c main_arg4) (funext fun z => Fin.ext ?_)).trans (congrFun (V_main_arg4 m c) _)
  match z with
  | ⟨0, _⟩ => show win0_4.index t 0 * 256 + 1 * a.val = 256 * t.val + a.val; rw [(idx4 t).1]; omega
  | ⟨1, _⟩ => show win0_4.index t 1 * 1024 + 1 * b.val = b.val; rw [(idx4 t).2]; omega

theorem blk5 (c : Dev nD) (t : Fin cfg0.N) (a : Fin 256) (b : Fin 1024) : X5 m c t (ix2 a b) = A5 m c (ix2 (row t a) b) := by
  show iblk m c 5 t (ix2 a b) = _
  unfold iblk
  rw [View.read_apply]
  refine (congrArg (V m c main_arg5) (funext fun z => Fin.ext ?_)).trans (congrFun (V_main_arg5 m c) _)
  match z with
  | ⟨0, _⟩ => show win0_5.index t 0 * 256 + 1 * a.val = 256 * t.val + a.val; rw [(idx5 t).1]; omega
  | ⟨1, _⟩ => show win0_5.index t 1 * 1024 + 1 * b.val = b.val; rw [(idx5 t).2]; omega

theorem blk6 (c : Dev nD) (t : Fin cfg0.N) (a : Fin 256) (b : Fin 1024) : X6 m c t (ix2 a b) = A6 m c (ix2 (row t a) b) := by
  show iblk m c 6 t (ix2 a b) = _
  unfold iblk
  rw [View.read_apply]
  refine (congrArg (V m c main_arg6) (funext fun z => Fin.ext ?_)).trans (congrFun (V_main_arg6 m c) _)
  match z with
  | ⟨0, _⟩ => show win0_6.index t 0 * 256 + 1 * a.val = 256 * t.val + a.val; rw [(idx6 t).1]; omega
  | ⟨1, _⟩ => show win0_6.index t 1 * 1024 + 1 * b.val = b.val; rw [(idx6 t).2]; omega

theorem blk7 (c : Dev nD) (t : Fin cfg0.N) (a : Fin 1) (b : Fin 1024) : X7 m c t (ix2 a b) = A7 m c (ix2 a b) := by
  show iblk m c 7 t (ix2 a b) = _
  unfold iblk
  rw [View.read_apply]
  refine (congrArg (V m c main_arg7) (funext fun z => Fin.ext ?_)).trans (congrFun (V_main_arg7 m c) _)
  match z with
  | ⟨0, _⟩ => show win0_7.index t 0 * 1 + 1 * a.val = a.val; rw [(idx7 t).1]; omega
  | ⟨1, _⟩ => show win0_7.index t 1 * 1024 + 1 * b.val = b.val; rw [(idx7 t).2]; omega

theorem blk8 (c : Dev nD) (t : Fin cfg0.N) (a : Fin 1) (b : Fin 1024) : X8 m c t (ix2 a b) = A8 m c (ix2 a b) := by
  show iblk m c 8 t (ix2 a b) = _
  unfold iblk
  rw [View.read_apply]
  refine (congrArg (V m c main_arg8) (funext fun z => Fin.ext ?_)).trans (congrFun (V_main_arg8 m c) _)
  match z with
  | ⟨0, _⟩ => show win0_8.index t 0 * 1 + 1 * a.val = a.val; rw [(idx8 t).1]; omega
  | ⟨1, _⟩ => show win0_8.index t 1 * 1024 + 1 * b.val = b.val; rw [(idx8 t).2]; omega

theorem blk9 (c : Dev nD) (t : Fin cfg0.N) (a : Fin 1) (b : Fin 1024) : X9 m c t (ix2 a b) = A9 m c (ix2 a b) := by
  show iblk m c 9 t (ix2 a b) = _
  unfold iblk
  rw [View.read_apply]
  refine (congrArg (V m c main_arg9) (funext fun z => Fin.ext ?_)).trans (congrFun (V_main_arg9 m c) _)
  match z with
  | ⟨0, _⟩ => show win0_9.index t 0 * 1 + 1 * a.val = a.val; rw [(idx9 t).1]; omega
  | ⟨1, _⟩ => show win0_9.index t 1 * 1024 + 1 * b.val = b.val; rw [(idx9 t).2]; omega

/-- The cotangent of the modulated rows, by token. -/
def dh (c : Dev nD) (i : Fin 8192) (j : Fin 1024) : EReal :=
  (∑ k : Fin 2816, A0 m c (ix2 i k) * A2 m c (ix2 k j)) + ∑ k : Fin 2816, A1 m c (ix2 i k) * A3 m c (ix2 k j)

/-- A token's normed row. -/
def xr (c : Dev nD) (i : Fin 8192) (j : Fin 1024) : EReal := A5 m c (ix2 i j) * rstd fun k => A5 m c (ix2 i k)

/-- The cotangent of the norm's rows, before the gain. -/
def ds (c : Dev nD) (i : Fin 8192) (j : Fin 1024) : EReal := dh m c i j * (one32 + A9 m c (ix2 0 j))

/-- The gradient of the rows before the norm. -/
def dx1 (c : Dev nD) (i : Fin 8192) (j : Fin 1024) : EReal :=
  A4 m c (ix2 i j) + back (fun k => A5 m c (ix2 i k)) (fun k => ds m c i k * A8 m c (ix2 0 k)) j

/-- The products that an entry of the sums over tokens adds. -/
def term (c : Dev nD) (q : Fin 8) (j : Fin 1024) (i : Fin 8192) : EReal :=
  if q.val = 0 then dh m c i j else if q.val = 1 then dh m c i j * (xr m c i j * A8 m c (ix2 0 j))
  else if q.val = 2 then ds m c i j * xr m c i j else if q.val = 3 then dx1 m c i j * A6 m c (ix2 i j) else 0

section
variable (c : Dev nD) (t : Fin cfg0.N) (i : Fin 256) (j : Fin 1024)

theorem dh_at : k0_pay4 (F := Ideal) (X0 m c t) (X2 m c t) (X1 m c t) (X3 m c t) (ix2 i j) = dh m c (row t i) j := by
  refine (pay4_apply _ _ _ _ i j).trans ?_
  exact congrArg₂ (fun a b : EReal => a + b)
    (Finset.sum_congr rfl fun k _ => congrArg₂ (fun a b : EReal => a * b) (blk0 m c t i k) (blk2 m c t k j))
    (Finset.sum_congr rfl fun k _ => congrArg₂ (fun a b : EReal => a * b) (blk1 m c t i k) (blk3 m c t k j))

theorem xr_at : k0_pay6 (F := Ideal) (X5 m c t) (ix2 i j) = xr m c (row t i) j := by
  refine (pay6_apply _ i j).trans ?_
  unfold xr
  rw [funext fun k => blk5 m c t i k, blk5 m c t i j]

theorem xg_at : k0_pay7 (F := Ideal) (X5 m c t) (X8 m c t) (ix2 i j) = xr m c (row t i) j * A8 m c (ix2 0 j) := by
  refine (pay7_apply _ _ i j).trans ?_
  unfold xr
  rw [funext fun k => blk5 m c t i k, blk5 m c t i j, blk8 m c t 0 j]

theorem ds_at : k0_pay8 (F := Ideal) (X0 m c t) (X2 m c t) (X1 m c t) (X3 m c t) (X9 m c t) (ix2 i j) = ds m c (row t i) j := by
  refine (pay8_apply _ _ _ _ _ i j).trans ?_
  unfold ds
  rw [dh_at m c t i j, blk9 m c t 0 j]

theorem dg_at : k0_pay9 (F := Ideal) (X0 m c t) (X2 m c t) (X1 m c t) (X3 m c t) (X9 m c t) (X8 m c t) (ix2 i j) = ds m c (row t i) j * A8 m c (ix2 0 j) := by
  refine (pay9_apply _ _ _ _ _ _ i j).trans ?_
  unfold ds
  rw [dh_at m c t i j, blk9 m c t 0 j, blk8 m c t 0 j]

/-- The block's gradient, at the arrays. -/
abbrev DX : FVec Ideal S256x1024 .f32 := dx (X0 m c t) (X1 m c t) (X2 m c t) (X3 m c t) (X4 m c t) (X5 m c t) (X8 m c t) (X9 m c t)

theorem dx_at : DX m c t (ix2 i j) = dx1 m c (row t i) j := by
  refine (dx_apply _ _ _ _ _ _ _ _ i j).trans ?_
  unfold dx1
  rw [funext fun k => dg_at m c t i k, funext fun k => blk5 m c t i k, blk4 m c t i j]

end

theorem part0 (c : Dev nD) (t : Fin cfg0.N) (j : Fin 1024) :
    (∑ r : Fin 256, k0_pay4 (F := Ideal) (X0 m c t) (X2 m c t) (X1 m c t) (X3 m c t) (ix2 r j)) = ∑ r : Fin 256, ext (term m c 0 j) (256 * t.val + r.val) :=
  Finset.sum_congr rfl fun r _ => (dh_at m c t r j).trans (ext_of_lt (term m c 0 j) _ (row t r).isLt).symm

theorem part1 (c : Dev nD) (t : Fin cfg0.N) (j : Fin 1024) :
    (∑ r : Fin 256, k0_pay4 (F := Ideal) (X0 m c t) (X2 m c t) (X1 m c t) (X3 m c t) (ix2 r j) * k0_pay7 (F := Ideal) (X5 m c t) (X8 m c t) (ix2 r j)) = ∑ r : Fin 256, ext (term m c 1 j) (256 * t.val + r.val) :=
  Finset.sum_congr rfl fun r _ => (congrArg₂ (fun a b : EReal => a * b) (dh_at m c t r j) (xg_at m c t r j)).trans (ext_of_lt (term m c 1 j) _ (row t r).isLt).symm

theorem part2 (c : Dev nD) (t : Fin cfg0.N) (j : Fin 1024) :
    (∑ r : Fin 256, k0_pay8 (F := Ideal) (X0 m c t) (X2 m c t) (X1 m c t) (X3 m c t) (X9 m c t) (ix2 r j) * k0_pay6 (F := Ideal) (X5 m c t) (ix2 r j)) = ∑ r : Fin 256, ext (term m c 2 j) (256 * t.val + r.val) :=
  Finset.sum_congr rfl fun r _ => (congrArg₂ (fun a b : EReal => a * b) (ds_at m c t r j) (xr_at m c t r j)).trans (ext_of_lt (term m c 2 j) _ (row t r).isLt).symm

theorem part3 (c : Dev nD) (t : Fin cfg0.N) (j : Fin 1024) :
    (∑ r : Fin 256, dx (X0 m c t) (X1 m c t) (X2 m c t) (X3 m c t) (X4 m c t) (X5 m c t) (X8 m c t) (X9 m c t) (ix2 r j) * (X6 m c t) (ix2 r j)) = ∑ r : Fin 256, ext (term m c 3 j) (256 * t.val + r.val) :=
  Finset.sum_congr rfl fun r _ => (congrArg₂ (fun a b : EReal => a * b) (dx_at m c t r j) (blk6 m c t r j)).trans (ext_of_lt (term m c 3 j) _ (row t r).isLt).symm

theorem term_rest (c : Dev nD) (q : Fin 8) (hq : 4 ≤ q.val) (j : Fin 1024) (n : ℕ) : ext (term m c q j) n = 0 := by
  unfold ext
  split
  · unfold term
    rw [if_neg (by omega), if_neg (by omega), if_neg (by omega), if_neg (by omega)]
  · rfl

theorem rows8 (q : Fin 8) : q = 0 ∨ q = 1 ∨ q = 2 ∨ q = 3 ∨ 4 ≤ q.val := by
  revert q
  decide

/-- After each point the sums hold what the tokens read so far add. -/
theorem outs12_eq (c : Dev nD) : ∀ (n : ℕ) (h : n < cfg0.N) (q : Fin 8) (j : Fin 1024),
    (outsAt0 m c n h).2.2 (ix2 q j) = ∑ k ∈ Finset.range (256 * n + 256), ext (term m c q j) k := by
  intro n
  induction n with
  | zero =>
    intro h q j
    rw [show outsAt0 m c 0 h = _ from outsAt0_A m c ⟨0, h⟩ rfl]
    dsimp only
    rw [range_first]
    rcases rows8 q with rfl | rfl | rfl | rfl | hq
    · exact (out_A12_0 ..).trans ((part0 m c ⟨0, h⟩ j).trans (Finset.sum_congr rfl fun k _ => congrArg (ext _) (Nat.zero_add _)))
    · exact (out_A12_1 ..).trans ((part1 m c ⟨0, h⟩ j).trans (Finset.sum_congr rfl fun k _ => congrArg (ext _) (Nat.zero_add _)))
    · exact (out_A12_2 ..).trans ((part2 m c ⟨0, h⟩ j).trans (Finset.sum_congr rfl fun k _ => congrArg (ext _) (Nat.zero_add _)))
    · exact (out_A12_3 ..).trans ((part3 m c ⟨0, h⟩ j).trans (Finset.sum_congr rfl fun k _ => congrArg (ext _) (Nat.zero_add _)))
    · exact (out_A12_rest (hq := hq) ..).trans (Finset.sum_eq_zero fun k _ => term_rest m c q hq j _).symm
  | succ n ih =>
    intro h q j
    have hn : n + 1 < 32 := lt_of_lt_of_eq h (show cfg0.N = 32 from N_0)
    rw [show outsAt0 m c (n + 1) h = _ from outsAt0_B m c ⟨n + 1, h⟩ (show ¬(n + 1) % 32 = 0 by omega)]
    dsimp only
    rw [range_add, show 256 * (n + 1) = 256 * n + 256 by omega]
    rcases rows8 q with rfl | rfl | rfl | rfl | hq
    · exact (out_B12_0 ..).trans (congrArg₂ (fun a b : EReal => a + b) (ih (Nat.lt_of_succ_lt h) 0 j) (part0 m c ⟨n + 1, h⟩ j))
    · exact (out_B12_1 ..).trans (congrArg₂ (fun a b : EReal => a + b) (ih (Nat.lt_of_succ_lt h) 1 j) (part1 m c ⟨n + 1, h⟩ j))
    · exact (out_B12_2 ..).trans (congrArg₂ (fun a b : EReal => a + b) (ih (Nat.lt_of_succ_lt h) 2 j) (part2 m c ⟨n + 1, h⟩ j))
    · exact (out_B12_3 ..).trans (congrArg₂ (fun a b : EReal => a + b) (ih (Nat.lt_of_succ_lt h) 3 j) (part3 m c ⟨n + 1, h⟩ j))
    · refine (out_B12_rest (hq := hq) ..).trans ((ih (Nat.lt_of_succ_lt h) q j).trans ?_)
      exact ((congrArg (fun s : EReal => _ + s) (Finset.sum_eq_zero fun k _ => term_rest m c q hq j _)).trans (add_zero _)).symm

def res10 (c : Dev nD) : FVec Ideal S8192x1024 .f32 := fun y => dx1 m c (y 0) (y 1)
def res11 (c : Dev nD) : FVec Ideal S8192x1024 .bf16 := fun y => A7 m c (ix2 0 (y 1)) * dx1 m c (y 0) (y 1)
def res12 (c : Dev nD) : FVec Ideal S8x1024 .f32 := fun y => ∑ i : Fin 8192, term m c (y 0) (y 1) i

theorem outs10_eq (c : Dev nD) (t : Fin cfg0.N) : (outsAt0 m c t.val t.isLt).1 = DX m c t := by
  by_cases h0 : t.val % 32 = 0
  · rw [outsAt0_A m c t h0]; dsimp only; exact out_A10 ..
  · rw [outsAt0_B m c t h0]; dsimp only; exact out_B10 ..

theorem outs11_eq (c : Dev nD) (t : Fin cfg0.N) (i : Fin 256) (j : Fin 1024) :
    (outsAt0 m c t.val t.isLt).2.1 (ix2 i j) = A7 m c (ix2 0 j) * dx1 m c (row t i) j := by
  by_cases h0 : t.val % 32 = 0
  · rw [outsAt0_A m c t h0]
    dsimp only
    exact (congrFun (out_A11 ..) _).trans ((pay13_apply _ _ _ _ _ _ _ _ _ i j).trans (congrArg₂ (fun a b : EReal => a * b) (blk7 m c t 0 j) (dx_at m c t i j)))
  · rw [outsAt0_B m c t h0]
    dsimp only
    exact (congrFun (out_B11 ..) _).trans ((pay13_apply _ _ _ _ _ _ _ _ _ i j).trans (congrArg₂ (fun a b : EReal => a * b) (blk7 m c t 0 j) (dx_at m c t i j)))

theorem flushed_eq10 (c : Dev nD) (t : Fin cfg0.N) (hf : (cfg0.win 10).flush t = true) :
    (dats m 0 c).flushed 10 t = ((cfg0.win 10).blk t).view.read (Elt Ideal) (res10 m c) := by
  show (cfg0.win 10).cut (grid0.coords t) ((dats m 0 c).after 10 t) = _
  rw [after0_10]
  funext y
  rw [View.read_apply]
  refine Eq.trans (show _ = res10 m c (ix2 (row t (y 0)) (y 1)) from (congrFun (outs10_eq m c t) y).trans ((congrArg (DX m c t) (ValueIdx.eq_ix2 y)).trans (dx_at m c t (y 0) (y 1)))) ?_
  refine congrArg (res10 m c) (funext fun a => Fin.ext ?_)
  match a with
  | ⟨0, _⟩ => show 256 * t.val + (y 0).val = win0_10.index t 0 * 256 + 1 * (y 0).val; rw [(idx10 t).1]; omega
  | ⟨1, _⟩ => show (y 1).val = win0_10.index t 1 * 1024 + 1 * (y 1).val; rw [(idx10 t).2]; omega

theorem cover10 (i : S8192x1024.Idx) : ∃ t : Fin cfg0.N, (cfg0.win 10).flush t = true ∧ i ∈ ((View.whole main_v0_0).slice (win0_10.rect t)).set := by
  have h0 : (i 0 : Nat) < 8192 := (i 0).isLt
  have h1 : (i 1 : Nat) < 1024 := (i 1).isLt
  let t : Fin cfg0.N := ⟨(i 0 : Nat) / 256, by rw [show cfg0.N = 32 from N_0]; omega⟩
  have tv : t.val = (i 0 : Nat) / 256 := rfl
  refine ⟨t, flush10 t, ?_⟩
  rw [View.set_slice_whole, Rect.mem_set_unit]
  intro a
  match a with
  | ⟨0, _⟩ =>
    show win0_10.index t 0 * 256 ≤ (i 0 : Nat) ∧ (i 0 : Nat) < win0_10.index t 0 * 256 + 256
    rw [(idx10 t).1]; omega
  | ⟨1, _⟩ =>
    show win0_10.index t 1 * 1024 ≤ (i 1 : Nat) ∧ (i 1 : Nat) < win0_10.index t 1 * 1024 + 1024
    rw [(idx10 t).2]; omega

/-- The result array after the run. -/
theorem final10 (c : Dev nD) : (dats m 0 c).arrAt 10 cfg0.N = res10 m c :=
  (dats m 0 c).arrAt_eq_of_cover 10 (res10 m c) (flushed_eq10 m c) cover10

theorem flushed_eq11 (c : Dev nD) (t : Fin cfg0.N) (hf : (cfg0.win 11).flush t = true) :
    (dats m 0 c).flushed 11 t = ((cfg0.win 11).blk t).view.read (Elt Ideal) (res11 m c) := by
  show (cfg0.win 11).cut (grid0.coords t) ((dats m 0 c).after 11 t) = _
  rw [after0_11]
  funext y
  rw [View.read_apply]
  refine Eq.trans (show _ = res11 m c (ix2 (row t (y 0)) (y 1)) from (congrArg (outsAt0 m c t.val t.isLt).2.1 (ValueIdx.eq_ix2 y)).trans (outs11_eq m c t (y 0) (y 1))) ?_
  refine congrArg (res11 m c) (funext fun a => Fin.ext ?_)
  match a with
  | ⟨0, _⟩ => show 256 * t.val + (y 0).val = win0_11.index t 0 * 256 + 1 * (y 0).val; rw [(idx11 t).1]; omega
  | ⟨1, _⟩ => show (y 1).val = win0_11.index t 1 * 1024 + 1 * (y 1).val; rw [(idx11 t).2]; omega

theorem cover11 (i : S8192x1024.Idx) : ∃ t : Fin cfg0.N, (cfg0.win 11).flush t = true ∧ i ∈ ((View.whole main_v0_1).slice (win0_11.rect t)).set := by
  have h0 : (i 0 : Nat) < 8192 := (i 0).isLt
  have h1 : (i 1 : Nat) < 1024 := (i 1).isLt
  let t : Fin cfg0.N := ⟨(i 0 : Nat) / 256, by rw [show cfg0.N = 32 from N_0]; omega⟩
  have tv : t.val = (i 0 : Nat) / 256 := rfl
  refine ⟨t, flush11 t, ?_⟩
  rw [View.set_slice_whole, Rect.mem_set_unit]
  intro a
  match a with
  | ⟨0, _⟩ =>
    show win0_11.index t 0 * 256 ≤ (i 0 : Nat) ∧ (i 0 : Nat) < win0_11.index t 0 * 256 + 256
    rw [(idx11 t).1]; omega
  | ⟨1, _⟩ =>
    show win0_11.index t 1 * 1024 ≤ (i 1 : Nat) ∧ (i 1 : Nat) < win0_11.index t 1 * 1024 + 1024
    rw [(idx11 t).2]; omega

/-- The result array after the run. -/
theorem final11 (c : Dev nD) : (dats m 0 c).arrAt 11 cfg0.N = res11 m c :=
  (dats m 0 c).arrAt_eq_of_cover 11 (res11 m c) (flushed_eq11 m c) cover11

theorem flushed_eq12 (c : Dev nD) (t : Fin cfg0.N) (hf : (cfg0.win 12).flush t = true) :
    (dats m 0 c).flushed 12 t = ((cfg0.win 12).blk t).view.read (Elt Ideal) (res12 m c) := by
  have h3 := (flush12 t).mp hf
  rw [Value.flushed12]
  funext y
  rw [View.read_apply]
  refine Eq.trans ((congrArg (outsAt0 m c t.val t.isLt).2.2 (ValueIdx.eq_ix2 y)).trans (outs12_eq m c t.val t.isLt (y 0) (y 1))) ?_
  rw [h3, show 256 * 31 + 256 = 8192 from rfl, range_all]
  refine congrArg₂ (fun i j => ∑ s : Fin 8192, term m c i j s) (Fin.ext ?_) (Fin.ext ?_)
  · show (y 0).val = win0_12.index t 0 * 8 + 1 * (y 0).val; rw [(idx12 t).1]; omega
  · show (y 1).val = win0_12.index t 1 * 1024 + 1 * (y 1).val; rw [(idx12 t).2]; omega

theorem cover12 (i : S8x1024.Idx) : ∃ t : Fin cfg0.N, (cfg0.win 12).flush t = true ∧ i ∈ ((View.whole main_v0_2).slice (win0_12.rect t)).set := by
  have h0 : (i 0 : Nat) < 8 := (i 0).isLt
  have h1 : (i 1 : Nat) < 1024 := (i 1).isLt
  let t : Fin cfg0.N := ⟨31, by rw [show cfg0.N = 32 from N_0]; omega⟩
  have tv : t.val = 31 := rfl
  refine ⟨t, (flush12 t).mpr rfl, ?_⟩
  rw [View.set_slice_whole, Rect.mem_set_unit]
  intro a
  match a with
  | ⟨0, _⟩ =>
    show win0_12.index t 0 * 8 ≤ (i 0 : Nat) ∧ (i 0 : Nat) < win0_12.index t 0 * 8 + 8
    rw [(idx12 t).1]; omega
  | ⟨1, _⟩ =>
    show win0_12.index t 1 * 1024 ≤ (i 1 : Nat) ∧ (i 1 : Nat) < win0_12.index t 1 * 1024 + 1024
    rw [(idx12 t).2]; omega

/-- The result array after the run. -/
theorem final12 (c : Dev nD) : (dats m 0 c).arrAt 12 cfg0.N = res12 m c :=
  (dats m 0 c).arrAt_eq_of_cover 12 (res12 m c) (flushed_eq12 m c) cover12

end Cert.Kernel5Ideal.FfnIn
end
-- ==== Proof.Reals.lean ====
/- The input projection's padded product: six rows one after the other, and weights with rows of zeros below. -/
module

public import proofs.«01_k».proof.Proof.Norm

@[expose] public section

set_option maxRecDepth 16384

noncomputable section

namespace Cert.Norm

open Idealize.ShloMosaic
open scoped BigOperators

/-- Six rows one after the other, read at a column of the whole. -/
def pick (a0 a1 a2 : Fin 512 → EReal) (a3 : Fin 1536 → EReal) (a4 : Fin 512 → EReal) (a5 : Fin 128 → EReal) (n : ℕ) : EReal :=
  if h : n < 512 then a0 ⟨n, h⟩ else if h : n - 512 < 512 then a1 ⟨n - 512, h⟩ else if h : n - 1024 < 512 then a2 ⟨n - 1024, h⟩
  else if h : n - 1536 < 1536 then a3 ⟨n - 1536, h⟩ else if h : n - 3072 < 512 then a4 ⟨n - 3072, h⟩
  else if h : n - 3584 < 128 then a5 ⟨n - 3584, h⟩ else 0

/-- Rows of zeros below add nothing to a product. -/
theorem sum_padded (p : ℕ → EReal) (w : Fin 3600 → EReal) :
    (∑ n : Fin 3712, p n.val * (if h : n.val < 3600 then w ⟨n.val, h⟩ else 0)) = ∑ n : Fin 3600, p n.val * w n := by
  refine (Fin.sum_univ_add (a := 3600) (b := 112) fun n : Fin 3712 => p n.val * (if h : n.val < 3600 then w ⟨n.val, h⟩ else 0)).trans ?_
  rw [Finset.sum_eq_zero (s := (Finset.univ : Finset (Fin 112))) fun n _ => ?_, add_zero]
  · exact Finset.sum_congr rfl fun n _ => congrArg (fun a : EReal => p n.val * a) (dif_pos n.isLt)
  · exact (congrArg (fun a : EReal => _ * a) (dif_neg (show ¬ (3600 + n.val) < 3600 by omega))).trans (mul_zero _)

end Cert.Norm
end
-- ==== Proof.FfnInRef.lean ====
/- The gradient through the feed forward block's entry: the reference's results at an entry, over the reals. -/
module

public import proofs.«01_k».proof.Proof.Gen.Reference5Ideal.Run
public import proofs.«01_k».proof.Proof.Norm
public import proofs.«01_k».proof.Proof.NormBack
public import proofs.«01_k».proof.Proof.Reals
public import Idealize.ShloMosaic.Lib.ReduceAll
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value
public import Idealize.ShloMosaic.PureOps.Ideal
public import Idealize.ShloMosaic.PureOps.Ideal.Laws

@[expose] public section

set_option maxRecDepth 16384

noncomputable section

namespace Cert.Reference5Ideal.FfnIn

open Cert.Reference5Ideal Cert.Reference5Ideal.Gen Idealize.ShloMosaic Idealize.ShloMosaic.TcCoe Idealize.SL.Sem
open Idealize.ShloMosaic.ValueIdx
open Cert.Norm
open scoped BigOperators

/-- A product with a matrix's transpose, read at an entry. -/
theorem nt (A : FVec Ideal S8192x2816 .f32) (B : FVec Ideal S1024x2816 .f32)
    (i : Fin 8192) (j : Fin 1024) :
    Host.dotGeneral dot_S8192x2816_S1024x2816_S8192x1024_1_1_0_0_n_n none A B (ix2 i j) = ∑ r : Fin 2816, A (ix2 i r) * B (ix2 j r) := by
  show FloatOps.dotGeneral _ none _ A B (ix2 i j) = _
  rw [Ideal.dotGeneral_apply, ← Equiv.sum_comp (contrEquiv1 dot_S8192x2816_S1024x2816_S8192x1024_1_1_0_0_n_n 2816 rfl rfl).symm]
  refine Finset.sum_congr rfl fun r _ => ?_
  have hk := contrEquiv1_symm_val dot_S8192x2816_S1024x2816_S8192x1024_1_1_0_0_n_n 2816 rfl rfl r
  have el : dot_S8192x2816_S1024x2816_S8192x1024_1_1_0_0_n_n.lhsIdx (ix2 i j) ((contrEquiv1 dot_S8192x2816_S1024x2816_S8192x1024_1_1_0_0_n_n 2816 rfl rfl).symm r) = ix2 i r := by
    funext a; apply Fin.ext
    match a with
    | ⟨0, _⟩ => rfl
    | ⟨1, _⟩ => exact hk
  have er : dot_S8192x2816_S1024x2816_S8192x1024_1_1_0_0_n_n.rhsIdx (ix2 i j) ((contrEquiv1 dot_S8192x2816_S1024x2816_S8192x1024_1_1_0_0_n_n 2816 rfl rfl).symm r) = ix2 j r := by
    funext a; apply Fin.ext
    match a with
    | ⟨0, _⟩ => rfl
    | ⟨1, _⟩ => exact hk
  rw [el, er]

/-- The norm's row factors on the host. -/
abbrev ROWS (G : FVec Ideal S1x1024 .f32) : FVec Ideal S8192x1024 .f32 := broadcastInDim S8192x1024 ![0, 1] bcast_S1x1024_S8192x1024_0_1 G

abbrev RS (X : FVec Ideal S8192x1024 .f32) : FVec Ideal S8192x1024 .f32 := broadcastInDim S8192x1024 ![0, 1] bcast_S8192x1_S8192x1024_0_1
  (Host.rsqrt (hms X reducesTo_S8192x1024_S8192_d1 h_S_ bcast_S8192_S8192x1_0 bcast_S_S8192x1))

/-- The cotangent times one plus the scale, and that times the gain. -/
abbrev dm (E : FVec Ideal S8192x1024 .f32) (S : FVec Ideal S1x1024 .f32) : FVec Ideal S8192x1024 .f32 :=
  mulf E (ROWS (addf (broadcastInDim S1x1024 ![] bcast_S_S1x1024 (constant S_ .f32 0x3F800000#32)) S))

abbrev dg (E : FVec Ideal S8192x1024 .f32) (G S : FVec Ideal S1x1024 .f32) : FVec Ideal S8192x1024 .f32 := mulf (dm E S) (ROWS G)

abbrev w (X E : FVec Ideal S8192x1024 .f32) (G S : FVec Ideal S1x1024 .f32) : FVec Ideal S8192x1024 .f32 :=
  broadcastInDim S8192x1024 ![0] bcast_S8192_S8192x1024_0 (hbyMs X (dg E G S) reducesTo_S8192x1024_S8192_d1 h_S_ bcast_S8192_S8192x1_0 bcast_S_S8192x1 shapeCasts_S8192_S8192x1 reducesTo_S8192x1_S8192_d1)

/-- The gradient of the rows before the norm, with what came along the residual. -/
abbrev DX (D X E : FVec Ideal S8192x1024 .f32) (G S : FVec Ideal S1x1024 .f32) : FVec Ideal S8192x1024 .f32 :=
  addf (addf (addf D (mulf (dg E G S) (RS X))) (mulf X (w X E G S))) (mulf (w X E G S) X)

theorem dm_apply (E : FVec Ideal S8192x1024 .f32) (S : FVec Ideal S1x1024 .f32) (i : Fin 8192) (k : Fin 1024) :
    dm E S (ix2 i k) = E (ix2 i k) * (one32 + S (ix2 0 k)) := host_mul_row E _ bcast_S1x1024_S8192x1024_0_1 i k

theorem dg_apply (E : FVec Ideal S8192x1024 .f32) (G S : FVec Ideal S1x1024 .f32) (i : Fin 8192) (k : Fin 1024) :
    dg E G S (ix2 i k) = E (ix2 i k) * (one32 + S (ix2 0 k)) * G (ix2 0 k) :=
  (host_mul_row (dm E S) G bcast_S1x1024_S8192x1024_0_1 i k).trans (congrArg (fun a : EReal => a * G (ix2 0 k)) (dm_apply E S i k))

theorem XR_apply (X : FVec Ideal S8192x1024 .f32) (i : Fin 8192) (k : Fin 1024) :
    (mulf X (RS X) : FVec Ideal S8192x1024 .f32) (ix2 i k) = X (ix2 i k) * rstd fun k => X (ix2 i k) :=
  host_xr X reducesTo_S8192x1024_S8192_d1 h_S_ bcast_S8192_S8192x1_0 bcast_S_S8192x1 bcast_S8192x1_S8192x1024_0_1 i k

theorem XG_apply (X : FVec Ideal S8192x1024 .f32) (G : FVec Ideal S1x1024 .f32) (i : Fin 8192) (k : Fin 1024) :
    (mulf (mulf X (RS X)) (ROWS G) : FVec Ideal S8192x1024 .f32) (ix2 i k) = (X (ix2 i k) * rstd fun k => X (ix2 i k)) * G (ix2 0 k) :=
  (host_mul_row (mulf X (RS X)) G bcast_S1x1024_S8192x1024_0_1 i k).trans (congrArg (fun a : EReal => a * G (ix2 0 k)) (XR_apply X i k))

theorem DX_apply (D X E : FVec Ideal S8192x1024 .f32) (G S : FVec Ideal S1x1024 .f32) (i : Fin 8192) (k : Fin 1024) :
    DX D X E G S (ix2 i k) = D (ix2 i k) + back (fun k => X (ix2 i k)) (fun k => E (ix2 i k) * (one32 + S (ix2 0 k)) * G (ix2 0 k)) k := by
  refine (host_back D X (dg E G S) reducesTo_S8192x1024_S8192_d1 h_S_ bcast_S8192_S8192x1_0 bcast_S_S8192x1 shapeCasts_S8192_S8192x1
    reducesTo_S8192x1_S8192_d1 bcast_S8192x1_S8192x1024_0_1 bcast_S8192_S8192x1024_0 i k).trans ?_
  rw [funext fun k => dg_apply E G S i k]

/-- The sum over all tokens, as a row. -/
abbrev SUM (v : FVec Ideal S8192x1024 .f32) : FVec Ideal S1x1024 .f32 :=
  shapeCast S1x1024 (Host.reduceAdd v (constant S_ .f32 0x00000000#32) reducesTo_S8192x1024_S1024_d0 h_S_) shapeCasts_S1024_S1x1024

theorem SUM_apply (v : FVec Ideal S8192x1024 .f32) (j : Fin 1024) : SUM v (ix2 0 j) = ∑ i : Fin 8192, v (ix2 i j) :=
  host_stat v reducesTo_S8192x1024_S1024_d0 h_S_ shapeCasts_S1024_S1x1024 j

theorem row0_apply (E : FVec Ideal S8192x1024 .f32) (j : Fin 1024) : SUM E (ix2 0 j) = ∑ i : Fin 8192, E (ix2 i j) := SUM_apply E j

theorem row1_apply (X E : FVec Ideal S8192x1024 .f32) (G : FVec Ideal S1x1024 .f32) (j : Fin 1024) :
    SUM (mulf (mulf (mulf X (RS X)) (ROWS G)) E) (ix2 0 j)
      = ∑ i : Fin 8192, E (ix2 i j) * ((X (ix2 i j) * rstd fun k => X (ix2 i k)) * G (ix2 0 j)) :=
  (SUM_apply _ j).trans (Finset.sum_congr rfl fun i _ => (congrArg (fun a : EReal => a * E (ix2 i j)) (XG_apply X G i j)).trans (mul_comm _ _))

theorem row2_apply (X E : FVec Ideal S8192x1024 .f32) (S : FVec Ideal S1x1024 .f32) (j : Fin 1024) :
    SUM (mulf (mulf X (RS X)) (dm E S)) (ix2 0 j)
      = ∑ i : Fin 8192, E (ix2 i j) * (one32 + S (ix2 0 j)) * (X (ix2 i j) * rstd fun k => X (ix2 i k)) :=
  (SUM_apply _ j).trans (Finset.sum_congr rfl fun i _ =>
    (congrArg₂ (fun a b : EReal => a * b) (XR_apply X i j) (dm_apply E S i j)).trans (mul_comm _ _))

/-- The cotangent of the modulated rows. -/
abbrev DH (A B : FVec Ideal S8192x2816 .bf16) (P Q : FVec Ideal S2816x1024 .bf16) : FVec Ideal S8192x1024 .f32 :=
  addf (Host.dotGeneral dot_S8192x2816_S1024x2816_S8192x1024_1_1_0_0_n_n none (extf .f32 B bitsLt_bf16_f32) (transpose S1024x2816 [1, 0] (extf .f32 Q bitsLt_bf16_f32) transposes_S2816x1024_S1024x2816_1_0))
    (Host.dotGeneral dot_S8192x2816_S1024x2816_S8192x1024_1_1_0_0_n_n none (extf .f32 A bitsLt_bf16_f32) (transpose S1024x2816 [1, 0] (extf .f32 P bitsLt_bf16_f32) transposes_S2816x1024_S1024x2816_1_0))

def dh (A B : FVec Ideal S8192x2816 .bf16) (P Q : FVec Ideal S2816x1024 .bf16) (i : Fin 8192) (j : Fin 1024) : EReal :=
  (∑ k : Fin 2816, A (ix2 i k) * P (ix2 k j)) + ∑ k : Fin 2816, B (ix2 i k) * Q (ix2 k j)

theorem prod_apply (A : FVec Ideal S8192x2816 .bf16) (P : FVec Ideal S2816x1024 .bf16) (i : Fin 8192) (j : Fin 1024) :
    Host.dotGeneral dot_S8192x2816_S1024x2816_S8192x1024_1_1_0_0_n_n none (extf .f32 A bitsLt_bf16_f32) (transpose S1024x2816 [1, 0] (extf .f32 P bitsLt_bf16_f32) transposes_S2816x1024_S1024x2816_1_0) (ix2 i j)
      = ∑ k : Fin 2816, A (ix2 i k) * P (ix2 k j) := by
  refine (nt _ _ i j).trans (Finset.sum_congr rfl fun k _ => ?_)
  rw [transpose_apply _ _ _ (ix2 j k) (ix2 k j) (fun a => match a with
    | ⟨0, _⟩ => rfl
    | ⟨1, _⟩ => rfl)]
  rfl

theorem DH_apply (A B : FVec Ideal S8192x2816 .bf16) (P Q : FVec Ideal S2816x1024 .bf16) (i : Fin 8192) (j : Fin 1024) :
    DH A B P Q (ix2 i j) = dh A B P Q i j :=
  (congrArg₂ (fun a b : EReal => a + b) (prod_apply B Q i j) (prod_apply A P i j)).trans (add_comm _ _)

section
variable (A B : FVec Ideal S8192x2816 .bf16) (P Q : FVec Ideal S2816x1024 .bf16) (D X : FVec Ideal S8192x1024 .f32) (Y : FVec Ideal S8192x1024 .bf16)
    (T G S : FVec Ideal S1x1024 .f32)

/-- The gradient of the rows before the norm, at an entry. -/
def dx1 (i : Fin 8192) (k : Fin 1024) : EReal :=
  D (ix2 i k) + back (fun k => X (ix2 i k)) (fun k => dh A B P Q i k * (one32 + S (ix2 0 k)) * G (ix2 0 k)) k

theorem res59_apply (i : Fin 8192) (k : Fin 1024) :
    DX D X (DH A B P Q) G S (ix2 i k) = dx1 A B P Q D X G S i k := by
  refine (DX_apply D X (DH A B P Q) G S i k).trans ?_
  unfold dx1
  exact congrArg (fun f => D (ix2 i k) + back (fun k => X (ix2 i k)) f k)
    (funext fun k => congrArg (fun a : EReal => a * (one32 + S (ix2 0 k)) * G (ix2 0 k)) (DH_apply A B P Q i k))

theorem res68_apply (i : Fin 8192) (k : Fin 1024) :
    truncf .bf16 (mulf (ROWS T) (DX D X (DH A B P Q) G S)) bitsLt_bf16_f32 (ix2 i k) = T (ix2 0 k) * dx1 A B P Q D X G S i k := by
  refine Eq.trans ?_ (congrArg (fun a : EReal => T (ix2 0 k) * a) (res59_apply A B P Q D X G S i k))
  show ROWS T (ix2 i k) * _ = _
  rw [show ROWS T (ix2 i k) = T (ix2 0 k) from hbc_1b_ab T bcast_S1x1024_S8192x1024_0_1 i k]

/-- The products that an entry of the sums over tokens adds. -/
def term (q : Fin 8) (j : Fin 1024) (i : Fin 8192) : EReal :=
  if q.val = 0 then dh A B P Q i j else if q.val = 1 then dh A B P Q i j * ((X (ix2 i j) * rstd fun k => X (ix2 i k)) * G (ix2 0 j))
  else if q.val = 2 then dh A B P Q i j * (one32 + S (ix2 0 j)) * (X (ix2 i j) * rstd fun k => X (ix2 i k))
  else if q.val = 3 then dx1 A B P Q D X G S i j * Y (ix2 i j) else 0

/-- The third result: the rows of sums, and rows of zeros below. -/
abbrev STATS : FVec Ideal S8x1024 .f32 :=
  concatenate S8x1024 0 [⟨S1x1024, SUM (DH A B P Q)⟩, ⟨S1x1024, SUM (mulf (mulf (mulf X (RS X)) (ROWS G)) (DH A B P Q))⟩,
    ⟨S1x1024, SUM (mulf (mulf X (RS X)) (dm (DH A B P Q) S))⟩, ⟨S1x1024, SUM (mulf (DX D X (DH A B P Q) G S) (extf .f32 Y bitsLt_bf16_f32))⟩,
    ⟨S4x1024, broadcastInDim S4x1024 ![] bcast_S_S4x1024 (constant S_ .f32 0x00000000#32)⟩] concatenates_S1x1024_S1x1024_S1x1024_S1x1024_S4x1024_S8x1024_d0

theorem rows8 (q : Fin 8) : q = 0 ∨ q = 1 ∨ q = 2 ∨ q = 3 ∨ 4 ≤ q.val := by
  revert q
  decide

theorem res70_apply (q : Fin 8) (j : Fin 1024) :
    STATS A B P Q D X Y G S (ix2 q j) = ∑ i : Fin 8192, term A B P Q D X Y G S q j i := by
  have off : ∀ b : Fin 2, b.cast rfl ≠ (0 : Fin 2) → ∀ {p n : ℕ} (r : Fin p) (r' : Fin n), ((ix2 r j) b).val = ((ix2 r' j) (b.cast rfl)).val :=
    fun b hb p n r r' => match b with
    | ⟨0, _⟩ => absurd rfl hb
    | ⟨1, _⟩ => rfl
  rcases rows8 q with rfl | rfl | rfl | rfl | hq
  · refine (concatenate_apply_piece (t := S8x1024) 0 _ _ (ix2 (0 : Fin 8) j) 0 (by show 0 < 5; decide) S1x1024 _ rfl rfl 0 rfl (ix2 (0 : Fin 1) j) (fun b hb => off b hb _ _) rfl).trans ?_
    exact (row0_apply _ j).trans (Finset.sum_congr rfl fun i _ => DH_apply A B P Q i j)
  · refine (concatenate_apply_piece (t := S8x1024) 0 _ _ (ix2 (1 : Fin 8) j) 1 (by show 1 < 5; decide) S1x1024 _ rfl rfl 1 rfl (ix2 (0 : Fin 1) j) (fun b hb => off b hb _ _) rfl).trans ?_
    exact (row1_apply _ _ _ j).trans (Finset.sum_congr rfl fun i _ => congrArg (fun a : EReal => a * _) (DH_apply A B P Q i j))
  · refine (concatenate_apply_piece (t := S8x1024) 0 _ _ (ix2 (2 : Fin 8) j) 2 (by show 2 < 5; decide) S1x1024 _ rfl rfl 2 rfl (ix2 (0 : Fin 1) j) (fun b hb => off b hb _ _) rfl).trans ?_
    exact (row2_apply _ _ _ j).trans (Finset.sum_congr rfl fun i _ => congrArg (fun a : EReal => a * _ * _) (DH_apply A B P Q i j))
  · refine (concatenate_apply_piece (t := S8x1024) 0 _ _ (ix2 (3 : Fin 8) j) 3 (by show 3 < 5; decide) S1x1024 _ rfl rfl 3 rfl (ix2 (0 : Fin 1) j) (fun b hb => off b hb _ _) rfl).trans ?_
    exact (SUM_apply _ j).trans (Finset.sum_congr rfl fun i _ => congrArg (fun a : EReal => a * Y (ix2 i j)) (res59_apply A B P Q D X G S i j))
  · refine (concatenate_apply_piece (t := S8x1024) 0 _ _ (ix2 q j) 4 (by show 4 < 5; decide) S4x1024 _ rfl rfl 4 rfl (ix2 (⟨q.val - 4, by omega⟩ : Fin 4) j) (fun b hb => off b hb _ _)
      (show 4 + (q.val - 4) = q.val by omega)).trans ?_
    refine Eq.trans (show _ = (0 : EReal) from Ideal.ofBits_zero_f32) (Finset.sum_eq_zero fun i _ => ?_).symm
    unfold term
    rw [if_neg (by omega), if_neg (by omega), if_neg (by omega), if_neg (by omega)]

end

section
variable (m : (ℓ : Loc nD τ sig) → Buf (Elt Ideal) ℓ) (c : Dev nD)

theorem v59_eq : Value.res_main_v59 m c = DX (m ((c.tc : Thread nD τ).loc main_arg4)) (m ((c.tc : Thread nD τ).loc main_arg5))
    (DH (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg8)) (m ((c.tc : Thread nD τ).loc main_arg9)) := rfl

theorem v68_eq : Value.res_main_v68 m c = truncf .bf16 (mulf (ROWS (m ((c.tc : Thread nD τ).loc main_arg7))) (DX (m ((c.tc : Thread nD τ).loc main_arg4)) (m ((c.tc : Thread nD τ).loc main_arg5))
    (DH (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg8)) (m ((c.tc : Thread nD τ).loc main_arg9)))) bitsLt_bf16_f32 := rfl

theorem v70_eq : Value.res_main_v70 m c = STATS (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg8)) (m ((c.tc : Thread nD τ).loc main_arg9)) := rfl

end

end Cert.Reference5Ideal.FfnIn
end
-- ==== Proof.InprojKernel.lean ====
/- The input projection's kernel: its four results at an entry, over the reals. -/
module

public import proofs.«01_k».proof.Proof.Gen.Kernel6Ideal.Value
public import proofs.«01_k».proof.Proof.BlockSums
public import proofs.«01_k».proof.Proof.Norm
public import Idealize.ShloMosaic.Lib.ValueIdx
public import Idealize.ShloMosaic.Lib.ValueLayout
public import Idealize.ShloMosaic.Lib.KernelVsHost
public import Idealize.ShloMosaic.PureOps.Ideal
public import Idealize.ShloMosaic.PureOps.Ideal.Laws
public import Idealize.ShloMosaic.Lib.Tactic

@[expose] public section

set_option maxRecDepth 16384

noncomputable section

namespace Cert.Kernel6Ideal.Inproj

open Cert.Kernel6Ideal Cert.Kernel6Ideal.Gen Idealize.ShloMosaic Idealize.ShloMosaic.TcCoe Idealize.SL.Sem
open Idealize.ShloMosaic.ValueIdx
open Cert.Sums Cert.Norm
open scoped BigOperators

variable (m : (ℓ : Loc nD τ sig) → Buf (Elt Ideal) ℓ)

theorem hz : (![0, 0] : Fin 2 → Nat) = fun _ => 0 := funext fun a => by fin_cases a <;> rfl

/-- A product with a matrix's transpose, read at an entry. -/
theorem nt_a {φ₁ φ₂ : FTy} (A : FVec Ideal S512x1024 φ₁) (B : FVec Ideal S1536x1024 φ₂) (acc : FVec Ideal S512x1536 .f32)
    (i : Fin 512) (j : Fin 1536) :
    matmul dot_S512x1024_S1536x1024_S512x1536_1_1_0_0_n_n none A B acc (ix2 i j) = acc (ix2 i j) + ∑ r : Fin 1024, A (ix2 i r) * B (ix2 j r) := by
  show FloatOps.matmul _ none A B acc (ix2 i j) = _
  rw [Ideal.matmul_apply, ← Equiv.sum_comp (contrEquiv1 dot_S512x1024_S1536x1024_S512x1536_1_1_0_0_n_n 1024 rfl rfl).symm]
  refine congrArg (acc (ix2 i j) + ·) (Finset.sum_congr rfl fun r _ => ?_)
  have hk := contrEquiv1_symm_val dot_S512x1024_S1536x1024_S512x1536_1_1_0_0_n_n 1024 rfl rfl r
  have el : dot_S512x1024_S1536x1024_S512x1536_1_1_0_0_n_n.lhsIdx (ix2 i j) ((contrEquiv1 dot_S512x1024_S1536x1024_S512x1536_1_1_0_0_n_n 1024 rfl rfl).symm r) = ix2 i r := by
    funext a; apply Fin.ext
    match a with
    | ⟨0, _⟩ => rfl
    | ⟨1, _⟩ => exact hk
  have er : dot_S512x1024_S1536x1024_S512x1536_1_1_0_0_n_n.rhsIdx (ix2 i j) ((contrEquiv1 dot_S512x1024_S1536x1024_S512x1536_1_1_0_0_n_n 1024 rfl rfl).symm r) = ix2 j r := by
    funext a; apply Fin.ext
    match a with
    | ⟨0, _⟩ => rfl
    | ⟨1, _⟩ => exact hk
  rw [el, er]

/-- A product with a matrix's transpose, read at an entry. -/
theorem nt_d {φ₁ φ₂ : FTy} (A : FVec Ideal S512x1024 φ₁) (B : FVec Ideal S2048x1024 φ₂) (acc : FVec Ideal S512x2048 .f32)
    (i : Fin 512) (j : Fin 2048) :
    matmul dot_S512x1024_S2048x1024_S512x2048_1_1_0_0_n_n none A B acc (ix2 i j) = acc (ix2 i j) + ∑ r : Fin 1024, A (ix2 i r) * B (ix2 j r) := by
  show FloatOps.matmul _ none A B acc (ix2 i j) = _
  rw [Ideal.matmul_apply, ← Equiv.sum_comp (contrEquiv1 dot_S512x1024_S2048x1024_S512x2048_1_1_0_0_n_n 1024 rfl rfl).symm]
  refine congrArg (acc (ix2 i j) + ·) (Finset.sum_congr rfl fun r _ => ?_)
  have hk := contrEquiv1_symm_val dot_S512x1024_S2048x1024_S512x2048_1_1_0_0_n_n 1024 rfl rfl r
  have el : dot_S512x1024_S2048x1024_S512x2048_1_1_0_0_n_n.lhsIdx (ix2 i j) ((contrEquiv1 dot_S512x1024_S2048x1024_S512x2048_1_1_0_0_n_n 1024 rfl rfl).symm r) = ix2 i r := by
    funext a; apply Fin.ext
    match a with
    | ⟨0, _⟩ => rfl
    | ⟨1, _⟩ => exact hk
  have er : dot_S512x1024_S2048x1024_S512x2048_1_1_0_0_n_n.rhsIdx (ix2 i j) ((contrEquiv1 dot_S512x1024_S2048x1024_S512x2048_1_1_0_0_n_n 1024 rfl rfl).symm r) = ix2 j r := by
    funext a; apply Fin.ext
    match a with
    | ⟨0, _⟩ => rfl
    | ⟨1, _⟩ => exact hk
  rw [el, er]

/-- A product with a matrix's transpose, read at an entry. -/
theorem nt_b {φ₁ φ₂ : FTy} (A : FVec Ideal S512x1024 φ₁) (B : FVec Ideal S128x1024 φ₂) (acc : FVec Ideal S512x128 .f32)
    (i : Fin 512) (j : Fin 128) :
    matmul dot_S512x1024_S128x1024_S512x128_1_1_0_0_n_n none A B acc (ix2 i j) = acc (ix2 i j) + ∑ r : Fin 1024, A (ix2 i r) * B (ix2 j r) := by
  show FloatOps.matmul _ none A B acc (ix2 i j) = _
  rw [Ideal.matmul_apply, ← Equiv.sum_comp (contrEquiv1 dot_S512x1024_S128x1024_S512x128_1_1_0_0_n_n 1024 rfl rfl).symm]
  refine congrArg (acc (ix2 i j) + ·) (Finset.sum_congr rfl fun r _ => ?_)
  have hk := contrEquiv1_symm_val dot_S512x1024_S128x1024_S512x128_1_1_0_0_n_n 1024 rfl rfl r
  have el : dot_S512x1024_S128x1024_S512x128_1_1_0_0_n_n.lhsIdx (ix2 i j) ((contrEquiv1 dot_S512x1024_S128x1024_S512x128_1_1_0_0_n_n 1024 rfl rfl).symm r) = ix2 i r := by
    funext a; apply Fin.ext
    match a with
    | ⟨0, _⟩ => rfl
    | ⟨1, _⟩ => exact hk
  have er : dot_S512x1024_S128x1024_S512x128_1_1_0_0_n_n.rhsIdx (ix2 i j) ((contrEquiv1 dot_S512x1024_S128x1024_S512x128_1_1_0_0_n_n 1024 rfl rfl).symm r) = ix2 j r := by
    funext a; apply Fin.ext
    match a with
    | ⟨0, _⟩ => rfl
    | ⟨1, _⟩ => exact hk
  rw [el, er]

/-- The normed, scaled and shifted rows. -/
theorem pay2_apply (v0 : Vec Ideal S512x1024 .f32) (v1 v14 v19 : Vec Ideal S1x1024 .f32) (i : Fin 512) (k : Fin 1024) :
    k0_pay2 v0 v1 v14 v19 (ix2 i k) = modRow (fun k => v0 (ix2 i k)) (fun k => v1 (ix2 0 k)) (fun k => v14 (ix2 0 k)) (fun k => v19 (ix2 0 k)) k := by
  unfold k0_pay2
  exact kernel_mod v0 v1 v14 v19 reduces_S512x1024_S512 shapeCasts_S512_S512x1 broadcasts_S512x1_S512x1024 broadcasts_S1x1024_S512x1024 i k

theorem a_apply (v0 : Vec Ideal S512x1024 .f32) (v1 v14 v19 : Vec Ideal S1x1024 .f32) (w : Vec Ideal S1536x1024 .bf16) (i : Fin 512) (j : Fin 1536) :
    k0_pay3 v0 v1 v14 v19 w (ix2 i j) = ∑ k : Fin 1024, k0_pay2 v0 v1 v14 v19 (ix2 i k) * w (ix2 j k) := by
  unfold k0_pay3
  rw [shapeCast_self]
  refine (nt_a (k0_pay2 v0 v1 v14 v19) w _ i j).trans ?_
  rw [show (constant S512x1536 .f32 0x00000000#32 : FVec Ideal S512x1536 .f32) (ix2 i j) = 0 from Ideal.ofBits_zero_f32, zero_add]

theorem d_apply (v0 : Vec Ideal S512x1024 .f32) (v1 v14 v19 : Vec Ideal S1x1024 .f32) (w : Vec Ideal S2048x1024 .bf16) (i : Fin 512) (j : Fin 2048) :
    k0_pay4 v0 v1 v14 v19 w (ix2 i j) = ∑ k : Fin 1024, k0_pay2 v0 v1 v14 v19 (ix2 i k) * w (ix2 j k) := by
  unfold k0_pay4
  rw [shapeCast_self]
  refine (nt_d (k0_pay2 v0 v1 v14 v19) w _ i j).trans ?_
  rw [show (constant S512x2048 .f32 0x00000000#32 : FVec Ideal S512x2048 .f32) (ix2 i j) = 0 from Ideal.ofBits_zero_f32, zero_add]

theorem b_apply (h : FVec Ideal S512x1024 .bf16) (w : Vec Ideal S128x1024 .bf16) (i : Fin 512) (j : Fin 128) :
    k0_pay1 h w (ix2 i j) = ∑ k : Fin 1024, h (ix2 i k) * w (ix2 j k) := by
  unfold k0_pay1
  rw [shapeCast_self]
  refine (nt_b h w _ i j).trans ?_
  rw [show (constant S512x128 .f32 0x00000000#32 : FVec Ideal S512x128 .f32) (ix2 i j) = 0 from Ideal.ofBits_zero_f32, zero_add]

/-- The arguments' arrays. -/
abbrev A0 (c : Dev nD) : FVec Ideal S8192x1024 .f32 := m ((c : Thread nD τ).loc main_arg0)
abbrev A1 (c : Dev nD) : FVec Ideal S1x1024 .f32 := m ((c : Thread nD τ).loc main_arg1)
abbrev A2 (c : Dev nD) : FVec Ideal S1x1024 .f32 := m ((c : Thread nD τ).loc main_arg2)
abbrev A3 (c : Dev nD) : FVec Ideal S1x1024 .f32 := m ((c : Thread nD τ).loc main_arg3)
abbrev A4 (c : Dev nD) : FVec Ideal S3600x1024 .bf16 := m ((c : Thread nD τ).loc main_arg4)

/-- The weights with zero rows below, as the host pads them. -/
abbrev W (c : Dev nD) : FVec Ideal S3712x1024 .bf16 := V m c main_v0

theorem W_eq (c : Dev nD) : W m c = pad S3712x1024 ![0, 0] ![112, 0] ![0, 0] (A4 m c) (sitofp .bf16 (constantI S_ 32 0#32)) pads_S3600x1024_S3712x1024_01120_000 h_S_ := by
  show StableHlo.after _ _ _ = _
  simp only [hostOps0, hostOps0_1, StableHlo.TRef.binary, StableHlo.TRef.unary, StableHlo.TRef.toBuf, StableHlo.TRef.ofBuf, cast_eq, List.flatten_cons,
    List.flatten_nil, List.append_nil, List.cons_append, List.nil_append]
  after_results_simp

/-- A row of the padded weights is a row of the weights, or zero. -/
def wrow (A : FVec Ideal S3600x1024 .bf16) (n : ℕ) (k : Fin 1024) : EReal := if h : n < 3600 then A (ix2 ⟨n, h⟩ k) else 0

theorem W_apply (c : Dev nD) (n : Fin 3712) (k : Fin 1024) : W m c (ix2 n k) = wrow (A4 m c) n.val k := by
  rw [W_eq]
  unfold wrow
  by_cases h : n.val < 3600
  · rw [dif_pos h]
    exact pad_apply_of_inside _ _ _ _ _ _ _ (ix2 n k) (ix2 ⟨n.val, h⟩ k) fun a => match a with
      | ⟨0, _⟩ => show n.val = 0 + n.val * (0 + 1) by omega
      | ⟨1, _⟩ => show k.val = 0 + k.val * (0 + 1) by omega
  · rw [dif_neg h]
    refine (pad_apply_of_not_inside _ _ _ _ _ _ _ (ix2 n k) 0 fun h' => h ?_).trans sitofp_zero
    have : (n.val - 0) / (0 + 1) < 3600 := h'.2.2
    omega

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

/-- The blocks that a point reads. -/
abbrev X0 (c : Dev nD) (t : Fin cfg0.N) : FVec Ideal S512x1024 .f32 := iblk m c 0 t
abbrev X1 (c : Dev nD) (t : Fin cfg0.N) : FVec Ideal S1x1024 .f32 := iblk m c 1 t
abbrev X2 (c : Dev nD) (t : Fin cfg0.N) : FVec Ideal S1x1024 .f32 := iblk m c 2 t
abbrev X3 (c : Dev nD) (t : Fin cfg0.N) : FVec Ideal S1x1024 .f32 := iblk m c 3 t
abbrev X4 (c : Dev nD) (t : Fin cfg0.N) : FVec Ideal S3712x1024 .bf16 := iblk m c 4 t

/-- Row `i` of a point's block, in the whole array. -/
def row (t : Fin cfg0.N) (i : Fin 512) : Fin 8192 :=
  ⟨512 * (t.val) + i.val, by have ht : t.val < 16 := lt_of_lt_of_eq t.isLt (show cfg0.N = 16 from N_0); omega⟩

theorem blk0 (c : Dev nD) (t : Fin cfg0.N) (a : Fin 512) (b : Fin 1024) : X0 m c t (ix2 a b) = A0 m c (ix2 (row t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 512 + 1 * a.val = 512 * t.val + a.val; rw [(idx0 t).1]; omega
  | ⟨1, _⟩ => show win0_0.index t 1 * 1024 + 1 * b.val = b.val; rw [(idx0 t).2]; omega

theorem blk1 (c : Dev nD) (t : Fin cfg0.N) (a : Fin 1) (b : Fin 1024) : X1 m c t (ix2 a b) = A1 m c (ix2 a b) := by
  show iblk m c 1 t (ix2 a b) = _
  unfold iblk
  rw [View.read_apply]
  refine (congrArg (V m c main_arg1) (funext fun z => Fin.ext ?_)).trans (congrFun (V_main_arg1 m c) _)
  match z with
  | ⟨0, _⟩ => show win0_1.index t 0 * 1 + 1 * a.val = a.val; rw [(idx1 t).1]; omega
  | ⟨1, _⟩ => show win0_1.index t 1 * 1024 + 1 * b.val = b.val; rw [(idx1 t).2]; omega

theorem blk2 (c : Dev nD) (t : Fin cfg0.N) (a : Fin 1) (b : Fin 1024) : X2 m c t (ix2 a b) = A2 m c (ix2 a b) := by
  show iblk m c 2 t (ix2 a b) = _
  unfold iblk
  rw [View.read_apply]
  refine (congrArg (V m c main_arg2) (funext fun z => Fin.ext ?_)).trans (congrFun (V_main_arg2 m c) _)
  match z with
  | ⟨0, _⟩ => show win0_2.index t 0 * 1 + 1 * a.val = a.val; rw [(idx2 t).1]; omega
  | ⟨1, _⟩ => show win0_2.index t 1 * 1024 + 1 * b.val = b.val; rw [(idx2 t).2]; omega

theorem blk3 (c : Dev nD) (t : Fin cfg0.N) (a : Fin 1) (b : Fin 1024) : X3 m c t (ix2 a b) = A3 m c (ix2 a b) := by
  show iblk m c 3 t (ix2 a b) = _
  unfold iblk
  rw [View.read_apply]
  refine (congrArg (V m c main_arg3) (funext fun z => Fin.ext ?_)).trans (congrFun (V_main_arg3 m c) _)
  match z with
  | ⟨0, _⟩ => show win0_3.index t 0 * 1 + 1 * a.val = a.val; rw [(idx3 t).1]; omega
  | ⟨1, _⟩ => show win0_3.index t 1 * 1024 + 1 * b.val = b.val; rw [(idx3 t).2]; omega

theorem blk4 (c : Dev nD) (t : Fin cfg0.N) (a : Fin 3712) (b : Fin 1024) : X4 m c t (ix2 a b) = W m c (ix2 a b) := by
  show iblk m c 4 t (ix2 a b) = _
  unfold iblk
  rw [View.read_apply]
  refine (congrArg (V m c main_v0) (funext fun z => Fin.ext ?_)).trans rfl
  match z with
  | ⟨0, _⟩ => show win0_4.index t 0 * 3712 + 1 * a.val = a.val; rw [(idx4 t).1]; omega
  | ⟨1, _⟩ => show win0_4.index t 1 * 1024 + 1 * b.val = b.val; rw [(idx4 t).2]; omega

/-- The normed row of a token. -/
abbrev H (c : Dev nD) (i : Fin 8192) (k : Fin 1024) : EReal :=
  modRow (fun k => A0 m c (ix2 i k)) (fun k => A1 m c (ix2 0 k)) (fun k => A2 m c (ix2 0 k)) (fun k => A3 m c (ix2 0 k)) k

theorem h_at (c : Dev nD) (t : Fin cfg0.N) (i : Fin 512) (k : Fin 1024) :
    k0_pay2 (F := Ideal) (X0 m c t) (X1 m c t) (X2 m c t) (X3 m c t) (ix2 i k) = H m c (row t i) k := by
  refine (pay2_apply _ _ _ _ i k).trans ?_
  unfold H
  rw [funext fun k => blk0 m c t i k, funext fun k => blk1 m c t 0 k, funext fun k => blk2 m c t 0 k, funext fun k => blk3 m c t 0 k]

def res5 (c : Dev nD) : FVec Ideal S8192x1024 .bf16 := fun y => H m c (y 0) (y 1)
def res6 (c : Dev nD) : FVec Ideal S8192x1536 .f32 := fun y => ∑ k : Fin 1024, H m c (y 0) k * wrow (A4 m c) (0 + (y 1 : Fin 1536).val) k
def res7 (c : Dev nD) : FVec Ideal S8192x2048 .f32 := fun y => ∑ k : Fin 1024, H m c (y 0) k * wrow (A4 m c) (1536 + (y 1 : Fin 2048).val) k
def res8 (c : Dev nD) : FVec Ideal S8192x128 .f32 := fun y => ∑ k : Fin 1024, H m c (y 0) k * wrow (A4 m c) (3584 + (y 1 : Fin 128).val) k

theorem out5_at (c : Dev nD) (t : Fin cfg0.N) (i : Fin 512) (j : Fin 1024) :
    out0_5 (F := Ideal) (X0 m c t) (X1 m c t) (X2 m c t) (X3 m c t) (X4 m c t) (ix2 i j) = res5 m c (ix2 (row t i) j) := by
  unfold out0_5
  rw [View.canon_unit_zero hz]
  simp only [View.ld_unit_zero (S := S512x1024) hz, View.ld_unit_zero (S := S1x1024) hz]
  exact h_at m c t i j

theorem ld6 (c : Dev nD) (t : Fin cfg0.N) (j : Fin 1536) (k : Fin 1024) :
    (View.ld (Val := Elt Ideal) (e' := .bf16) (X4 m c t) r0_2 : Vec Ideal S1536x1024 .bf16) (ix2 j k) = wrow (A4 m c) (0 + j.val) k := by
  refine Eq.trans ?_ (W_apply m c ⟨0 + j.val, by omega⟩ k)
  refine Eq.trans (congrArg (X4 m c t) (funext fun a => Fin.ext ?_)) (blk4 m c t ⟨0 + j.val, by omega⟩ k)
  match a with
  | ⟨0, _⟩ => show 0 + 1 * j.val = 0 + j.val; omega
  | ⟨1, _⟩ => show 0 + 1 * k.val = k.val; omega

theorem out6_at (c : Dev nD) (t : Fin cfg0.N) (i : Fin 512) (j : Fin 1536) :
    out0_6 (F := Ideal) (X0 m c t) (X1 m c t) (X2 m c t) (X3 m c t) (X4 m c t) (ix2 i j) = res6 m c (ix2 (row t i) j) := by
  unfold out0_6
  rw [View.canon_unit_zero hz]
  simp only [View.ld_unit_zero (S := S512x1024) hz, View.ld_unit_zero (S := S1x1024) hz]
  refine (a_apply _ _ _ _ _ i j).trans (Finset.sum_congr rfl fun k _ => ?_)
  exact congrArg₂ (fun a b : EReal => a * b) (h_at m c t i k) (ld6 m c t j k)

theorem ld7 (c : Dev nD) (t : Fin cfg0.N) (j : Fin 2048) (k : Fin 1024) :
    (View.ld (Val := Elt Ideal) (e' := .bf16) (X4 m c t) r0_4 : Vec Ideal S2048x1024 .bf16) (ix2 j k) = wrow (A4 m c) (1536 + j.val) k := by
  refine Eq.trans ?_ (W_apply m c ⟨1536 + j.val, by omega⟩ k)
  refine Eq.trans (congrArg (X4 m c t) (funext fun a => Fin.ext ?_)) (blk4 m c t ⟨1536 + j.val, by omega⟩ k)
  match a with
  | ⟨0, _⟩ => show 1536 + 1 * j.val = 1536 + j.val; omega
  | ⟨1, _⟩ => show 0 + 1 * k.val = k.val; omega

theorem out7_at (c : Dev nD) (t : Fin cfg0.N) (i : Fin 512) (j : Fin 2048) :
    out0_7 (F := Ideal) (X0 m c t) (X1 m c t) (X2 m c t) (X3 m c t) (X4 m c t) (ix2 i j) = res7 m c (ix2 (row t i) j) := by
  unfold out0_7
  rw [View.canon_unit_zero hz]
  simp only [View.ld_unit_zero (S := S512x1024) hz, View.ld_unit_zero (S := S1x1024) hz]
  refine (d_apply _ _ _ _ _ i j).trans (Finset.sum_congr rfl fun k _ => ?_)
  exact congrArg₂ (fun a b : EReal => a * b) (h_at m c t i k) (ld7 m c t j k)

theorem ld8 (c : Dev nD) (t : Fin cfg0.N) (j : Fin 128) (k : Fin 1024) :
    (View.ld (Val := Elt Ideal) (e' := .bf16) (X4 m c t) r0_6 : Vec Ideal S128x1024 .bf16) (ix2 j k) = wrow (A4 m c) (3584 + j.val) k := by
  refine Eq.trans ?_ (W_apply m c ⟨3584 + j.val, by omega⟩ k)
  refine Eq.trans (congrArg (X4 m c t) (funext fun a => Fin.ext ?_)) (blk4 m c t ⟨3584 + j.val, by omega⟩ k)
  match a with
  | ⟨0, _⟩ => show 3584 + 1 * j.val = 3584 + j.val; omega
  | ⟨1, _⟩ => show 0 + 1 * k.val = k.val; omega

theorem out8_at (c : Dev nD) (t : Fin cfg0.N) (i : Fin 512) (j : Fin 128) :
    out0_8 (F := Ideal) (X0 m c t) (X1 m c t) (X2 m c t) (X3 m c t) (X4 m c t) (ix2 i j) = res8 m c (ix2 (row t i) j) := by
  unfold out0_8
  rw [View.canon_unit_zero hz]
  simp only [View.ld_unit_zero (S := S512x1024) hz, View.ld_unit_zero (S := S1x1024) hz]
  refine (b_apply (k0_pay2 (F := Ideal) (X0 m c t) (X1 m c t) (X2 m c t) (X3 m c t)) _ i j).trans (Finset.sum_congr rfl fun k _ => ?_)
  exact congrArg₂ (fun a b : EReal => a * b) (h_at m c t i k) (ld8 m c t j k)

theorem flushed_eq5 (c : Dev nD) (t : Fin cfg0.N) (hf : (cfg0.win 5).flush t = true) :
    (dats m 0 c).flushed 5 t = ((cfg0.win 5).blk t).view.read (Elt Ideal) (res5 m c) := by
  show (cfg0.win 5).cut (grid0.coords t) ((dats m 0 c).after 5 t) = _
  rw [after0_5]
  funext y
  rw [View.read_apply]
  refine Eq.trans ((congrArg (out0_5 (F := Ideal) (X0 m c t) (X1 m c t) (X2 m c t) (X3 m c t) (X4 m c t)) (ValueIdx.eq_ix2 y)).trans (out5_at m c t (y 0) (y 1))) ?_
  refine congrArg (res5 m c) (funext fun a => Fin.ext ?_)
  match a with
  | ⟨0, _⟩ => show 512 * t.val + (y 0).val = win0_5.index t 0 * 512 + 1 * (y 0).val; rw [(idx5 t).1]; omega
  | ⟨1, _⟩ => show (y 1).val = win0_5.index t 1 * 1024 + 1 * (y 1).val; rw [(idx5 t).2]; omega

theorem cover5 (i : S8192x1024.Idx) : ∃ t : Fin cfg0.N, (cfg0.win 5).flush t = true ∧ i ∈ ((View.whole main_v1_0).slice (win0_5.rect t)).set := by
  have h0 : (i 0 : Nat) < 8192 := (i 0).isLt
  have h1 : (i 1 : Nat) < 1024 := (i 1).isLt
  let t : Fin cfg0.N := ⟨(i 0 : Nat) / 512, by rw [show cfg0.N = 16 from N_0]; omega⟩
  have tv : t.val = (i 0 : Nat) / 512 := rfl
  refine ⟨t, flush0_5 t, ?_⟩
  rw [View.set_slice_whole, Rect.mem_set_unit]
  intro a
  match a with
  | ⟨0, _⟩ =>
    show win0_5.index t 0 * 512 ≤ (i 0 : Nat) ∧ (i 0 : Nat) < win0_5.index t 0 * 512 + 512
    rw [(idx5 t).1]; omega
  | ⟨1, _⟩ =>
    show win0_5.index t 1 * 1024 ≤ (i 1 : Nat) ∧ (i 1 : Nat) < win0_5.index t 1 * 1024 + 1024
    rw [(idx5 t).2]; omega

/-- The result array after the run. -/
theorem final5 (c : Dev nD) : (dats m 0 c).arrAt 5 cfg0.N = res5 m c :=
  (dats m 0 c).arrAt_eq_of_cover 5 (res5 m c) (flushed_eq5 m c) cover5

theorem flushed_eq6 (c : Dev nD) (t : Fin cfg0.N) (hf : (cfg0.win 6).flush t = true) :
    (dats m 0 c).flushed 6 t = ((cfg0.win 6).blk t).view.read (Elt Ideal) (res6 m c) := by
  show (cfg0.win 6).cut (grid0.coords t) ((dats m 0 c).after 6 t) = _
  rw [after0_6]
  funext y
  rw [View.read_apply]
  refine Eq.trans ((congrArg (out0_6 (F := Ideal) (X0 m c t) (X1 m c t) (X2 m c t) (X3 m c t) (X4 m c t)) (ValueIdx.eq_ix2 y)).trans (out6_at m c t (y 0) (y 1))) ?_
  refine congrArg (res6 m c) (funext fun a => Fin.ext ?_)
  match a with
  | ⟨0, _⟩ => show 512 * t.val + (y 0).val = win0_6.index t 0 * 512 + 1 * (y 0).val; rw [(idx6 t).1]; omega
  | ⟨1, _⟩ => show (y 1).val = win0_6.index t 1 * 1536 + 1 * (y 1).val; rw [(idx6 t).2]; omega

theorem cover6 (i : S8192x1536.Idx) : ∃ t : Fin cfg0.N, (cfg0.win 6).flush t = true ∧ i ∈ ((View.whole main_v1_1).slice (win0_6.rect t)).set := by
  have h0 : (i 0 : Nat) < 8192 := (i 0).isLt
  have h1 : (i 1 : Nat) < 1536 := (i 1).isLt
  let t : Fin cfg0.N := ⟨(i 0 : Nat) / 512, by rw [show cfg0.N = 16 from N_0]; omega⟩
  have tv : t.val = (i 0 : Nat) / 512 := rfl
  refine ⟨t, flush0_6 t, ?_⟩
  rw [View.set_slice_whole, Rect.mem_set_unit]
  intro a
  match a with
  | ⟨0, _⟩ =>
    show win0_6.index t 0 * 512 ≤ (i 0 : Nat) ∧ (i 0 : Nat) < win0_6.index t 0 * 512 + 512
    rw [(idx6 t).1]; omega
  | ⟨1, _⟩ =>
    show win0_6.index t 1 * 1536 ≤ (i 1 : Nat) ∧ (i 1 : Nat) < win0_6.index t 1 * 1536 + 1536
    rw [(idx6 t).2]; omega

/-- The result array after the run. -/
theorem final6 (c : Dev nD) : (dats m 0 c).arrAt 6 cfg0.N = res6 m c :=
  (dats m 0 c).arrAt_eq_of_cover 6 (res6 m c) (flushed_eq6 m c) cover6

theorem flushed_eq7 (c : Dev nD) (t : Fin cfg0.N) (hf : (cfg0.win 7).flush t = true) :
    (dats m 0 c).flushed 7 t = ((cfg0.win 7).blk t).view.read (Elt Ideal) (res7 m c) := by
  show (cfg0.win 7).cut (grid0.coords t) ((dats m 0 c).after 7 t) = _
  rw [after0_7]
  funext y
  rw [View.read_apply]
  refine Eq.trans ((congrArg (out0_7 (F := Ideal) (X0 m c t) (X1 m c t) (X2 m c t) (X3 m c t) (X4 m c t)) (ValueIdx.eq_ix2 y)).trans (out7_at m c t (y 0) (y 1))) ?_
  refine congrArg (res7 m c) (funext fun a => Fin.ext ?_)
  match a with
  | ⟨0, _⟩ => show 512 * t.val + (y 0).val = win0_7.index t 0 * 512 + 1 * (y 0).val; rw [(idx7 t).1]; omega
  | ⟨1, _⟩ => show (y 1).val = win0_7.index t 1 * 2048 + 1 * (y 1).val; rw [(idx7 t).2]; omega

theorem cover7 (i : S8192x2048.Idx) : ∃ t : Fin cfg0.N, (cfg0.win 7).flush t = true ∧ i ∈ ((View.whole main_v1_2).slice (win0_7.rect t)).set := by
  have h0 : (i 0 : Nat) < 8192 := (i 0).isLt
  have h1 : (i 1 : Nat) < 2048 := (i 1).isLt
  let t : Fin cfg0.N := ⟨(i 0 : Nat) / 512, by rw [show cfg0.N = 16 from N_0]; omega⟩
  have tv : t.val = (i 0 : Nat) / 512 := rfl
  refine ⟨t, flush0_7 t, ?_⟩
  rw [View.set_slice_whole, Rect.mem_set_unit]
  intro a
  match a with
  | ⟨0, _⟩ =>
    show win0_7.index t 0 * 512 ≤ (i 0 : Nat) ∧ (i 0 : Nat) < win0_7.index t 0 * 512 + 512
    rw [(idx7 t).1]; omega
  | ⟨1, _⟩ =>
    show win0_7.index t 1 * 2048 ≤ (i 1 : Nat) ∧ (i 1 : Nat) < win0_7.index t 1 * 2048 + 2048
    rw [(idx7 t).2]; omega

/-- The result array after the run. -/
theorem final7 (c : Dev nD) : (dats m 0 c).arrAt 7 cfg0.N = res7 m c :=
  (dats m 0 c).arrAt_eq_of_cover 7 (res7 m c) (flushed_eq7 m c) cover7

theorem flushed_eq8 (c : Dev nD) (t : Fin cfg0.N) (hf : (cfg0.win 8).flush t = true) :
    (dats m 0 c).flushed 8 t = ((cfg0.win 8).blk t).view.read (Elt Ideal) (res8 m c) := by
  show (cfg0.win 8).cut (grid0.coords t) ((dats m 0 c).after 8 t) = _
  rw [after0_8]
  funext y
  rw [View.read_apply]
  refine Eq.trans ((congrArg (out0_8 (F := Ideal) (X0 m c t) (X1 m c t) (X2 m c t) (X3 m c t) (X4 m c t)) (ValueIdx.eq_ix2 y)).trans (out8_at m c t (y 0) (y 1))) ?_
  refine congrArg (res8 m c) (funext fun a => Fin.ext ?_)
  match a with
  | ⟨0, _⟩ => show 512 * t.val + (y 0).val = win0_8.index t 0 * 512 + 1 * (y 0).val; rw [(idx8 t).1]; omega
  | ⟨1, _⟩ => show (y 1).val = win0_8.index t 1 * 128 + 1 * (y 1).val; rw [(idx8 t).2]; omega

theorem cover8 (i : S8192x128.Idx) : ∃ t : Fin cfg0.N, (cfg0.win 8).flush t = true ∧ i ∈ ((View.whole main_v1_3).slice (win0_8.rect t)).set := by
  have h0 : (i 0 : Nat) < 8192 := (i 0).isLt
  have h1 : (i 1 : Nat) < 128 := (i 1).isLt
  let t : Fin cfg0.N := ⟨(i 0 : Nat) / 512, by rw [show cfg0.N = 16 from N_0]; omega⟩
  have tv : t.val = (i 0 : Nat) / 512 := rfl
  refine ⟨t, flush0_8 t, ?_⟩
  rw [View.set_slice_whole, Rect.mem_set_unit]
  intro a
  match a with
  | ⟨0, _⟩ =>
    show win0_8.index t 0 * 512 ≤ (i 0 : Nat) ∧ (i 0 : Nat) < win0_8.index t 0 * 512 + 512
    rw [(idx8 t).1]; omega
  | ⟨1, _⟩ =>
    show win0_8.index t 1 * 128 ≤ (i 1 : Nat) ∧ (i 1 : Nat) < win0_8.index t 1 * 128 + 128
    rw [(idx8 t).2]; omega

/-- The result array after the run. -/
theorem final8 (c : Dev nD) : (dats m 0 c).arrAt 8 cfg0.N = res8 m c :=
  (dats m 0 c).arrAt_eq_of_cover 8 (res8 m c) (flushed_eq8 m c) cover8

end Cert.Kernel6Ideal.Inproj
end
-- ==== Proof.InprojRef.lean ====
/- The input projection's reference: its four results at an entry, over the reals. -/
module

public import proofs.«01_k».proof.Proof.Gen.Reference6Ideal.Run
public import proofs.«01_k».proof.Proof.Norm
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value
public import Idealize.ShloMosaic.PureOps.Ideal
public import Idealize.ShloMosaic.PureOps.Ideal.Laws

@[expose] public section

set_option maxRecDepth 16384

noncomputable section

namespace Cert.Reference6Ideal.Inproj

open Cert.Reference6Ideal Cert.Reference6Ideal.Gen Idealize.ShloMosaic Idealize.ShloMosaic.TcCoe Idealize.SL.Sem
open Idealize.ShloMosaic.ValueIdx
open Cert.Norm
open scoped BigOperators

/-- The product of two matrices, read at an entry. -/
theorem nn_apply (A : FVec Ideal S8192x1024 .f32) (B : FVec Ideal S1024x3600 .f32)
    (i : Fin 8192) (j : Fin 3600) :
    Host.dotGeneral dot_S8192x1024_S1024x3600_S8192x3600_1_0_0_1_n_n none A B (ix2 i j) = ∑ r : Fin 1024, A (ix2 i r) * B (ix2 r j) := by
  show FloatOps.dotGeneral _ none _ A B (ix2 i j) = _
  rw [Ideal.dotGeneral_apply, ← Equiv.sum_comp (contrEquiv1 dot_S8192x1024_S1024x3600_S8192x3600_1_0_0_1_n_n 1024 rfl rfl).symm]
  refine Finset.sum_congr rfl fun r _ => ?_
  have hk := contrEquiv1_symm_val dot_S8192x1024_S1024x3600_S8192x3600_1_0_0_1_n_n 1024 rfl rfl r
  have el : dot_S8192x1024_S1024x3600_S8192x3600_1_0_0_1_n_n.lhsIdx (ix2 i j) ((contrEquiv1 dot_S8192x1024_S1024x3600_S8192x3600_1_0_0_1_n_n 1024 rfl rfl).symm r) = ix2 i r := by
    funext a; apply Fin.ext
    match a with
    | ⟨0, _⟩ => rfl
    | ⟨1, _⟩ => exact hk
  have er : dot_S8192x1024_S1024x3600_S8192x3600_1_0_0_1_n_n.rhsIdx (ix2 i j) ((contrEquiv1 dot_S8192x1024_S1024x3600_S8192x3600_1_0_0_1_n_n 1024 rfl rfl).symm r) = ix2 r j := by
    funext a; apply Fin.ext
    match a with
    | ⟨0, _⟩ => exact hk
    | ⟨1, _⟩ => rfl
  rw [el, er]

/-- The reference's normed, scaled and shifted rows. -/
abbrev rows (X : FVec Ideal S8192x1024 .f32) (G S T : FVec Ideal S1x1024 .f32) : FVec Ideal S8192x1024 .f32 :=
  addf (mulf (mulf (mulf X (broadcastInDim S8192x1024 ![0, 1] bcast_S8192x1_S8192x1024_0_1 (Host.rsqrt (addf (Host.divf (broadcastInDim S8192x1 ![0] bcast_S8192_S8192x1_0 (Host.reduceAdd (mulf X X) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 G)) (broadcastInDim S8192x1024 ![0, 1] bcast_S1x1024_S8192x1024_0_1 (addf (broadcastInDim S1x1024 ![] bcast_S_S1x1024 (constant S_ .f32 0x3F800000#32)) S))) (broadcastInDim S8192x1024 ![0, 1] bcast_S1x1024_S8192x1024_0_1 T)

/-- The same at an entry. -/
abbrev H (X : FVec Ideal S8192x1024 .f32) (G S T : FVec Ideal S1x1024 .f32) (i : Fin 8192) (k : Fin 1024) : EReal :=
  modRow (fun k => X (ix2 i k)) (fun k => G (ix2 0 k)) (fun k => S (ix2 0 k)) (fun k => T (ix2 0 k)) k

theorem rows_apply (X : FVec Ideal S8192x1024 .f32) (G S T : FVec Ideal S1x1024 .f32) (i : Fin 8192) (k : Fin 1024) :
    rows X G S T (ix2 i k) = H X G S T i k :=
  host_mod X G S T reducesTo_S8192x1024_S8192_d1 h_S_ bcast_S8192_S8192x1_0 bcast_S_S8192x1 bcast_S8192x1_S8192x1024_0_1
    bcast_S1x1024_S8192x1024_0_1 bcast_S_S1x1024 i k

/-- All projections. -/
abbrev proj (X : FVec Ideal S8192x1024 .f32) (G S T : FVec Ideal S1x1024 .f32) (W : FVec Ideal S3600x1024 .bf16) : FVec Ideal S8192x3600 .f32 :=
  Host.dotGeneral dot_S8192x1024_S1024x3600_S8192x3600_1_0_0_1_n_n none (rows X G S T)
    (transpose S1024x3600 [1, 0] (extf .f32 W bitsLt_bf16_f32) transposes_S3600x1024_S1024x3600_1_0)

theorem proj_apply (X : FVec Ideal S8192x1024 .f32) (G S T : FVec Ideal S1x1024 .f32) (W : FVec Ideal S3600x1024 .bf16) (i : Fin 8192) (j : Fin 3600) :
    proj X G S T W (ix2 i j) = ∑ k : Fin 1024, H X G S T i k * W (ix2 j k) := by
  refine (nn_apply _ _ i j).trans (Finset.sum_congr rfl fun k _ => ?_)
  rw [rows_apply, transpose_apply _ _ _ (ix2 k j) (ix2 j k) (fun a => match a with
    | ⟨0, _⟩ => rfl
    | ⟨1, _⟩ => rfl)]
  rfl

/-- The first result at an entry. -/
theorem res24_apply (X : FVec Ideal S8192x1024 .f32) (G S T : FVec Ideal S1x1024 .f32) (i : Fin 8192) (k : Fin 1024) :
    truncf .bf16 (rows X G S T) bitsLt_bf16_f32 (ix2 i k) = H X G S T i k := rows_apply X G S T i k

/-- The second and third results at an entry. -/
theorem res21_apply (X : FVec Ideal S8192x1024 .f32) (G S T : FVec Ideal S1x1024 .f32) (W : FVec Ideal S3600x1024 .bf16) (i : Fin 8192) (j : Fin 1536) :
    extractStridedSlice S8192x1536 ![0, 0] (proj X G S T W) slices_S8192x3600_S8192x1536_0_0 (ix2 i j)
      = ∑ k : Fin 1024, H X G S T i k * W (ix2 ⟨j.val, by omega⟩ k) := by
  refine Eq.trans (congrArg (proj X G S T W) (funext fun a => Fin.ext ?_)) (proj_apply X G S T W i ⟨j.val, by omega⟩)
  match a with
  | ⟨0, _⟩ => show 0 + i.val = i.val; omega
  | ⟨1, _⟩ => show 0 + j.val = j.val; omega

theorem res22_apply (X : FVec Ideal S8192x1024 .f32) (G S T : FVec Ideal S1x1024 .f32) (W : FVec Ideal S3600x1024 .bf16) (i : Fin 8192) (j : Fin 2048) :
    extractStridedSlice S8192x2048 ![0, 1536] (proj X G S T W) slices_S8192x3600_S8192x2048_0_1536 (ix2 i j)
      = ∑ k : Fin 1024, H X G S T i k * W (ix2 ⟨1536 + j.val, by omega⟩ k) := by
  refine Eq.trans (congrArg (proj X G S T W) (funext fun a => Fin.ext ?_)) (proj_apply X G S T W i ⟨1536 + j.val, by omega⟩)
  match a with
  | ⟨0, _⟩ => show 0 + i.val = i.val; omega
  | ⟨1, _⟩ => show 1536 + j.val = 1536 + j.val; rfl

/-- The fourth result at an entry: the gates' projections, and zeros beside them. -/
theorem res25_apply (X : FVec Ideal S8192x1024 .f32) (G S T : FVec Ideal S1x1024 .f32) (W : FVec Ideal S3600x1024 .bf16) (i : Fin 8192) (j : Fin 128) :
    pad S8192x128 ![0, 0] ![0, 112] ![0, 0] (extractStridedSlice S8192x16 ![0, 3584] (proj X G S T W) slices_S8192x3600_S8192x16_0_3584)
      (sitofp (F := Ideal) .f32 (constantI S_ 32 0#32)) pads_S8192x16_S8192x128_000_01120 h_S_ (ix2 i j)
      = if h : j.val < 16 then ∑ k : Fin 1024, H X G S T i k * W (ix2 ⟨3584 + j.val, by omega⟩ k) else 0 := by
  by_cases h : j.val < 16
  · rw [dif_pos h]
    refine Eq.trans (pad_apply_of_inside _ _ _ _ _ _ _ (ix2 i j) (ix2 i ⟨j.val, h⟩) fun a => match a with
      | ⟨0, _⟩ => show i.val = 0 + i.val * (0 + 1) by omega
      | ⟨1, _⟩ => show j.val = 0 + j.val * (0 + 1) by omega) ?_
    refine Eq.trans (congrArg (proj X G S T W) (funext fun a => Fin.ext ?_)) (proj_apply X G S T W i ⟨3584 + j.val, by omega⟩)
    match a with
    | ⟨0, _⟩ => show 0 + i.val = i.val; omega
    | ⟨1, _⟩ => show 3584 + j.val = 3584 + j.val; rfl
  · rw [dif_neg h]
    refine Eq.trans (pad_apply_of_not_inside _ _ _ _ _ _ _ (ix2 i j) 1 fun h' => h ?_) sitofp_zero
    have : (j.val - 0) / (0 + 1) < 16 := h'.2.2
    omega

end Cert.Reference6Ideal.Inproj
end
-- ==== Proof.OutFwdKernel.lean ====
/- The output projection's forward kernel: its three results at an entry, over the reals. -/
module

public import proofs.«01_k».proof.Proof.Gen.Kernel7Ideal.Value
public import proofs.«01_k».proof.Proof.BlockSums
public import proofs.«01_k».proof.Proof.Norm
public import Idealize.ShloMosaic.Lib.ValueIdx
public import Idealize.ShloMosaic.Lib.ValueLayout
public import Idealize.ShloMosaic.Lib.KernelVsHost
public import Idealize.ShloMosaic.PureOps.Ideal
public import Idealize.ShloMosaic.PureOps.Ideal.Laws
public import Idealize.ShloMosaic.Lib.Tactic

@[expose] public section

set_option maxRecDepth 16384

noncomputable section

namespace Cert.Kernel7Ideal.OutFwd

open Cert.Kernel7Ideal Cert.Kernel7Ideal.Gen Idealize.ShloMosaic Idealize.ShloMosaic.TcCoe Idealize.SL.Sem
open Idealize.ShloMosaic.ValueIdx
open Cert.Sums Cert.Norm
open scoped BigOperators

variable (m : (ℓ : Loc nD τ sig) → Buf (Elt Ideal) ℓ)

theorem hz : (![0, 0] : Fin 2 → Nat) = fun _ => 0 := funext fun a => by fin_cases a <;> rfl

/-- The product of two blocks, read at an entry. -/
theorem nn_apply {φ₁ φ₂ : FTy} (A : FVec Ideal S512x512 φ₁) (B : FVec Ideal S512x1024 φ₂) (acc : FVec Ideal S512x1024 .f32)
    (i : Fin 512) (j : Fin 1024) :
    matmul dot_S512x512_S512x1024_S512x1024_1_0_0_1_n_n none A B acc (ix2 i j) = acc (ix2 i j) + ∑ r : Fin 512, A (ix2 i r) * B (ix2 r j) := by
  show FloatOps.matmul _ none A B acc (ix2 i j) = _
  rw [Ideal.matmul_apply, ← Equiv.sum_comp (contrEquiv1 dot_S512x512_S512x1024_S512x1024_1_0_0_1_n_n 512 rfl rfl).symm]
  refine congrArg (acc (ix2 i j) + ·) (Finset.sum_congr rfl fun r _ => ?_)
  have hk := contrEquiv1_symm_val dot_S512x512_S512x1024_S512x1024_1_0_0_1_n_n 512 rfl rfl r
  have el : dot_S512x512_S512x1024_S512x1024_1_0_0_1_n_n.lhsIdx (ix2 i j) ((contrEquiv1 dot_S512x512_S512x1024_S512x1024_1_0_0_1_n_n 512 rfl rfl).symm r) = ix2 i r := by
    funext a; apply Fin.ext
    match a with
    | ⟨0, _⟩ => rfl
    | ⟨1, _⟩ => exact hk
  have er : dot_S512x512_S512x1024_S512x1024_1_0_0_1_n_n.rhsIdx (ix2 i j) ((contrEquiv1 dot_S512x512_S512x1024_S512x1024_1_0_0_1_n_n 512 rfl rfl).symm r) = ix2 r j := by
    funext a; apply Fin.ext
    match a with
    | ⟨0, _⟩ => exact hk
    | ⟨1, _⟩ => rfl
  rw [el, er]

theorem zero_at (y : S512x1024.Idx) : (constant S512x1024 .f32 0x00000000#32 : FVec Ideal S512x1024 .f32) y = 0 := Ideal.ofBits_zero_f32

/-- The two halves' products. -/
theorem pay3_apply (v0 : Vec Ideal S512x512 .f32) (v2 : Vec Ideal S512x1024 .bf16) (v4 : Vec Ideal S512x512 .bf16) (v5 : Vec Ideal S512x1024 .bf16)
    (i : Fin 512) (j : Fin 1024) : k0_pay3 v0 v2 v4 v5 (ix2 i j)
      = (∑ r : Fin 512, v0 (ix2 i r) * v2 (ix2 r j)) + ∑ r : Fin 512, v4 (ix2 i r) * v5 (ix2 r j) := by
  unfold k0_pay3
  refine congrArg₂ (fun a b : EReal => a + b) ((nn_apply _ _ _ i j).trans ?_) ((nn_apply _ _ _ i j).trans ?_)
  · rw [zero_at, zero_add]
    rfl
  · rw [zero_at, zero_add]

/-- The residual. -/
theorem pay4_apply (v0 : Vec Ideal S512x512 .f32) (v2 : Vec Ideal S512x1024 .bf16) (v4 : Vec Ideal S512x512 .bf16) (v5 : Vec Ideal S512x1024 .bf16)
    (v8 : Vec Ideal S512x1024 .f32) (v9 : Vec Ideal S1x1024 .f32) (i : Fin 512) (j : Fin 1024) :
    k0_pay4 v0 v2 v4 v5 v8 v9 (ix2 i j) = v8 (ix2 i j) + v9 (ix2 0 j) * k0_pay3 v0 v2 v4 v5 (ix2 i j) := by
  unfold k0_pay4
  show (v8 (ix2 i j) : EReal) + broadcastTo S512x1024 v9 broadcasts_S1x1024_S512x1024 (ix2 i j) * k0_pay3 v0 v2 v4 v5 (ix2 i j) = _
  rw [broadcastTo_1b_ab_apply]

/-- The normed, scaled and shifted rows. -/
theorem pay1_apply (v0 : Vec Ideal S512x512 .f32) (v2 : Vec Ideal S512x1024 .bf16) (v4 : Vec Ideal S512x512 .bf16) (v5 : Vec Ideal S512x1024 .bf16)
    (v8 : Vec Ideal S512x1024 .f32) (v9 v13 v27 v32 : Vec Ideal S1x1024 .f32) (i : Fin 512) (k : Fin 1024) :
    k0_pay1 (k0_pay5 v0 v2 v4 v5 v8 v9 v13 v27) v32 (ix2 i k)
      = modRow (fun k => k0_pay4 v0 v2 v4 v5 v8 v9 (ix2 i k)) (fun k => v13 (ix2 0 k)) (fun k => v27 (ix2 0 k)) (fun k => v32 (ix2 0 k)) k := by
  unfold k0_pay1 k0_pay5
  exact kernel_mod (k0_pay4 v0 v2 v4 v5 v8 v9) v13 v27 v32 reduces_S512x1024_S512 shapeCasts_S512_S512x1 broadcasts_S512x1_S512x1024
    broadcasts_S1x1024_S512x1024 i k

/-- The arguments' arrays. -/
abbrev A0 (c : Dev nD) : FVec Ideal S8192x512 .f32 := m ((c : Thread nD τ).loc main_arg0)
abbrev A1 (c : Dev nD) : FVec Ideal S8192x512 .bf16 := m ((c : Thread nD τ).loc main_arg1)
abbrev A2 (c : Dev nD) : FVec Ideal S1024x1024 .bf16 := m ((c : Thread nD τ).loc main_arg2)
abbrev A3 (c : Dev nD) : FVec Ideal S8192x1024 .f32 := m ((c : Thread nD τ).loc main_arg3)
abbrev A4 (c : Dev nD) : FVec Ideal S1x1024 .f32 := m ((c : Thread nD τ).loc main_arg4)
abbrev A5 (c : Dev nD) : FVec Ideal S1x1024 .f32 := m ((c : Thread nD τ).loc main_arg5)
abbrev A6 (c : Dev nD) : FVec Ideal S1x1024 .f32 := m ((c : Thread nD τ).loc main_arg6)
abbrev A7 (c : Dev nD) : FVec Ideal S1x1024 .f32 := m ((c : Thread nD τ).loc main_arg7)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 1 ∧ win0_3.index t 1 = 0 :=
  (by decide +kernel : ∀ t : Fin grid0.N, win0_3.index t 0 = 1 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)

/-- The blocks that a point reads. -/
abbrev X0 (c : Dev nD) (t : Fin cfg0.N) : FVec Ideal S512x512 .f32 := iblk m c 0 t
abbrev X1 (c : Dev nD) (t : Fin cfg0.N) : FVec Ideal S512x512 .bf16 := iblk m c 1 t
abbrev X2 (c : Dev nD) (t : Fin cfg0.N) : FVec Ideal S512x1024 .bf16 := iblk m c 2 t
abbrev X3 (c : Dev nD) (t : Fin cfg0.N) : FVec Ideal S512x1024 .bf16 := iblk m c 3 t
abbrev X4 (c : Dev nD) (t : Fin cfg0.N) : FVec Ideal S512x1024 .f32 := iblk m c 4 t
abbrev X5 (c : Dev nD) (t : Fin cfg0.N) : FVec Ideal S1x1024 .f32 := iblk m c 5 t
abbrev X6 (c : Dev nD) (t : Fin cfg0.N) : FVec Ideal S1x1024 .f32 := iblk m c 6 t
abbrev X7 (c : Dev nD) (t : Fin cfg0.N) : FVec Ideal S1x1024 .f32 := iblk m c 7 t
abbrev X8 (c : Dev nD) (t : Fin cfg0.N) : FVec Ideal S1x1024 .f32 := iblk m c 8 t

/-- Row `i` of a point's block, in the whole array. -/
def row (t : Fin cfg0.N) (i : Fin 512) : Fin 8192 :=
  ⟨512 * (t.val) + i.val, by have ht : t.val < 16 := lt_of_lt_of_eq t.isLt (show cfg0.N = 16 from N_0); omega⟩

theorem blk0 (c : Dev nD) (t : Fin cfg0.N) (a : Fin 512) (b : Fin 512) : X0 m c t (ix2 a b) = A0 m c (ix2 (row t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 512 + 1 * a.val = 512 * t.val + a.val; rw [(idx0 t).1]; omega
  | ⟨1, _⟩ => show win0_0.index t 1 * 512 + 1 * b.val = b.val; rw [(idx0 t).2]; omega

theorem blk1 (c : Dev nD) (t : Fin cfg0.N) (a : Fin 512) (b : Fin 512) : X1 m c t (ix2 a b) = A1 m c (ix2 (row t a) b) := by
  show iblk m c 1 t (ix2 a b) = _
  unfold iblk
  rw [View.read_apply]
  refine (congrArg (V m c main_arg1) (funext fun z => Fin.ext ?_)).trans (congrFun (V_main_arg1 m c) _)
  match z with
  | ⟨0, _⟩ => show win0_1.index t 0 * 512 + 1 * a.val = 512 * t.val + a.val; rw [(idx1 t).1]; omega
  | ⟨1, _⟩ => show win0_1.index t 1 * 512 + 1 * b.val = b.val; rw [(idx1 t).2]; omega

theorem blk2 (c : Dev nD) (t : Fin cfg0.N) (a : Fin 512) (b : Fin 1024) : X2 m c t (ix2 a b) = A2 m c (ix2 ⟨a.val, by omega⟩ b) := by
  show iblk m c 2 t (ix2 a b) = _
  unfold iblk
  rw [View.read_apply]
  refine (congrArg (V m c main_arg2) (funext fun z => Fin.ext ?_)).trans (congrFun (V_main_arg2 m c) _)
  match z with
  | ⟨0, _⟩ => show win0_2.index t 0 * 512 + 1 * a.val = a.val; rw [(idx2 t).1]; omega
  | ⟨1, _⟩ => show win0_2.index t 1 * 1024 + 1 * b.val = b.val; rw [(idx2 t).2]; omega

theorem blk3 (c : Dev nD) (t : Fin cfg0.N) (a : Fin 512) (b : Fin 1024) : X3 m c t (ix2 a b) = A2 m c (ix2 ⟨512 + a.val, by omega⟩ b) := by
  show iblk m c 3 t (ix2 a b) = _
  unfold iblk
  rw [View.read_apply]
  refine (congrArg (V m c main_arg2) (funext fun z => Fin.ext ?_)).trans (congrFun (V_main_arg2 m c) _)
  match z with
  | ⟨0, _⟩ => show win0_3.index t 0 * 512 + 1 * a.val = 512 + a.val; rw [(idx3 t).1]; omega
  | ⟨1, _⟩ => show win0_3.index t 1 * 1024 + 1 * b.val = b.val; rw [(idx3 t).2]; omega

theorem blk4 (c : Dev nD) (t : Fin cfg0.N) (a : Fin 512) (b : Fin 1024) : X4 m c t (ix2 a b) = A3 m c (ix2 (row t a) b) := by
  show iblk m c 4 t (ix2 a b) = _
  unfold iblk
  rw [View.read_apply]
  refine (congrArg (V m c main_arg3) (funext fun z => Fin.ext ?_)).trans (congrFun (V_main_arg3 m c) _)
  match z with
  | ⟨0, _⟩ => show win0_4.index t 0 * 512 + 1 * a.val = 512 * t.val + a.val; rw [(idx4 t).1]; omega
  | ⟨1, _⟩ => show win0_4.index t 1 * 1024 + 1 * b.val = b.val; rw [(idx4 t).2]; omega

theorem blk5 (c : Dev nD) (t : Fin cfg0.N) (a : Fin 1) (b : Fin 1024) : X5 m c t (ix2 a b) = A4 m c (ix2 a b) := by
  show iblk m c 5 t (ix2 a b) = _
  unfold iblk
  rw [View.read_apply]
  refine (congrArg (V m c main_arg4) (funext fun z => Fin.ext ?_)).trans (congrFun (V_main_arg4 m c) _)
  match z with
  | ⟨0, _⟩ => show win0_5.index t 0 * 1 + 1 * a.val = a.val; rw [(idx5 t).1]; omega
  | ⟨1, _⟩ => show win0_5.index t 1 * 1024 + 1 * b.val = b.val; rw [(idx5 t).2]; omega

theorem blk6 (c : Dev nD) (t : Fin cfg0.N) (a : Fin 1) (b : Fin 1024) : X6 m c t (ix2 a b) = A5 m c (ix2 a b) := by
  show iblk m c 6 t (ix2 a b) = _
  unfold iblk
  rw [View.read_apply]
  refine (congrArg (V m c main_arg5) (funext fun z => Fin.ext ?_)).trans (congrFun (V_main_arg5 m c) _)
  match z with
  | ⟨0, _⟩ => show win0_6.index t 0 * 1 + 1 * a.val = a.val; rw [(idx6 t).1]; omega
  | ⟨1, _⟩ => show win0_6.index t 1 * 1024 + 1 * b.val = b.val; rw [(idx6 t).2]; omega

theorem blk7 (c : Dev nD) (t : Fin cfg0.N) (a : Fin 1) (b : Fin 1024) : X7 m c t (ix2 a b) = A6 m c (ix2 a b) := by
  show iblk m c 7 t (ix2 a b) = _
  unfold iblk
  rw [View.read_apply]
  refine (congrArg (V m c main_arg6) (funext fun z => Fin.ext ?_)).trans (congrFun (V_main_arg6 m c) _)
  match z with
  | ⟨0, _⟩ => show win0_7.index t 0 * 1 + 1 * a.val = a.val; rw [(idx7 t).1]; omega
  | ⟨1, _⟩ => show win0_7.index t 1 * 1024 + 1 * b.val = b.val; rw [(idx7 t).2]; omega

theorem blk8 (c : Dev nD) (t : Fin cfg0.N) (a : Fin 1) (b : Fin 1024) : X8 m c t (ix2 a b) = A7 m c (ix2 a b) := by
  show iblk m c 8 t (ix2 a b) = _
  unfold iblk
  rw [View.read_apply]
  refine (congrArg (V m c main_arg7) (funext fun z => Fin.ext ?_)).trans (congrFun (V_main_arg7 m c) _)
  match z with
  | ⟨0, _⟩ => show win0_8.index t 0 * 1 + 1 * a.val = a.val; rw [(idx8 t).1]; omega
  | ⟨1, _⟩ => show win0_8.index t 1 * 1024 + 1 * b.val = b.val; rw [(idx8 t).2]; omega

/-- The projection of a token. -/
def Y (c : Dev nD) (i : Fin 8192) (j : Fin 1024) : EReal :=
  (∑ r : Fin 512, A0 m c (ix2 i r) * A2 m c (ix2 ⟨r.val, by omega⟩ j)) + ∑ r : Fin 512, A1 m c (ix2 i r) * A2 m c (ix2 ⟨512 + r.val, by omega⟩ j)
/-- The residual of a token. -/
def R (c : Dev nD) (i : Fin 8192) (j : Fin 1024) : EReal := A3 m c (ix2 i j) + A4 m c (ix2 0 j) * Y m c i j

def res9 (c : Dev nD) : FVec Ideal S8192x1024 .f32 := fun y => R m c (y 0) (y 1)
def res10 (c : Dev nD) : FVec Ideal S8192x1024 .bf16 := fun y =>
  modRow (fun k => R m c (y 0) k) (fun k => A5 m c (ix2 0 k)) (fun k => A6 m c (ix2 0 k)) (fun k => A7 m c (ix2 0 k)) (y 1)
def res11 (c : Dev nD) : FVec Ideal S8192x1024 .bf16 := fun y => Y m c (y 0) (y 1)

theorem y_at (c : Dev nD) (t : Fin cfg0.N) (i : Fin 512) (j : Fin 1024) : k0_pay3 (F := Ideal) (X0 m c t) (X2 m c t) (X1 m c t) (X3 m c t) (ix2 i j) = Y m c (row t i) j := by
  refine (pay3_apply _ _ _ _ i j).trans ?_
  unfold Y
  refine congrArg₂ (fun a b : EReal => a + b) (Finset.sum_congr rfl fun r _ => ?_) (Finset.sum_congr rfl fun r _ => ?_)
  · exact congrArg₂ (fun a b : EReal => a * b) (blk0 m c t i r) (blk2 m c t r j)
  · exact congrArg₂ (fun a b : EReal => a * b) (blk1 m c t i r) (blk3 m c t r j)

theorem r_at (c : Dev nD) (t : Fin cfg0.N) (i : Fin 512) (j : Fin 1024) :
    k0_pay4 (F := Ideal) (X0 m c t) (X2 m c t) (X1 m c t) (X3 m c t) (X4 m c t) (X5 m c t) (ix2 i j) = R m c (row t i) j := by
  refine (pay4_apply _ _ _ _ _ _ i j).trans ?_
  exact congrArg₂ (fun a b : EReal => a + b) (blk4 m c t i j) (congrArg₂ (fun a b : EReal => a * b) (blk5 m c t 0 j) (y_at m c t i j))

theorem out9_at (c : Dev nD) (t : Fin cfg0.N) (i : Fin 512) (j : Fin 1024) :
    out0_9 (F := Ideal) (X0 m c t) (X1 m c t) (X2 m c t) (X3 m c t) (X4 m c t) (X5 m c t) (X6 m c t) (X7 m c t) (X8 m c t) (ix2 i j) = res9 m c (ix2 (row t i) j) := by
  unfold out0_9
  rw [View.canon_unit_zero hz]
  simp only [View.ld_unit_zero (S := S512x1024) hz, View.ld_unit_zero (S := S1x1024) hz, View.ld_unit_zero (S := S512x512) hz]
  exact r_at m c t i j

theorem out10_at (c : Dev nD) (t : Fin cfg0.N) (i : Fin 512) (j : Fin 1024) :
    out0_10 (F := Ideal) (X0 m c t) (X1 m c t) (X2 m c t) (X3 m c t) (X4 m c t) (X5 m c t) (X6 m c t) (X7 m c t) (X8 m c t) (ix2 i j) = res10 m c (ix2 (row t i) j) := by
  unfold out0_10
  rw [View.canon_unit_zero hz]
  simp only [View.ld_unit_zero (S := S512x1024) hz, View.ld_unit_zero (S := S1x1024) hz, View.ld_unit_zero (S := S512x512) hz]
  refine (pay1_apply _ _ _ _ _ _ _ _ _ i j).trans ?_
  show _ = modRow (fun k => R m c (row t i) k) (fun k => A5 m c (ix2 0 k)) (fun k => A6 m c (ix2 0 k)) (fun k => A7 m c (ix2 0 k)) j
  rw [funext fun k => r_at m c t i k, funext fun k => blk6 m c t 0 k, funext fun k => blk7 m c t 0 k, funext fun k => blk8 m c t 0 k]

theorem out11_at (c : Dev nD) (t : Fin cfg0.N) (i : Fin 512) (j : Fin 1024) :
    out0_11 (F := Ideal) (X0 m c t) (X1 m c t) (X2 m c t) (X3 m c t) (X4 m c t) (X5 m c t) (X6 m c t) (X7 m c t) (X8 m c t) (ix2 i j) = res11 m c (ix2 (row t i) j) := by
  unfold out0_11
  rw [View.canon_unit_zero hz]
  simp only [View.ld_unit_zero (S := S512x1024) hz, View.ld_unit_zero (S := S1x1024) hz, View.ld_unit_zero (S := S512x512) hz]
  exact y_at m c t i j

theorem flushed_eq9 (c : Dev nD) (t : Fin cfg0.N) (hf : (cfg0.win 9).flush t = true) :
    (dats m 0 c).flushed 9 t = ((cfg0.win 9).blk t).view.read (Elt Ideal) (res9 m c) := by
  show (cfg0.win 9).cut (grid0.coords t) ((dats m 0 c).after 9 t) = _
  rw [after0_9]
  funext y
  rw [View.read_apply]
  refine Eq.trans ((congrArg (out0_9 (F := Ideal) (X0 m c t) (X1 m c t) (X2 m c t) (X3 m c t) (X4 m c t) (X5 m c t) (X6 m c t) (X7 m c t) (X8 m c t)) (ValueIdx.eq_ix2 y)).trans (out9_at m c t (y 0) (y 1))) ?_
  refine congrArg (res9 m c) (funext fun a => Fin.ext ?_)
  match a with
  | ⟨0, _⟩ => show 512 * t.val + (y 0).val = win0_9.index t 0 * 512 + 1 * (y 0).val; rw [(idx9 t).1]; omega
  | ⟨1, _⟩ => show (y 1).val = win0_9.index t 1 * 1024 + 1 * (y 1).val; rw [(idx9 t).2]; omega

theorem cover9 (i : S8192x1024.Idx) : ∃ t : Fin cfg0.N, (cfg0.win 9).flush t = true ∧ i ∈ ((View.whole main_v0_0).slice (win0_9.rect t)).set := by
  have h0 : (i 0 : Nat) < 8192 := (i 0).isLt
  have h1 : (i 1 : Nat) < 1024 := (i 1).isLt
  let t : Fin cfg0.N := ⟨(i 0 : Nat) / 512, by rw [show cfg0.N = 16 from N_0]; omega⟩
  have tv : t.val = (i 0 : Nat) / 512 := rfl
  refine ⟨t, flush0_9 t, ?_⟩
  rw [View.set_slice_whole, Rect.mem_set_unit]
  intro a
  match a with
  | ⟨0, _⟩ =>
    show win0_9.index t 0 * 512 ≤ (i 0 : Nat) ∧ (i 0 : Nat) < win0_9.index t 0 * 512 + 512
    rw [(idx9 t).1]; omega
  | ⟨1, _⟩ =>
    show win0_9.index t 1 * 1024 ≤ (i 1 : Nat) ∧ (i 1 : Nat) < win0_9.index t 1 * 1024 + 1024
    rw [(idx9 t).2]; omega

/-- The result array after the run. -/
theorem final9 (c : Dev nD) : (dats m 0 c).arrAt 9 cfg0.N = res9 m c :=
  (dats m 0 c).arrAt_eq_of_cover 9 (res9 m c) (flushed_eq9 m c) cover9

theorem flushed_eq10 (c : Dev nD) (t : Fin cfg0.N) (hf : (cfg0.win 10).flush t = true) :
    (dats m 0 c).flushed 10 t = ((cfg0.win 10).blk t).view.read (Elt Ideal) (res10 m c) := by
  show (cfg0.win 10).cut (grid0.coords t) ((dats m 0 c).after 10 t) = _
  rw [after0_10]
  funext y
  rw [View.read_apply]
  refine Eq.trans ((congrArg (out0_10 (F := Ideal) (X0 m c t) (X1 m c t) (X2 m c t) (X3 m c t) (X4 m c t) (X5 m c t) (X6 m c t) (X7 m c t) (X8 m c t)) (ValueIdx.eq_ix2 y)).trans (out10_at m c t (y 0) (y 1))) ?_
  refine congrArg (res10 m c) (funext fun a => Fin.ext ?_)
  match a with
  | ⟨0, _⟩ => show 512 * t.val + (y 0).val = win0_10.index t 0 * 512 + 1 * (y 0).val; rw [(idx10 t).1]; omega
  | ⟨1, _⟩ => show (y 1).val = win0_10.index t 1 * 1024 + 1 * (y 1).val; rw [(idx10 t).2]; omega

theorem cover10 (i : S8192x1024.Idx) : ∃ t : Fin cfg0.N, (cfg0.win 10).flush t = true ∧ i ∈ ((View.whole main_v0_1).slice (win0_10.rect t)).set := by
  have h0 : (i 0 : Nat) < 8192 := (i 0).isLt
  have h1 : (i 1 : Nat) < 1024 := (i 1).isLt
  let t : Fin cfg0.N := ⟨(i 0 : Nat) / 512, by rw [show cfg0.N = 16 from N_0]; omega⟩
  have tv : t.val = (i 0 : Nat) / 512 := rfl
  refine ⟨t, flush0_10 t, ?_⟩
  rw [View.set_slice_whole, Rect.mem_set_unit]
  intro a
  match a with
  | ⟨0, _⟩ =>
    show win0_10.index t 0 * 512 ≤ (i 0 : Nat) ∧ (i 0 : Nat) < win0_10.index t 0 * 512 + 512
    rw [(idx10 t).1]; omega
  | ⟨1, _⟩ =>
    show win0_10.index t 1 * 1024 ≤ (i 1 : Nat) ∧ (i 1 : Nat) < win0_10.index t 1 * 1024 + 1024
    rw [(idx10 t).2]; omega

/-- The result array after the run. -/
theorem final10 (c : Dev nD) : (dats m 0 c).arrAt 10 cfg0.N = res10 m c :=
  (dats m 0 c).arrAt_eq_of_cover 10 (res10 m c) (flushed_eq10 m c) cover10

theorem flushed_eq11 (c : Dev nD) (t : Fin cfg0.N) (hf : (cfg0.win 11).flush t = true) :
    (dats m 0 c).flushed 11 t = ((cfg0.win 11).blk t).view.read (Elt Ideal) (res11 m c) := by
  show (cfg0.win 11).cut (grid0.coords t) ((dats m 0 c).after 11 t) = _
  rw [after0_11]
  funext y
  rw [View.read_apply]
  refine Eq.trans ((congrArg (out0_11 (F := Ideal) (X0 m c t) (X1 m c t) (X2 m c t) (X3 m c t) (X4 m c t) (X5 m c t) (X6 m c t) (X7 m c t) (X8 m c t)) (ValueIdx.eq_ix2 y)).trans (out11_at m c t (y 0) (y 1))) ?_
  refine congrArg (res11 m c) (funext fun a => Fin.ext ?_)
  match a with
  | ⟨0, _⟩ => show 512 * t.val + (y 0).val = win0_11.index t 0 * 512 + 1 * (y 0).val; rw [(idx11 t).1]; omega
  | ⟨1, _⟩ => show (y 1).val = win0_11.index t 1 * 1024 + 1 * (y 1).val; rw [(idx11 t).2]; omega

theorem cover11 (i : S8192x1024.Idx) : ∃ t : Fin cfg0.N, (cfg0.win 11).flush t = true ∧ i ∈ ((View.whole main_v0_2).slice (win0_11.rect t)).set := by
  have h0 : (i 0 : Nat) < 8192 := (i 0).isLt
  have h1 : (i 1 : Nat) < 1024 := (i 1).isLt
  let t : Fin cfg0.N := ⟨(i 0 : Nat) / 512, by rw [show cfg0.N = 16 from N_0]; omega⟩
  have tv : t.val = (i 0 : Nat) / 512 := rfl
  refine ⟨t, flush0_11 t, ?_⟩
  rw [View.set_slice_whole, Rect.mem_set_unit]
  intro a
  match a with
  | ⟨0, _⟩ =>
    show win0_11.index t 0 * 512 ≤ (i 0 : Nat) ∧ (i 0 : Nat) < win0_11.index t 0 * 512 + 512
    rw [(idx11 t).1]; omega
  | ⟨1, _⟩ =>
    show win0_11.index t 1 * 1024 ≤ (i 1 : Nat) ∧ (i 1 : Nat) < win0_11.index t 1 * 1024 + 1024
    rw [(idx11 t).2]; omega

/-- The result array after the run. -/
theorem final11 (c : Dev nD) : (dats m 0 c).arrAt 11 cfg0.N = res11 m c :=
  (dats m 0 c).arrAt_eq_of_cover 11 (res11 m c) (flushed_eq11 m c) cover11

end Cert.Kernel7Ideal.OutFwd
end
-- ==== Proof.OutFwdRef.lean ====
/- The output projection's forward reference: its three results at an entry, over the reals. -/
module

public import proofs.«01_k».proof.Proof.Gen.Reference7Ideal.Run
public import proofs.«01_k».proof.Proof.Norm
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value
public import Idealize.ShloMosaic.PureOps.Ideal
public import Idealize.ShloMosaic.PureOps.Ideal.Laws

@[expose] public section

set_option maxRecDepth 16384

noncomputable section

namespace Cert.Reference7Ideal.OutFwd

open Cert.Reference7Ideal Cert.Reference7Ideal.Gen Idealize.ShloMosaic Idealize.ShloMosaic.TcCoe Idealize.SL.Sem
open Idealize.ShloMosaic.ValueIdx
open Cert.Norm
open scoped BigOperators

/-- The product of two matrices, read at an entry. -/
theorem nn_apply (A : FVec Ideal S8192x1024 .f32) (B : FVec Ideal S1024x1024 .f32)
    (i : Fin 8192) (j : Fin 1024) :
    Host.dotGeneral dot_S8192x1024_S1024x1024_S8192x1024_1_0_0_1_n_n none A B (ix2 i j) = ∑ r : Fin 1024, A (ix2 i r) * B (ix2 r j) := by
  show FloatOps.dotGeneral _ none _ A B (ix2 i j) = _
  rw [Ideal.dotGeneral_apply, ← Equiv.sum_comp (contrEquiv1 dot_S8192x1024_S1024x1024_S8192x1024_1_0_0_1_n_n 1024 rfl rfl).symm]
  refine Finset.sum_congr rfl fun r _ => ?_
  have hk := contrEquiv1_symm_val dot_S8192x1024_S1024x1024_S8192x1024_1_0_0_1_n_n 1024 rfl rfl r
  have el : dot_S8192x1024_S1024x1024_S8192x1024_1_0_0_1_n_n.lhsIdx (ix2 i j) ((contrEquiv1 dot_S8192x1024_S1024x1024_S8192x1024_1_0_0_1_n_n 1024 rfl rfl).symm r) = ix2 i r := by
    funext a; apply Fin.ext
    match a with
    | ⟨0, _⟩ => rfl
    | ⟨1, _⟩ => exact hk
  have er : dot_S8192x1024_S1024x1024_S8192x1024_1_0_0_1_n_n.rhsIdx (ix2 i j) ((contrEquiv1 dot_S8192x1024_S1024x1024_S8192x1024_1_0_0_1_n_n 1024 rfl rfl).symm r) = ix2 r j := by
    funext a; apply Fin.ext
    match a with
    | ⟨0, _⟩ => exact hk
    | ⟨1, _⟩ => rfl
  rw [el, er]
/-- Two halves side by side, read at an entry. -/
def cat (X : FVec Ideal S8192x512 .f32) (Y : FVec Ideal S8192x512 .bf16) (s : Fin 8192) (r : Fin 1024) : EReal :=
  if h : r.val < 512 then X (ix2 s ⟨r.val, h⟩) else Y (ix2 s ⟨r.val - 512, by omega⟩)

theorem concat_apply (X : FVec Ideal S8192x512 .f32) (Y : FVec Ideal S8192x512 .bf16) (s : Fin 8192) (r : Fin 1024) :
    (concatenate S8192x1024 1 [⟨S8192x512, X⟩, ⟨S8192x512, (extf .f32 Y bitsLt_bf16_f32)⟩] concatenates_S8192x512_S8192x512_S8192x1024_d1
      : FVec Ideal S8192x1024 .f32) (ix2 s r) = cat X Y s r := by
  unfold cat
  by_cases h : r.val < 512
  · rw [dif_pos h]
    exact concatenate_pair_apply_left (1 : Fin 2) X _ _ (ix2 s r) rfl (ix2 s ⟨r.val, h⟩) (fun b => match b with
      | ⟨0, _⟩ => rfl
      | ⟨1, _⟩ => rfl)
  · rw [dif_neg h]
    exact concatenate_pair_apply_right (1 : Fin 2) X (extf .f32 Y bitsLt_bf16_f32) _ (ix2 s r) rfl rfl (ix2 s ⟨r.val - 512, by omega⟩)
      (fun b => match b with
        | ⟨0, _⟩ => fun _ => rfl
        | ⟨1, _⟩ => fun hb => absurd rfl hb)
      (show r.val - 512 + 512 = r.val by omega)

/-- The projection. -/
abbrev proj (X : FVec Ideal S8192x512 .f32) (Z : FVec Ideal S8192x512 .bf16) (W : FVec Ideal S1024x1024 .bf16) : FVec Ideal S8192x1024 .f32 :=
  Host.dotGeneral dot_S8192x1024_S1024x1024_S8192x1024_1_0_0_1_n_n none (concatenate S8192x1024 1 [⟨S8192x512, X⟩, ⟨S8192x512, (extf .f32 Z bitsLt_bf16_f32)⟩] concatenates_S8192x512_S8192x512_S8192x1024_d1) (extf .f32 W bitsLt_bf16_f32)

/-- The same at an entry, half by half. -/
def Y (X : FVec Ideal S8192x512 .f32) (Z : FVec Ideal S8192x512 .bf16) (W : FVec Ideal S1024x1024 .bf16) (i : Fin 8192) (j : Fin 1024) : EReal :=
  (∑ r : Fin 512, X (ix2 i r) * W (ix2 ⟨r.val, by omega⟩ j)) + ∑ r : Fin 512, Z (ix2 i r) * W (ix2 ⟨512 + r.val, by omega⟩ j)

theorem proj_apply (X : FVec Ideal S8192x512 .f32) (Z : FVec Ideal S8192x512 .bf16) (W : FVec Ideal S1024x1024 .bf16) (i : Fin 8192) (j : Fin 1024) : proj X Z W (ix2 i j) = Y X Z W i j := by
  refine (nn_apply _ _ i j).trans ?_
  refine (Fin.sum_univ_add (a := 512) (b := 512) _).trans ?_
  unfold Y
  refine congrArg₂ (fun a b : EReal => a + b) (Finset.sum_congr rfl fun r _ => ?_) (Finset.sum_congr rfl fun r _ => ?_)
  · refine congrArg₂ (fun a b : EReal => a * b) ((concat_apply X Z i _).trans ?_) rfl
    unfold cat
    exact dif_pos r.isLt
  · refine congrArg₂ (fun a b : EReal => a * b) ((concat_apply X Z i _).trans ?_) rfl
    unfold cat
    refine (dif_neg (show ¬(512 + r.val < 512) by omega)).trans (congrArg (fun k => Z (ix2 i k)) (Fin.ext ?_))
    show 512 + r.val - 512 = r.val
    omega

/-- The residual. -/
abbrev resid (X : FVec Ideal S8192x512 .f32) (Z : FVec Ideal S8192x512 .bf16) (W : FVec Ideal S1024x1024 .bf16) (U : FVec Ideal S8192x1024 .f32) (G : FVec Ideal S1x1024 .f32) : FVec Ideal S8192x1024 .f32 :=
  addf U (mulf (broadcastInDim S8192x1024 ![0, 1] bcast_S1x1024_S8192x1024_0_1 G) (proj X Z W))

/-- The first result at an entry. -/
theorem res6_apply (X : FVec Ideal S8192x512 .f32) (Z : FVec Ideal S8192x512 .bf16) (W : FVec Ideal S1024x1024 .bf16) (U : FVec Ideal S8192x1024 .f32) (G : FVec Ideal S1x1024 .f32) (i : Fin 8192) (j : Fin 1024) :
    resid X Z W U G (ix2 i j) = U (ix2 i j) + G (ix2 0 j) * Y X Z W i j := by
  show (U (ix2 i j) : EReal) + broadcastInDim S8192x1024 ![0, 1] bcast_S1x1024_S8192x1024_0_1 G (ix2 i j) * proj X Z W (ix2 i j) = _
  rw [proj_apply, hbc_1b_ab]

/-- The second result at an entry. -/
theorem res25_apply (X : FVec Ideal S8192x512 .f32) (Z : FVec Ideal S8192x512 .bf16) (W : FVec Ideal S1024x1024 .bf16) (U : FVec Ideal S8192x1024 .f32) (G N S T : FVec Ideal S1x1024 .f32) (i : Fin 8192) (k : Fin 1024) :
    truncf .bf16 (addf (mulf (mulf (mulf (resid X Z W U G) (broadcastInDim S8192x1024 ![0, 1] bcast_S8192x1_S8192x1024_0_1 (Host.rsqrt (addf (Host.divf (broadcastInDim S8192x1 ![0] bcast_S8192_S8192x1_0 (Host.reduceAdd (mulf (resid X Z W U G) (resid X Z W U G)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 N)) (broadcastInDim S8192x1024 ![0, 1] bcast_S1x1024_S8192x1024_0_1 (addf (broadcastInDim S1x1024 ![] bcast_S_S1x1024 (constant S_ .f32 0x3F800000#32)) S))) (broadcastInDim S8192x1024 ![0, 1] bcast_S1x1024_S8192x1024_0_1 T)) bitsLt_bf16_f32 (ix2 i k)
      = modRow (fun k => U (ix2 i k) + G (ix2 0 k) * Y X Z W i k) (fun k => N (ix2 0 k)) (fun k => S (ix2 0 k)) (fun k => T (ix2 0 k)) k := by
  refine (host_mod (resid X Z W U G) N S T reducesTo_S8192x1024_S8192_d1 h_S_ bcast_S8192_S8192x1_0 bcast_S_S8192x1 bcast_S8192x1_S8192x1024_0_1
    bcast_S1x1024_S8192x1024_0_1 bcast_S_S1x1024 i k).trans ?_
  rw [funext fun k => res6_apply X Z W U G i k]

/-- The third result at an entry. -/
theorem res26_apply (X : FVec Ideal S8192x512 .f32) (Z : FVec Ideal S8192x512 .bf16) (W : FVec Ideal S1024x1024 .bf16) (i : Fin 8192) (j : Fin 1024) : truncf .bf16 (proj X Z W) bitsLt_bf16_f32 (ix2 i j) = Y X Z W i j :=
  proj_apply X Z W i j

end Cert.Reference7Ideal.OutFwd
end
-- ==== Proof.InprojBackKernel.lean ====
/- The gradient through the input projection: the kernel's results at an entry, over the reals. -/
module

public import proofs.«01_k».proof.Proof.Gen.Kernel10Ideal.Value
public import proofs.«01_k».proof.Proof.BlockSums
public import proofs.«01_k».proof.Proof.Norm
public import proofs.«01_k».proof.Proof.NormBack
public import proofs.«01_k».proof.Proof.Reals
public import Idealize.ShloMosaic.Lib.WritesUnit
public import Idealize.ShloMosaic.Lib.ValueIdx
public import Idealize.ShloMosaic.Lib.ValueLayout
public import Idealize.ShloMosaic.Lib.KernelVsHost
public import Idealize.ShloMosaic.PureOps.Ideal
public import Idealize.ShloMosaic.PureOps.Ideal.Laws
public import Idealize.ShloMosaic.Lib.Tactic

@[expose] public section

set_option maxRecDepth 16384

noncomputable section

namespace Cert.Kernel10Ideal.InprojBack

open Cert.Kernel10Ideal Cert.Kernel10Ideal.Gen Idealize.ShloMosaic Idealize.ShloMosaic.TcCoe Idealize.SL.Sem
open Idealize.ShloMosaic.ValueIdx
open Cert.Sums Cert.Norm
open scoped BigOperators

variable (m : (ℓ : Loc nD τ sig) → Buf (Elt Ideal) ℓ)

theorem hz : (![0, 0] : Fin 2 → Nat) = fun _ => 0 := funext fun a => by fin_cases a <;> rfl

/-- A product of two matrices, read at an entry. -/
theorem nn {φ₁ φ₂ : FTy} (A : FVec Ideal S512x3712 φ₁) (B : FVec Ideal S3712x1024 φ₂) (acc : FVec Ideal S512x1024 .f32)
    (i : Fin 512) (j : Fin 1024) :
    matmul dot_S512x3712_S3712x1024_S512x1024_1_0_0_1_n_n none A B acc (ix2 i j) = acc (ix2 i j) + ∑ r : Fin 3712, A (ix2 i r) * B (ix2 r j) := by
  show FloatOps.matmul _ none A B acc (ix2 i j) = _
  rw [Ideal.matmul_apply, ← Equiv.sum_comp (contrEquiv1 dot_S512x3712_S3712x1024_S512x1024_1_0_0_1_n_n 3712 rfl rfl).symm]
  refine congrArg (acc (ix2 i j) + ·) (Finset.sum_congr rfl fun r _ => ?_)
  have hk := contrEquiv1_symm_val dot_S512x3712_S3712x1024_S512x1024_1_0_0_1_n_n 3712 rfl rfl r
  have el : dot_S512x3712_S3712x1024_S512x1024_1_0_0_1_n_n.lhsIdx (ix2 i j) ((contrEquiv1 dot_S512x3712_S3712x1024_S512x1024_1_0_0_1_n_n 3712 rfl rfl).symm r) = ix2 i r := by
    funext a; apply Fin.ext
    match a with
    | ⟨0, _⟩ => rfl
    | ⟨1, _⟩ => exact hk
  have er : dot_S512x3712_S3712x1024_S512x1024_1_0_0_1_n_n.rhsIdx (ix2 i j) ((contrEquiv1 dot_S512x3712_S3712x1024_S512x1024_1_0_0_1_n_n 3712 rfl rfl).symm r) = ix2 r j := by
    funext a; apply Fin.ext
    match a with
    | ⟨0, _⟩ => exact hk
    | ⟨1, _⟩ => rfl
  rw [el, er]

theorem z512 (i : S512x1024.Idx) : (constant S512x1024 .f32 0x00000000#32 : FVec Ideal S512x1024 .f32) i = 0 := Ideal.ofBits_zero_f32

section
variable (x0 x1 x2 : Vec Ideal S512x512 .f32) (x3 : Vec Ideal S512x1536 .f32) (x4 : Vec Ideal S512x512 .f32) (x5 : Vec Ideal S512x128 .f32)
    (x6 : Vec Ideal S3712x1024 .bf16) (x7 x8 : Vec Ideal S512x1024 .f32) (x9 x10 : Vec Ideal S1x1024 .f32)

/-- The six cotangents side by side. -/
abbrev CAT : FVec Ideal S512x3712 .bf16 := concatenate S512x3712 1 [⟨S512x512, (truncf .bf16 x0 bitsLt_bf16_f32 : FVec Ideal S512x512 .bf16)⟩, ⟨S512x512, (truncf .bf16 x1 bitsLt_bf16_f32 : FVec Ideal S512x512 .bf16)⟩, ⟨S512x512, (truncf .bf16 x2 bitsLt_bf16_f32 : FVec Ideal S512x512 .bf16)⟩, ⟨S512x1536, (truncf .bf16 x3 bitsLt_bf16_f32 : FVec Ideal S512x1536 .bf16)⟩, ⟨S512x512, (truncf .bf16 x4 bitsLt_bf16_f32 : FVec Ideal S512x512 .bf16)⟩, ⟨S512x128, (truncf .bf16 x5 bitsLt_bf16_f32 : FVec Ideal S512x128 .bf16)⟩] concatenates_S512x512_S512x512_S512x512_S512x1536_S512x512_S512x128_S512x3712_d1

theorem cat_apply (i : Fin 512) (n : Fin 3712) : CAT x0 x1 x2 x3 x4 x5 (ix2 i n)
    = pick (fun k => x0 (ix2 i k)) (fun k => x1 (ix2 i k)) (fun k => x2 (ix2 i k)) (fun k => x3 (ix2 i k)) (fun k => x4 (ix2 i k)) (fun k => x5 (ix2 i k)) n.val := by
  have off : ∀ b : Fin 2, b.cast rfl ≠ (1 : Fin 2) → ∀ {p q : ℕ} (r : Fin p) (r' : Fin q), ((ix2 i r) b).val = ((ix2 i r') (b.cast rfl)).val :=
    fun b hb p q r r' => match b with
    | ⟨0, _⟩ => rfl
    | ⟨1, _⟩ => absurd rfl hb
  have hn := n.isLt
  unfold pick
  split_ifs with h0 h1 h2 h3 h4 h5
  · exact concatenate_apply_piece (t := S512x3712) 1 _ _ (ix2 i n) 0 (by show 0 < 6; decide) S512x512 _ rfl rfl 0 rfl (ix2 i (⟨n.val, by omega⟩ : Fin 512)) (fun b hb => off b hb _ _) (show 0 + (n.val) = n.val by omega)
  · exact concatenate_apply_piece (t := S512x3712) 1 _ _ (ix2 i n) 1 (by show 1 < 6; decide) S512x512 _ rfl rfl 512 rfl (ix2 i (⟨n.val - 512, by omega⟩ : Fin 512)) (fun b hb => off b hb _ _) (show 512 + (n.val - 512) = n.val by omega)
  · exact concatenate_apply_piece (t := S512x3712) 1 _ _ (ix2 i n) 2 (by show 2 < 6; decide) S512x512 _ rfl rfl 1024 rfl (ix2 i (⟨n.val - 1024, by omega⟩ : Fin 512)) (fun b hb => off b hb _ _) (show 1024 + (n.val - 1024) = n.val by omega)
  · exact concatenate_apply_piece (t := S512x3712) 1 _ _ (ix2 i n) 3 (by show 3 < 6; decide) S512x1536 _ rfl rfl 1536 rfl (ix2 i (⟨n.val - 1536, by omega⟩ : Fin 1536)) (fun b hb => off b hb _ _) (show 1536 + (n.val - 1536) = n.val by omega)
  · exact concatenate_apply_piece (t := S512x3712) 1 _ _ (ix2 i n) 4 (by show 4 < 6; decide) S512x512 _ rfl rfl 3072 rfl (ix2 i (⟨n.val - 3072, by omega⟩ : Fin 512)) (fun b hb => off b hb _ _) (show 3072 + (n.val - 3072) = n.val by omega)
  · exact concatenate_apply_piece (t := S512x3712) 1 _ _ (ix2 i n) 5 (by show 5 < 6; decide) S512x128 _ rfl rfl 3584 rfl (ix2 i (⟨n.val - 3584, by omega⟩ : Fin 128)) (fun b hb => off b hb _ _) (show 3584 + (n.val - 3584) = n.val by omega)
  · omega

/-- The cotangent of the modulated rows: the product by the weights. -/
theorem pay3_apply (i : Fin 512) (j : Fin 1024) : k0_pay3 x0 x1 x2 x3 x4 x5 x6 (ix2 i j)
    = ∑ n : Fin 3712, pick (fun k => x0 (ix2 i k)) (fun k => x1 (ix2 i k)) (fun k => x2 (ix2 i k)) (fun k => x3 (ix2 i k)) (fun k => x4 (ix2 i k)) (fun k => x5 (ix2 i k)) n.val * x6 (ix2 n j) := by
  unfold k0_pay3
  rw [shapeCast_self]
  refine (nn (CAT x0 x1 x2 x3 x4 x5) x6 _ i j).trans ?_
  rw [z512, zero_add]
  exact Finset.sum_congr rfl fun n _ => congrArg (fun a : EReal => a * x6 (ix2 n j)) (cat_apply x0 x1 x2 x3 x4 x5 i n)

theorem pay5_apply (i : Fin 512) (k : Fin 1024) : k0_pay5 x7 (ix2 i k) = x7 (ix2 i k) * rstd fun k => x7 (ix2 i k) := by
  unfold k0_pay5 k0_pay4
  exact kernel_xr x7 reduces_S512x1024_S512 shapeCasts_S512_S512x1 broadcasts_S512x1_S512x1024 i k

theorem pay6_apply (i : Fin 512) (k : Fin 1024) : k0_pay6 x7 x9 (ix2 i k) = (x7 (ix2 i k) * rstd fun k => x7 (ix2 i k)) * x9 (ix2 0 k) := by
  unfold k0_pay6
  exact (mul_row (k0_pay5 x7) x9 broadcasts_S1x1024_S512x1024 i k).trans (congrArg (fun a : EReal => a * x9 (ix2 0 k)) (pay5_apply x7 i k))

section
variable (e : FVec Ideal S512x1024 .f32)

theorem pay7_apply (i : Fin 512) (k : Fin 1024) : k0_pay7 e x10 (ix2 i k) = e (ix2 i k) * (one32 + x10 (ix2 0 k)) := by
  unfold k0_pay7
  exact mul_row e _ broadcasts_S1x1024_S512x1024 i k

/-- The cotangent of the norm's rows. -/
abbrev dg : FVec Ideal S512x1024 .f32 := mulf (k0_pay7 e x10) (broadcastTo S512x1024 x9 broadcasts_S1x1024_S512x1024)

theorem dg_apply (i : Fin 512) (k : Fin 1024) : dg x9 x10 e (ix2 i k) = e (ix2 i k) * (one32 + x10 (ix2 0 k)) * x9 (ix2 0 k) :=
  (mul_row (k0_pay7 e x10) x9 broadcasts_S1x1024_S512x1024 i k).trans (congrArg (fun a : EReal => a * x9 (ix2 0 k)) (pay7_apply x10 e i k))

/-- The block's gradient of the rows before the norm. -/
abbrev dx : FVec Ideal S512x1024 .f32 := k0_pay9 e (k0_pay4 x7) (k0_pay5 x7) x10 x9 x8

theorem dx_apply (i : Fin 512) (k : Fin 1024) : dx x7 x8 x9 x10 e (ix2 i k)
    = x8 (ix2 i k) + back (fun k => x7 (ix2 i k)) (fun k => dg x9 x10 e (ix2 i k)) k := by
  unfold dx k0_pay9
  exact kernel_back (k0_pay4 x7) (k0_pay5 x7) (dg x9 x10 e) (mulf (dg x9 x10 e) (k0_pay5 x7)) x8 (fun k => x7 (ix2 i k))
    reduces_S512x1024_S512 shapeCasts_S512_S512x1 broadcasts_S512x1_S512x1024 i k
    (kernel_rstd x7 reduces_S512x1024_S512 (.inl rfl) rfl shapeCasts_S512_S512x1 i) (pay5_apply x7 i)
    (fun k => congrArg (fun a : EReal => dg x9 x10 e (ix2 i k) * a) (pay5_apply x7 i k))

section
variable (z : Vec Ideal S1x1024 .f32)

theorem stat0 (j : Fin 1024) : k0_pay10 e z (ix2 0 j) = z (ix2 0 j) + ∑ r : Fin 512, e (ix2 r j) := by
  unfold k0_pay10
  rw [addf_apply, shapeCast_self]
  exact congrArg (fun s : EReal => z (ix2 0 j) + s) (kernel_stat _ reduces_S512x1024_S1024 shapeCasts_S1024_S1x1024 j)

theorem stat1 (j : Fin 1024) : k0_pay11 e (k0_pay6 x7 x9) z (ix2 0 j) = z (ix2 0 j) + ∑ r : Fin 512, e (ix2 r j) * k0_pay6 x7 x9 (ix2 r j) := by
  unfold k0_pay11
  rw [addf_apply, shapeCast_self]
  exact congrArg (fun s : EReal => z (ix2 0 j) + s) (kernel_stat _ reduces_S512x1024_S1024 shapeCasts_S1024_S1x1024 j)

theorem stat2 (j : Fin 1024) : k0_pay1 (k0_pay8 e (k0_pay5 x7) x10) z (ix2 0 j) = z (ix2 0 j) + ∑ r : Fin 512, k0_pay7 e x10 (ix2 r j) * k0_pay5 x7 (ix2 r j) := by
  unfold k0_pay1 k0_pay8
  rw [addf_apply, shapeCast_self]
  exact congrArg (fun s : EReal => z (ix2 0 j) + s) (kernel_stat _ reduces_S512x1024_S1024 shapeCasts_S1024_S1x1024 j)

end
end

theorem pay2_apply (y : S8x1024.Idx) : (k0_pay2 (F := Ideal)) y = 0 := Ideal.ofBits_zero_f32

section
variable (c : Dev nD) (i : grid0.Coords) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S512x1536 .f32) (h4 : a4.IsWhole) (a5 : Memref sig .tc .vmem S512x512 .f32) (h5 : a5.IsWhole) (a6 : Memref sig .tc .vmem S512x128 .f32) (h6 : a6.IsWhole) (a7 : Memref sig .tc .vmem S3712x1024 .bf16) (h7 : a7.IsWhole) (a8 : Memref sig .tc .vmem S512x1024 .f32) (h8 : a8.IsWhole) (a9 : Memref sig .tc .vmem S512x1024 .f32) (h9 : a9.IsWhole) (a10 : Memref sig .tc .vmem S1x1024 .f32) (h10 : a10.IsWhole) (a11 : Memref sig .tc .vmem S1x1024 .f32) (h11 : a11.IsWhole) (a12 : Memref sig .tc .vmem S512x1024 .f32) (h12 : a12.IsWhole) (a13 : Memref sig .tc .vmem S8x1024 .f32) (h13 : a13.IsWhole)
    (xo : Vec Ideal S8x1024 .f32)

theorem out_A11 (hc : cond0_0 i) : out0_A_11 c i a1 h1 a2 h2 a3 h3 a4 h4 a5 h5 a6 h6 a7 h7 a8 h8 a9 h9 a10 h10 a11 h11 a12 h12 a13 h13 hc x0 x1 x2 x3 x4 x5 x6 x7 x8 x9 x10 = dx x7 x8 x9 x10 (k0_pay3 x0 x1 x2 x3 x4 x5 x6) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]

theorem out_B11 (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 x7 x8 x9 x10 xo = dx x7 x8 x9 x10 (k0_pay3 x0 x1 x2 x3 x4 x5 x6) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 x7 x8 x9 x10 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]

theorem out_B12_0 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 xo (ix2 0 j) = xo (ix2 0 j) + ∑ r : Fin 512, (k0_pay3 x0 x1 x2 x3 x4 x5 x6) (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  rw [View.read_writes_cons_rows_of_not_mem (o := 2) (W := 1) _ _ _ _ _ (ix2 (0 : Fin 8) j) rfl rfl (.inl (show (0 : ℕ) < 2 by decide))]
  rw [View.read_writes_cons_rows_of_not_mem (o := 1) (W := 1) _ _ _ _ _ (ix2 (0 : Fin 8) j) rfl rfl (.inl (show (0 : ℕ) < 1 by decide))]
  refine (View.read_writes_cons_rows_of_mem (o := 0) _ _ _ _ _ (ix2 (0 : Fin 8) j) (ix2 (0 : Fin 1) j) rfl rfl rfl).trans ?_
  refine (stat0 (k0_pay3 x0 x1 x2 x3 x4 x5 x6) _ j).trans ?_
  refine congrArg (fun s : EReal => s + _) (congrArg xo (funext fun a => Fin.ext ?_))
  match a with
  | ⟨0, _⟩ => rfl
  | ⟨1, _⟩ => show 0 + 1 * j.val = j.val; omega

theorem out_B12_1 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 xo (ix2 1 j) = xo (ix2 1 j) + ∑ r : Fin 512, (k0_pay3 x0 x1 x2 x3 x4 x5 x6) (ix2 r j) * k0_pay6 x7 x9 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  rw [View.read_writes_cons_rows_of_not_mem (o := 2) (W := 1) _ _ _ _ _ (ix2 (1 : Fin 8) j) rfl rfl (.inl (show (1 : ℕ) < 2 by decide))]
  refine (View.read_writes_cons_rows_of_mem (o := 1) _ _ _ _ _ (ix2 (1 : Fin 8) j) (ix2 (0 : Fin 1) j) rfl rfl rfl).trans ?_
  refine (stat1 x7 x9 (k0_pay3 x0 x1 x2 x3 x4 x5 x6) _ j).trans ?_
  refine congrArg (fun s : EReal => s + _) (congrArg xo (funext fun a => Fin.ext ?_))
  match a with
  | ⟨0, _⟩ => rfl
  | ⟨1, _⟩ => show 0 + 1 * j.val = j.val; omega

theorem out_B12_2 (hc : ¬cond0_0 i) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 xo (ix2 2 j) = xo (ix2 2 j) + ∑ r : Fin 512, k0_pay7 (k0_pay3 x0 x1 x2 x3 x4 x5 x6) x10 (ix2 r j) * k0_pay5 x7 (ix2 r j) := by
  unfold out0_B_12 kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  refine (View.read_writes_cons_rows_of_mem (o := 2) _ _ _ _ _ (ix2 (2 : Fin 8) j) (ix2 (0 : Fin 1) j) rfl rfl rfl).trans ?_
  refine (stat2 x7 x10 (k0_pay3 x0 x1 x2 x3 x4 x5 x6) _ j).trans ?_
  refine congrArg (fun s : EReal => s + _) (congrArg xo (funext fun a => Fin.ext ?_))
  match a with
  | ⟨0, _⟩ => rfl
  | ⟨1, _⟩ => show 0 + 1 * j.val = j.val; omega

theorem out_B12_rest (hc : ¬cond0_0 i) (q : Fin 8) (hq : 3 ≤ q.val) (j : Fin 1024) :
    out0_B_12 c i a1 h1 a2 h2 a3 h3 a4 h4 a5 h5 a6 h6 a7 h7 a8 h8 a9 h9 a10 h10 a11 h11 a12 h12 a13 h13 hc x0 x1 x2 x3 x4 x5 x6 x7 x8 x9 x10 xo (ix2 q j) = xo (ix2 q j) := by
  unfold out0_B_12 kernelRun0_B
  dsimp only
  sl_unfold_words
  rw [View.read_writes_cons_rows_of_not_mem (o := 2) (W := 1) _ _ _ _ _ (ix2 q j) rfl rfl (.inr (show 2 + 1 ≤ q.val by omega))]
  rw [View.read_writes_cons_rows_of_not_mem (o := 1) (W := 1) _ _ _ _ _ (ix2 q j) rfl rfl (.inr (show 1 + 1 ≤ q.val by omega))]
  rw [View.read_writes_cons_rows_of_not_mem (o := 0) (W := 1) _ _ _ _ _ (ix2 q j) rfl rfl (.inr (show 0 + 1 ≤ q.val by omega))]
  exact congrFun (h13.read_unread xo) (ix2 q j)

/-- What the first point's loads find in the buffer that it has just cleared. -/
theorem cleared (y : S8x1024.Idx) : a13.view.read (Elt Ideal) (a13.view.writes (Elt Ideal) a13.view.junk [⟨Rect.unit ![0, 0] ![8, 1024] inb_S8x1024_S8x1024_0_0, k0_pay2 (F := Ideal)⟩]) y = 0 :=
  (View.read_writes_cons_rows_of_mem (o := 0) _ _ _ _ _ y y rfl (Nat.zero_add _).symm rfl).trans (pay2_apply y)

theorem kept0 (j : Fin 1024) :
    a13.view.readCov (Val := Elt Ideal) [⟨Rect.unit ![0, 0] ![8, 1024] inb_S8x1024_S8x1024_0_0, k0_pay2 (F := Ideal)⟩]
      (Rect.unit (s := S8x1024) ![0, 0] S1x1024.size inb_S8x1024_S1x1024_0_0).toLoadRect (ix2 0 j) = 0 := by
  show a13.view.read (Elt Ideal) (a13.view.writes (Elt Ideal) a13.view.junk _)
    ((Rect.unit (s := S8x1024) ![0, 0] S1x1024.size inb_S8x1024_S1x1024_0_0).toLoadRect.idx (ix2 0 j)) = 0
  exact cleared a13 _

theorem kept1 (w0 : Vec Ideal S1x1024 .f32) (j : Fin 1024) :
    a13.view.readCov (Val := Elt Ideal) [⟨Rect.unit ![0, 0] ![1, 1024] inb_S8x1024_S1x1024_0_0, w0⟩, ⟨Rect.unit ![0, 0] ![8, 1024] inb_S8x1024_S8x1024_0_0, k0_pay2 (F := Ideal)⟩]
      (Rect.unit (s := S8x1024) ![1, 0] S1x1024.size inb_S8x1024_S1x1024_1_0).toLoadRect (ix2 0 j) = 0 := by
  show a13.view.read (Elt Ideal) (a13.view.writes (Elt Ideal) a13.view.junk _)
    ((Rect.unit (s := S8x1024) ![1, 0] S1x1024.size inb_S8x1024_S1x1024_1_0).toLoadRect.idx (ix2 0 j)) = 0
  rw [View.read_writes_cons_rows_of_not_mem (o := 0) (W := 1) _ _ _ _ _ _ rfl rfl (.inr (show 0 + 1 ≤ 1 + 1 * 0 by decide))]
  exact cleared a13 _

theorem kept2 (w0 w1 : Vec Ideal S1x1024 .f32) (j : Fin 1024) :
    a13.view.readCov (Val := Elt Ideal) [⟨Rect.unit ![1, 0] ![1, 1024] inb_S8x1024_S1x1024_1_0, w1⟩, ⟨Rect.unit ![0, 0] ![1, 1024] inb_S8x1024_S1x1024_0_0, w0⟩, ⟨Rect.unit ![0, 0] ![8, 1024] inb_S8x1024_S8x1024_0_0, k0_pay2 (F := Ideal)⟩]
      (Rect.unit (s := S8x1024) ![2, 0] S1x1024.size inb_S8x1024_S1x1024_2_0).toLoadRect (ix2 0 j) = 0 := by
  show a13.view.read (Elt Ideal) (a13.view.writes (Elt Ideal) a13.view.junk _)
    ((Rect.unit (s := S8x1024) ![2, 0] S1x1024.size inb_S8x1024_S1x1024_2_0).toLoadRect.idx (ix2 0 j)) = 0
  rw [View.read_writes_cons_rows_of_not_mem (o := 1) (W := 1) _ _ _ _ _ _ rfl rfl (.inr (show 1 + 1 ≤ 2 + 1 * 0 by decide))]
  rw [View.read_writes_cons_rows_of_not_mem (o := 0) (W := 1) _ _ _ _ _ _ rfl rfl (.inr (show 0 + 1 ≤ 2 + 1 * 0 by decide))]
  exact cleared a13 _

theorem out_A12_0 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 (ix2 0 j) = ∑ r : Fin 512, (k0_pay3 x0 x1 x2 x3 x4 x5 x6) (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  rw [View.read_writes_cons_rows_of_not_mem (o := 2) (W := 1) _ _ _ _ _ (ix2 (0 : Fin 8) j) rfl rfl (.inl (show (0 : ℕ) < 2 by decide))]
  rw [View.read_writes_cons_rows_of_not_mem (o := 1) (W := 1) _ _ _ _ _ (ix2 (0 : Fin 8) j) rfl rfl (.inl (show (0 : ℕ) < 1 by decide))]
  refine (View.read_writes_cons_rows_of_mem (o := 0) _ _ _ _ _ (ix2 (0 : Fin 8) j) (ix2 (0 : Fin 1) j) rfl rfl rfl).trans ?_
  refine (stat0 (k0_pay3 x0 x1 x2 x3 x4 x5 x6) _ j).trans ?_
  exact (congrArg (fun s : EReal => s + _) (kept0 a13 j)).trans (zero_add _)

theorem out_A12_1 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 (ix2 1 j) = ∑ r : Fin 512, (k0_pay3 x0 x1 x2 x3 x4 x5 x6) (ix2 r j) * k0_pay6 x7 x9 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  rw [View.read_writes_cons_rows_of_not_mem (o := 2) (W := 1) _ _ _ _ _ (ix2 (1 : Fin 8) j) rfl rfl (.inl (show (1 : ℕ) < 2 by decide))]
  refine (View.read_writes_cons_rows_of_mem (o := 1) _ _ _ _ _ (ix2 (1 : Fin 8) j) (ix2 (0 : Fin 1) j) rfl rfl rfl).trans ?_
  refine (stat1 x7 x9 (k0_pay3 x0 x1 x2 x3 x4 x5 x6) _ j).trans ?_
  exact (congrArg (fun s : EReal => s + _) (kept1 a13 _ j)).trans (zero_add _)

theorem out_A12_2 (hc : cond0_0 i) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 (ix2 2 j) = ∑ r : Fin 512, k0_pay7 (k0_pay3 x0 x1 x2 x3 x4 x5 x6) x10 (ix2 r j) * k0_pay5 x7 (ix2 r j) := by
  unfold out0_A_12 kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, View.ld_unit_zero (S := S512x512) hz, View.ld_unit_zero (S := S512x1536) hz, View.ld_unit_zero (S := S512x128) hz, View.ld_unit_zero (S := S3712x1024) hz, View.ld_unit_zero (S := S512x1024) hz, View.ld_unit_zero (S := S1x1024) hz]
  refine (View.read_writes_cons_rows_of_mem (o := 2) _ _ _ _ _ (ix2 (2 : Fin 8) j) (ix2 (0 : Fin 1) j) rfl rfl rfl).trans ?_
  refine (stat2 x7 x10 (k0_pay3 x0 x1 x2 x3 x4 x5 x6) _ j).trans ?_
  exact (congrArg (fun s : EReal => s + _) (kept2 a13 _ _ j)).trans (zero_add _)

theorem out_A12_rest (hc : cond0_0 i) (q : Fin 8) (hq : 3 ≤ q.val) (j : Fin 1024) :
    out0_A_12 c i a1 h1 a2 h2 a3 h3 a4 h4 a5 h5 a6 h6 a7 h7 a8 h8 a9 h9 a10 h10 a11 h11 a12 h12 a13 h13 hc x0 x1 x2 x3 x4 x5 x6 x7 x8 x9 x10 (ix2 q j) = 0 := by
  unfold out0_A_12 kernelRun0_A
  dsimp only
  sl_unfold_words
  rw [View.read_writes_cons_rows_of_not_mem (o := 2) (W := 1) _ _ _ _ _ (ix2 q j) rfl rfl (.inr (show 2 + 1 ≤ q.val by omega))]
  rw [View.read_writes_cons_rows_of_not_mem (o := 1) (W := 1) _ _ _ _ _ (ix2 q j) rfl rfl (.inr (show 1 + 1 ≤ q.val by omega))]
  rw [View.read_writes_cons_rows_of_not_mem (o := 0) (W := 1) _ _ _ _ _ (ix2 q j) rfl rfl (.inr (show 0 + 1 ≤ q.val by omega))]
  exact cleared _ _

end
end

/-- The arguments' arrays. -/
abbrev A0 (c : Dev nD) : FVec Ideal S8192x512 .f32 := m ((c : Thread nD τ).loc main_arg0)
abbrev A1 (c : Dev nD) : FVec Ideal S8192x512 .f32 := m ((c : Thread nD τ).loc main_arg1)
abbrev A2 (c : Dev nD) : FVec Ideal S8192x512 .f32 := m ((c : Thread nD τ).loc main_arg2)
abbrev A3 (c : Dev nD) : FVec Ideal S8192x1536 .f32 := m ((c : Thread nD τ).loc main_arg3)
abbrev A4 (c : Dev nD) : FVec Ideal S8192x512 .f32 := m ((c : Thread nD τ).loc main_arg4)
abbrev A5 (c : Dev nD) : FVec Ideal S8192x128 .f32 := m ((c : Thread nD τ).loc main_arg5)
abbrev A6 (c : Dev nD) : FVec Ideal S3600x1024 .bf16 := m ((c : Thread nD τ).loc main_arg6)
abbrev A7 (c : Dev nD) : FVec Ideal S8192x1024 .f32 := m ((c : Thread nD τ).loc main_arg7)
abbrev A8 (c : Dev nD) : FVec Ideal S8192x1024 .f32 := m ((c : Thread nD τ).loc main_arg8)
abbrev A9 (c : Dev nD) : FVec Ideal S1x1024 .f32 := m ((c : Thread nD τ).loc main_arg9)
abbrev A10 (c : Dev nD) : FVec Ideal S1x1024 .f32 := m ((c : Thread nD τ).loc main_arg10)

/-- The weights with zero rows below, as the host pads them. -/
abbrev W (c : Dev nD) : FVec Ideal S3712x1024 .bf16 := V m c main_v0

theorem W_eq (c : Dev nD) : W m c = pad S3712x1024 ![0, 0] ![112, 0] ![0, 0] (A6 m c) (sitofp .bf16 (constantI S_ 32 0#32)) pads_S3600x1024_S3712x1024_01120_000 h_S_ := by
  show StableHlo.after _ _ _ = _
  simp only [hostOps0, hostOps0_1, StableHlo.TRef.binary, StableHlo.TRef.unary, StableHlo.TRef.toBuf, StableHlo.TRef.ofBuf, cast_eq, List.flatten_cons,
    List.flatten_nil, List.append_nil, List.cons_append, List.nil_append]
  after_results_simp

/-- A row of the padded weights is a row of the weights, or zero. -/
def wrow (A : FVec Ideal S3600x1024 .bf16) (n : ℕ) (k : Fin 1024) : EReal := if h : n < 3600 then A (ix2 ⟨n, h⟩ k) else 0

theorem W_apply (c : Dev nD) (n : Fin 3712) (k : Fin 1024) : W m c (ix2 n k) = wrow (A6 m c) n.val k := by
  rw [W_eq]
  unfold wrow
  by_cases h : n.val < 3600
  · rw [dif_pos h]
    exact pad_apply_of_inside _ _ _ _ _ _ _ (ix2 n k) (ix2 ⟨n.val, h⟩ k) fun a => match a with
      | ⟨0, _⟩ => show n.val = 0 + n.val * (0 + 1) by omega
      | ⟨1, _⟩ => show k.val = 0 + k.val * (0 + 1) by omega
  · rw [dif_neg h]
    refine (pad_apply_of_not_inside _ _ _ _ _ _ _ (ix2 n k) 0 fun h' => h ?_).trans sitofp_zero
    have : (n.val - 0) / (0 + 1) < 3600 := h'.2.2
    omega

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem flush11 : ∀ t : Fin cfg0.N, (cfg0.win 11).flush t = true :=
  (by decide +kernel : ∀ t : Fin grid0.N, win0_11.flush t = true)
theorem flush12 : ∀ t : Fin cfg0.N, (cfg0.win 12).flush t = true ↔ t.val = 15 :=
  (by decide +kernel : ∀ t : Fin grid0.N, win0_12.flush t = true ↔ t.val = 15)

/-- The blocks that a point reads. -/
abbrev X0 (c : Dev nD) (t : Fin cfg0.N) : FVec Ideal S512x512 .f32 := iblk m c 0 t
abbrev X1 (c : Dev nD) (t : Fin cfg0.N) : FVec Ideal S512x512 .f32 := iblk m c 1 t
abbrev X2 (c : Dev nD) (t : Fin cfg0.N) : FVec Ideal S512x512 .f32 := iblk m c 2 t
abbrev X3 (c : Dev nD) (t : Fin cfg0.N) : FVec Ideal S512x1536 .f32 := iblk m c 3 t
abbrev X4 (c : Dev nD) (t : Fin cfg0.N) : FVec Ideal S512x512 .f32 := iblk m c 4 t
abbrev X5 (c : Dev nD) (t : Fin cfg0.N) : FVec Ideal S512x128 .f32 := iblk m c 5 t
abbrev X6 (c : Dev nD) (t : Fin cfg0.N) : FVec Ideal S3712x1024 .bf16 := iblk m c 6 t
abbrev X7 (c : Dev nD) (t : Fin cfg0.N) : FVec Ideal S512x1024 .f32 := iblk m c 7 t
abbrev X8 (c : Dev nD) (t : Fin cfg0.N) : FVec Ideal S512x1024 .f32 := iblk m c 8 t
abbrev X9 (c : Dev nD) (t : Fin cfg0.N) : FVec Ideal S1x1024 .f32 := iblk m c 9 t
abbrev X10 (c : Dev nD) (t : Fin cfg0.N) : FVec Ideal S1x1024 .f32 := iblk m c 10 t

/-- Row `i` of a point's block, in the whole array. -/
def row (t : Fin cfg0.N) (i : Fin 512) : Fin 8192 :=
  ⟨512 * (t.val) + i.val, by have ht : t.val < 16 := lt_of_lt_of_eq t.isLt (show cfg0.N = 16 from N_0); omega⟩

theorem blk0 (c : Dev nD) (t : Fin cfg0.N) (a : Fin 512) (b : Fin 512) : X0 m c t (ix2 a b) = A0 m c (ix2 (row t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 512 + 1 * a.val = 512 * t.val + a.val; rw [(idx0 t).1]; omega
  | ⟨1, _⟩ => show win0_0.index t 1 * 512 + 1 * b.val = b.val; rw [(idx0 t).2]; omega

theorem blk1 (c : Dev nD) (t : Fin cfg0.N) (a : Fin 512) (b : Fin 512) : X1 m c t (ix2 a b) = A1 m c (ix2 (row t a) b) := by
  show iblk m c 1 t (ix2 a b) = _
  unfold iblk
  rw [View.read_apply]
  refine (congrArg (V m c main_arg1) (funext fun z => Fin.ext ?_)).trans (congrFun (V_main_arg1 m c) _)
  match z with
  | ⟨0, _⟩ => show win0_1.index t 0 * 512 + 1 * a.val = 512 * t.val + a.val; rw [(idx1 t).1]; omega
  | ⟨1, _⟩ => show win0_1.index t 1 * 512 + 1 * b.val = b.val; rw [(idx1 t).2]; omega

theorem blk2 (c : Dev nD) (t : Fin cfg0.N) (a : Fin 512) (b : Fin 512) : X2 m c t (ix2 a b) = A2 m c (ix2 (row t a) b) := by
  show iblk m c 2 t (ix2 a b) = _
  unfold iblk
  rw [View.read_apply]
  refine (congrArg (V m c main_arg2) (funext fun z => Fin.ext ?_)).trans (congrFun (V_main_arg2 m c) _)
  match z with
  | ⟨0, _⟩ => show win0_2.index t 0 * 512 + 1 * a.val = 512 * t.val + a.val; rw [(idx2 t).1]; omega
  | ⟨1, _⟩ => show win0_2.index t 1 * 512 + 1 * b.val = b.val; rw [(idx2 t).2]; omega

theorem blk3 (c : Dev nD) (t : Fin cfg0.N) (a : Fin 512) (b : Fin 1536) : X3 m c t (ix2 a b) = A3 m c (ix2 (row t a) b) := by
  show iblk m c 3 t (ix2 a b) = _
  unfold iblk
  rw [View.read_apply]
  refine (congrArg (V m c main_arg3) (funext fun z => Fin.ext ?_)).trans (congrFun (V_main_arg3 m c) _)
  match z with
  | ⟨0, _⟩ => show win0_3.index t 0 * 512 + 1 * a.val = 512 * t.val + a.val; rw [(idx3 t).1]; omega
  | ⟨1, _⟩ => show win0_3.index t 1 * 1536 + 1 * b.val = b.val; rw [(idx3 t).2]; omega

theorem blk4 (c : Dev nD) (t : Fin cfg0.N) (a : Fin 512) (b : Fin 512) : X4 m c t (ix2 a b) = A4 m c (ix2 (row t a) b) := by
  show iblk m c 4 t (ix2 a b) = _
  unfold iblk
  rw [View.read_apply]
  refine (congrArg (V m c main_arg4) (funext fun z => Fin.ext ?_)).trans (congrFun (V_main_arg4 m c) _)
  match z with
  | ⟨0, _⟩ => show win0_4.index t 0 * 512 + 1 * a.val = 512 * t.val + a.val; rw [(idx4 t).1]; omega
  | ⟨1, _⟩ => show win0_4.index t 1 * 512 + 1 * b.val = b.val; rw [(idx4 t).2]; omega

theorem blk5 (c : Dev nD) (t : Fin cfg0.N) (a : Fin 512) (b : Fin 128) : X5 m c t (ix2 a b) = A5 m c (ix2 (row t a) b) := by
  show iblk m c 5 t (ix2 a b) = _
  unfold iblk
  rw [View.read_apply]
  refine (congrArg (V m c main_arg5) (funext fun z => Fin.ext ?_)).trans (congrFun (V_main_arg5 m c) _)
  match z with
  | ⟨0, _⟩ => show win0_5.index t 0 * 512 + 1 * a.val = 512 * t.val + a.val; rw [(idx5 t).1]; omega
  | ⟨1, _⟩ => show win0_5.index t 1 * 128 + 1 * b.val = b.val; rw [(idx5 t).2]; omega

theorem blk6 (c : Dev nD) (t : Fin cfg0.N) (a : Fin 3712) (b : Fin 1024) : X6 m c t (ix2 a b) = W m c (ix2 a b) := by
  show iblk m c 6 t (ix2 a b) = _
  unfold iblk
  rw [View.read_apply]
  refine (congrArg (V m c main_v0) (funext fun z => Fin.ext ?_)).trans rfl
  match z with
  | ⟨0, _⟩ => show win0_6.index t 0 * 3712 + 1 * a.val = a.val; rw [(idx6 t).1]; omega
  | ⟨1, _⟩ => show win0_6.index t 1 * 1024 + 1 * b.val = b.val; rw [(idx6 t).2]; omega

theorem blk7 (c : Dev nD) (t : Fin cfg0.N) (a : Fin 512) (b : Fin 1024) : X7 m c t (ix2 a b) = A7 m c (ix2 (row t a) b) := by
  show iblk m c 7 t (ix2 a b) = _
  unfold iblk
  rw [View.read_apply]
  refine (congrArg (V m c main_arg7) (funext fun z => Fin.ext ?_)).trans (congrFun (V_main_arg7 m c) _)
  match z with
  | ⟨0, _⟩ => show win0_7.index t 0 * 512 + 1 * a.val = 512 * t.val + a.val; rw [(idx7 t).1]; omega
  | ⟨1, _⟩ => show win0_7.index t 1 * 1024 + 1 * b.val = b.val; rw [(idx7 t).2]; omega

theorem blk8 (c : Dev nD) (t : Fin cfg0.N) (a : Fin 512) (b : Fin 1024) : X8 m c t (ix2 a b) = A8 m c (ix2 (row t a) b) := by
  show iblk m c 8 t (ix2 a b) = _
  unfold iblk
  rw [View.read_apply]
  refine (congrArg (V m c main_arg8) (funext fun z => Fin.ext ?_)).trans (congrFun (V_main_arg8 m c) _)
  match z with
  | ⟨0, _⟩ => show win0_8.index t 0 * 512 + 1 * a.val = 512 * t.val + a.val; rw [(idx8 t).1]; omega
  | ⟨1, _⟩ => show win0_8.index t 1 * 1024 + 1 * b.val = b.val; rw [(idx8 t).2]; omega

theorem blk9 (c : Dev nD) (t : Fin cfg0.N) (a : Fin 1) (b : Fin 1024) : X9 m c t (ix2 a b) = A9 m c (ix2 a b) := by
  show iblk m c 9 t (ix2 a b) = _
  unfold iblk
  rw [View.read_apply]
  refine (congrArg (V m c main_arg9) (funext fun z => Fin.ext ?_)).trans (congrFun (V_main_arg9 m c) _)
  match z with
  | ⟨0, _⟩ => show win0_9.index t 0 * 1 + 1 * a.val = a.val; rw [(idx9 t).1]; omega
  | ⟨1, _⟩ => show win0_9.index t 1 * 1024 + 1 * b.val = b.val; rw [(idx9 t).2]; omega

theorem blk10 (c : Dev nD) (t : Fin cfg0.N) (a : Fin 1) (b : Fin 1024) : X10 m c t (ix2 a b) = A10 m c (ix2 a b) := by
  show iblk m c 10 t (ix2 a b) = _
  unfold iblk
  rw [View.read_apply]
  refine (congrArg (V m c main_arg10) (funext fun z => Fin.ext ?_)).trans (congrFun (V_main_arg10 m c) _)
  match z with
  | ⟨0, _⟩ => show win0_10.index t 0 * 1 + 1 * a.val = a.val; rw [(idx10 t).1]; omega
  | ⟨1, _⟩ => show win0_10.index t 1 * 1024 + 1 * b.val = b.val; rw [(idx10 t).2]; omega

/-- A token's six cotangents side by side. -/
abbrev C (c : Dev nD) (i : Fin 8192) (n : ℕ) : EReal :=
  pick (fun k => A0 m c (ix2 i k)) (fun k => A1 m c (ix2 i k)) (fun k => A2 m c (ix2 i k)) (fun k => A3 m c (ix2 i k)) (fun k => A4 m c (ix2 i k)) (fun k => A5 m c (ix2 i k)) n

/-- The cotangent of the modulated rows, by token. -/
def dh (c : Dev nD) (i : Fin 8192) (j : Fin 1024) : EReal := ∑ n : Fin 3600, C m c i n.val * A6 m c (ix2 n j)

/-- A token's normed row. -/
def xr (c : Dev nD) (i : Fin 8192) (j : Fin 1024) : EReal := A7 m c (ix2 i j) * rstd fun k => A7 m c (ix2 i k)

/-- The cotangent of the norm's rows, before the gain. -/
def ds (c : Dev nD) (i : Fin 8192) (j : Fin 1024) : EReal := dh m c i j * (one32 + A10 m c (ix2 0 j))

/-- The gradient of the rows before the norm. -/
def gx (c : Dev nD) (i : Fin 8192) (j : Fin 1024) : EReal :=
  A8 m c (ix2 i j) + back (fun k => A7 m c (ix2 i k)) (fun k => ds m c i k * A9 m c (ix2 0 k)) j

/-- The products that an entry of the sums over tokens adds. -/
def term (c : Dev nD) (q : Fin 8) (j : Fin 1024) (i : Fin 8192) : EReal :=
  if q.val = 0 then dh m c i j else if q.val = 1 then dh m c i j * (xr m c i j * A9 m c (ix2 0 j))
  else if q.val = 2 then ds m c i j * xr m c i j else 0

section
variable (c : Dev nD) (t : Fin cfg0.N) (i : Fin 512) (j : Fin 1024)

/-- The block's cotangent, at the arrays. -/
abbrev E : FVec Ideal S512x1024 .f32 := k0_pay3 (F := Ideal) (X0 m c t) (X1 m c t) (X2 m c t) (X3 m c t) (X4 m c t) (X5 m c t) (X6 m c t)

theorem dh_at : E m c t (ix2 i j) = dh m c (row t i) j := by
  refine (pay3_apply _ _ _ _ _ _ _ i j).trans ?_
  rw [funext fun k => blk0 m c t i k, funext fun k => blk1 m c t i k, funext fun k => blk2 m c t i k, funext fun k => blk3 m c t i k, funext fun k => blk4 m c t i k,
    funext fun k => blk5 m c t i k]
  refine Eq.trans (Finset.sum_congr rfl fun n _ => congrArg (fun a : EReal => C m c (row t i) n.val * a) ((blk6 m c t n j).trans (W_apply m c n j))) ?_
  exact sum_padded (C m c (row t i)) fun n => A6 m c (ix2 n j)

theorem xr_at : k0_pay5 (F := Ideal) (X7 m c t) (ix2 i j) = xr m c (row t i) j := by
  refine (pay5_apply _ i j).trans ?_
  unfold xr
  rw [funext fun k => blk7 m c t i k, blk7 m c t i j]

theorem xg_at : k0_pay6 (F := Ideal) (X7 m c t) (X9 m c t) (ix2 i j) = xr m c (row t i) j * A9 m c (ix2 0 j) := by
  refine (pay6_apply _ _ i j).trans ?_
  unfold xr
  rw [funext fun k => blk7 m c t i k, blk7 m c t i j, blk9 m c t 0 j]

theorem ds_at : k0_pay7 (F := Ideal) (E m c t) (X10 m c t) (ix2 i j) = ds m c (row t i) j := by
  refine (pay7_apply _ _ i j).trans ?_
  unfold ds
  rw [dh_at m c t i j, blk10 m c t 0 j]

theorem dg_at : dg (X9 m c t) (X10 m c t) (E m c t) (ix2 i j) = ds m c (row t i) j * A9 m c (ix2 0 j) := by
  refine (dg_apply _ _ _ i j).trans ?_
  unfold ds
  rw [dh_at m c t i j, blk10 m c t 0 j, blk9 m c t 0 j]

/-- The block's gradient, at the arrays. -/
abbrev DX : FVec Ideal S512x1024 .f32 := dx (X7 m c t) (X8 m c t) (X9 m c t) (X10 m c t) (E m c t)

theorem dx_at : DX m c t (ix2 i j) = gx m c (row t i) j := by
  refine (dx_apply _ _ _ _ _ i j).trans ?_
  unfold gx
  rw [funext fun k => dg_at m c t i k, funext fun k => blk7 m c t i k, blk8 m c t i j]

end

theorem part0 (c : Dev nD) (t : Fin cfg0.N) (j : Fin 1024) :
    (∑ r : Fin 512, (E m c t) (ix2 r j)) = ∑ r : Fin 512, ext (term m c 0 j) (512 * t.val + r.val) :=
  Finset.sum_congr rfl fun r _ => (dh_at m c t r j).trans (ext_of_lt (term m c 0 j) _ (row t r).isLt).symm

theorem part1 (c : Dev nD) (t : Fin cfg0.N) (j : Fin 1024) :
    (∑ r : Fin 512, (E m c t) (ix2 r j) * k0_pay6 (F := Ideal) (X7 m c t) (X9 m c t) (ix2 r j)) = ∑ r : Fin 512, ext (term m c 1 j) (512 * t.val + r.val) :=
  Finset.sum_congr rfl fun r _ => (congrArg₂ (fun a b : EReal => a * b) (dh_at m c t r j) (xg_at m c t r j)).trans (ext_of_lt (term m c 1 j) _ (row t r).isLt).symm

theorem part2 (c : Dev nD) (t : Fin cfg0.N) (j : Fin 1024) :
    (∑ r : Fin 512, k0_pay7 (F := Ideal) (E m c t) (X10 m c t) (ix2 r j) * k0_pay5 (F := Ideal) (X7 m c t) (ix2 r j)) = ∑ r : Fin 512, ext (term m c 2 j) (512 * t.val + r.val) :=
  Finset.sum_congr rfl fun r _ => (congrArg₂ (fun a b : EReal => a * b) (ds_at m c t r j) (xr_at m c t r j)).trans (ext_of_lt (term m c 2 j) _ (row t r).isLt).symm

theorem term_rest (c : Dev nD) (q : Fin 8) (hq : 3 ≤ q.val) (j : Fin 1024) (n : ℕ) : ext (term m c q j) n = 0 := by
  unfold ext
  split
  · unfold term
    rw [if_neg (by omega), if_neg (by omega), if_neg (by omega)]
  · rfl

theorem rows8 (q : Fin 8) : q = 0 ∨ q = 1 ∨ q = 2 ∨ 3 ≤ q.val := by
  revert q
  decide

/-- After each point the sums hold what the tokens read so far add. -/
theorem outs12_eq (c : Dev nD) : ∀ (n : ℕ) (h : n < cfg0.N) (q : Fin 8) (j : Fin 1024),
    (outsAt0 m c n h).2 (ix2 q j) = ∑ k ∈ Finset.range (512 * n + 512), ext (term m c q j) k := by
  intro n
  induction n with
  | zero =>
    intro h q j
    rw [show outsAt0 m c 0 h = _ from outsAt0_A m c ⟨0, h⟩ rfl]
    dsimp only
    rw [range_first]
    rcases rows8 q with rfl | rfl | rfl | hq
    · exact (out_A12_0 ..).trans ((part0 m c ⟨0, h⟩ j).trans (Finset.sum_congr rfl fun k _ => congrArg (ext _) (Nat.zero_add _)))
    · exact (out_A12_1 ..).trans ((part1 m c ⟨0, h⟩ j).trans (Finset.sum_congr rfl fun k _ => congrArg (ext _) (Nat.zero_add _)))
    · exact (out_A12_2 ..).trans ((part2 m c ⟨0, h⟩ j).trans (Finset.sum_congr rfl fun k _ => congrArg (ext _) (Nat.zero_add _)))
    · exact (out_A12_rest (hq := hq) ..).trans (Finset.sum_eq_zero fun k _ => term_rest m c q hq j _).symm
  | succ n ih =>
    intro h q j
    have hn : n + 1 < 16 := lt_of_lt_of_eq h (show cfg0.N = 16 from N_0)
    rw [show outsAt0 m c (n + 1) h = _ from outsAt0_B m c ⟨n + 1, h⟩ (show ¬(n + 1) % 16 = 0 by omega)]
    dsimp only
    rw [range_add, show 512 * (n + 1) = 512 * n + 512 by omega]
    rcases rows8 q with rfl | rfl | rfl | hq
    · exact (out_B12_0 ..).trans (congrArg₂ (fun a b : EReal => a + b) (ih (Nat.lt_of_succ_lt h) 0 j) (part0 m c ⟨n + 1, h⟩ j))
    · exact (out_B12_1 ..).trans (congrArg₂ (fun a b : EReal => a + b) (ih (Nat.lt_of_succ_lt h) 1 j) (part1 m c ⟨n + 1, h⟩ j))
    · exact (out_B12_2 ..).trans (congrArg₂ (fun a b : EReal => a + b) (ih (Nat.lt_of_succ_lt h) 2 j) (part2 m c ⟨n + 1, h⟩ j))
    · refine (out_B12_rest (hq := hq) ..).trans ((ih (Nat.lt_of_succ_lt h) q j).trans ?_)
      exact ((congrArg (fun s : EReal => _ + s) (Finset.sum_eq_zero fun k _ => term_rest m c q hq j _)).trans (add_zero _)).symm

def res11 (c : Dev nD) : FVec Ideal S8192x1024 .f32 := fun y => gx m c (y 0) (y 1)
def res12 (c : Dev nD) : FVec Ideal S8x1024 .f32 := fun y => ∑ i : Fin 8192, term m c (y 0) (y 1) i

theorem outs11_eq (c : Dev nD) (t : Fin cfg0.N) : (outsAt0 m c t.val t.isLt).1 = DX m c t := by
  by_cases h0 : t.val % 16 = 0
  · rw [outsAt0_A m c t h0]; dsimp only; exact out_A11 ..
  · rw [outsAt0_B m c t h0]; dsimp only; exact out_B11 ..

theorem flushed_eq11 (c : Dev nD) (t : Fin cfg0.N) (hf : (cfg0.win 11).flush t = true) :
    (dats m 0 c).flushed 11 t = ((cfg0.win 11).blk t).view.read (Elt Ideal) (res11 m c) := by
  show (cfg0.win 11).cut (grid0.coords t) ((dats m 0 c).after 11 t) = _
  rw [after0_11]
  funext y
  rw [View.read_apply]
  refine Eq.trans (show _ = res11 m c (ix2 (row t (y 0)) (y 1)) from (congrFun (outs11_eq m c t) y).trans ((congrArg (DX m c t) (ValueIdx.eq_ix2 y)).trans (dx_at m c t (y 0) (y 1)))) ?_
  refine congrArg (res11 m c) (funext fun a => Fin.ext ?_)
  match a with
  | ⟨0, _⟩ => show 512 * t.val + (y 0).val = win0_11.index t 0 * 512 + 1 * (y 0).val; rw [(idx11 t).1]; omega
  | ⟨1, _⟩ => show (y 1).val = win0_11.index t 1 * 1024 + 1 * (y 1).val; rw [(idx11 t).2]; omega

theorem cover11 (i : S8192x1024.Idx) : ∃ t : Fin cfg0.N, (cfg0.win 11).flush t = true ∧ i ∈ ((View.whole main_v1_0).slice (win0_11.rect t)).set := by
  have h0 : (i 0 : Nat) < 8192 := (i 0).isLt
  have h1 : (i 1 : Nat) < 1024 := (i 1).isLt
  let t : Fin cfg0.N := ⟨(i 0 : Nat) / 512, by rw [show cfg0.N = 16 from N_0]; omega⟩
  have tv : t.val = (i 0 : Nat) / 512 := rfl
  refine ⟨t, flush11 t, ?_⟩
  rw [View.set_slice_whole, Rect.mem_set_unit]
  intro a
  match a with
  | ⟨0, _⟩ =>
    show win0_11.index t 0 * 512 ≤ (i 0 : Nat) ∧ (i 0 : Nat) < win0_11.index t 0 * 512 + 512
    rw [(idx11 t).1]; omega
  | ⟨1, _⟩ =>
    show win0_11.index t 1 * 1024 ≤ (i 1 : Nat) ∧ (i 1 : Nat) < win0_11.index t 1 * 1024 + 1024
    rw [(idx11 t).2]; omega

/-- The result array after the run. -/
theorem final11 (c : Dev nD) : (dats m 0 c).arrAt 11 cfg0.N = res11 m c :=
  (dats m 0 c).arrAt_eq_of_cover 11 (res11 m c) (flushed_eq11 m c) cover11

theorem flushed_eq12 (c : Dev nD) (t : Fin cfg0.N) (hf : (cfg0.win 12).flush t = true) :
    (dats m 0 c).flushed 12 t = ((cfg0.win 12).blk t).view.read (Elt Ideal) (res12 m c) := by
  have h3 := (flush12 t).mp hf
  rw [Value.flushed12]
  funext y
  rw [View.read_apply]
  refine Eq.trans ((congrArg (outsAt0 m c t.val t.isLt).2 (ValueIdx.eq_ix2 y)).trans (outs12_eq m c t.val t.isLt (y 0) (y 1))) ?_
  rw [h3, show 512 * 15 + 512 = 8192 from rfl, range_all]
  refine congrArg₂ (fun i j => ∑ s : Fin 8192, term m c i j s) (Fin.ext ?_) (Fin.ext ?_)
  · show (y 0).val = win0_12.index t 0 * 8 + 1 * (y 0).val; rw [(idx12 t).1]; omega
  · show (y 1).val = win0_12.index t 1 * 1024 + 1 * (y 1).val; rw [(idx12 t).2]; omega

theorem cover12 (i : S8x1024.Idx) : ∃ t : Fin cfg0.N, (cfg0.win 12).flush t = true ∧ i ∈ ((View.whole main_v1_1).slice (win0_12.rect t)).set := by
  have h0 : (i 0 : Nat) < 8 := (i 0).isLt
  have h1 : (i 1 : Nat) < 1024 := (i 1).isLt
  let t : Fin cfg0.N := ⟨15, by rw [show cfg0.N = 16 from N_0]; omega⟩
  have tv : t.val = 15 := rfl
  refine ⟨t, (flush12 t).mpr rfl, ?_⟩
  rw [View.set_slice_whole, Rect.mem_set_unit]
  intro a
  match a with
  | ⟨0, _⟩ =>
    show win0_12.index t 0 * 8 ≤ (i 0 : Nat) ∧ (i 0 : Nat) < win0_12.index t 0 * 8 + 8
    rw [(idx12 t).1]; omega
  | ⟨1, _⟩ =>
    show win0_12.index t 1 * 1024 ≤ (i 1 : Nat) ∧ (i 1 : Nat) < win0_12.index t 1 * 1024 + 1024
    rw [(idx12 t).2]; omega

/-- The result array after the run. -/
theorem final12 (c : Dev nD) : (dats m 0 c).arrAt 12 cfg0.N = res12 m c :=
  (dats m 0 c).arrAt_eq_of_cover 12 (res12 m c) (flushed_eq12 m c) cover12

end Cert.Kernel10Ideal.InprojBack
end
-- ==== Proof.InprojBackRef.lean ====
/- The gradient through the input projection: the reference's results at an entry, over the reals. The lines of the norm are those of `FfnIn`. -/
module

public import proofs.«01_k».proof.Proof.Gen.Reference10Ideal.Run
public import proofs.«01_k».proof.Proof.Norm
public import proofs.«01_k».proof.Proof.FfnInRef
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value
public import Idealize.ShloMosaic.PureOps.Ideal
public import Idealize.ShloMosaic.PureOps.Ideal.Laws

@[expose] public section

set_option maxRecDepth 16384

noncomputable section

namespace Cert.Reference10Ideal.InprojBack

open Cert.Reference10Ideal Cert.Reference10Ideal.Gen Idealize.ShloMosaic Idealize.ShloMosaic.TcCoe Idealize.SL.Sem
open Idealize.ShloMosaic.ValueIdx
open Cert.Norm
open Cert.Reference5Ideal.FfnIn (ROWS RS dm dg w DX SUM DX_apply SUM_apply row0_apply row1_apply row2_apply)
open scoped BigOperators

/-- A product with a matrix's transpose, read at an entry. -/
theorem nt (A : FVec Ideal S8192x3600 .f32) (B : FVec Ideal S1024x3600 .f32)
    (i : Fin 8192) (j : Fin 1024) :
    Host.dotGeneral dot_S8192x3600_S1024x3600_S8192x1024_1_1_0_0_n_n none A B (ix2 i j) = ∑ r : Fin 3600, A (ix2 i r) * B (ix2 j r) := by
  show FloatOps.dotGeneral _ none _ A B (ix2 i j) = _
  rw [Ideal.dotGeneral_apply, ← Equiv.sum_comp (contrEquiv1 dot_S8192x3600_S1024x3600_S8192x1024_1_1_0_0_n_n 3600 rfl rfl).symm]
  refine Finset.sum_congr rfl fun r _ => ?_
  have hk := contrEquiv1_symm_val dot_S8192x3600_S1024x3600_S8192x1024_1_1_0_0_n_n 3600 rfl rfl r
  have el : dot_S8192x3600_S1024x3600_S8192x1024_1_1_0_0_n_n.lhsIdx (ix2 i j) ((contrEquiv1 dot_S8192x3600_S1024x3600_S8192x1024_1_1_0_0_n_n 3600 rfl rfl).symm r) = ix2 i r := by
    funext a; apply Fin.ext
    match a with
    | ⟨0, _⟩ => rfl
    | ⟨1, _⟩ => exact hk
  have er : dot_S8192x3600_S1024x3600_S8192x1024_1_1_0_0_n_n.rhsIdx (ix2 i j) ((contrEquiv1 dot_S8192x3600_S1024x3600_S8192x1024_1_1_0_0_n_n 3600 rfl rfl).symm r) = ix2 j r := by
    funext a; apply Fin.ext
    match a with
    | ⟨0, _⟩ => rfl
    | ⟨1, _⟩ => exact hk
  rw [el, er]

section
variable (A B C : FVec Ideal S8192x512 .f32) (D : FVec Ideal S8192x1536 .f32) (Z : FVec Ideal S8192x512 .f32) (R : FVec Ideal S8192x128 .f32) (W : FVec Ideal S3600x1024 .bf16) (X P : FVec Ideal S8192x1024 .f32) (G S : FVec Ideal S1x1024 .f32)

/-- The six cotangents side by side; of the last the columns that are not padding. -/
abbrev CAT : FVec Ideal S8192x3600 .f32 := concatenate S8192x3600 1 [⟨S8192x512, A⟩, ⟨S8192x512, B⟩, ⟨S8192x512, C⟩, ⟨S8192x1536, D⟩, ⟨S8192x512, Z⟩, ⟨S8192x16, (extractStridedSlice S8192x16 ![0, 0] R slices_S8192x128_S8192x16_0_0)⟩]
  concatenates_S8192x512_S8192x512_S8192x512_S8192x1536_S8192x512_S8192x16_S8192x3600_d1

theorem cat_apply (i : Fin 8192) (n : Fin 3600) : CAT A B C D Z R (ix2 i n) = pick (fun k => A (ix2 i k)) (fun k => B (ix2 i k)) (fun k => C (ix2 i k)) (fun k => D (ix2 i k)) (fun k => Z (ix2 i k)) (fun k => R (ix2 i k)) n.val := by
  have off : ∀ b : Fin 2, b.cast rfl ≠ (1 : Fin 2) → ∀ {p q : ℕ} (r : Fin p) (r' : Fin q), ((ix2 i r) b).val = ((ix2 i r') (b.cast rfl)).val :=
    fun b hb p q r r' => match b with
    | ⟨0, _⟩ => rfl
    | ⟨1, _⟩ => absurd rfl hb
  have hn := n.isLt
  unfold pick
  split_ifs with h0 h1 h2 h3 h4 h5
  · exact concatenate_apply_piece (t := S8192x3600) 1 _ _ (ix2 i n) 0 (by show 0 < 6; decide) S8192x512 _ rfl rfl 0 rfl (ix2 i (⟨n.val, by omega⟩ : Fin 512)) (fun b hb => off b hb _ _) (show 0 + (n.val) = n.val by omega)
  · exact concatenate_apply_piece (t := S8192x3600) 1 _ _ (ix2 i n) 1 (by show 1 < 6; decide) S8192x512 _ rfl rfl 512 rfl (ix2 i (⟨n.val - 512, by omega⟩ : Fin 512)) (fun b hb => off b hb _ _) (show 512 + (n.val - 512) = n.val by omega)
  · exact concatenate_apply_piece (t := S8192x3600) 1 _ _ (ix2 i n) 2 (by show 2 < 6; decide) S8192x512 _ rfl rfl 1024 rfl (ix2 i (⟨n.val - 1024, by omega⟩ : Fin 512)) (fun b hb => off b hb _ _) (show 1024 + (n.val - 1024) = n.val by omega)
  · exact concatenate_apply_piece (t := S8192x3600) 1 _ _ (ix2 i n) 3 (by show 3 < 6; decide) S8192x1536 _ rfl rfl 1536 rfl (ix2 i (⟨n.val - 1536, by omega⟩ : Fin 1536)) (fun b hb => off b hb _ _) (show 1536 + (n.val - 1536) = n.val by omega)
  · exact concatenate_apply_piece (t := S8192x3600) 1 _ _ (ix2 i n) 4 (by show 4 < 6; decide) S8192x512 _ rfl rfl 3072 rfl (ix2 i (⟨n.val - 3072, by omega⟩ : Fin 512)) (fun b hb => off b hb _ _) (show 3072 + (n.val - 3072) = n.val by omega)
  · exact (concatenate_apply_piece (t := S8192x3600) 1 _ _ (ix2 i n) 5 (by show 5 < 6; decide) S8192x16 _ rfl rfl 3584 rfl (ix2 i (⟨n.val - 3584, by omega⟩ : Fin 16)) (fun b hb => off b hb _ _) (show 3584 + (n.val - 3584) = n.val by omega)).trans
      (slice2_axis1_apply 0 R slices_S8192x128_S8192x16_0_0 i _ ⟨n.val - 3584, h5⟩ (Nat.zero_add _).symm)
  · omega

/-- The cotangent of the modulated rows. -/
abbrev DH : FVec Ideal S8192x1024 .f32 :=
  Host.dotGeneral dot_S8192x3600_S1024x3600_S8192x1024_1_1_0_0_n_n none (CAT A B C D Z R) (transpose S1024x3600 [1, 0] (extf .f32 W bitsLt_bf16_f32) transposes_S3600x1024_S1024x3600_1_0)

def dh (i : Fin 8192) (j : Fin 1024) : EReal := ∑ n : Fin 3600, pick (fun k => A (ix2 i k)) (fun k => B (ix2 i k)) (fun k => C (ix2 i k)) (fun k => D (ix2 i k)) (fun k => Z (ix2 i k)) (fun k => R (ix2 i k)) n.val * W (ix2 n j)

theorem DH_apply (i : Fin 8192) (j : Fin 1024) : DH A B C D Z R W (ix2 i j) = dh A B C D Z R W i j := by
  refine (nt _ _ i j).trans (Finset.sum_congr rfl fun k _ => ?_)
  rw [transpose_apply _ _ _ (ix2 j k) (ix2 k j) (fun a => match a with
    | ⟨0, _⟩ => rfl
    | ⟨1, _⟩ => rfl), cat_apply]
  rfl

/-- The gradient of the rows before the norm, at an entry. -/
def gx (i : Fin 8192) (k : Fin 1024) : EReal :=
  P (ix2 i k) + back (fun k => X (ix2 i k)) (fun k => dh A B C D Z R W i k * (one32 + S (ix2 0 k)) * G (ix2 0 k)) k

theorem res54_apply (i : Fin 8192) (k : Fin 1024) :
    DX P X (DH A B C D Z R W) G S (ix2 i k) = gx A B C D Z R W X P G S i k := by
  refine (DX_apply P X (DH A B C D Z R W) G S i k).trans ?_
  unfold gx
  exact congrArg (fun f => P (ix2 i k) + back (fun k => X (ix2 i k)) f k)
    (funext fun k => congrArg (fun a : EReal => a * (one32 + S (ix2 0 k)) * G (ix2 0 k)) (DH_apply A B C D Z R W i k))

/-- The products that an entry of the sums over tokens adds. -/
def term (q : Fin 8) (j : Fin 1024) (i : Fin 8192) : EReal :=
  if q.val = 0 then dh A B C D Z R W i j else if q.val = 1 then dh A B C D Z R W i j * ((X (ix2 i j) * rstd fun k => X (ix2 i k)) * G (ix2 0 j))
  else if q.val = 2 then dh A B C D Z R W i j * (one32 + S (ix2 0 j)) * (X (ix2 i j) * rstd fun k => X (ix2 i k)) else 0

/-- The second result: the rows of sums, and rows of zeros below. -/
abbrev STATS : FVec Ideal S8x1024 .f32 :=
  concatenate S8x1024 0 [⟨S1x1024, SUM (DH A B C D Z R W)⟩, ⟨S1x1024, SUM (mulf (mulf (mulf X (RS X)) (ROWS G)) (DH A B C D Z R W))⟩,
    ⟨S1x1024, SUM (mulf (mulf X (RS X)) (dm (DH A B C D Z R W) S))⟩,
    ⟨S5x1024, broadcastInDim S5x1024 ![] bcast_S_S5x1024 (constant S_ .f32 0x00000000#32)⟩] concatenates_S1x1024_S1x1024_S1x1024_S5x1024_S8x1024_d0

theorem rows8 (q : Fin 8) : q = 0 ∨ q = 1 ∨ q = 2 ∨ 3 ≤ q.val := by
  revert q
  decide

theorem res56_apply (q : Fin 8) (j : Fin 1024) : STATS A B C D Z R W X G S (ix2 q j) = ∑ i : Fin 8192, term A B C D Z R W X G S q j i := by
  have off : ∀ b : Fin 2, b.cast rfl ≠ (0 : Fin 2) → ∀ {p n : ℕ} (r : Fin p) (r' : Fin n), ((ix2 r j) b).val = ((ix2 r' j) (b.cast rfl)).val :=
    fun b hb p n r r' => match b with
    | ⟨0, _⟩ => absurd rfl hb
    | ⟨1, _⟩ => rfl
  rcases rows8 q with rfl | rfl | rfl | hq
  · refine (concatenate_apply_piece (t := S8x1024) 0 _ _ (ix2 (0 : Fin 8) j) 0 (by show 0 < 4; decide) S1x1024 _ rfl rfl 0 rfl (ix2 (0 : Fin 1) j) (fun b hb => off b hb _ _) rfl).trans ?_
    exact (row0_apply _ j).trans (Finset.sum_congr rfl fun i _ => DH_apply A B C D Z R W i j)
  · refine (concatenate_apply_piece (t := S8x1024) 0 _ _ (ix2 (1 : Fin 8) j) 1 (by show 1 < 4; decide) S1x1024 _ rfl rfl 1 rfl (ix2 (0 : Fin 1) j) (fun b hb => off b hb _ _) rfl).trans ?_
    exact (row1_apply _ _ _ j).trans (Finset.sum_congr rfl fun i _ => congrArg (fun a : EReal => a * _) (DH_apply A B C D Z R W i j))
  · refine (concatenate_apply_piece (t := S8x1024) 0 _ _ (ix2 (2 : Fin 8) j) 2 (by show 2 < 4; decide) S1x1024 _ rfl rfl 2 rfl (ix2 (0 : Fin 1) j) (fun b hb => off b hb _ _) rfl).trans ?_
    exact (row2_apply _ _ _ j).trans (Finset.sum_congr rfl fun i _ => congrArg (fun a : EReal => a * _ * _) (DH_apply A B C D Z R W i j))
  · refine (concatenate_apply_piece (t := S8x1024) 0 _ _ (ix2 q j) 3 (by show 3 < 4; decide) S5x1024 _ rfl rfl 3 rfl (ix2 (⟨q.val - 3, by omega⟩ : Fin 5) j) (fun b hb => off b hb _ _)
      (show 3 + (q.val - 3) = q.val by omega)).trans ?_
    refine Eq.trans (show _ = (0 : EReal) from Ideal.ofBits_zero_f32) (Finset.sum_eq_zero fun i _ => ?_).symm
    unfold term
    rw [if_neg (by omega), if_neg (by omega), if_neg (by omega)]

end

section
variable (m : (ℓ : Loc nD τ sig) → Buf (Elt Ideal) ℓ) (c : Dev nD)

theorem v54_eq : Value.res_main_v54 m c = DX (m ((c.tc : Thread nD τ).loc main_arg8)) (m ((c.tc : Thread nD τ).loc main_arg7)) (DH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)) := rfl

theorem v56_eq : Value.res_main_v56 m c = STATS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) := rfl

end

end Cert.Reference10Ideal.InprojBack
end
-- ==== Proof.WgradAttnKernel.lean ====
/- The gradient of the input weights' attention rows: the kernel's result at an entry, over the reals. -/
module

public import proofs.«01_k».proof.Proof.Gen.Kernel8Ideal.Value
public import proofs.«01_k».proof.Proof.BlockSums
public import Idealize.ShloMosaic.Lib.WritesUnit
public import Idealize.ShloMosaic.Lib.ValueIdx
public import Idealize.ShloMosaic.Lib.ValueLayout
public import Idealize.ShloMosaic.Lib.KernelVsHost
public import Idealize.ShloMosaic.PureOps.Ideal
public import Idealize.ShloMosaic.PureOps.Ideal.Laws
public import Idealize.ShloMosaic.Lib.Tactic

@[expose] public section

set_option maxRecDepth 16384

noncomputable section

namespace Cert.Kernel8Ideal.WgradAttn

open Cert.Kernel8Ideal Cert.Kernel8Ideal.Gen Idealize.ShloMosaic Idealize.ShloMosaic.TcCoe Idealize.SL.Sem
open Idealize.ShloMosaic.ValueIdx
open Cert.Sums
open scoped BigOperators

variable (m : (ℓ : Loc nD τ sig) → Buf (Elt Ideal) ℓ)

theorem hz : (![0, 0] : Fin 2 → Nat) = fun _ => 0 := funext fun a => by fin_cases a <;> rfl

/-- A product of a matrix's transpose with another, read at an entry. -/
theorem tn {φ₁ φ₂ : FTy} (A : FVec Ideal S1024x512 φ₁) (B : FVec Ideal S1024x1024 φ₂) (acc : FVec Ideal S512x1024 .f32)
    (i : Fin 512) (j : Fin 1024) :
    matmul dot_S1024x512_S1024x1024_S512x1024_0_0_1_1_n_n none A B acc (ix2 i j) = acc (ix2 i j) + ∑ r : Fin 1024, A (ix2 r i) * B (ix2 r j) := by
  show FloatOps.matmul _ none A B acc (ix2 i j) = _
  rw [Ideal.matmul_apply, ← Equiv.sum_comp (contrEquiv1 dot_S1024x512_S1024x1024_S512x1024_0_0_1_1_n_n 1024 rfl rfl).symm]
  refine congrArg (acc (ix2 i j) + ·) (Finset.sum_congr rfl fun r _ => ?_)
  have hk := contrEquiv1_symm_val dot_S1024x512_S1024x1024_S512x1024_0_0_1_1_n_n 1024 rfl rfl r
  have el : dot_S1024x512_S1024x1024_S512x1024_0_0_1_1_n_n.lhsIdx (ix2 i j) ((contrEquiv1 dot_S1024x512_S1024x1024_S512x1024_0_0_1_1_n_n 1024 rfl rfl).symm r) = ix2 r i := by
    funext a; apply Fin.ext
    match a with
    | ⟨0, _⟩ => exact hk
    | ⟨1, _⟩ => rfl
  have er : dot_S1024x512_S1024x1024_S512x1024_0_0_1_1_n_n.rhsIdx (ix2 i j) ((contrEquiv1 dot_S1024x512_S1024x1024_S512x1024_0_0_1_1_n_n 1024 rfl rfl).symm r) = ix2 r j := by
    funext a; apply Fin.ext
    match a with
    | ⟨0, _⟩ => exact hk
    | ⟨1, _⟩ => rfl
  rw [el, er]

theorem z512 (i : S512x1024.Idx) : (constant S512x1024 .f32 0x00000000#32 : FVec Ideal S512x1024 .f32) i = 0 := Ideal.ofBits_zero_f32

theorem pay1_apply (y : S1536x1024.Idx) : (k0_pay1 (F := Ideal)) y = 0 := Ideal.ofBits_zero_f32

section
variable (x3 : Vec Ideal S1024x1024 .bf16) (z : Vec Ideal S512x1024 .f32) (x : Vec Ideal S1024x512 .f32) (r : Fin 512) (j : Fin 1024)

theorem pay2_apply : k0_pay2 x3 z x (ix2 r j) = z (ix2 r j) + ∑ k : Fin 1024, x (ix2 k r) * x3 (ix2 k j) := by
  unfold k0_pay2
  rw [addf_apply, shapeCast_self]
  refine congrArg (fun s : EReal => z (ix2 r j) + s) ((tn (truncf .bf16 x bitsLt_bf16_f32) x3 _ r j).trans ?_)
  rw [z512, zero_add]
  rfl

theorem pay3_apply : k0_pay3 x3 z x (ix2 r j) = z (ix2 r j) + ∑ k : Fin 1024, x (ix2 k r) * x3 (ix2 k j) := by
  unfold k0_pay3
  rw [addf_apply, shapeCast_self]
  refine congrArg (fun s : EReal => z (ix2 r j) + s) ((tn (truncf .bf16 x bitsLt_bf16_f32) x3 _ r j).trans ?_)
  rw [z512, zero_add]
  rfl

theorem pay4_apply : k0_pay4 x3 z x (ix2 r j) = z (ix2 r j) + ∑ k : Fin 1024, x (ix2 k r) * x3 (ix2 k j) := by
  unfold k0_pay4
  rw [addf_apply, shapeCast_self]
  refine congrArg (fun s : EReal => z (ix2 r j) + s) ((tn (truncf .bf16 x bitsLt_bf16_f32) x3 _ r j).trans ?_)
  rw [z512, zero_add]
  rfl

end

/-- Row `r` of a third of the result. -/
def third (q : Fin 3) (r : Fin 512) : Fin 1536 := ⟨512 * q.val + r.val, by omega⟩

section
variable (c : Dev nD) (i : grid0.Coords) (a1 : Memref sig .tc .vmem S1024x512 .f32) (h1 : a1.IsWhole) (a2 : Memref sig .tc .vmem S1024x512 .f32) (h2 : a2.IsWhole) (a3 : Memref sig .tc .vmem S1024x512 .f32) (h3 : a3.IsWhole) (a4 : Memref sig .tc .vmem S1024x1024 .bf16) (h4 : a4.IsWhole) (a5 : Memref sig .tc .vmem S1536x1024 .f32) (h5 : a5.IsWhole)
    (x0 x1 x2 : Vec Ideal S1024x512 .f32) (x3 : Vec Ideal S1024x1024 .bf16) (xo : Vec Ideal S1536x1024 .f32)

theorem out_B_0 (hc : ¬cond0_0 i) (r : Fin 512) (j : Fin 1024) :
    out0_B_4 c i a1 h1 a2 h2 a3 h3 a4 h4 a5 h5 hc x0 x1 x2 x3 xo (ix2 (third 0 r) j) = xo (ix2 (third 0 r) j) + ∑ k : Fin 1024, x0 (ix2 k r) * x3 (ix2 k j) := by
  unfold out0_B_4 kernelRun0_B
  dsimp only
  sl_unfold_words
  simp only [View.readAt_eq_ld, h1.read_unread, h2.read_unread, h3.read_unread, h4.read_unread, h5.read_unread, View.ld_unit_zero (S := S1024x512) hz, View.ld_unit_zero (S := S1024x1024) hz]
  rw [View.read_writes_cons_rows_of_not_mem (o := 1024) (W := 512) _ _ _ _ _ (ix2 (third 0 r) j) rfl rfl (.inl (show 512 * 0 + r.val < 1024 by omega))]
  rw [View.read_writes_cons_rows_of_not_mem (o := 512) (W := 512) _ _ _ _ _ (ix2 (third 0 r) j) rfl rfl (.inl (show 512 * 0 + r.val < 512 by omega))]
  refine (View.read_writes_cons_rows_of_mem (o := 0) _ _ _ _ _ (ix2 (third 0 r) j) (ix2 r j) rfl (show 512 * 0 + r.val = 0 + r.val by omega) rfl).trans ?_
  rw [pay2_apply]
  refine congrArg (fun s : EReal => s + _) (congrArg xo (funext fun a => Fin.ext ?_))
  match a with
  | ⟨0, _⟩ => show 0 + 1 * r.val = 512 * 0 + r.val; omega
  | ⟨1, _⟩ => show 0 + 1 * j.val = j.val; omega

theorem out_B_1 (hc : ¬cond0_0 i) (r : Fin 512) (j : Fin 1024) :
    out0_B_4 c i a1 h1 a2 h2 a3 h3 a4 h4 a5 h5 hc x0 x1 x2 x3 xo (ix2 (third 1 r) j) = xo (ix2 (third 1 r) j) + ∑ k : Fin 1024, x1 (ix2 k r) * x3 (ix2 k j) := by
  unfold out0_B_4 kernelRun0_B
  dsimp only
  sl_unfold_words
  simp only [View.readAt_eq_ld, h1.read_unread, h2.read_unread, h3.read_unread, h4.read_unread, h5.read_unread, View.ld_unit_zero (S := S1024x512) hz, View.ld_unit_zero (S := S1024x1024) hz]
  rw [View.read_writes_cons_rows_of_not_mem (o := 1024) (W := 512) _ _ _ _ _ (ix2 (third 1 r) j) rfl rfl (.inl (show 512 * 1 + r.val < 1024 by omega))]
  refine (View.read_writes_cons_rows_of_mem (o := 512) _ _ _ _ _ (ix2 (third 1 r) j) (ix2 r j) rfl (show 512 * 1 + r.val = 512 + r.val by omega) rfl).trans ?_
  rw [pay3_apply]
  refine congrArg (fun s : EReal => s + _) (congrArg xo (funext fun a => Fin.ext ?_))
  match a with
  | ⟨0, _⟩ => show 512 + 1 * r.val = 512 * 1 + r.val; omega
  | ⟨1, _⟩ => show 0 + 1 * j.val = j.val; omega

theorem out_B_2 (hc : ¬cond0_0 i) (r : Fin 512) (j : Fin 1024) :
    out0_B_4 c i a1 h1 a2 h2 a3 h3 a4 h4 a5 h5 hc x0 x1 x2 x3 xo (ix2 (third 2 r) j) = xo (ix2 (third 2 r) j) + ∑ k : Fin 1024, x2 (ix2 k r) * x3 (ix2 k j) := by
  unfold out0_B_4 kernelRun0_B
  dsimp only
  sl_unfold_words
  simp only [View.readAt_eq_ld, h1.read_unread, h2.read_unread, h3.read_unread, h4.read_unread, h5.read_unread, View.ld_unit_zero (S := S1024x512) hz, View.ld_unit_zero (S := S1024x1024) hz]
  refine (View.read_writes_cons_rows_of_mem (o := 1024) _ _ _ _ _ (ix2 (third 2 r) j) (ix2 r j) rfl (show 512 * 2 + r.val = 1024 + r.val by omega) rfl).trans ?_
  rw [pay4_apply]
  refine congrArg (fun s : EReal => s + _) (congrArg xo (funext fun a => Fin.ext ?_))
  match a with
  | ⟨0, _⟩ => show 1024 + 1 * r.val = 512 * 2 + r.val; omega
  | ⟨1, _⟩ => show 0 + 1 * j.val = j.val; omega

/-- What the first point's loads find in the buffer that it has just cleared. -/
theorem cleared (y : S1536x1024.Idx) : a5.view.read (Elt Ideal) (a5.view.writes (Elt Ideal) a5.view.junk [⟨Rect.unit ![0, 0] ![1536, 1024] inb_S1536x1024_S1536x1024_0_0, k0_pay1 (F := Ideal)⟩]) y = 0 :=
  (View.read_writes_cons_rows_of_mem (o := 0) _ _ _ _ _ y y rfl (Nat.zero_add _).symm rfl).trans (pay1_apply y)

theorem kept0 (r : Fin 512) (j : Fin 1024) :
    a5.view.readCov (Val := Elt Ideal) [⟨Rect.unit ![0, 0] ![1536, 1024] inb_S1536x1024_S1536x1024_0_0, k0_pay1 (F := Ideal)⟩]
      (Rect.unit (s := S1536x1024) ![0, 0] S512x1024.size inb_S1536x1024_S512x1024_0_0).toLoadRect (ix2 r j) = 0 := by
  show a5.view.read (Elt Ideal) (a5.view.writes (Elt Ideal) a5.view.junk _) ((Rect.unit (s := S1536x1024) ![0, 0] S512x1024.size inb_S1536x1024_S512x1024_0_0).toLoadRect.idx (ix2 r j)) = 0
  exact cleared a5 _

theorem kept1 (w0 : Vec Ideal S512x1024 .f32) (r : Fin 512) (j : Fin 1024) :
    a5.view.readCov (Val := Elt Ideal) [⟨Rect.unit ![0, 0] ![512, 1024] inb_S1536x1024_S512x1024_0_0, w0⟩, ⟨Rect.unit ![0, 0] ![1536, 1024] inb_S1536x1024_S1536x1024_0_0, k0_pay1 (F := Ideal)⟩]
      (Rect.unit (s := S1536x1024) ![512, 0] S512x1024.size inb_S1536x1024_S512x1024_512_0).toLoadRect (ix2 r j) = 0 := by
  show a5.view.read (Elt Ideal) (a5.view.writes (Elt Ideal) a5.view.junk _) ((Rect.unit (s := S1536x1024) ![512, 0] S512x1024.size inb_S1536x1024_S512x1024_512_0).toLoadRect.idx (ix2 r j)) = 0
  rw [View.read_writes_cons_rows_of_not_mem (o := 0) (W := 512) _ _ _ _ _ _ rfl rfl (.inr (show 0 + 512 ≤ 512 + 1 * r.val by omega))]
  exact cleared a5 _

theorem kept2 (w0 w1 : Vec Ideal S512x1024 .f32) (r : Fin 512) (j : Fin 1024) :
    a5.view.readCov (Val := Elt Ideal) [⟨Rect.unit ![512, 0] ![512, 1024] inb_S1536x1024_S512x1024_512_0, w1⟩, ⟨Rect.unit ![0, 0] ![512, 1024] inb_S1536x1024_S512x1024_0_0, w0⟩, ⟨Rect.unit ![0, 0] ![1536, 1024] inb_S1536x1024_S1536x1024_0_0, k0_pay1 (F := Ideal)⟩]
      (Rect.unit (s := S1536x1024) ![1024, 0] S512x1024.size inb_S1536x1024_S512x1024_1024_0).toLoadRect (ix2 r j) = 0 := by
  show a5.view.read (Elt Ideal) (a5.view.writes (Elt Ideal) a5.view.junk _) ((Rect.unit (s := S1536x1024) ![1024, 0] S512x1024.size inb_S1536x1024_S512x1024_1024_0).toLoadRect.idx (ix2 r j)) = 0
  rw [View.read_writes_cons_rows_of_not_mem (o := 512) (W := 512) _ _ _ _ _ _ rfl rfl (.inr (show 512 + 512 ≤ 1024 + 1 * r.val by omega))]
  rw [View.read_writes_cons_rows_of_not_mem (o := 0) (W := 512) _ _ _ _ _ _ rfl rfl (.inr (show 0 + 512 ≤ 1024 + 1 * r.val by omega))]
  exact cleared a5 _

theorem out_A_0 (hc : cond0_0 i) (r : Fin 512) (j : Fin 1024) :
    out0_A_4 c i a1 h1 a2 h2 a3 h3 a4 h4 a5 h5 hc x0 x1 x2 x3 (ix2 (third 0 r) j) = ∑ k : Fin 1024, x0 (ix2 k r) * x3 (ix2 k j) := by
  unfold out0_A_4 kernelRun0_A
  dsimp only
  sl_unfold_words
  simp only [View.readAt_eq_ld, h1.read_unread, h2.read_unread, h3.read_unread, h4.read_unread, View.ld_unit_zero (S := S1024x512) hz, View.ld_unit_zero (S := S1024x1024) hz]
  rw [View.read_writes_cons_rows_of_not_mem (o := 1024) (W := 512) _ _ _ _ _ (ix2 (third 0 r) j) rfl rfl (.inl (show 512 * 0 + r.val < 1024 by omega))]
  rw [View.read_writes_cons_rows_of_not_mem (o := 512) (W := 512) _ _ _ _ _ (ix2 (third 0 r) j) rfl rfl (.inl (show 512 * 0 + r.val < 512 by omega))]
  refine (View.read_writes_cons_rows_of_mem (o := 0) _ _ _ _ _ (ix2 (third 0 r) j) (ix2 r j) rfl (show 512 * 0 + r.val = 0 + r.val by omega) rfl).trans ?_
  rw [pay2_apply]
  exact (congrArg (fun s : EReal => s + _) (kept0 a5 r j)).trans (zero_add _)

theorem out_A_1 (hc : cond0_0 i) (r : Fin 512) (j : Fin 1024) :
    out0_A_4 c i a1 h1 a2 h2 a3 h3 a4 h4 a5 h5 hc x0 x1 x2 x3 (ix2 (third 1 r) j) = ∑ k : Fin 1024, x1 (ix2 k r) * x3 (ix2 k j) := by
  unfold out0_A_4 kernelRun0_A
  dsimp only
  sl_unfold_words
  simp only [View.readAt_eq_ld, h1.read_unread, h2.read_unread, h3.read_unread, h4.read_unread, View.ld_unit_zero (S := S1024x512) hz, View.ld_unit_zero (S := S1024x1024) hz]
  rw [View.read_writes_cons_rows_of_not_mem (o := 1024) (W := 512) _ _ _ _ _ (ix2 (third 1 r) j) rfl rfl (.inl (show 512 * 1 + r.val < 1024 by omega))]
  refine (View.read_writes_cons_rows_of_mem (o := 512) _ _ _ _ _ (ix2 (third 1 r) j) (ix2 r j) rfl (show 512 * 1 + r.val = 512 + r.val by omega) rfl).trans ?_
  rw [pay3_apply]
  exact (congrArg (fun s : EReal => s + _) (kept1 a5 _ r j)).trans (zero_add _)

theorem out_A_2 (hc : cond0_0 i) (r : Fin 512) (j : Fin 1024) :
    out0_A_4 c i a1 h1 a2 h2 a3 h3 a4 h4 a5 h5 hc x0 x1 x2 x3 (ix2 (third 2 r) j) = ∑ k : Fin 1024, x2 (ix2 k r) * x3 (ix2 k j) := by
  unfold out0_A_4 kernelRun0_A
  dsimp only
  sl_unfold_words
  simp only [View.readAt_eq_ld, h1.read_unread, h2.read_unread, h3.read_unread, h4.read_unread, View.ld_unit_zero (S := S1024x512) hz, View.ld_unit_zero (S := S1024x1024) hz]
  refine (View.read_writes_cons_rows_of_mem (o := 1024) _ _ _ _ _ (ix2 (third 2 r) j) (ix2 r j) rfl (show 512 * 2 + r.val = 1024 + r.val by omega) rfl).trans ?_
  rw [pay4_apply]
  exact (congrArg (fun s : EReal => s + _) (kept2 a5 _ _ r j)).trans (zero_add _)

end

/-- The arguments' arrays. -/
abbrev A0 (c : Dev nD) : FVec Ideal S8192x512 .f32 := m ((c : Thread nD τ).loc main_arg0)
abbrev A1 (c : Dev nD) : FVec Ideal S8192x512 .f32 := m ((c : Thread nD τ).loc main_arg1)
abbrev A2 (c : Dev nD) : FVec Ideal S8192x512 .f32 := m ((c : Thread nD τ).loc main_arg2)
abbrev A3 (c : Dev nD) : FVec Ideal S8192x1024 .bf16 := m ((c : Thread nD τ).loc main_arg3)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem flush4 : ∀ t : Fin cfg0.N, (cfg0.win 4).flush t = true ↔ t.val = 7 :=
  (by decide +kernel : ∀ t : Fin grid0.N, win0_4.flush t = true ↔ t.val = 7)

/-- The blocks that a point reads. -/
abbrev X0 (c : Dev nD) (t : Fin cfg0.N) : FVec Ideal S1024x512 .f32 := iblk m c 0 t
abbrev X1 (c : Dev nD) (t : Fin cfg0.N) : FVec Ideal S1024x512 .f32 := iblk m c 1 t
abbrev X2 (c : Dev nD) (t : Fin cfg0.N) : FVec Ideal S1024x512 .f32 := iblk m c 2 t
abbrev X3 (c : Dev nD) (t : Fin cfg0.N) : FVec Ideal S1024x1024 .bf16 := iblk m c 3 t

/-- Row `i` of a point's block, in the whole array. -/
def row (t : Fin cfg0.N) (i : Fin 1024) : Fin 8192 :=
  ⟨1024 * (t.val) + i.val, by have ht : t.val < 8 := lt_of_lt_of_eq t.isLt (show cfg0.N = 8 from N_0); omega⟩

theorem blk0 (c : Dev nD) (t : Fin cfg0.N) (a : Fin 1024) (b : Fin 512) : X0 m c t (ix2 a b) = A0 m c (ix2 (row t a) b) := by
  show iblk m c 0 t (ix2 a b) = _
  unfold iblk
  rw [View.read_apply]
  refine (congrArg (V m c main_arg0) (funext fun z => Fin.ext ?_)).trans (congrFun (V_main_arg0 m c) _)
  match z with
  | ⟨0, _⟩ => show win0_0.index t 0 * 1024 + 1 * a.val = 1024 * t.val + a.val; rw [(idx0 t).1]; omega
  | ⟨1, _⟩ => show win0_0.index t 1 * 512 + 1 * b.val = b.val; rw [(idx0 t).2]; omega

theorem blk1 (c : Dev nD) (t : Fin cfg0.N) (a : Fin 1024) (b : Fin 512) : X1 m c t (ix2 a b) = A1 m c (ix2 (row t a) b) := by
  show iblk m c 1 t (ix2 a b) = _
  unfold iblk
  rw [View.read_apply]
  refine (congrArg (V m c main_arg1) (funext fun z => Fin.ext ?_)).trans (congrFun (V_main_arg1 m c) _)
  match z with
  | ⟨0, _⟩ => show win0_1.index t 0 * 1024 + 1 * a.val = 1024 * t.val + a.val; rw [(idx1 t).1]; omega
  | ⟨1, _⟩ => show win0_1.index t 1 * 512 + 1 * b.val = b.val; rw [(idx1 t).2]; omega

theorem blk2 (c : Dev nD) (t : Fin cfg0.N) (a : Fin 1024) (b : Fin 512) : X2 m c t (ix2 a b) = A2 m c (ix2 (row t a) b) := by
  show iblk m c 2 t (ix2 a b) = _
  unfold iblk
  rw [View.read_apply]
  refine (congrArg (V m c main_arg2) (funext fun z => Fin.ext ?_)).trans (congrFun (V_main_arg2 m c) _)
  match z with
  | ⟨0, _⟩ => show win0_2.index t 0 * 1024 + 1 * a.val = 1024 * t.val + a.val; rw [(idx2 t).1]; omega
  | ⟨1, _⟩ => show win0_2.index t 1 * 512 + 1 * b.val = b.val; rw [(idx2 t).2]; omega

theorem blk3 (c : Dev nD) (t : Fin cfg0.N) (a : Fin 1024) (b : Fin 1024) : X3 m c t (ix2 a b) = A3 m c (ix2 (row t a) b) := by
  show iblk m c 3 t (ix2 a b) = _
  unfold iblk
  rw [View.read_apply]
  refine (congrArg (V m c main_arg3) (funext fun z => Fin.ext ?_)).trans (congrFun (V_main_arg3 m c) _)
  match z with
  | ⟨0, _⟩ => show win0_3.index t 0 * 1024 + 1 * a.val = 1024 * t.val + a.val; rw [(idx3 t).1]; omega
  | ⟨1, _⟩ => show win0_3.index t 1 * 1024 + 1 * b.val = b.val; rw [(idx3 t).2]; omega

/-- A token's three cotangents side by side. -/
def C (c : Dev nD) (s : Fin 8192) (i : Fin 1536) : EReal :=
  if h : i.val < 512 then A0 m c (ix2 s ⟨i.val, h⟩) else if h : i.val - 512 < 512 then A1 m c (ix2 s ⟨i.val - 512, h⟩)
  else A2 m c (ix2 s ⟨i.val - 1024, by omega⟩)

theorem C_0 (c : Dev nD) (s : Fin 8192) (r : Fin 512) : C m c s (third 0 r) = A0 m c (ix2 s r) := by
  unfold C
  rw [dif_pos (show (third 0 r).val < 512 by show 512 * 0 + r.val < 512; omega)]
  exact congrArg (A0 m c) (congrArg (ix2 s) (Fin.ext (show 512 * 0 + r.val = r.val by omega)))

theorem C_1 (c : Dev nD) (s : Fin 8192) (r : Fin 512) : C m c s (third 1 r) = A1 m c (ix2 s r) := by
  unfold C
  rw [dif_neg (show ¬ (third 1 r).val < 512 by show ¬ 512 * 1 + r.val < 512; omega), dif_pos (show (third 1 r).val - 512 < 512 by show 512 * 1 + r.val - 512 < 512; omega)]
  exact congrArg (A1 m c) (congrArg (ix2 s) (Fin.ext (show 512 * 1 + r.val - 512 = r.val by omega)))

theorem C_2 (c : Dev nD) (s : Fin 8192) (r : Fin 512) : C m c s (third 2 r) = A2 m c (ix2 s r) := by
  unfold C
  rw [dif_neg (show ¬ (third 2 r).val < 512 by show ¬ 512 * 2 + r.val < 512; omega), dif_neg (show ¬ (third 2 r).val - 512 < 512 by show ¬ 512 * 2 + r.val - 512 < 512; omega)]
  exact congrArg (A2 m c) (congrArg (ix2 s) (Fin.ext (show 512 * 2 + r.val - 1024 = r.val by omega)))

theorem thirds (i : Fin 1536) : (∃ r, i = third 0 r) ∨ (∃ r, i = third 1 r) ∨ ∃ r, i = third 2 r := by
  by_cases h0 : i.val < 512
  · exact .inl ⟨⟨i.val, h0⟩, Fin.ext (show i.val = 512 * 0 + i.val by omega)⟩
  by_cases h1 : i.val < 1024
  · exact .inr (.inl ⟨⟨i.val - 512, by omega⟩, Fin.ext (show i.val = 512 * 1 + (i.val - 512) by omega)⟩)
  · exact .inr (.inr ⟨⟨i.val - 1024, by omega⟩, Fin.ext (show i.val = 512 * 2 + (i.val - 1024) by omega)⟩)

/-- The products that an entry of the result sums, by token. -/
abbrev term (c : Dev nD) (i : Fin 1536) (j : Fin 1024) (s : Fin 8192) : EReal := C m c s i * A3 m c (ix2 s j)

theorem part0 (c : Dev nD) (t : Fin cfg0.N) (r : Fin 512) (j : Fin 1024) :
    (∑ k : Fin 1024, X0 m c t (ix2 k r) * X3 m c t (ix2 k j)) = ∑ k : Fin 1024, ext (term m c (third 0 r) j) (1024 * t.val + k.val) :=
  Finset.sum_congr rfl fun k _ => (congrArg₂ (fun a b : EReal => a * b) ((blk0 m c t k r).trans (C_0 m c _ r).symm) (blk3 m c t k j)).trans
    (ext_of_lt (term m c (third 0 r) j) _ (row t k).isLt).symm

theorem part1 (c : Dev nD) (t : Fin cfg0.N) (r : Fin 512) (j : Fin 1024) :
    (∑ k : Fin 1024, X1 m c t (ix2 k r) * X3 m c t (ix2 k j)) = ∑ k : Fin 1024, ext (term m c (third 1 r) j) (1024 * t.val + k.val) :=
  Finset.sum_congr rfl fun k _ => (congrArg₂ (fun a b : EReal => a * b) ((blk1 m c t k r).trans (C_1 m c _ r).symm) (blk3 m c t k j)).trans
    (ext_of_lt (term m c (third 1 r) j) _ (row t k).isLt).symm

theorem part2 (c : Dev nD) (t : Fin cfg0.N) (r : Fin 512) (j : Fin 1024) :
    (∑ k : Fin 1024, X2 m c t (ix2 k r) * X3 m c t (ix2 k j)) = ∑ k : Fin 1024, ext (term m c (third 2 r) j) (1024 * t.val + k.val) :=
  Finset.sum_congr rfl fun k _ => (congrArg₂ (fun a b : EReal => a * b) ((blk2 m c t k r).trans (C_2 m c _ r).symm) (blk3 m c t k j)).trans
    (ext_of_lt (term m c (third 2 r) j) _ (row t k).isLt).symm

/-- After each point the result holds the sum over the tokens read so far. -/
theorem outs_eq (c : Dev nD) : ∀ (n : ℕ) (h : n < cfg0.N) (i : Fin 1536) (j : Fin 1024),
    outsAt0 m c n h (ix2 i j) = ∑ k ∈ Finset.range (1024 * n + 1024), ext (term m c i j) k := by
  intro n
  induction n with
  | zero =>
    intro h i j
    rw [show outsAt0 m c 0 h = _ from outsAt0_A m c ⟨0, h⟩ rfl, range_first]
    rcases thirds i with ⟨r, rfl⟩ | ⟨r, rfl⟩ | ⟨r, rfl⟩
    · exact (out_A_0 ..).trans ((part0 m c ⟨0, h⟩ r j).trans (Finset.sum_congr rfl fun k _ => congrArg (ext _) (Nat.zero_add _)))
    · exact (out_A_1 ..).trans ((part1 m c ⟨0, h⟩ r j).trans (Finset.sum_congr rfl fun k _ => congrArg (ext _) (Nat.zero_add _)))
    · exact (out_A_2 ..).trans ((part2 m c ⟨0, h⟩ r j).trans (Finset.sum_congr rfl fun k _ => congrArg (ext _) (Nat.zero_add _)))
  | succ n ih =>
    intro h i j
    have hn : n + 1 < 8 := lt_of_lt_of_eq h (show cfg0.N = 8 from N_0)
    rw [show outsAt0 m c (n + 1) h = _ from outsAt0_B m c ⟨n + 1, h⟩ (show ¬(n + 1) % 8 = 0 by omega)]
    rw [range_add, show 1024 * (n + 1) = 1024 * n + 1024 by omega]
    rcases thirds i with ⟨r, rfl⟩ | ⟨r, rfl⟩ | ⟨r, rfl⟩
    · exact (out_B_0 ..).trans (congrArg₂ (fun a b : EReal => a + b) (ih (Nat.lt_of_succ_lt h) (third 0 r) j) (part0 m c ⟨n + 1, h⟩ r j))
    · exact (out_B_1 ..).trans (congrArg₂ (fun a b : EReal => a + b) (ih (Nat.lt_of_succ_lt h) (third 1 r) j) (part1 m c ⟨n + 1, h⟩ r j))
    · exact (out_B_2 ..).trans (congrArg₂ (fun a b : EReal => a + b) (ih (Nat.lt_of_succ_lt h) (third 2 r) j) (part2 m c ⟨n + 1, h⟩ r j))

def res4 (c : Dev nD) : FVec Ideal S1536x1024 .f32 := fun y => ∑ s : Fin 8192, term m c (y 0) (y 1) s

theorem flushed_eq4 (c : Dev nD) (t : Fin cfg0.N) (hf : (cfg0.win 4).flush t = true) :
    (dats m 0 c).flushed 4 t = ((cfg0.win 4).blk t).view.read (Elt Ideal) (res4 m c) := by
  have h3 := (flush4 t).mp hf
  rw [Value.flushed4]
  funext y
  rw [View.read_apply]
  refine Eq.trans ((congrArg (outsAt0 m c t.val t.isLt) (ValueIdx.eq_ix2 y)).trans (outs_eq m c t.val t.isLt (y 0) (y 1))) ?_
  rw [h3, show 1024 * 7 + 1024 = 8192 from rfl, range_all]
  refine congrArg₂ (fun i j => ∑ s : Fin 8192, term m c i j s) (Fin.ext ?_) (Fin.ext ?_)
  · show (y 0).val = win0_4.index t 0 * 1536 + 1 * (y 0).val; rw [(idx4 t).1]; omega
  · show (y 1).val = win0_4.index t 1 * 1024 + 1 * (y 1).val; rw [(idx4 t).2]; omega

theorem cover4 (i : S1536x1024.Idx) : ∃ t : Fin cfg0.N, (cfg0.win 4).flush t = true ∧ i ∈ ((View.whole main_v0).slice (win0_4.rect t)).set := by
  have h0 : (i 0 : Nat) < 1536 := (i 0).isLt
  have h1 : (i 1 : Nat) < 1024 := (i 1).isLt
  let t : Fin cfg0.N := ⟨7, by rw [show cfg0.N = 8 from N_0]; omega⟩
  have tv : t.val = 7 := rfl
  refine ⟨t, (flush4 t).mpr rfl, ?_⟩
  rw [View.set_slice_whole, Rect.mem_set_unit]
  intro a
  match a with
  | ⟨0, _⟩ =>
    show win0_4.index t 0 * 1536 ≤ (i 0 : Nat) ∧ (i 0 : Nat) < win0_4.index t 0 * 1536 + 1536
    rw [(idx4 t).1]; omega
  | ⟨1, _⟩ =>
    show win0_4.index t 1 * 1024 ≤ (i 1 : Nat) ∧ (i 1 : Nat) < win0_4.index t 1 * 1024 + 1024
    rw [(idx4 t).2]; omega

/-- The result array after the run. -/
theorem final4 (c : Dev nD) : (dats m 0 c).arrAt 4 cfg0.N = res4 m c :=
  (dats m 0 c).arrAt_eq_of_cover 4 (res4 m c) (flushed_eq4 m c) cover4

end Cert.Kernel8Ideal.WgradAttn
end
-- ==== Proof.WgradAttnRef.lean ====
/- The gradient of the input weights' attention rows: the reference's result at an entry, over the reals. -/
module

public import proofs.«01_k».proof.Proof.Gen.Reference8Ideal.Run
public import Idealize.ShloMosaic.Lib.ValueIdx
public import Idealize.ShloMosaic.Lib.ValueLayout
public import Idealize.ShloMosaic.Lib.IdealHost
public import Idealize.ShloMosaic.Lib.KernelVsHost
public import Idealize.ShloMosaic.Lib.Pipeline.Value
public import Idealize.ShloMosaic.PureOps.Ideal
public import Idealize.ShloMosaic.PureOps.Ideal.Laws

@[expose] public section

set_option maxRecDepth 16384

noncomputable section

namespace Cert.Reference8Ideal.WgradAttn

open Cert.Reference8Ideal Cert.Reference8Ideal.Gen Idealize.ShloMosaic Idealize.ShloMosaic.TcCoe Idealize.SL.Sem
open Idealize.ShloMosaic.ValueIdx
open scoped BigOperators

/-- A product of a matrix's transpose with another, read at an entry. -/
theorem tn (A : FVec Ideal S8192x1536 .f32) (B : FVec Ideal S8192x1024 .f32)
    (i : Fin 1536) (j : Fin 1024) :
    Host.dotGeneral dot_S8192x1536_S8192x1024_S1536x1024_0_0_1_1_n_n none A B (ix2 i j) = ∑ r : Fin 8192, A (ix2 r i) * B (ix2 r j) := by
  show FloatOps.dotGeneral _ none _ A B (ix2 i j) = _
  rw [Ideal.dotGeneral_apply, ← Equiv.sum_comp (contrEquiv1 dot_S8192x1536_S8192x1024_S1536x1024_0_0_1_1_n_n 8192 rfl rfl).symm]
  refine Finset.sum_congr rfl fun r _ => ?_
  have hk := contrEquiv1_symm_val dot_S8192x1536_S8192x1024_S1536x1024_0_0_1_1_n_n 8192 rfl rfl r
  have el : dot_S8192x1536_S8192x1024_S1536x1024_0_0_1_1_n_n.lhsIdx (ix2 i j) ((contrEquiv1 dot_S8192x1536_S8192x1024_S1536x1024_0_0_1_1_n_n 8192 rfl rfl).symm r) = ix2 r i := by
    funext a; apply Fin.ext
    match a with
    | ⟨0, _⟩ => exact hk
    | ⟨1, _⟩ => rfl
  have er : dot_S8192x1536_S8192x1024_S1536x1024_0_0_1_1_n_n.rhsIdx (ix2 i j) ((contrEquiv1 dot_S8192x1536_S8192x1024_S1536x1024_0_0_1_1_n_n 8192 rfl rfl).symm r) = ix2 r j := by
    funext a; apply Fin.ext
    match a with
    | ⟨0, _⟩ => exact hk
    | ⟨1, _⟩ => rfl
  rw [el, er]

section
variable (A B C : FVec Ideal S8192x512 .f32) (H : FVec Ideal S8192x1024 .bf16)

/-- A token's three cotangents side by side. -/
def cat (s : Fin 8192) (i : Fin 1536) : EReal :=
  if h : i.val < 512 then A (ix2 s ⟨i.val, h⟩) else if h : i.val - 512 < 512 then B (ix2 s ⟨i.val - 512, h⟩)
  else C (ix2 s ⟨i.val - 1024, by omega⟩)

theorem cat_apply (s : Fin 8192) (i : Fin 1536) : (concatenate S8192x1536 1 [⟨S8192x512, A⟩, ⟨S8192x512, B⟩, ⟨S8192x512, C⟩] concatenates_S8192x512_S8192x512_S8192x512_S8192x1536_d1 : FVec Ideal S8192x1536 .f32) (ix2 s i) = cat A B C s i := by
  have off : ∀ b : Fin 2, b.cast rfl ≠ (1 : Fin 2) → ∀ {p q : ℕ} (r : Fin p) (r' : Fin q), ((ix2 s r) b).val = ((ix2 s r') (b.cast rfl)).val :=
    fun b hb p q r r' => match b with
    | ⟨0, _⟩ => rfl
    | ⟨1, _⟩ => absurd rfl hb
  have hi := i.isLt
  unfold cat
  split_ifs with h0 h1
  · exact concatenate_apply_piece (t := S8192x1536) 1 _ _ (ix2 s i) 0 (by show 0 < 3; decide) S8192x512 _ rfl rfl 0 rfl (ix2 s (⟨i.val, by omega⟩ : Fin 512)) (fun b hb => off b hb _ _) (show 0 + (i.val) = i.val by omega)
  · exact concatenate_apply_piece (t := S8192x1536) 1 _ _ (ix2 s i) 1 (by show 1 < 3; decide) S8192x512 _ rfl rfl 512 rfl (ix2 s (⟨i.val - 512, by omega⟩ : Fin 512)) (fun b hb => off b hb _ _) (show 512 + (i.val - 512) = i.val by omega)
  · exact concatenate_apply_piece (t := S8192x1536) 1 _ _ (ix2 s i) 2 (by show 2 < 3; decide) S8192x512 _ rfl rfl 1024 rfl (ix2 s (⟨i.val - 1024, by omega⟩ : Fin 512)) (fun b hb => off b hb _ _) (show 1024 + (i.val - 1024) = i.val by omega)

theorem res_apply (i : Fin 1536) (j : Fin 1024) :
    transpose S1536x1024 [1, 0] (transpose S1024x1536 [1, 0] (Host.dotGeneral dot_S8192x1536_S8192x1024_S1536x1024_0_0_1_1_n_n none
      (concatenate S8192x1536 1 [⟨S8192x512, A⟩, ⟨S8192x512, B⟩, ⟨S8192x512, C⟩] concatenates_S8192x512_S8192x512_S8192x512_S8192x1536_d1 : FVec Ideal S8192x1536 .f32)
      (extf .f32 H bitsLt_bf16_f32)) transposes_S1536x1024_S1024x1536_1_0) transposes_S1024x1536_S1536x1024_1_0 (ix2 i j)
      = ∑ s : Fin 8192, cat A B C s i * H (ix2 s j) := by
  rw [transpose_apply _ _ _ (ix2 i j) (ix2 j i) (fun a => match a with
    | ⟨0, _⟩ => rfl
    | ⟨1, _⟩ => rfl)]
  rw [transpose_apply _ _ _ (ix2 j i) (ix2 i j) (fun a => match a with
    | ⟨0, _⟩ => rfl
    | ⟨1, _⟩ => rfl)]
  refine (tn _ _ i j).trans (Finset.sum_congr rfl fun s _ => ?_)
  rw [cat_apply]
  rfl

end

end Cert.Reference8Ideal.WgradAttn
end
-- ==== Proof.lean ====
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.KernelIdealValue
public import proofs.«01_k».proof.Proof.ScanKernel
public import proofs.«01_k».proof.Proof.ScanRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite
public import proofs.«01_k».proof.Proof.FfnActKernel
public import proofs.«01_k».proof.Proof.FfnActRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.WgradKernel
public import proofs.«01_k».proof.Proof.WgradRef
public import proofs.«01_k».proof.Proof.OutprojKernel
public import proofs.«01_k».proof.Proof.OutprojRef
public import Idealize.ShloMosaic.Adequacy
public import Idealize.ShloMosaic.Init
public import Idealize.ShloMosaic.Lib.Quiescent
public import proofs.«01_k».proof.Proof.Gen.Kernel5.Frame
public import proofs.«01_k».proof.Proof.Gen.Kernel5Ideal.Value
public import proofs.«01_k».proof.Proof.Gen.Reference5Ideal.Run
public import proofs.«01_k».proof.Proof.FfnInKernel
public import proofs.«01_k».proof.Proof.FfnInRef
public import proofs.«01_k».proof.Proof.Gen.Kernel6.Frame
public import proofs.«01_k».proof.Proof.Gen.Kernel6Ideal.Value
public import proofs.«01_k».proof.Proof.Gen.Reference6Ideal.Run
public import proofs.«01_k».proof.Proof.InprojKernel
public import proofs.«01_k».proof.Proof.InprojRef
public import proofs.«01_k».proof.Proof.Gen.Kernel7.Frame
public import proofs.«01_k».proof.Proof.Gen.Kernel7Ideal.Value
public import proofs.«01_k».proof.Proof.Gen.Reference7Ideal.Run
public import proofs.«01_k».proof.Proof.OutFwdKernel
public import proofs.«01_k».proof.Proof.OutFwdRef
public import proofs.«01_k».proof.Proof.Gen.Kernel10.Frame
public import proofs.«01_k».proof.Proof.Gen.Kernel10Ideal.Value
public import proofs.«01_k».proof.Proof.Gen.Reference10Ideal.Run
public import proofs.«01_k».proof.Proof.InprojBackKernel
public import proofs.«01_k».proof.Proof.InprojBackRef
public import proofs.«01_k».proof.Proof.Gen.Kernel8.Frame
public import proofs.«01_k».proof.Proof.Gen.Kernel8Ideal.Value
public import proofs.«01_k».proof.Proof.Gen.Reference8Ideal.Run
public import proofs.«01_k».proof.Proof.WgradAttnKernel
public import proofs.«01_k».proof.Proof.WgradAttnRef

@[expose] public section

noncomputable section

namespace Cert.Proof

open Idealize.ShloMosaic Idealize.SL.Sem Cert.Kernel

/-- The reference leaves its arguments unchanged and has no semaphores. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Where the two programs' arguments agree, they are the same at coordinates. -/
theorem ins_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Scan.B0 m' c = Cert.KernelIdeal.Scan.A0 m c) (h1 : Cert.ReferenceIdeal.Scan.B1 m' c = Cert.KernelIdeal.Scan.A1 m c)
    (h2 : Cert.ReferenceIdeal.Scan.B2 m' c = Cert.KernelIdeal.Scan.A2 m c) (h3 : Cert.ReferenceIdeal.Scan.B3 m' c = Cert.KernelIdeal.Scan.A3 m c)
    (h4 : Cert.ReferenceIdeal.Scan.B4 m' c = Cert.KernelIdeal.Scan.A4 m c) (h5 : Cert.ReferenceIdeal.Scan.B5 m' c = Cert.KernelIdeal.Scan.A5 m c) :
    Cert.ReferenceIdeal.Scan.ins m' c = Cert.KernelIdeal.Scan.ins m c := by
  unfold Cert.ReferenceIdeal.Scan.ins Cert.KernelIdeal.Scan.ins
  rw [h0, h1, h2, h3, h4, h5]

/-- Over the reals the kernel's two results are the reference's. -/
theorem values : Cert.algebraic_KernelIdeal_ReferenceIdeal := by
  intro m ρ m' ρ' _ hagree
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m ρ,
    (θ_run Cert.ReferenceIdeal.defs _ _).mono (fun r h c => ?_) (Cert.ReferenceIdeal.Value.run (F := Ideal) m' ρ')⟩
  have e := ins_eq m m' c (hagree c).1 (hagree c).2.1 (hagree c).2.2.1 (hagree c).2.2.2.1 (hagree c).2.2.2.2.1 (hagree c).2.2.2.2.2
  refine ⟨(h c).1.trans ?_, (h c).2.1.trans ?_, (h c).2.2⟩
  · funext y
    rw [ValueIdx.eq_ix3 y]
    exact (Cert.ReferenceIdeal.Scan.out32 m' c (y 0) (y 1) (y 2)).trans
      ((congrArg (fun a => Cert.Scan.dsn a (y 0) (y 1) (y 2)) e).trans (Cert.KernelIdeal.Scan.res6 m c (y 0) (y 1) (y 2)).symm)
  · funext y
    rw [ValueIdx.eq_ix3 y]
    exact (Cert.ReferenceIdeal.Scan.out34 m' c (y 0) (y 1) (y 2)).trans
      ((congrArg (fun a => Cert.Scan.dvn a (y 0) (y 1) (y 2)) e).trans (Cert.KernelIdeal.Scan.res7 m c (y 0) (y 1) (y 2)).symm)

/-- The second reference leaves its arguments unchanged and has no semaphores. -/
theorem reference_frame2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Over the reals the weight gradient is the reference's. -/
theorem values2 : Cert.algebraic_Kernel2Ideal_Reference2Ideal := by
  intro m ρ m' ρ' _ hagree
  refine ⟨fun c => (Cert.Kernel2Ideal.Gen.dats m 0 c).arrAt 2 Cert.Kernel2Ideal.cfg0.N, Cert.Kernel2Ideal.Value.run_blocks m ρ,
    (θ_run Cert.Reference2Ideal.defs _ _).mono (fun r h c => ?_) (Cert.Reference2Ideal.Value.run (F := Ideal) m' ρ')⟩
  refine ⟨(h c).1.trans ?_, (h c).2⟩
  beta_reduce
  rw [Cert.Kernel2Ideal.Wgrad.final, (hagree c).1, (hagree c).2]
  funext y
  rw [ValueIdx.eq_ix2 y]
  exact Cert.Reference2Ideal.Wgrad.res_apply _ _ (y 0) (y 1)

/-- The third reference leaves its arguments unchanged and has no semaphores. -/
theorem reference_frame3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- Over the reals the three activation gradients of the feed-forward part are the reference's. -/
theorem values3 : Cert.algebraic_Kernel3Ideal_Reference3Ideal_pre_finite (hPre_finite := Cert.Pre_finite.Gen.facts) := by
  intro m ρ m' ρ' hpre hagree
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m ρ,
    (θ_run Cert.Reference3Ideal.defs _ _).mono (fun r h c => ?_) (Cert.Reference3Ideal.Value.run (F := Ideal) m' ρ')⟩
  refine ⟨(h c).1.trans ?_, (h c).2.1.trans ?_, (h c).2.2.1.trans ?_, (h c).2.2.2⟩
  · obtain ⟨hD, hU, hW, hG⟩ := Cert.Reference3Ideal.FfnAct.finite_spec _ _ _ _ _ (fun a => Fin.elim0 a) (congrFun (hpre c) _)
    beta_reduce
    rw [Cert.Kernel3Ideal.FfnAct.final5, (hagree c).1, (hagree c).2.1, (hagree c).2.2.1, (hagree c).2.2.2.1, (hagree c).2.2.2.2]
    funext y
    rw [ValueIdx.eq_ix2 y]
    obtain ⟨d, hd⟩ := Cert.Reference3Ideal.FfnAct.dact_real _ _ _ (y 0) (y 1) hG hD hW
    obtain ⟨u, hu⟩ := hU (ValueIdx.ix2 (y 0) (y 1))
    have e := (congrArg₂ (fun a b : EReal => a * b) hd hu).trans (EReal.coe_mul d u).symm
    exact Cert.Reference3Ideal.FfnAct.res16_apply _ _ _ _ _ (y 0) (y 1) (fun h' => EReal.coe_ne_bot _ (e.symm.trans h'))
      (fun h' => EReal.coe_ne_top _ (e.symm.trans h'))
  · beta_reduce
    rw [Cert.Kernel3Ideal.FfnAct.final6, (hagree c).1, (hagree c).2.1, (hagree c).2.2.2.1, (hagree c).2.2.2.2]
    funext y
    rw [ValueIdx.eq_ix2 y]
    exact Cert.Reference3Ideal.FfnAct.res17_apply _ _ _ _ (y 0) (y 1)
  · beta_reduce
    rw [Cert.Kernel3Ideal.FfnAct.final7, (hagree c).1, (hagree c).2.1, (hagree c).2.2.1, (hagree c).2.2.2.2]
    funext y
    rw [ValueIdx.eq_ix2 y]
    exact Cert.Reference3Ideal.FfnAct.res11_apply _ _ _ _ (y 0) (y 1)

/-- The fourth reference leaves its arguments unchanged and has no semaphores. -/
theorem reference_frame4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- Over the reals the two gradients of the output projection are the reference's. -/
theorem values4 : Cert.algebraic_Kernel4Ideal_Reference4Ideal := by
  intro m ρ m' ρ' _ hagree
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N, Cert.Kernel4Ideal.Value.run_blocks m ρ,
    (θ_run Cert.Reference4Ideal.defs _ _).mono (fun r h c => ?_) (Cert.Reference4Ideal.Value.run (F := Ideal) m' ρ')⟩
  refine ⟨(h c).1.trans ?_, (h c).2.1.trans ?_, (h c).2.2⟩
  · beta_reduce
    rw [Cert.Kernel4Ideal.Outproj.final4, (hagree c).1, (hagree c).2.1]
    funext y
    rw [ValueIdx.eq_ix2 y]
    exact Cert.Reference4Ideal.Outproj.res4_apply _ _ (y 0) (y 1)
  · beta_reduce
    rw [Cert.Kernel4Ideal.Outproj.final5, (hagree c).1, (hagree c).2.2.1, (hagree c).2.2.2]
    funext y
    rw [ValueIdx.eq_ix2 y]
    exact Cert.Reference4Ideal.Outproj.res5_apply _ _ _ (y 0) (y 1)

/-- The reference of program 5 leaves its arguments unchanged and has no semaphores. -/
theorem reference_frame5 : Cert.quiescent_Reference5Ideal := fun m ρ _ =>
  (θ_run Cert.Reference5Ideal.defs _ _).mono
    (fun r h => ⟨fun c => (h c).2.2.2, Idealize.ShloMosaic.sem_eq_zero_of_no_sems (by decide) r.2⟩)
    (Cert.Reference5Ideal.Value.run (F := Ideal) m ρ)

/-- Over the reals the gradient through the feed forward block's entry: the three results are the reference's. -/
theorem values5 : Cert.algebraic_Kernel5Ideal_Reference5Ideal := by
  intro m ρ m' ρ' _ hagree
  refine ⟨fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    Cert.Kernel5Ideal.Value.run_blocks m ρ, (θ_run Cert.Reference5Ideal.defs _ _).mono (fun r h c => ?_) (Cert.Reference5Ideal.Value.run (F := Ideal) m' ρ')⟩
  refine ⟨(h c).1.trans ?_, (h c).2.1.trans ?_, (h c).2.2.1.trans ?_, (h c).2.2.2⟩
  · beta_reduce
    rw [Cert.Reference5Ideal.FfnIn.v59_eq, Cert.Kernel5Ideal.FfnIn.final10, (hagree c).1, (hagree c).2.1, (hagree c).2.2.1, (hagree c).2.2.2.1, (hagree c).2.2.2.2.1, (hagree c).2.2.2.2.2.1, (hagree c).2.2.2.2.2.2.2.2.1, (hagree c).2.2.2.2.2.2.2.2.2]
    funext y
    rw [ValueIdx.eq_ix2 y]
    exact Cert.Reference5Ideal.FfnIn.res59_apply _ _ _ _ _ _ _ _ (y 0) (y 1)
  · beta_reduce
    rw [Cert.Reference5Ideal.FfnIn.v68_eq, Cert.Kernel5Ideal.FfnIn.final11, (hagree c).1, (hagree c).2.1, (hagree c).2.2.1, (hagree c).2.2.2.1, (hagree c).2.2.2.2.1, (hagree c).2.2.2.2.2.1, (hagree c).2.2.2.2.2.2.2.1, (hagree c).2.2.2.2.2.2.2.2.1, (hagree c).2.2.2.2.2.2.2.2.2]
    funext y
    rw [ValueIdx.eq_ix2 y]
    exact Cert.Reference5Ideal.FfnIn.res68_apply _ _ _ _ _ _ _ _ _ (y 0) (y 1)
  · beta_reduce
    rw [Cert.Reference5Ideal.FfnIn.v70_eq, Cert.Kernel5Ideal.FfnIn.final12, (hagree c).1, (hagree c).2.1, (hagree c).2.2.1, (hagree c).2.2.2.1, (hagree c).2.2.2.2.1, (hagree c).2.2.2.2.2.1, (hagree c).2.2.2.2.2.2.1, (hagree c).2.2.2.2.2.2.2.2.1, (hagree c).2.2.2.2.2.2.2.2.2]
    funext y
    rw [ValueIdx.eq_ix2 y]
    exact Cert.Reference5Ideal.FfnIn.res70_apply _ _ _ _ _ _ _ _ _ (y 0) (y 1)

/-- A row of the padded weights that is a row of the weights. -/
theorem wrow_eq (A : FVec Ideal Cert.Kernel6Ideal.S3600x1024 .bf16) (n : ℕ) (i : Fin 3600) (k : Fin 1024) (h : n = i.val) :
    Cert.Kernel6Ideal.Inproj.wrow A n k = A (ValueIdx.ix2 i k) := by
  subst h
  exact dif_pos i.isLt

/-- The reference of program 6 leaves its arguments unchanged and has no semaphores. -/
theorem reference_frame6 : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

/-- Over the reals the input projection's four results are the reference's. -/
theorem values6 : Cert.algebraic_Kernel6Ideal_Reference6Ideal := by
  intro m ρ m' ρ' _ hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks m ρ, (θ_run Cert.Reference6Ideal.defs _ _).mono (fun r h c => ?_) (Cert.Reference6Ideal.Value.run (F := Ideal) m' ρ')⟩
  refine ⟨(h c).1.trans ?_, (h c).2.1.trans ?_, (h c).2.2.1.trans ?_, (h c).2.2.2.1.trans ?_, (h c).2.2.2.2⟩
  · beta_reduce
    rw [Cert.Kernel6Ideal.Inproj.final5, (hagree c).1, (hagree c).2.1, (hagree c).2.2.1, (hagree c).2.2.2.1]
    funext y
    rw [ValueIdx.eq_ix2 y]
    exact Cert.Reference6Ideal.Inproj.res24_apply _ _ _ _ (y 0) (y 1)
  · beta_reduce
    rw [Cert.Kernel6Ideal.Inproj.final6, (hagree c).1, (hagree c).2.1, (hagree c).2.2.1, (hagree c).2.2.2.1, (hagree c).2.2.2.2]
    funext y
    rw [ValueIdx.eq_ix2 y]
    refine (Cert.Reference6Ideal.Inproj.res21_apply _ _ _ _ _ (y 0) (y 1)).trans (Finset.sum_congr rfl fun k _ => ?_)
    exact congrArg₂ (fun a b : EReal => a * b) rfl (wrow_eq _ _ _ k (Nat.zero_add _)).symm
  · beta_reduce
    rw [Cert.Kernel6Ideal.Inproj.final7, (hagree c).1, (hagree c).2.1, (hagree c).2.2.1, (hagree c).2.2.2.1, (hagree c).2.2.2.2]
    funext y
    rw [ValueIdx.eq_ix2 y]
    refine (Cert.Reference6Ideal.Inproj.res22_apply _ _ _ _ _ (y 0) (y 1)).trans (Finset.sum_congr rfl fun k _ => ?_)
    exact congrArg₂ (fun a b : EReal => a * b) rfl (wrow_eq _ _ _ k rfl).symm
  · beta_reduce
    rw [Cert.Kernel6Ideal.Inproj.final8, (hagree c).1, (hagree c).2.1, (hagree c).2.2.1, (hagree c).2.2.2.1, (hagree c).2.2.2.2]
    funext y
    rw [ValueIdx.eq_ix2 y]
    refine (Cert.Reference6Ideal.Inproj.res25_apply _ _ _ _ _ (y 0) (y 1)).trans ?_
    by_cases h' : (y 1 : Fin 128).val < 16
    · rw [dif_pos h']
      exact Finset.sum_congr rfl fun k _ => congrArg₂ (fun a b : EReal => a * b) rfl (wrow_eq _ _ _ k rfl).symm
    · rw [dif_neg h']
      exact (Finset.sum_eq_zero fun k _ => (congrArg₂ (fun a b : EReal => a * b) rfl (dif_neg (show ¬ 3584 + (y 1 : Fin 128).val < 3600 by have h'' : ¬ (y 1 : Fin 128).val < 16 := h'; omega))).trans (mul_zero _)).symm

/-- The reference of program 7 leaves its arguments unchanged and has no semaphores. -/
theorem reference_frame7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

/-- Over the reals the output projection's three forward results are the reference's. -/
theorem values7 : Cert.algebraic_Kernel7Ideal_Reference7Ideal := by
  intro m ρ m' ρ' _ hagree
  refine ⟨fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    Cert.Kernel7Ideal.Value.run_blocks m ρ, (θ_run Cert.Reference7Ideal.defs _ _).mono (fun r h c => ?_) (Cert.Reference7Ideal.Value.run (F := Ideal) m' ρ')⟩
  refine ⟨(h c).1.trans ?_, (h c).2.1.trans ?_, (h c).2.2.1.trans ?_, (h c).2.2.2⟩
  · beta_reduce
    rw [Cert.Kernel7Ideal.OutFwd.final9, (hagree c).1, (hagree c).2.1, (hagree c).2.2.1, (hagree c).2.2.2.1, (hagree c).2.2.2.2.1]
    funext y
    rw [ValueIdx.eq_ix2 y]
    exact Cert.Reference7Ideal.OutFwd.res6_apply _ _ _ _ _ (y 0) (y 1)
  · beta_reduce
    rw [Cert.Kernel7Ideal.OutFwd.final10, (hagree c).1, (hagree c).2.1, (hagree c).2.2.1, (hagree c).2.2.2.1, (hagree c).2.2.2.2.1, (hagree c).2.2.2.2.2.1, (hagree c).2.2.2.2.2.2.1, (hagree c).2.2.2.2.2.2.2]
    funext y
    rw [ValueIdx.eq_ix2 y]
    exact Cert.Reference7Ideal.OutFwd.res25_apply _ _ _ _ _ _ _ _ (y 0) (y 1)
  · beta_reduce
    rw [Cert.Kernel7Ideal.OutFwd.final11, (hagree c).1, (hagree c).2.1, (hagree c).2.2.1]
    funext y
    rw [ValueIdx.eq_ix2 y]
    exact Cert.Reference7Ideal.OutFwd.res26_apply _ _ _ (y 0) (y 1)

/-- The reference of program 10 leaves its arguments unchanged and has no semaphores. -/
theorem reference_frame10 : Cert.quiescent_Reference10Ideal := fun m ρ _ =>
  (θ_run Cert.Reference10Ideal.defs _ _).mono
    (fun r h => ⟨fun c => (h c).2.2, Idealize.ShloMosaic.sem_eq_zero_of_no_sems (by decide) r.2⟩)
    (Cert.Reference10Ideal.Value.run (F := Ideal) m ρ)

/-- Over the reals the gradient through the input projection: the two results are the reference's. -/
theorem values10 : Cert.algebraic_Kernel10Ideal_Reference10Ideal := by
  intro m ρ m' ρ' _ hagree
  refine ⟨fun c => (Cert.Kernel10Ideal.Gen.dats m 0 c).arrAt 11 Cert.Kernel10Ideal.cfg0.N,
    fun c => (Cert.Kernel10Ideal.Gen.dats m 0 c).arrAt 12 Cert.Kernel10Ideal.cfg0.N,
    Cert.Kernel10Ideal.Value.run_blocks m ρ, (θ_run Cert.Reference10Ideal.defs _ _).mono (fun r h c => ?_) (Cert.Reference10Ideal.Value.run (F := Ideal) m' ρ')⟩
  refine ⟨(h c).1.trans ?_, (h c).2.1.trans ?_, (h c).2.2⟩
  · beta_reduce
    rw [Cert.Reference10Ideal.InprojBack.v54_eq, Cert.Kernel10Ideal.InprojBack.final11, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext y
    rw [ValueIdx.eq_ix2 y]
    exact Cert.Reference10Ideal.InprojBack.res54_apply _ _ _ _ _ _ _ _ _ _ _ (y 0) (y 1)
  · beta_reduce
    rw [Cert.Reference10Ideal.InprojBack.v56_eq, Cert.Kernel10Ideal.InprojBack.final12, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1, (hagree c).2.2.2.2.2.2.2.2.2.2]
    funext y
    rw [ValueIdx.eq_ix2 y]
    exact Cert.Reference10Ideal.InprojBack.res56_apply _ _ _ _ _ _ _ _ _ _ (y 0) (y 1)

/-- The reference of program 8 leaves its arguments unchanged and has no semaphores. -/
theorem reference_frame8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- Over the reals the gradient of the input weights' attention rows is the reference's. -/
theorem values8 : Cert.algebraic_Kernel8Ideal_Reference8Ideal := by
  intro m ρ m' ρ' _ hagree
  refine ⟨fun c => (Cert.Kernel8Ideal.Gen.dats m 0 c).arrAt 4 Cert.Kernel8Ideal.cfg0.N,
    Cert.Kernel8Ideal.Value.run_blocks m ρ, (θ_run Cert.Reference8Ideal.defs _ _).mono (fun r h c => ?_) (Cert.Reference8Ideal.Value.run (F := Ideal) m' ρ')⟩
  refine ⟨(h c).1.trans ?_, (h c).2⟩
  · beta_reduce
    rw [Cert.Kernel8Ideal.WgradAttn.final4, (hagree c).1, (hagree c).2.1, (hagree c).2.2.1, (hagree c).2.2.2]
    funext y
    rw [ValueIdx.eq_ix2 y]
    exact Cert.Reference8Ideal.WgradAttn.res_apply _ _ _ _ (y 0) (y 1)

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel10.Gen.facts, Cert.Kernel10Ideal.Gen.facts, Cert.Reference10Ideal.Gen.facts,
  Cert.Kernel8.Gen.facts, Cert.Kernel8Ideal.Gen.facts, Cert.Reference8Ideal.Gen.facts,
  Cert.Pre_finite.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference_frame2,
  fun m ρ _ => Cert.Kernel3.Gen.frame m ρ, fun m ρ _ => Cert.Kernel3Ideal.Gen.frame m ρ, fun m ρ _ => Cert.Kernel3Ideal.Gen.frame m ρ,
  reference_frame3, fun m ρ _ => reference_frame3 m ρ trivial,
  fun m ρ _ => Cert.Kernel4.Gen.frame m ρ, fun m ρ _ => Cert.Kernel4Ideal.Gen.frame m ρ, reference_frame4,
  fun m ρ _ => Cert.Kernel5.Gen.frame m ρ, fun m ρ _ => Cert.Kernel5Ideal.Gen.frame m ρ, reference_frame5,
  fun m ρ _ => Cert.Kernel6.Gen.frame m ρ, fun m ρ _ => Cert.Kernel6Ideal.Gen.frame m ρ, reference_frame6,
  fun m ρ _ => Cert.Kernel7.Gen.frame m ρ, fun m ρ _ => Cert.Kernel7Ideal.Gen.frame m ρ, reference_frame7,
  fun m ρ _ => Cert.Kernel10.Gen.frame m ρ, fun m ρ _ => Cert.Kernel10Ideal.Gen.frame m ρ, reference_frame10,
  fun m ρ _ => Cert.Kernel8.Gen.frame m ρ, fun m ρ _ => Cert.Kernel8Ideal.Gen.frame m ρ, reference_frame8,
  trivial, values, trivial, values2, trivial, values3, trivial, values4, trivial, values5, trivial, values6, trivial, values7, trivial, values10, trivial, values8⟩

end Cert.Proof

end
